-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xFF7FFFFF#32 ⊥
  ∧ IdealRules.named_const.Statement Cert.KernelIdeal.κ "mask" .f32 0xFF800000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v71) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S88x1x6144 : Shape := ⟨3, ![88, 1, 6144]⟩
abbrev S3072x49152 : Shape := ⟨2, ![3072, 49152]⟩
abbrev S96x49152 : Shape := ⟨2, ![96, 49152]⟩
abbrev S88x1536 : Shape := ⟨2, ![88, 1536]⟩
abbrev S88x1x32 : Shape := ⟨3, ![88, 1, 32]⟩
abbrev S_ : Shape := ⟨0, ![]⟩

class Facts : Prop where
  bcast_S_S88x1x6144 : S_.BroadcastsInDim S88x1x6144 (![] : Fin 0 → Fin S88x1x6144.rank)
  reducesTo_S88x1x6144_S_d0_1_2 : S88x1x6144.ReducesTo [0, 1, 2] S_
  h_S_ : 0 < S_.numel
  bcast_S_S96x49152 : S_.BroadcastsInDim S96x49152 (![] : Fin 0 → Fin S96x49152.rank)
  reducesTo_S96x49152_S_d0_1 : S96x49152.ReducesTo [0, 1] S_
  bcast_S_S88x1x32 : S_.BroadcastsInDim S88x1x32 (![] : Fin 0 → Fin S88x1x32.rank)
  reducesTo_S88x1x32_S_d0_1_2 : S88x1x32.ReducesTo [0, 1, 2] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S88x1x6144 .bf16) (main_arg1 : IVec S3072x49152 8) (main_arg2 : FVec F S96x49152 .f32) (main_arg3 : IVec S88x1536 32) (main_arg4 : IVec S88x1x32 32) : IVec S_ 1 :=
  let main_v0 : FVec F S88x1x6144 .bf16 := Host.absf main_arg0
  let main_cst : FVec F S_ .bf16 := constant S_ .bf16 0x7F80#16
  let main_v1 : FVec F S88x1x6144 .bf16 := broadcastInDim S88x1x6144 ![] bcast_S_S88x1x6144 main_cst
  let main_v2 : IVec S88x1x6144 1 := cmpf .olt main_v0 main_v1
  let main_c : IVec S_ 1 := constantI S_ 1 1#1
  let main_v3 : IVec S_ 1 := (fun x v => Host.reduce IntOp.andi x v reducesTo_S88x1x6144_S_d0_1_2 h_S_) main_v2 main_c
  let main_v4 : FVec F S96x49152 .f32 := Host.absf main_arg2
  let main_cst_0 : FVec F S_ .f32 := constant S_ .f32 0x7F800000#32
  let main_v5 : FVec F S96x49152 .f32 := broadcastInDim S96x49152 ![] bcast_S_S96x49152 main_cst_0
  let main_v6 : IVec S96x49152 1 := cmpf .olt main_v4 main_v5
  let main_c_1 : IVec S_ 1 := constantI S_ 1 1#1
  let main_v7 : IVec S_ 1 := (fun x v => Host.reduce IntOp.andi x v reducesTo_S96x49152_S_d0_1 h_S_) main_v6 main_c_1
  let main_v8 : IVec S_ 1 := andi main_v3 main_v7
  let main_c_2 : IVec S_ 32 := constantI S_ 32 0#32
  let main_v9 : IVec S88x1x32 32 := broadcastInDim S88x1x32 ![] bcast_S_S88x1x32 main_c_2
  let main_v10 : IVec S88x1x32 1 := cmpi .sge main_arg4 main_v9
  let main_c_3 : IVec S_ 1 := constantI S_ 1 1#1
  let main_v11 : IVec S_ 1 := (fun x v => Host.reduce IntOp.andi x v reducesTo_S88x1x32_S_d0_1_2 h_S_) main_v10 main_c_3
  let main_v12 : IVec S_ 1 := andi main_v8 main_v11
  let main_c_4 : IVec S_ 32 := constantI S_ 32 49152#32
  let main_v13 : IVec S88x1x32 32 := broadcastInDim S88x1x32 ![] bcast_S_S88x1x32 main_c_4
  let main_v14 : IVec S88x1x32 1 := cmpi .slt main_arg4 main_v13
  let main_c_5 : IVec S_ 1 := constantI S_ 1 1#1
  let main_v15 : IVec S_ 1 := (fun x v => Host.reduce IntOp.andi x v reducesTo_S88x1x32_S_d0_1_2 h_S_) main_v14 main_c_5
  fn_part1 (F := F) main_v12 main_v15
-- ==== Kernel.lean ====
abbrev S88x1x6144 : Shape := ⟨3, ![88, 1, 6144]⟩
abbrev S3072x49152 : Shape := ⟨2, ![3072, 49152]⟩
abbrev S96x49152 : Shape := ⟨2, ![96, 49152]⟩
abbrev S88x1536 : Shape := ⟨2, ![88, 1536]⟩
abbrev S88x1x32 : Shape := ⟨3, ![88, 1, 32]⟩
abbrev S88x6144 : Shape := ⟨2, ![88, 6144]⟩
abbrev S_ : Shape := ⟨0, ![]⟩
abbrev S96x6144 : Shape := ⟨2, ![96, 6144]⟩
abbrev S88x32 : Shape := ⟨2, ![88, 32]⟩
abbrev S88x128 : Shape := ⟨2, ![88, 128]⟩
abbrev S88x384x128 : Shape := ⟨3, ![88, 384, 128]⟩
abbrev S88x1 : Shape := ⟨2, ![88, 1]⟩
abbrev S3072x1024 : Shape := ⟨2, ![3072, 1024]⟩
abbrev S96x1024 : Shape := ⟨2, ![96, 1024]⟩
abbrev S88x8x128 : Shape := ⟨3, ![88, 8, 128]⟩
abbrev S96x256 : Shape := ⟨2, ![96, 256]⟩
abbrev S8x128 : Shape := ⟨2, ![8, 128]⟩
abbrev S128x256 : Shape := ⟨2, ![128, 256]⟩
abbrev S128x1x256 : Shape := ⟨3, ![128, 1, 256]⟩
abbrev S128x2x256 : Shape := ⟨3, ![128, 2, 256]⟩
abbrev S256x256 : Shape := ⟨2, ![256, 256]⟩
abbrev S1x256 : Shape := ⟨2, ![1, 256]⟩
abbrev S16x256 : Shape := ⟨2, ![16, 256]⟩
abbrev S8x128x1 : Shape := ⟨3, ![8, 128, 1]⟩
abbrev S704x128 : Shape := ⟨2, ![704, 128]⟩
abbrev S8 : Shape := ⟨1, ![8]⟩
abbrev S8x1 : Shape := ⟨2, ![8, 1]⟩
abbrev S8x32 : Shape := ⟨2, ![8, 32]⟩

abbrev nBuf : Space → Nat
  | .hbm => 16
  | .vmem => 14
  | .smem => 0
  | _ => 0

abbrev bufTy : (tb : Table) → Fin (tcTables nBuf tb) → BufTy
  | .hbm, ⟨0, _⟩ => ⟨S88x1x6144, .bf16⟩
  | .hbm, ⟨1, _⟩ => ⟨S3072x49152, .i8⟩
  | .hbm, ⟨2, _⟩ => ⟨S96x49152, .f32⟩
  | .hbm, ⟨3, _⟩ => ⟨S88x1536, .i32⟩
  | .hbm, ⟨4, _⟩ => ⟨S88x1x32, .i32⟩
  | .hbm, ⟨5, _⟩ => ⟨S88x6144, .bf16⟩
  | .hbm, ⟨6, _⟩ => ⟨S_, .i32⟩
  | .hbm, ⟨7, _⟩ => ⟨S_, .bf16⟩
  | .hbm, ⟨8, _⟩ => ⟨S96x6144, .bf16⟩
  | .hbm, ⟨9, _⟩ => ⟨S88x32, .i32⟩
  | .hbm, ⟨10, _⟩ => ⟨S_, .i32⟩
  | .hbm, ⟨11, _⟩ => ⟨S_, .i32⟩
  | .hbm, ⟨12, _⟩ => ⟨S88x128, .i32⟩
  | .hbm, ⟨13, _⟩ => ⟨S88x384x128, .f32⟩
  | .hbm, ⟨14, _⟩ => ⟨S88x1, .f32⟩
  | .hbm, ⟨15, _⟩ => ⟨S88x32, .f32⟩
  | .local _ .vmem, ⟨0, _⟩ => ⟨S96x6144, .bf16⟩
  | .local _ .vmem, ⟨1, _⟩ => ⟨S3072x1024, .i8⟩
  | .local _ .vmem, ⟨2, _⟩ => ⟨S3072x1024, .i8⟩
  | .local _ .vmem, ⟨3, _⟩ => ⟨S96x1024, .f32⟩
  | .local _ .vmem, ⟨4, _⟩ => ⟨S96x1024, .f32⟩
  | .local _ .vmem, ⟨5, _⟩ => ⟨S88x1536, .i32⟩
  | .local _ .vmem, ⟨6, _⟩ => ⟨S88x128, .i32⟩
  | .local _ .vmem, ⟨7, _⟩ => ⟨S88x8x128, .f32⟩
  | .local _ .vmem, ⟨8, _⟩ => ⟨S88x8x128, .f32⟩
  | .local _ .vmem, ⟨9, _⟩ => ⟨S88x1, .f32⟩
  | .local _ .vmem, ⟨10, _⟩ => ⟨S88x32, .f32⟩
  | .local _ .vmem, ⟨11, _⟩ => ⟨S88x128, .f32⟩
  | .local _ .vmem, ⟨12, _⟩ => ⟨S88x128, .f32⟩
  | .local _ .vmem, ⟨13, _⟩ => ⟨S88x128, .f32⟩
  | _, _ => ⟨S88x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![48], ![false]⟩

def k0_mult1 (i : grid0.Coords) : BitVec 32 :=
  let arg0 : BitVec 32 := BitVec.ofNat 32 (i 0).val
  let c8_i32_r0 : BitVec 32 := 8#32
  let v3224_r0 : BitVec 32 := Scalar.muli arg0 c8_i32_r0
  let c0_i32_652_r0 : BitVec 32 := 0#32
  let v3225_r0 : BitVec 32 := Scalar.addi v3224_r0 c0_i32_652_r0
  let c4_i32_r0 : BitVec 32 := 4#32
  let v3226_r0 : BitVec 32 := Scalar.muli v3225_r0 c4_i32_r0
  let c0_i32_653_r0 : BitVec 32 := 0#32
  let v3228_r0 : BitVec 1 := Scalar.cmpi .sgt v3226_r0 c0_i32_653_r0
  let v3229_r0 : BitVec 32 := Scalar.extui v3228_r0
  let c0_i32_654_r0 : BitVec 32 := 0#32
  let v3230_r0 : BitVec 1 := Scalar.cmpi .slt v3226_r0 c0_i32_654_r0
  let v3231_r0 : BitVec 32 := Scalar.extui v3230_r0
  let v3232_r0 : BitVec 32 := Scalar.subi v3229_r0 v3231_r0
  let c128_i32_r0 : BitVec 32 := 128#32
  let c0_i32_655_r0 : BitVec 32 := 0#32
  let v3233_r0 : BitVec 1 := Scalar.cmpi .sgt c128_i32_r0 c0_i32_655_r0
  let v3234_r0 : BitVec 32 := Scalar.extui v3233_r0
  let c0_i32_656_r0 : BitVec 32 := 0#32
  let v3235_r0 : BitVec 1 := Scalar.cmpi .slt c128_i32_r0 c0_i32_656_r0
  let v3236_r0 : BitVec 32 := Scalar.extui v3235_r0
  let v3237_r0 : BitVec 32 := Scalar.subi v3234_r0 v3236_r0
  let v3238_r0 : BitVec 1 := Scalar.cmpi .ne v3232_r0 v3237_r0
  let v3239_r0 : BitVec 32 := Scalar.remsi v3226_r0 c128_i32_r0
  let c0_i32_657_r0 : BitVec 32 := 0#32
  let v3240_r0 : BitVec 1 := Scalar.cmpi .ne v3239_r0 c0_i32_657_r0
  let v3241_r0 : BitVec 1 := Scalar.andi v3238_r0 v3240_r0
  let v3227_r0 : BitVec 32 := Scalar.divsi v3226_r0 c128_i32_r0
  let c1_i32_658_r0 : BitVec 32 := 1#32
  let v3242_r0 : BitVec 32 := Scalar.subi v3227_r0 c1_i32_658_r0
  let v3243_r0 : BitVec 32 := Scalar.select v3241_r0 v3242_r0 v3227_r0
  let c128_i32_659_r0 : BitVec 32 := 128#32
  let v3244_r0 : BitVec 32 := Scalar.muli v3243_r0 c128_i32_659_r0
  v3244_r0
def k0_off1 (i : grid0.Coords) (c0_i32_652_r0 : BitVec 32) : Fin 2 → Nat :=
  let c0_660_r0 : Index := 0#32
  let arg0 : BitVec 32 := BitVec.ofNat 32 (i 0).val
  let c8_i32_r0 : BitVec 32 := 8#32
  let v3224_r0 : BitVec 32 := Scalar.muli arg0 c8_i32_r0
  let v3225_r0 : BitVec 32 := Scalar.addi v3224_r0 c0_i32_652_r0
  let c4_i32_r0 : BitVec 32 := 4#32
  let v3226_r0 : BitVec 32 := Scalar.muli v3225_r0 c4_i32_r0
  let c0_i32_653_r0 : BitVec 32 := 0#32
  let v3228_r0 : BitVec 1 := Scalar.cmpi .sgt v3226_r0 c0_i32_653_r0
  let v3229_r0 : BitVec 32 := Scalar.extui v3228_r0
  let c0_i32_654_r0 : BitVec 32 := 0#32
  let v3230_r0 : BitVec 1 := Scalar.cmpi .slt v3226_r0 c0_i32_654_r0
  let v3231_r0 : BitVec 32 := Scalar.extui v3230_r0
  let v3232_r0 : BitVec 32 := Scalar.subi v3229_r0 v3231_r0
  let c128_i32_r0 : BitVec 32 := 128#32
  let c0_i32_655_r0 : BitVec 32 := 0#32
  let v3233_r0 : BitVec 1 := Scalar.cmpi .sgt c128_i32_r0 c0_i32_655_r0
  let v3234_r0 : BitVec 32 := Scalar.extui v3233_r0
  let c0_i32_656_r0 : BitVec 32 := 0#32
  let v3235_r0 : BitVec 1 := Scalar.cmpi .slt c128_i32_r0 c0_i32_656_r0
  let v3236_r0 : BitVec 32 := Scalar.extui v3235_r0
  let v3237_r0 : BitVec 32 := Scalar.subi v3234_r0 v3236_r0
  let v3238_r0 : BitVec 1 := Scalar.cmpi .ne v3232_r0 v3237_r0
  let v3239_r0 : BitVec 32 := Scalar.remsi v3226_r0 c128_i32_r0
  let c0_i32_657_r0 : BitVec 32 := 0#32
  let v3240_r0 : BitVec 1 := Scalar.cmpi .ne v3239_r0 c0_i32_657_r0
  let v3241_r0 : BitVec 1 := Scalar.andi v3238_r0 v3240_r0
  let v3227_r0 : BitVec 32 := Scalar.divsi v3226_r0 c128_i32_r0
  let c1_i32_658_r0 : BitVec 32 := 1#32
  let v3242_r0 : BitVec 32 := Scalar.subi v3227_r0 c1_i32_658_r0
  let v3243_r0 : BitVec 32 := Scalar.select v3241_r0 v3242_r0 v3227_r0
  let c128_i32_659_r0 : BitVec 32 := 128#32
  let v3244_r0 : BitVec 32 := Scalar.muli v3243_r0 c128_i32_659_r0
  let v3245_r0 : BitVec 32 := v3244_r0
  let v3246_r0 : Index := Scalar.indexCast v3245_r0
  ![0, v3246_r0.toNat]
def k0_mult2 (i : grid0.Coords) : BitVec 32 :=
  let arg0 : BitVec 32 := BitVec.ofNat 32 (i 0).val
  let c8_i32_671_r0 : BitVec 32 := 8#32
  let v3279_r0 : BitVec 32 := Scalar.muli arg0 c8_i32_671_r0
  let c1_i32_672_r0 : BitVec 32 := 1#32
  let v3280_r0 : BitVec 32 := Scalar.addi v3279_r0 c1_i32_672_r0
  let c4_i32_673_r0 : BitVec 32 := 4#32
  let v3281_r0 : BitVec 32 := Scalar.muli v3280_r0 c4_i32_673_r0
  let c0_i32_675_r0 : BitVec 32 := 0#32
  let v3283_r0 : BitVec 1 := Scalar.cmpi .sgt v3281_r0 c0_i32_675_r0
  let v3284_r0 : BitVec 32 := Scalar.extui v3283_r0
  let c0_i32_676_r0 : BitVec 32 := 0#32
  let v3285_r0 : BitVec 1 := Scalar.cmpi .slt v3281_r0 c0_i32_676_r0
  let v3286_r0 : BitVec 32 := Scalar.extui v3285_r0
  let v3287_r0 : BitVec 32 := Scalar.subi v3284_r0 v3286_r0
  let c128_i32_674_r0 : BitVec 32 := 128#32
  let c0_i32_677_r0 : BitVec 32 := 0#32
  let v3288_r0 : BitVec 1 := Scalar.cmpi .sgt c128_i32_674_r0 c0_i32_677_r0
  let v3289_r0 : BitVec 32 := Scalar.extui v3288_r0
  let c0_i32_678_r0 : BitVec 32 := 0#32
  let v3290_r0 : BitVec 1 := Scalar.cmpi .slt c128_i32_674_r0 c0_i32_678_r0
  let v3291_r0 : BitVec 32 := Scalar.extui v3290_r0
  let v3292_r0 : BitVec 32 := Scalar.subi v3289_r0 v3291_r0
  let v3293_r0 : BitVec 1 := Scalar.cmpi .ne v3287_r0 v3292_r0
  let v3294_r0 : BitVec 32 := Scalar.remsi v3281_r0 c128_i32_674_r0
  let c0_i32_679_r0 : BitVec 32 := 0#32
  let v3295_r0 : BitVec 1 := Scalar.cmpi .ne v3294_r0 c0_i32_679_r0
  let v3296_r0 : BitVec 1 := Scalar.andi v3293_r0 v3295_r0
  let v3282_r0 : BitVec 32 := Scalar.divsi v3281_r0 c128_i32_674_r0
  let c1_i32_680_r0 : BitVec 32 := 1#32
  let v3297_r0 : BitVec 32 := Scalar.subi v3282_r0 c1_i32_680_r0
  let v3298_r0 : BitVec 32 := Scalar.select v3296_r0 v3297_r0 v3282_r0
  let c128_i32_681_r0 : BitVec 32 := 128#32
  let v3299_r0 : BitVec 32 := Scalar.muli v3298_r0 c128_i32_681_r0
  v3299_r0
def k0_mult3 (i : grid0.Coords) : BitVec 32 :=
  let arg0 : BitVec 32 := BitVec.ofNat 32 (i 0).val
  let c8_i32_694_r0 : BitVec 32 := 8#32
  let v3334_r0 : BitVec 32 := Scalar.muli arg0 c8_i32_694_r0
  let c2_i32_r0 : BitVec 32 := 2#32
  let v3335_r0 : BitVec 32 := Scalar.addi v3334_r0 c2_i32_r0
  let c4_i32_695_r0 : BitVec 32 := 4#32
  let v3336_r0 : BitVec 32 := Scalar.muli v3335_r0 c4_i32_695_r0
  let c0_i32_697_r0 : BitVec 32 := 0#32
  let v3338_r0 : BitVec 1 := Scalar.cmpi .sgt v3336_r0 c0_i32_697_r0
  let v3339_r0 : BitVec 32 := Scalar.extui v3338_r0
  let c0_i32_698_r0 : BitVec 32 := 0#32
  let v3340_r0 : BitVec 1 := Scalar.cmpi .slt v3336_r0 c0_i32_698_r0
  let v3341_r0 : BitVec 32 := Scalar.extui v3340_r0
  let v3342_r0 : BitVec 32 := Scalar.subi v3339_r0 v3341_r0
  let c128_i32_696_r0 : BitVec 32 := 128#32
  let c0_i32_699_r0 : BitVec 32 := 0#32
  let v3343_r0 : BitVec 1 := Scalar.cmpi .sgt c128_i32_696_r0 c0_i32_699_r0
  let v3344_r0 : BitVec 32 := Scalar.extui v3343_r0
  let c0_i32_700_r0 : BitVec 32 := 0#32
  let v3345_r0 : BitVec 1 := Scalar.cmpi .slt c128_i32_696_r0 c0_i32_700_r0
  let v3346_r0 : BitVec 32 := Scalar.extui v3345_r0
  let v3347_r0 : BitVec 32 := Scalar.subi v3344_r0 v3346_r0
  let v3348_r0 : BitVec 1 := Scalar.cmpi .ne v3342_r0 v3347_r0
  let v3349_r0 : BitVec 32 := Scalar.remsi v3336_r0 c128_i32_696_r0
  let c0_i32_701_r0 : BitVec 32 := 0#32
  let v3350_r0 : BitVec 1 := Scalar.cmpi .ne v3349_r0 c0_i32_701_r0
  let v3351_r0 : BitVec 1 := Scalar.andi v3348_r0 v3350_r0
  let v3337_r0 : BitVec 32 := Scalar.divsi v3336_r0 c128_i32_696_r0
  let c1_i32_702_r0 : BitVec 32 := 1#32
  let v3352_r0 : BitVec 32 := Scalar.subi v3337_r0 c1_i32_702_r0
  let v3353_r0 : BitVec 32 := Scalar.select v3351_r0 v3352_r0 v3337_r0
  let c128_i32_703_r0 : BitVec 32 := 128#32
  let v3354_r0 : BitVec 32 := Scalar.muli v3353_r0 c128_i32_703_r0
  v3354_r0
def k0_mult4 (i : grid0.Coords) : BitVec 32 :=
  let arg0 : BitVec 32 := BitVec.ofNat 32 (i 0).val
  let c8_i32_716_r0 : BitVec 32 := 8#32
  let v3389_r0 : BitVec 32 := Scalar.muli arg0 c8_i32_716_r0
  let c3_i32_r0 : BitVec 32 := 3#32
  let v3390_r0 : BitVec 32 := Scalar.addi v3389_r0 c3_i32_r0
  let c4_i32_717_r0 : BitVec 32 := 4#32
  let v3391_r0 : BitVec 32 := Scalar.muli v3390_r0 c4_i32_717_r0
  let c0_i32_719_r0 : BitVec 32 := 0#32
  let v3393_r0 : BitVec 1 := Scalar.cmpi .sgt v3391_r0 c0_i32_719_r0
  let v3394_r0 : BitVec 32 := Scalar.extui v3393_r0
  let c0_i32_720_r0 : BitVec 32 := 0#32
  let v3395_r0 : BitVec 1 := Scalar.cmpi .slt v3391_r0 c0_i32_720_r0
  let v3396_r0 : BitVec 32 := Scalar.extui v3395_r0
  let v3397_r0 : BitVec 32 := Scalar.subi v3394_r0 v3396_r0
  let c128_i32_718_r0 : BitVec 32 := 128#32
  let c0_i32_721_r0 : BitVec 32 := 0#32
  let v3398_r0 : BitVec 1 := Scalar.cmpi .sgt c128_i32_718_r0 c0_i32_721_r0
  let v3399_r0 : BitVec 32 := Scalar.extui v3398_r0
  let c0_i32_722_r0 : BitVec 32 := 0#32
  let v3400_r0 : BitVec 1 := Scalar.cmpi .slt c128_i32_718_r0 c0_i32_722_r0
  let v3401_r0 : BitVec 32 := Scalar.extui v3400_r0
  let v3402_r0 : BitVec 32 := Scalar.subi v3399_r0 v3401_r0
  let v3403_r0 : BitVec 1 := Scalar.cmpi .ne v3397_r0 v3402_r0
  let v3404_r0 : BitVec 32 := Scalar.remsi v3391_r0 c128_i32_718_r0
  let c0_i32_723_r0 : BitVec 32 := 0#32
  let v3405_r0 : BitVec 1 := Scalar.cmpi .ne v3404_r0 c0_i32_723_r0
  let v3406_r0 : BitVec 1 := Scalar.andi v3403_r0 v3405_r0
  let v3392_r0 : BitVec 32 := Scalar.divsi v3391_r0 c128_i32_718_r0
  let c1_i32_724_r0 : BitVec 32 := 1#32
  let v3407_r0 : BitVec 32 := Scalar.subi v3392_r0 c1_i32_724_r0
  let v3408_r0 : BitVec 32 := Scalar.select v3406_r0 v3407_r0 v3392_r0
  let c128_i32_725_r0 : BitVec 32 := 128#32
  let v3409_r0 : BitVec 32 := Scalar.muli v3408_r0 c128_i32_725_r0
  v3409_r0
def k0_mult5 (i : grid0.Coords) : BitVec 32 :=
  let arg0 : BitVec 32 := BitVec.ofNat 32 (i 0).val
  let c8_i32_754_r0 : BitVec 32 := 8#32
  let v3481_r0 : BitVec 32 := Scalar.muli arg0 c8_i32_754_r0
  let c0_i32_755_r0 : BitVec 32 := 0#32
  let v3482_r0 : BitVec 32 := Scalar.addi v3481_r0 c0_i32_755_r0
  let c4_i32_756_r0 : BitVec 32 := 4#32
  let v3483_r0 : BitVec 32 := Scalar.muli v3482_r0 c4_i32_756_r0
  let c0_i32_758_r0 : BitVec 32 := 0#32
  let v3485_r0 : BitVec 1 := Scalar.cmpi .sgt v3483_r0 c0_i32_758_r0
  let v3486_r0 : BitVec 32 := Scalar.extui v3485_r0
  let c0_i32_759_r0 : BitVec 32 := 0#32
  let v3487_r0 : BitVec 1 := Scalar.cmpi .slt v3483_r0 c0_i32_759_r0
  let v3488_r0 : BitVec 32 := Scalar.extui v3487_r0
  let v3489_r0 : BitVec 32 := Scalar.subi v3486_r0 v3488_r0
  let c128_i32_757_r0 : BitVec 32 := 128#32
  let c0_i32_760_r0 : BitVec 32 := 0#32
  let v3490_r0 : BitVec 1 := Scalar.cmpi .sgt c128_i32_757_r0 c0_i32_760_r0
  let v3491_r0 : BitVec 32 := Scalar.extui v3490_r0
  let c0_i32_761_r0 : BitVec 32 := 0#32
  let v3492_r0 : BitVec 1 := Scalar.cmpi .slt c128_i32_757_r0 c0_i32_761_r0
  let v3493_r0 : BitVec 32 := Scalar.extui v3492_r0
  let v3494_r0 : BitVec 32 := Scalar.subi v3491_r0 v3493_r0
  let v3495_r0 : BitVec 1 := Scalar.cmpi .ne v3489_r0 v3494_r0
  let v3496_r0 : BitVec 32 := Scalar.remsi v3483_r0 c128_i32_757_r0
  let c0_i32_762_r0 : BitVec 32 := 0#32
  let v3497_r0 : BitVec 1 := Scalar.cmpi .ne v3496_r0 c0_i32_762_r0
  let v3498_r0 : BitVec 1 := Scalar.andi v3495_r0 v3497_r0
  let v3484_r0 : BitVec 32 := Scalar.divsi v3483_r0 c128_i32_757_r0
  let c1_i32_763_r0 : BitVec 32 := 1#32
  let v3499_r0 : BitVec 32 := Scalar.subi v3484_r0 c1_i32_763_r0
  let v3500_r0 : BitVec 32 := Scalar.select v3498_r0 v3499_r0 v3484_r0
  let c128_i32_764_r0 : BitVec 32 := 128#32
  let v3501_r0 : BitVec 32 := Scalar.muli v3500_r0 c128_i32_764_r0
  v3501_r0
def k0_off2 (i : grid0.Coords) (c0_i32_755_r0 : BitVec 32) : Fin 2 → Nat :=
  let c8_765_r0 : Index := 8#32
  let arg0 : BitVec 32 := BitVec.ofNat 32 (i 0).val
  let c8_i32_754_r0 : BitVec 32 := 8#32
  let v3481_r0 : BitVec 32 := Scalar.muli arg0 c8_i32_754_r0
  let v3482_r0 : BitVec 32 := Scalar.addi v3481_r0 c0_i32_755_r0
  let c4_i32_756_r0 : BitVec 32 := 4#32
  let v3483_r0 : BitVec 32 := Scalar.muli v3482_r0 c4_i32_756_r0
  let c0_i32_758_r0 : BitVec 32 := 0#32
  let v3485_r0 : BitVec 1 := Scalar.cmpi .sgt v3483_r0 c0_i32_758_r0
  let v3486_r0 : BitVec 32 := Scalar.extui v3485_r0
  let c0_i32_759_r0 : BitVec 32 := 0#32
  let v3487_r0 : BitVec 1 := Scalar.cmpi .slt v3483_r0 c0_i32_759_r0
  let v3488_r0 : BitVec 32 := Scalar.extui v3487_r0
  let v3489_r0 : BitVec 32 := Scalar.subi v3486_r0 v3488_r0
  let c128_i32_757_r0 : BitVec 32 := 128#32
  let c0_i32_760_r0 : BitVec 32 := 0#32
  let v3490_r0 : BitVec 1 := Scalar.cmpi .sgt c128_i32_757_r0 c0_i32_760_r0
  let v3491_r0 : BitVec 32 := Scalar.extui v3490_r0
  let c0_i32_761_r0 : BitVec 32 := 0#32
  let v3492_r0 : BitVec 1 := Scalar.cmpi .slt c128_i32_757_r0 c0_i32_761_r0
  let v3493_r0 : BitVec 32 := Scalar.extui v3492_r0
  let v3494_r0 : BitVec 32 := Scalar.subi v3491_r0 v3493_r0
  let v3495_r0 : BitVec 1 := Scalar.cmpi .ne v3489_r0 v3494_r0
  let v3496_r0 : BitVec 32 := Scalar.remsi v3483_r0 c128_i32_757_r0
  let c0_i32_762_r0 : BitVec 32 := 0#32
  let v3497_r0 : BitVec 1 := Scalar.cmpi .ne v3496_r0 c0_i32_762_r0
  let v3498_r0 : BitVec 1 := Scalar.andi v3495_r0 v3497_r0
  let v3484_r0 : BitVec 32 := Scalar.divsi v3483_r0 c128_i32_757_r0
  let c1_i32_763_r0 : BitVec 32 := 1#32
  let v3499_r0 : BitVec 32 := Scalar.subi v3484_r0 c1_i32_763_r0
  let v3500_r0 : BitVec 32 := Scalar.select v3498_r0 v3499_r0 v3484_r0
  let c128_i32_764_r0 : BitVec 32 := 128#32
  let v3501_r0 : BitVec 32 := Scalar.muli v3500_r0 c128_i32_764_r0
  let v3502_r0 : BitVec 32 := v3501_r0
  let v3503_r0 : Index := Scalar.indexCast v3502_r0
  ![8, v3503_r0.toNat]
def k0_mult6 (i : grid0.Coords) : BitVec 32 :=
  let arg0 : BitVec 32 := BitVec.ofNat 32 (i 0).val
  let c8_i32_777_r0 : BitVec 32 := 8#32
  let v3536_r0 : BitVec 32 := Scalar.muli arg0 c8_i32_777_r0
  let c1_i32_778_r0 : BitVec 32 := 1#32
  let v3537_r0 : BitVec 32 := Scalar.addi v3536_r0 c1_i32_778_r0
  let c4_i32_779_r0 : BitVec 32 := 4#32
  let v3538_r0 : BitVec 32 := Scalar.muli v3537_r0 c4_i32_779_r0
  let c0_i32_781_r0 : BitVec 32 := 0#32
  let v3540_r0 : BitVec 1 := Scalar.cmpi .sgt v3538_r0 c0_i32_781_r0
  let v3541_r0 : BitVec 32 := Scalar.extui v3540_r0
  let c0_i32_782_r0 : BitVec 32 := 0#32
  let v3542_r0 : BitVec 1 := Scalar.cmpi .slt v3538_r0 c0_i32_782_r0
  let v3543_r0 : BitVec 32 := Scalar.extui v3542_r0
  let v3544_r0 : BitVec 32 := Scalar.subi v3541_r0 v3543_r0
  let c128_i32_780_r0 : BitVec 32 := 128#32
  let c0_i32_783_r0 : BitVec 32 := 0#32
  let v3545_r0 : BitVec 1 := Scalar.cmpi .sgt c128_i32_780_r0 c0_i32_783_r0
  let v3546_r0 : BitVec 32 := Scalar.extui v3545_r0
  let c0_i32_784_r0 : BitVec 32 := 0#32
  let v3547_r0 : BitVec 1 := Scalar.cmpi .slt c128_i32_780_r0 c0_i32_784_r0
  let v3548_r0 : BitVec 32 := Scalar.extui v3547_r0
  let v3549_r0 : BitVec 32 := Scalar.subi v3546_r0 v3548_r0
  let v3550_r0 : BitVec 1 := Scalar.cmpi .ne v3544_r0 v3549_r0
  let v3551_r0 : BitVec 32 := Scalar.remsi v3538_r0 c128_i32_780_r0
  let c0_i32_785_r0 : BitVec 32 := 0#32
  let v3552_r0 : BitVec 1 := Scalar.cmpi .ne v3551_r0 c0_i32_785_r0
  let v3553_r0 : BitVec 1 := Scalar.andi v3550_r0 v3552_r0
  let v3539_r0 : BitVec 32 := Scalar.divsi v3538_r0 c128_i32_780_r0
  let c1_i32_786_r0 : BitVec 32 := 1#32
  let v3554_r0 : BitVec 32 := Scalar.subi v3539_r0 c1_i32_786_r0
  let v3555_r0 : BitVec 32 := Scalar.select v3553_r0 v3554_r0 v3539_r0
  let c128_i32_787_r0 : BitVec 32 := 128#32
  let v3556_r0 : BitVec 32 := Scalar.muli v3555_r0 c128_i32_787_r0
  v3556_r0
def k0_mult7 (i : grid0.Coords) : BitVec 32 :=
  let arg0 : BitVec 32 := BitVec.ofNat 32 (i 0).val
  let c8_i32_800_r0 : BitVec 32 := 8#32
  let v3591_r0 : BitVec 32 := Scalar.muli arg0 c8_i32_800_r0
  let c2_i32_801_r0 : BitVec 32 := 2#32
  let v3592_r0 : BitVec 32 := Scalar.addi v3591_r0 c2_i32_801_r0
  let c4_i32_802_r0 : BitVec 32 := 4#32
  let v3593_r0 : BitVec 32 := Scalar.muli v3592_r0 c4_i32_802_r0
  let c0_i32_804_r0 : BitVec 32 := 0#32
  let v3595_r0 : BitVec 1 := Scalar.cmpi .sgt v3593_r0 c0_i32_804_r0
  let v3596_r0 : BitVec 32 := Scalar.extui v3595_r0
  let c0_i32_805_r0 : BitVec 32 := 0#32
  let v3597_r0 : BitVec 1 := Scalar.cmpi .slt v3593_r0 c0_i32_805_r0
  let v3598_r0 : BitVec 32 := Scalar.extui v3597_r0
  let v3599_r0 : BitVec 32 := Scalar.subi v3596_r0 v3598_r0
  let c128_i32_803_r0 : BitVec 32 := 128#32
  let c0_i32_806_r0 : BitVec 32 := 0#32
  let v3600_r0 : BitVec 1 := Scalar.cmpi .sgt c128_i32_803_r0 c0_i32_806_r0
  let v3601_r0 : BitVec 32 := Scalar.extui v3600_r0
  let c0_i32_807_r0 : BitVec 32 := 0#32
  let v3602_r0 : BitVec 1 := Scalar.cmpi .slt c128_i32_803_r0 c0_i32_807_r0
  let v3603_r0 : BitVec 32 := Scalar.extui v3602_r0
  let v3604_r0 : BitVec 32 := Scalar.subi v3601_r0 v3603_r0
  let v3605_r0 : BitVec 1 := Scalar.cmpi .ne v3599_r0 v3604_r0
  let v3606_r0 : BitVec 32 := Scalar.remsi v3593_r0 c128_i32_803_r0
  let c0_i32_808_r0 : BitVec 32 := 0#32
  let v3607_r0 : BitVec 1 := Scalar.cmpi .ne v3606_r0 c0_i32_808_r0
  let v3608_r0 : BitVec 1 := Scalar.andi v3605_r0 v3607_r0
  let v3594_r0 : BitVec 32 := Scalar.divsi v3593_r0 c128_i32_803_r0
  let c1_i32_809_r0 : BitVec 32 := 1#32
  let v3609_r0 : BitVec 32 := Scalar.subi v3594_r0 c1_i32_809_r0
  let v3610_r0 : BitVec 32 := Scalar.select v3608_r0 v3609_r0 v3594_r0
  let c128_i32_810_r0 : BitVec 32 := 128#32
  let v3611_r0 : BitVec 32 := Scalar.muli v3610_r0 c128_i32_810_r0
  v3611_r0
def k0_mult8 (i : grid0.Coords) : BitVec 32 :=
  let arg0 : BitVec 32 := BitVec.ofNat 32 (i 0).val
  let c8_i32_823_r0 : BitVec 32 := 8#32
  let v3646_r0 : BitVec 32 := Scalar.muli arg0 c8_i32_823_r0
  let c3_i32_824_r0 : BitVec 32 := 3#32
  let v3647_r0 : BitVec 32 := Scalar.addi v3646_r0 c3_i32_824_r0
  let c4_i32_825_r0 : BitVec 32 := 4#32
  let v3648_r0 : BitVec 32 := Scalar.muli v3647_r0 c4_i32_825_r0
  let c0_i32_827_r0 : BitVec 32 := 0#32
  let v3650_r0 : BitVec 1 := Scalar.cmpi .sgt v3648_r0 c0_i32_827_r0
  let v3651_r0 : BitVec 32 := Scalar.extui v3650_r0
  let c0_i32_828_r0 : BitVec 32 := 0#32
  let v3652_r0 : BitVec 1 := Scalar.cmpi .slt v3648_r0 c0_i32_828_r0
  let v3653_r0 : BitVec 32 := Scalar.extui v3652_r0
  let v3654_r0 : BitVec 32 := Scalar.subi v3651_r0 v3653_r0
  let c128_i32_826_r0 : BitVec 32 := 128#32
  let c0_i32_829_r0 : BitVec 32 := 0#32
  let v3655_r0 : BitVec 1 := Scalar.cmpi .sgt c128_i32_826_r0 c0_i32_829_r0
  let v3656_r0 : BitVec 32 := Scalar.extui v3655_r0
  let c0_i32_830_r0 : BitVec 32 := 0#32
  let v3657_r0 : BitVec 1 := Scalar.cmpi .slt c128_i32_826_r0 c0_i32_830_r0
  let v3658_r0 : BitVec 32 := Scalar.extui v3657_r0
  let v3659_r0 : BitVec 32 := Scalar.subi v3656_r0 v3658_r0
  let v3660_r0 : BitVec 1 := Scalar.cmpi .ne v3654_r0 v3659_r0
  let v3661_r0 : BitVec 32 := Scalar.remsi v3648_r0 c128_i32_826_r0
  let c0_i32_831_r0 : BitVec 32 := 0#32
  let v3662_r0 : BitVec 1 := Scalar.cmpi .ne v3661_r0 c0_i32_831_r0
  let v3663_r0 : BitVec 1 := Scalar.andi v3660_r0 v3662_r0
  let v3649_r0 : BitVec 32 := Scalar.divsi v3648_r0 c128_i32_826_r0
  let c1_i32_832_r0 : BitVec 32 := 1#32
  let v3664_r0 : BitVec 32 := Scalar.subi v3649_r0 c1_i32_832_r0
  let v3665_r0 : BitVec 32 := Scalar.select v3663_r0 v3664_r0 v3649_r0
  let c128_i32_833_r0 : BitVec 32 := 128#32
  let v3666_r0 : BitVec 32 := Scalar.muli v3665_r0 c128_i32_833_r0
  v3666_r0
def k0_mult9 (i : grid0.Coords) : BitVec 32 :=
  let arg0 : BitVec 32 := BitVec.ofNat 32 (i 0).val
  let c8_i32_862_r0 : BitVec 32 := 8#32
  let v3738_r0 : BitVec 32 := Scalar.muli arg0 c8_i32_862_r0
  let c0_i32_863_r0 : BitVec 32 := 0#32
  let v3739_r0 : BitVec 32 := Scalar.addi v3738_r0 c0_i32_863_r0
  let c4_i32_864_r0 : BitVec 32 := 4#32
  let v3740_r0 : BitVec 32 := Scalar.muli v3739_r0 c4_i32_864_r0
  let c0_i32_866_r0 : BitVec 32 := 0#32
  let v3742_r0 : BitVec 1 := Scalar.cmpi .sgt v3740_r0 c0_i32_866_r0
  let v3743_r0 : BitVec 32 := Scalar.extui v3742_r0
  let c0_i32_867_r0 : BitVec 32 := 0#32
  let v3744_r0 : BitVec 1 := Scalar.cmpi .slt v3740_r0 c0_i32_867_r0
  let v3745_r0 : BitVec 32 := Scalar.extui v3744_r0
  let v3746_r0 : BitVec 32 := Scalar.subi v3743_r0 v3745_r0
  let c128_i32_865_r0 : BitVec 32 := 128#32
  let c0_i32_868_r0 : BitVec 32 := 0#32
  let v3747_r0 : BitVec 1 := Scalar.cmpi .sgt c128_i32_865_r0 c0_i32_868_r0
  let v3748_r0 : BitVec 32 := Scalar.extui v3747_r0
  let c0_i32_869_r0 : BitVec 32 := 0#32
  let v3749_r0 : BitVec 1 := Scalar.cmpi .slt c128_i32_865_r0 c0_i32_869_r0
  let v3750_r0 : BitVec 32 := Scalar.extui v3749_r0
  let v3751_r0 : BitVec 32 := Scalar.subi v3748_r0 v3750_r0
  let v3752_r0 : BitVec 1 := Scalar.cmpi .ne v3746_r0 v3751_r0
  let v3753_r0 : BitVec 32 := Scalar.remsi v3740_r0 c128_i32_865_r0
  let c0_i32_870_r0 : BitVec 32 := 0#32
  let v3754_r0 : BitVec 1 := Scalar.cmpi .ne v3753_r0 c0_i32_870_r0
  let v3755_r0 : BitVec 1 := Scalar.andi v3752_r0 v3754_r0
  let v3741_r0 : BitVec 32 := Scalar.divsi v3740_r0 c128_i32_865_r0
  let c1_i32_871_r0 : BitVec 32 := 1#32
  let v3756_r0 : BitVec 32 := Scalar.subi v3741_r0 c1_i32_871_r0
  let v3757_r0 : BitVec 32 := Scalar.select v3755_r0 v3756_r0 v3741_r0
  let c128_i32_872_r0 : BitVec 32 := 128#32
  let v3758_r0 : BitVec 32 := Scalar.muli v3757_r0 c128_i32_872_r0
  v3758_r0
def k0_off3 (i : grid0.Coords) (c0_i32_863_r0 : BitVec 32) : Fin 2 → Nat :=
  let c16_873_r0 : Index := 16#32
  let arg0 : BitVec 32 := BitVec.ofNat 32 (i 0).val
  let c8_i32_862_r0 : BitVec 32 := 8#32
  let v3738_r0 : BitVec 32 := Scalar.muli arg0 c8_i32_862_r0
  let v3739_r0 : BitVec 32 := Scalar.addi v3738_r0 c0_i32_863_r0
  let c4_i32_864_r0 : BitVec 32 := 4#32
  let v3740_r0 : BitVec 32 := Scalar.muli v3739_r0 c4_i32_864_r0
  let c0_i32_866_r0 : BitVec 32 := 0#32
  let v3742_r0 : BitVec 1 := Scalar.cmpi .sgt v3740_r0 c0_i32_866_r0
  let v3743_r0 : BitVec 32 := Scalar.extui v3742_r0
  let c0_i32_867_r0 : BitVec 32 := 0#32
  let v3744_r0 : BitVec 1 := Scalar.cmpi .slt v3740_r0 c0_i32_867_r0
  let v3745_r0 : BitVec 32 := Scalar.extui v3744_r0
  let v3746_r0 : BitVec 32 := Scalar.subi v3743_r0 v3745_r0
  let c128_i32_865_r0 : BitVec 32 := 128#32
  let c0_i32_868_r0 : BitVec 32 := 0#32
  let v3747_r0 : BitVec 1 := Scalar.cmpi .sgt c128_i32_865_r0 c0_i32_868_r0
  let v3748_r0 : BitVec 32 := Scalar.extui v3747_r0
  let c0_i32_869_r0 : BitVec 32 := 0#32
  let v3749_r0 : BitVec 1 := Scalar.cmpi .slt c128_i32_865_r0 c0_i32_869_r0
  let v3750_r0 : BitVec 32 := Scalar.extui v3749_r0
  let v3751_r0 : BitVec 32 := Scalar.subi v3748_r0 v3750_r0
  let v3752_r0 : BitVec 1 := Scalar.cmpi .ne v3746_r0 v3751_r0
  let v3753_r0 : BitVec 32 := Scalar.remsi v3740_r0 c128_i32_865_r0
  let c0_i32_870_r0 : BitVec 32 := 0#32
  let v3754_r0 : BitVec 1 := Scalar.cmpi .ne v3753_r0 c0_i32_870_r0
  let v3755_r0 : BitVec 1 := Scalar.andi v3752_r0 v3754_r0
  let v3741_r0 : BitVec 32 := Scalar.divsi v3740_r0 c128_i32_865_r0
  let c1_i32_871_r0 : BitVec 32 := 1#32
  let v3756_r0 : BitVec 32 := Scalar.subi v3741_r0 c1_i32_871_r0
  let v3757_r0 : BitVec 32 := Scalar.select v3755_r0 v3756_r0 v3741_r0
  let c128_i32_872_r0 : BitVec 32 := 128#32
  let v3758_r0 : BitVec 32 := Scalar.muli v3757_r0 c128_i32_872_r0
  let v3759_r0 : BitVec 32 := v3758_r0
  let v3760_r0 : Index := Scalar.indexCast v3759_r0
  ![16, v3760_r0.toNat]
def k0_mult10 (i : grid0.Coords) : BitVec 32 :=
  let arg0 : BitVec 32 := BitVec.ofNat 32 (i 0).val
  let c8_i32_885_r0 : BitVec 32 := 8#32
  let v3793_r0 : BitVec 32 := Scalar.muli arg0 c8_i32_885_r0
  let c1_i32_886_r0 : BitVec 32 := 1#32
  let v3794_r0 : BitVec 32 := Scalar.addi v3793_r0 c1_i32_886_r0
  let c4_i32_887_r0 : BitVec 32 := 4#32
  let v3795_r0 : BitVec 32 := Scalar.muli v3794_r0 c4_i32_887_r0
  let c0_i32_889_r0 : BitVec 32 := 0#32
  let v3797_r0 : BitVec 1 := Scalar.cmpi .sgt v3795_r0 c0_i32_889_r0
  let v3798_r0 : BitVec 32 := Scalar.extui v3797_r0
  let c0_i32_890_r0 : BitVec 32 := 0#32
  let v3799_r0 : BitVec 1 := Scalar.cmpi .slt v3795_r0 c0_i32_890_r0
  let v3800_r0 : BitVec 32 := Scalar.extui v3799_r0
  let v3801_r0 : BitVec 32 := Scalar.subi v3798_r0 v3800_r0
  let c128_i32_888_r0 : BitVec 32 := 128#32
  let c0_i32_891_r0 : BitVec 32 := 0#32
  let v3802_r0 : BitVec 1 := Scalar.cmpi .sgt c128_i32_888_r0 c0_i32_891_r0
  let v3803_r0 : BitVec 32 := Scalar.extui v3802_r0
  let c0_i32_892_r0 : BitVec 32 := 0#32
  let v3804_r0 : BitVec 1 := Scalar.cmpi .slt c128_i32_888_r0 c0_i32_892_r0
  let v3805_r0 : BitVec 32 := Scalar.extui v3804_r0
  let v3806_r0 : BitVec 32 := Scalar.subi v3803_r0 v3805_r0
  let v3807_r0 : BitVec 1 := Scalar.cmpi .ne v3801_r0 v3806_r0
  let v3808_r0 : BitVec 32 := Scalar.remsi v3795_r0 c128_i32_888_r0
  let c0_i32_893_r0 : BitVec 32 := 0#32
  let v3809_r0 : BitVec 1 := Scalar.cmpi .ne v3808_r0 c0_i32_893_r0
  let v3810_r0 : BitVec 1 := Scalar.andi v3807_r0 v3809_r0
  let v3796_r0 : BitVec 32 := Scalar.divsi v3795_r0 c128_i32_888_r0
  let c1_i32_894_r0 : BitVec 32 := 1#32
  let v3811_r0 : BitVec 32 := Scalar.subi v3796_r0 c1_i32_894_r0
  let v3812_r0 : BitVec 32 := Scalar.select v3810_r0 v3811_r0 v3796_r0
  let c128_i32_895_r0 : BitVec 32 := 128#32
  let v3813_r0 : BitVec 32 := Scalar.muli v3812_r0 c128_i32_895_r0
  v3813_r0
def k0_mult11 (i : grid0.Coords) : BitVec 32 :=
  let arg0 : BitVec 32 := BitVec.ofNat 32 (i 0).val
  let c8_i32_907_r0 : BitVec 32 := 8#32
  let v3848_r0 : BitVec 32 := Scalar.muli arg0 c8_i32_907_r0
  let c2_i32_908_r0 : BitVec 32 := 2#32
  let v3849_r0 : BitVec 32 := Scalar.addi v3848_r0 c2_i32_908_r0
  let c4_i32_909_r0 : BitVec 32 := 4#32
  let v3850_r0 : BitVec 32 := Scalar.muli v3849_r0 c4_i32_909_r0
  let c0_i32_911_r0 : BitVec 32 := 0#32
  let v3852_r0 : BitVec 1 := Scalar.cmpi .sgt v3850_r0 c0_i32_911_r0
  let v3853_r0 : BitVec 32 := Scalar.extui v3852_r0
  let c0_i32_912_r0 : BitVec 32 := 0#32
  let v3854_r0 : BitVec 1 := Scalar.cmpi .slt v3850_r0 c0_i32_912_r0
  let v3855_r0 : BitVec 32 := Scalar.extui v3854_r0
  let v3856_r0 : BitVec 32 := Scalar.subi v3853_r0 v3855_r0
  let c128_i32_910_r0 : BitVec 32 := 128#32
  let c0_i32_913_r0 : BitVec 32 := 0#32
  let v3857_r0 : BitVec 1 := Scalar.cmpi .sgt c128_i32_910_r0 c0_i32_913_r0
  let v3858_r0 : BitVec 32 := Scalar.extui v3857_r0
  let c0_i32_914_r0 : BitVec 32 := 0#32
  let v3859_r0 : BitVec 1 := Scalar.cmpi .slt c128_i32_910_r0 c0_i32_914_r0
  let v3860_r0 : BitVec 32 := Scalar.extui v3859_r0
  let v3861_r0 : BitVec 32 := Scalar.subi v3858_r0 v3860_r0
  let v3862_r0 : BitVec 1 := Scalar.cmpi .ne v3856_r0 v3861_r0
  let v3863_r0 : BitVec 32 := Scalar.remsi v3850_r0 c128_i32_910_r0
  let c0_i32_915_r0 : BitVec 32 := 0#32
  let v3864_r0 : BitVec 1 := Scalar.cmpi .ne v3863_r0 c0_i32_915_r0
  let v3865_r0 : BitVec 1 := Scalar.andi v3862_r0 v3864_r0
  let v3851_r0 : BitVec 32 := Scalar.divsi v3850_r0 c128_i32_910_r0
  let c1_i32_916_r0 : BitVec 32 := 1#32
  let v3866_r0 : BitVec 32 := Scalar.subi v3851_r0 c1_i32_916_r0
  let v3867_r0 : BitVec 32 := Scalar.select v3865_r0 v3866_r0 v3851_r0
  let c128_i32_917_r0 : BitVec 32 := 128#32
  let v3868_r0 : BitVec 32 := Scalar.muli v3867_r0 c128_i32_917_r0
  v3868_r0
def k0_mult12 (i : grid0.Coords) : BitVec 32 :=
  let arg0 : BitVec 32 := BitVec.ofNat 32 (i 0).val
  let c8_i32_929_r0 : BitVec 32 := 8#32
  let v3903_r0 : BitVec 32 := Scalar.muli arg0 c8_i32_929_r0
  let c3_i32_930_r0 : BitVec 32 := 3#32
  let v3904_r0 : BitVec 32 := Scalar.addi v3903_r0 c3_i32_930_r0
  let c4_i32_931_r0 : BitVec 32 := 4#32
  let v3905_r0 : BitVec 32 := Scalar.muli v3904_r0 c4_i32_931_r0
  let c0_i32_933_r0 : BitVec 32 := 0#32
  let v3907_r0 : BitVec 1 := Scalar.cmpi .sgt v3905_r0 c0_i32_933_r0
  let v3908_r0 : BitVec 32 := Scalar.extui v3907_r0
  let c0_i32_934_r0 : BitVec 32 := 0#32
  let v3909_r0 : BitVec 1 := Scalar.cmpi .slt v3905_r0 c0_i32_934_r0
  let v3910_r0 : BitVec 32 := Scalar.extui v3909_r0
  let v3911_r0 : BitVec 32 := Scalar.subi v3908_r0 v3910_r0
  let c128_i32_932_r0 : BitVec 32 := 128#32
  let c0_i32_935_r0 : BitVec 32 := 0#32
  let v3912_r0 : BitVec 1 := Scalar.cmpi .sgt c128_i32_932_r0 c0_i32_935_r0
  let v3913_r0 : BitVec 32 := Scalar.extui v3912_r0
  let c0_i32_936_r0 : BitVec 32 := 0#32
  let v3914_r0 : BitVec 1 := Scalar.cmpi .slt c128_i32_932_r0 c0_i32_936_r0
  let v3915_r0 : BitVec 32 := Scalar.extui v3914_r0
  let v3916_r0 : BitVec 32 := Scalar.subi v3913_r0 v3915_r0
  let v3917_r0 : BitVec 1 := Scalar.cmpi .ne v3911_r0 v3916_r0
  let v3918_r0 : BitVec 32 := Scalar.remsi v3905_r0 c128_i32_932_r0
  let c0_i32_937_r0 : BitVec 32 := 0#32
  let v3919_r0 : BitVec 1 := Scalar.cmpi .ne v3918_r0 c0_i32_937_r0
  let v3920_r0 : BitVec 1 := Scalar.andi v3917_r0 v3919_r0
  let v3906_r0 : BitVec 32 := Scalar.divsi v3905_r0 c128_i32_932_r0
  let c1_i32_938_r0 : BitVec 32 := 1#32
  let v3921_r0 : BitVec 32 := Scalar.subi v3906_r0 c1_i32_938_r0
  let v3922_r0 : BitVec 32 := Scalar.select v3920_r0 v3921_r0 v3906_r0
  let c128_i32_939_r0 : BitVec 32 := 128#32
  let v3923_r0 : BitVec 32 := Scalar.muli v3922_r0 c128_i32_939_r0
  v3923_r0
def k0_mult13 (i : grid0.Coords) : BitVec 32 :=
  let arg0 : BitVec 32 := BitVec.ofNat 32 (i 0).val
  let c8_i32_967_r0 : BitVec 32 := 8#32
  let v3995_r0 : BitVec 32 := Scalar.muli arg0 c8_i32_967_r0
  let c0_i32_968_r0 : BitVec 32 := 0#32
  let v3996_r0 : BitVec 32 := Scalar.addi v3995_r0 c0_i32_968_r0
  let c4_i32_969_r0 : BitVec 32 := 4#32
  let v3997_r0 : BitVec 32 := Scalar.muli v3996_r0 c4_i32_969_r0
  let c0_i32_971_r0 : BitVec 32 := 0#32
  let v3999_r0 : BitVec 1 := Scalar.cmpi .sgt v3997_r0 c0_i32_971_r0
  let v4000_r0 : BitVec 32 := Scalar.extui v3999_r0
  let c0_i32_972_r0 : BitVec 32 := 0#32
  let v4001_r0 : BitVec 1 := Scalar.cmpi .slt v3997_r0 c0_i32_972_r0
  let v4002_r0 : BitVec 32 := Scalar.extui v4001_r0
  let v4003_r0 : BitVec 32 := Scalar.subi v4000_r0 v4002_r0
  let c128_i32_970_r0 : BitVec 32 := 128#32
  let c0_i32_973_r0 : BitVec 32 := 0#32
  let v4004_r0 : BitVec 1 := Scalar.cmpi .sgt c128_i32_970_r0 c0_i32_973_r0
  let v4005_r0 : BitVec 32 := Scalar.extui v4004_r0
  let c0_i32_974_r0 : BitVec 32 := 0#32
  let v4006_r0 : BitVec 1 := Scalar.cmpi .slt c128_i32_970_r0 c0_i32_974_r0
  let v4007_r0 : BitVec 32 := Scalar.extui v4006_r0
  let v4008_r0 : BitVec 32 := Scalar.subi v4005_r0 v4007_r0
  let v4009_r0 : BitVec 1 := Scalar.cmpi .ne v4003_r0 v4008_r0
  let v4010_r0 : BitVec 32 := Scalar.remsi v3997_r0 c128_i32_970_r0
  let c0_i32_975_r0 : BitVec 32 := 0#32
  let v4011_r0 : BitVec 1 := Scalar.cmpi .ne v4010_r0 c0_i32_975_r0
  let v4012_r0 : BitVec 1 := Scalar.andi v4009_r0 v4011_r0
  let v3998_r0 : BitVec 32 := Scalar.divsi v3997_r0 c128_i32_970_r0
  let c1_i32_976_r0 : BitVec 32 := 1#32
  let v4013_r0 : BitVec 32 := Scalar.subi v3998_r0 c1_i32_976_r0
  let v4014_r0 : BitVec 32 := Scalar.select v4012_r0 v4013_r0 v3998_r0
  let c128_i32_977_r0 : BitVec 32 := 128#32
  let v4015_r0 : BitVec 32 := Scalar.muli v4014_r0 c128_i32_977_r0
  v4015_r0
def k0_off4 (i : grid0.Coords) (c0_i32_968_r0 : BitVec 32) : Fin 2 → Nat :=
  let c24_978_r0 : Index := 24#32
  let arg0 : BitVec 32 := BitVec.ofNat 32 (i 0).val
  let c8_i32_967_r0 : BitVec 32 := 8#32
  let v3995_r0 : BitVec 32 := Scalar.muli arg0 c8_i32_967_r0
  let v3996_r0 : BitVec 32 := Scalar.addi v3995_r0 c0_i32_968_r0
  let c4_i32_969_r0 : BitVec 32 := 4#32
  let v3997_r0 : BitVec 32 := Scalar.muli v3996_r0 c4_i32_969_r0
  let c0_i32_971_r0 : BitVec 32 := 0#32
  let v3999_r0 : BitVec 1 := Scalar.cmpi .sgt v3997_r0 c0_i32_971_r0
  let v4000_r0 : BitVec 32 := Scalar.extui v3999_r0
  let c0_i32_972_r0 : BitVec 32 := 0#32
  let v4001_r0 : BitVec 1 := Scalar.cmpi .slt v3997_r0 c0_i32_972_r0
  let v4002_r0 : BitVec 32 := Scalar.extui v4001_r0
  let v4003_r0 : BitVec 32 := Scalar.subi v4000_r0 v4002_r0
  let c128_i32_970_r0 : BitVec 32 := 128#32
  let c0_i32_973_r0 : BitVec 32 := 0#32
  let v4004_r0 : BitVec 1 := Scalar.cmpi .sgt c128_i32_970_r0 c0_i32_973_r0
  let v4005_r0 : BitVec 32 := Scalar.extui v4004_r0
  let c0_i32_974_r0 : BitVec 32 := 0#32
  let v4006_r0 : BitVec 1 := Scalar.cmpi .slt c128_i32_970_r0 c0_i32_974_r0
  let v4007_r0 : BitVec 32 := Scalar.extui v4006_r0
  let v4008_r0 : BitVec 32 := Scalar.subi v4005_r0 v4007_r0
  let v4009_r0 : BitVec 1 := Scalar.cmpi .ne v4003_r0 v4008_r0
  let v4010_r0 : BitVec 32 := Scalar.remsi v3997_r0 c128_i32_970_r0
  let c0_i32_975_r0 : BitVec 32 := 0#32
  let v4011_r0 : BitVec 1 := Scalar.cmpi .ne v4010_r0 c0_i32_975_r0
  let v4012_r0 : BitVec 1 := Scalar.andi v4009_r0 v4011_r0
  let v3998_r0 : BitVec 32 := Scalar.divsi v3997_r0 c128_i32_970_r0
  let c1_i32_976_r0 : BitVec 32 := 1#32
  let v4013_r0 : BitVec 32 := Scalar.subi v3998_r0 c1_i32_976_r0
  let v4014_r0 : BitVec 32 := Scalar.select v4012_r0 v4013_r0 v3998_r0
  let c128_i32_977_r0 : BitVec 32 := 128#32
  let v4015_r0 : BitVec 32 := Scalar.muli v4014_r0 c128_i32_977_r0
  let v4016_r0 : BitVec 32 := v4015_r0
  let v4017_r0 : Index := Scalar.indexCast v4016_r0
  ![24, v4017_r0.toNat]
def k0_mult14 (i : grid0.Coords) : BitVec 32 :=
  let arg0 : BitVec 32 := BitVec.ofNat 32 (i 0).val
  let c8_i32_989_r0 : BitVec 32 := 8#32
  let v4050_r0 : BitVec 32 := Scalar.muli arg0 c8_i32_989_r0
  let c1_i32_990_r0 : BitVec 32 := 1#32
  let v4051_r0 : BitVec 32 := Scalar.addi v4050_r0 c1_i32_990_r0
  let c4_i32_991_r0 : BitVec 32 := 4#32
  let v4052_r0 : BitVec 32 := Scalar.muli v4051_r0 c4_i32_991_r0
  let c0_i32_993_r0 : BitVec 32 := 0#32
  let v4054_r0 : BitVec 1 := Scalar.cmpi .sgt v4052_r0 c0_i32_993_r0
  let v4055_r0 : BitVec 32 := Scalar.extui v4054_r0
  let c0_i32_994_r0 : BitVec 32 := 0#32
  let v4056_r0 : BitVec 1 := Scalar.cmpi .slt v4052_r0 c0_i32_994_r0
  let v4057_r0 : BitVec 32 := Scalar.extui v4056_r0
  let v4058_r0 : BitVec 32 := Scalar.subi v4055_r0 v4057_r0
  let c128_i32_992_r0 : BitVec 32 := 128#32
  let c0_i32_995_r0 : BitVec 32 := 0#32
  let v4059_r0 : BitVec 1 := Scalar.cmpi .sgt c128_i32_992_r0 c0_i32_995_r0
  let v4060_r0 : BitVec 32 := Scalar.extui v4059_r0
  let c0_i32_996_r0 : BitVec 32 := 0#32
  let v4061_r0 : BitVec 1 := Scalar.cmpi .slt c128_i32_992_r0 c0_i32_996_r0
  let v4062_r0 : BitVec 32 := Scalar.extui v4061_r0
  let v4063_r0 : BitVec 32 := Scalar.subi v4060_r0 v4062_r0
  let v4064_r0 : BitVec 1 := Scalar.cmpi .ne v4058_r0 v4063_r0
  let v4065_r0 : BitVec 32 := Scalar.remsi v4052_r0 c128_i32_992_r0
  let c0_i32_997_r0 : BitVec 32 := 0#32
  let v4066_r0 : BitVec 1 := Scalar.cmpi .ne v4065_r0 c0_i32_997_r0
  let v4067_r0 : BitVec 1 := Scalar.andi v4064_r0 v4066_r0
  let v4053_r0 : BitVec 32 := Scalar.divsi v4052_r0 c128_i32_992_r0
  let c1_i32_998_r0 : BitVec 32 := 1#32
  let v4068_r0 : BitVec 32 := Scalar.subi v4053_r0 c1_i32_998_r0
  let v4069_r0 : BitVec 32 := Scalar.select v4067_r0 v4068_r0 v4053_r0
  let c128_i32_999_r0 : BitVec 32 := 128#32
  let v4070_r0 : BitVec 32 := Scalar.muli v4069_r0 c128_i32_999_r0
  v4070_r0
def k0_mult15 (i : grid0.Coords) : BitVec 32 :=
  let arg0 : BitVec 32 := BitVec.ofNat 32 (i 0).val
  let c8_i32_1011_r0 : BitVec 32 := 8#32
  let v4105_r0 : BitVec 32 := Scalar.muli arg0 c8_i32_1011_r0
  let c2_i32_1012_r0 : BitVec 32 := 2#32
  let v4106_r0 : BitVec 32 := Scalar.addi v4105_r0 c2_i32_1012_r0
  let c4_i32_1013_r0 : BitVec 32 := 4#32
  let v4107_r0 : BitVec 32 := Scalar.muli v4106_r0 c4_i32_1013_r0
  let c0_i32_1015_r0 : BitVec 32 := 0#32
  let v4109_r0 : BitVec 1 := Scalar.cmpi .sgt v4107_r0 c0_i32_1015_r0
  let v4110_r0 : BitVec 32 := Scalar.extui v4109_r0
  let c0_i32_1016_r0 : BitVec 32 := 0#32
  let v4111_r0 : BitVec 1 := Scalar.cmpi .slt v4107_r0 c0_i32_1016_r0
  let v4112_r0 : BitVec 32 := Scalar.extui v4111_r0
  let v4113_r0 : BitVec 32 := Scalar.subi v4110_r0 v4112_r0
  let c128_i32_1014_r0 : BitVec 32 := 128#32
  let c0_i32_1017_r0 : BitVec 32 := 0#32
  let v4114_r0 : BitVec 1 := Scalar.cmpi .sgt c128_i32_1014_r0 c0_i32_1017_r0
  let v4115_r0 : BitVec 32 := Scalar.extui v4114_r0
  let c0_i32_1018_r0 : BitVec 32 := 0#32
  let v4116_r0 : BitVec 1 := Scalar.cmpi .slt c128_i32_1014_r0 c0_i32_1018_r0
  let v4117_r0 : BitVec 32 := Scalar.extui v4116_r0
  let v4118_r0 : BitVec 32 := Scalar.subi v4115_r0 v4117_r0
  let v4119_r0 : BitVec 1 := Scalar.cmpi .ne v4113_r0 v4118_r0
  let v4120_r0 : BitVec 32 := Scalar.remsi v4107_r0 c128_i32_1014_r0
  let c0_i32_1019_r0 : BitVec 32 := 0#32
  let v4121_r0 : BitVec 1 := Scalar.cmpi .ne v4120_r0 c0_i32_1019_r0
  let v4122_r0 : BitVec 1 := Scalar.andi v4119_r0 v4121_r0
  let v4108_r0 : BitVec 32 := Scalar.divsi v4107_r0 c128_i32_1014_r0
  let c1_i32_1020_r0 : BitVec 32 := 1#32
  let v4123_r0 : BitVec 32 := Scalar.subi v4108_r0 c1_i32_1020_r0
  let v4124_r0 : BitVec 32 := Scalar.select v4122_r0 v4123_r0 v4108_r0
  let c128_i32_1021_r0 : BitVec 32 := 128#32
  let v4125_r0 : BitVec 32 := Scalar.muli v4124_r0 c128_i32_1021_r0
  v4125_r0
def k0_mult16 (i : grid0.Coords) : BitVec 32 :=
  let arg0 : BitVec 32 := BitVec.ofNat 32 (i 0).val
  let c8_i32_1033_r0 : BitVec 32 := 8#32
  let v4160_r0 : BitVec 32 := Scalar.muli arg0 c8_i32_1033_r0
  let c3_i32_1034_r0 : BitVec 32 := 3#32
  let v4161_r0 : BitVec 32 := Scalar.addi v4160_r0 c3_i32_1034_r0
  let c4_i32_1035_r0 : BitVec 32 := 4#32
  let v4162_r0 : BitVec 32 := Scalar.muli v4161_r0 c4_i32_1035_r0
  let c0_i32_1037_r0 : BitVec 32 := 0#32
  let v4164_r0 : BitVec 1 := Scalar.cmpi .sgt v4162_r0 c0_i32_1037_r0
  let v4165_r0 : BitVec 32 := Scalar.extui v4164_r0
  let c0_i32_1038_r0 : BitVec 32 := 0#32
  let v4166_r0 : BitVec 1 := Scalar.cmpi .slt v4162_r0 c0_i32_1038_r0
  let v4167_r0 : BitVec 32 := Scalar.extui v4166_r0
  let v4168_r0 : BitVec 32 := Scalar.subi v4165_r0 v4167_r0
  let c128_i32_1036_r0 : BitVec 32 := 128#32
  let c0_i32_1039_r0 : BitVec 32 := 0#32
  let v4169_r0 : BitVec 1 := Scalar.cmpi .sgt c128_i32_1036_r0 c0_i32_1039_r0
  let v4170_r0 : BitVec 32 := Scalar.extui v4169_r0
  let c0_i32_1040_r0 : BitVec 32 := 0#32
  let v4171_r0 : BitVec 1 := Scalar.cmpi .slt c128_i32_1036_r0 c0_i32_1040_r0
  let v4172_r0 : BitVec 32 := Scalar.extui v4171_r0
  let v4173_r0 : BitVec 32 := Scalar.subi v4170_r0 v4172_r0
  let v4174_r0 : BitVec 1 := Scalar.cmpi .ne v4168_r0 v4173_r0
  let v4175_r0 : BitVec 32 := Scalar.remsi v4162_r0 c128_i32_1036_r0
  let c0_i32_1041_r0 : BitVec 32 := 0#32
  let v4176_r0 : BitVec 1 := Scalar.cmpi .ne v4175_r0 c0_i32_1041_r0
  let v4177_r0 : BitVec 1 := Scalar.andi v4174_r0 v4176_r0
  let v4163_r0 : BitVec 32 := Scalar.divsi v4162_r0 c128_i32_1036_r0
  let c1_i32_1042_r0 : BitVec 32 := 1#32
  let v4178_r0 : BitVec 32 := Scalar.subi v4163_r0 c1_i32_1042_r0
  let v4179_r0 : BitVec 32 := Scalar.select v4177_r0 v4178_r0 v4163_r0
  let c128_i32_1043_r0 : BitVec 32 := 128#32
  let v4180_r0 : BitVec 32 := Scalar.muli v4179_r0 c128_i32_1043_r0
  v4180_r0
def k0_mult17 (i : grid0.Coords) : BitVec 32 :=
  let arg0 : BitVec 32 := BitVec.ofNat 32 (i 0).val
  let c8_i32_1071_r0 : BitVec 32 := 8#32
  let v4252_r0 : BitVec 32 := Scalar.muli arg0 c8_i32_1071_r0
  let c0_i32_1072_r0 : BitVec 32 := 0#32
  let v4253_r0 : BitVec 32 := Scalar.addi v4252_r0 c0_i32_1072_r0
  let c4_i32_1073_r0 : BitVec 32 := 4#32
  let v4254_r0 : BitVec 32 := Scalar.muli v4253_r0 c4_i32_1073_r0
  let c0_i32_1075_r0 : BitVec 32 := 0#32
  let v4256_r0 : BitVec 1 := Scalar.cmpi .sgt v4254_r0 c0_i32_1075_r0
  let v4257_r0 : BitVec 32 := Scalar.extui v4256_r0
  let c0_i32_1076_r0 : BitVec 32 := 0#32
  let v4258_r0 : BitVec 1 := Scalar.cmpi .slt v4254_r0 c0_i32_1076_r0
  let v4259_r0 : BitVec 32 := Scalar.extui v4258_r0
  let v4260_r0 : BitVec 32 := Scalar.subi v4257_r0 v4259_r0
  let c128_i32_1074_r0 : BitVec 32 := 128#32
  let c0_i32_1077_r0 : BitVec 32 := 0#32
  let v4261_r0 : BitVec 1 := Scalar.cmpi .sgt c128_i32_1074_r0 c0_i32_1077_r0
  let v4262_r0 : BitVec 32 := Scalar.extui v4261_r0
  let c0_i32_1078_r0 : BitVec 32 := 0#32
  let v4263_r0 : BitVec 1 := Scalar.cmpi .slt c128_i32_1074_r0 c0_i32_1078_r0
  let v4264_r0 : BitVec 32 := Scalar.extui v4263_r0
  let v4265_r0 : BitVec 32 := Scalar.subi v4262_r0 v4264_r0
  let v4266_r0 : BitVec 1 := Scalar.cmpi .ne v4260_r0 v4265_r0
  let v4267_r0 : BitVec 32 := Scalar.remsi v4254_r0 c128_i32_1074_r0
  let c0_i32_1079_r0 : BitVec 32 := 0#32
  let v4268_r0 : BitVec 1 := Scalar.cmpi .ne v4267_r0 c0_i32_1079_r0
  let v4269_r0 : BitVec 1 := Scalar.andi v4266_r0 v4268_r0
  let v4255_r0 : BitVec 32 := Scalar.divsi v4254_r0 c128_i32_1074_r0
  let c1_i32_1080_r0 : BitVec 32 := 1#32
  let v4270_r0 : BitVec 32 := Scalar.subi v4255_r0 c1_i32_1080_r0
  let v4271_r0 : BitVec 32 := Scalar.select v4269_r0 v4270_r0 v4255_r0
  let c128_i32_1081_r0 : BitVec 32 := 128#32
  let v4272_r0 : BitVec 32 := Scalar.muli v4271_r0 c128_i32_1081_r0
  v4272_r0
def k0_off5 (i : grid0.Coords) (c0_i32_1072_r0 : BitVec 32) : Fin 2 → Nat :=
  let c32_1082_r0 : Index := 32#32
  let arg0 : BitVec 32 := BitVec.ofNat 32 (i 0).val
  let c8_i32_1071_r0 : BitVec 32 := 8#32
  let v4252_r0 : BitVec 32 := Scalar.muli arg0 c8_i32_1071_r0
  let v4253_r0 : BitVec 32 := Scalar.addi v4252_r0 c0_i32_1072_r0
  let c4_i32_1073_r0 : BitVec 32 := 4#32
  let v4254_r0 : BitVec 32 := Scalar.muli v4253_r0 c4_i32_1073_r0
  let c0_i32_1075_r0 : BitVec 32 := 0#32
  let v4256_r0 : BitVec 1 := Scalar.cmpi .sgt v4254_r0 c0_i32_1075_r0
  let v4257_r0 : BitVec 32 := Scalar.extui v4256_r0
  let c0_i32_1076_r0 : BitVec 32 := 0#32
  let v4258_r0 : BitVec 1 := Scalar.cmpi .slt v4254_r0 c0_i32_1076_r0
  let v4259_r0 : BitVec 32 := Scalar.extui v4258_r0
  let v4260_r0 : BitVec 32 := Scalar.subi v4257_r0 v4259_r0
  let c128_i32_1074_r0 : BitVec 32 := 128#32
  let c0_i32_1077_r0 : BitVec 32 := 0#32
  let v4261_r0 : BitVec 1 := Scalar.cmpi .sgt c128_i32_1074_r0 c0_i32_1077_r0
  let v4262_r0 : BitVec 32 := Scalar.extui v4261_r0
  let c0_i32_1078_r0 : BitVec 32 := 0#32
  let v4263_r0 : BitVec 1 := Scalar.cmpi .slt c128_i32_1074_r0 c0_i32_1078_r0
  let v4264_r0 : BitVec 32 := Scalar.extui v4263_r0
  let v4265_r0 : BitVec 32 := Scalar.subi v4262_r0 v4264_r0
  let v4266_r0 : BitVec 1 := Scalar.cmpi .ne v4260_r0 v4265_r0
  let v4267_r0 : BitVec 32 := Scalar.remsi v4254_r0 c128_i32_1074_r0
  let c0_i32_1079_r0 : BitVec 32 := 0#32
  let v4268_r0 : BitVec 1 := Scalar.cmpi .ne v4267_r0 c0_i32_1079_r0
  let v4269_r0 : BitVec 1 := Scalar.andi v4266_r0 v4268_r0
  let v4255_r0 : BitVec 32 := Scalar.divsi v4254_r0 c128_i32_1074_r0
  let c1_i32_1080_r0 : BitVec 32 := 1#32
  let v4270_r0 : BitVec 32 := Scalar.subi v4255_r0 c1_i32_1080_r0
  let v4271_r0 : BitVec 32 := Scalar.select v4269_r0 v4270_r0 v4255_r0
  let c128_i32_1081_r0 : BitVec 32 := 128#32
  let v4272_r0 : BitVec 32 := Scalar.muli v4271_r0 c128_i32_1081_r0
  let v4273_r0 : BitVec 32 := v4272_r0
  let v4274_r0 : Index := Scalar.indexCast v4273_r0
  ![32, v4274_r0.toNat]
def k0_mult18 (i : grid0.Coords) : BitVec 32 :=
  let arg0 : BitVec 32 := BitVec.ofNat 32 (i 0).val
  let c8_i32_1094_r0 : BitVec 32 := 8#32
  let v4307_r0 : BitVec 32 := Scalar.muli arg0 c8_i32_1094_r0
  let c1_i32_1095_r0 : BitVec 32 := 1#32
  let v4308_r0 : BitVec 32 := Scalar.addi v4307_r0 c1_i32_1095_r0
  let c4_i32_1096_r0 : BitVec 32 := 4#32
  let v4309_r0 : BitVec 32 := Scalar.muli v4308_r0 c4_i32_1096_r0
  let c0_i32_1098_r0 : BitVec 32 := 0#32
  let v4311_r0 : BitVec 1 := Scalar.cmpi .sgt v4309_r0 c0_i32_1098_r0
  let v4312_r0 : BitVec 32 := Scalar.extui v4311_r0
  let c0_i32_1099_r0 : BitVec 32 := 0#32
  let v4313_r0 : BitVec 1 := Scalar.cmpi .slt v4309_r0 c0_i32_1099_r0
  let v4314_r0 : BitVec 32 := Scalar.extui v4313_r0
  let v4315_r0 : BitVec 32 := Scalar.subi v4312_r0 v4314_r0
  let c128_i32_1097_r0 : BitVec 32 := 128#32
  let c0_i32_1100_r0 : BitVec 32 := 0#32
  let v4316_r0 : BitVec 1 := Scalar.cmpi .sgt c128_i32_1097_r0 c0_i32_1100_r0
  let v4317_r0 : BitVec 32 := Scalar.extui v4316_r0
  let c0_i32_1101_r0 : BitVec 32 := 0#32
  let v4318_r0 : BitVec 1 := Scalar.cmpi .slt c128_i32_1097_r0 c0_i32_1101_r0
  let v4319_r0 : BitVec 32 := Scalar.extui v4318_r0
  let v4320_r0 : BitVec 32 := Scalar.subi v4317_r0 v4319_r0
  let v4321_r0 : BitVec 1 := Scalar.cmpi .ne v4315_r0 v4320_r0
  let v4322_r0 : BitVec 32 := Scalar.remsi v4309_r0 c128_i32_1097_r0
  let c0_i32_1102_r0 : BitVec 32 := 0#32
  let v4323_r0 : BitVec 1 := Scalar.cmpi .ne v4322_r0 c0_i32_1102_r0
  let v4324_r0 : BitVec 1 := Scalar.andi v4321_r0 v4323_r0
  let v4310_r0 : BitVec 32 := Scalar.divsi v4309_r0 c128_i32_1097_r0
  let c1_i32_1103_r0 : BitVec 32 := 1#32
  let v4325_r0 : BitVec 32 := Scalar.subi v4310_r0 c1_i32_1103_r0
  let v4326_r0 : BitVec 32 := Scalar.select v4324_r0 v4325_r0 v4310_r0
  let c128_i32_1104_r0 : BitVec 32 := 128#32
  let v4327_r0 : BitVec 32 := Scalar.muli v4326_r0 c128_i32_1104_r0
  v4327_r0
def k0_mult19 (i : grid0.Coords) : BitVec 32 :=
  let arg0 : BitVec 32 := BitVec.ofNat 32 (i 0).val
  let c8_i32_1116_r0 : BitVec 32 := 8#32
  let v4362_r0 : BitVec 32 := Scalar.muli arg0 c8_i32_1116_r0
  let c2_i32_1117_r0 : BitVec 32 := 2#32
  let v4363_r0 : BitVec 32 := Scalar.addi v4362_r0 c2_i32_1117_r0
  let c4_i32_1118_r0 : BitVec 32 := 4#32
  let v4364_r0 : BitVec 32 := Scalar.muli v4363_r0 c4_i32_1118_r0
  let c0_i32_1120_r0 : BitVec 32 := 0#32
  let v4366_r0 : BitVec 1 := Scalar.cmpi .sgt v4364_r0 c0_i32_1120_r0
  let v4367_r0 : BitVec 32 := Scalar.extui v4366_r0
  let c0_i32_1121_r0 : BitVec 32 := 0#32
  let v4368_r0 : BitVec 1 := Scalar.cmpi .slt v4364_r0 c0_i32_1121_r0
  let v4369_r0 : BitVec 32 := Scalar.extui v4368_r0
  let v4370_r0 : BitVec 32 := Scalar.subi v4367_r0 v4369_r0
  let c128_i32_1119_r0 : BitVec 32 := 128#32
  let c0_i32_1122_r0 : BitVec 32 := 0#32
  let v4371_r0 : BitVec 1 := Scalar.cmpi .sgt c128_i32_1119_r0 c0_i32_1122_r0
  let v4372_r0 : BitVec 32 := Scalar.extui v4371_r0
  let c0_i32_1123_r0 : BitVec 32 := 0#32
  let v4373_r0 : BitVec 1 := Scalar.cmpi .slt c128_i32_1119_r0 c0_i32_1123_r0
  let v4374_r0 : BitVec 32 := Scalar.extui v4373_r0
  let v4375_r0 : BitVec 32 := Scalar.subi v4372_r0 v4374_r0
  let v4376_r0 : BitVec 1 := Scalar.cmpi .ne v4370_r0 v4375_r0
  let v4377_r0 : BitVec 32 := Scalar.remsi v4364_r0 c128_i32_1119_r0
  let c0_i32_1124_r0 : BitVec 32 := 0#32
  let v4378_r0 : BitVec 1 := Scalar.cmpi .ne v4377_r0 c0_i32_1124_r0
  let v4379_r0 : BitVec 1 := Scalar.andi v4376_r0 v4378_r0
  let v4365_r0 : BitVec 32 := Scalar.divsi v4364_r0 c128_i32_1119_r0
  let c1_i32_1125_r0 : BitVec 32 := 1#32
  let v4380_r0 : BitVec 32 := Scalar.subi v4365_r0 c1_i32_1125_r0
  let v4381_r0 : BitVec 32 := Scalar.select v4379_r0 v4380_r0 v4365_r0
  let c128_i32_1126_r0 : BitVec 32 := 128#32
  let v4382_r0 : BitVec 32 := Scalar.muli v4381_r0 c128_i32_1126_r0
  v4382_r0
def k0_mult20 (i : grid0.Coords) : BitVec 32 :=
  let arg0 : BitVec 32 := BitVec.ofNat 32 (i 0).val
  let c8_i32_1138_r0 : BitVec 32 := 8#32
  let v4417_r0 : BitVec 32 := Scalar.muli arg0 c8_i32_1138_r0
  let c3_i32_1139_r0 : BitVec 32 := 3#32
  let v4418_r0 : BitVec 32 := Scalar.addi v4417_r0 c3_i32_1139_r0
  let c4_i32_1140_r0 : BitVec 32 := 4#32
  let v4419_r0 : BitVec 32 := Scalar.muli v4418_r0 c4_i32_1140_r0
  let c0_i32_1142_r0 : BitVec 32 := 0#32
  let v4421_r0 : BitVec 1 := Scalar.cmpi .sgt v4419_r0 c0_i32_1142_r0
  let v4422_r0 : BitVec 32 := Scalar.extui v4421_r0
  let c0_i32_1143_r0 : BitVec 32 := 0#32
  let v4423_r0 : BitVec 1 := Scalar.cmpi .slt v4419_r0 c0_i32_1143_r0
  let v4424_r0 : BitVec 32 := Scalar.extui v4423_r0
  let v4425_r0 : BitVec 32 := Scalar.subi v4422_r0 v4424_r0
  let c128_i32_1141_r0 : BitVec 32 := 128#32
  let c0_i32_1144_r0 : BitVec 32 := 0#32
  let v4426_r0 : BitVec 1 := Scalar.cmpi .sgt c128_i32_1141_r0 c0_i32_1144_r0
  let v4427_r0 : BitVec 32 := Scalar.extui v4426_r0
  let c0_i32_1145_r0 : BitVec 32 := 0#32
  let v4428_r0 : BitVec 1 := Scalar.cmpi .slt c128_i32_1141_r0 c0_i32_1145_r0
  let v4429_r0 : BitVec 32 := Scalar.extui v4428_r0
  let v4430_r0 : BitVec 32 := Scalar.subi v4427_r0 v4429_r0
  let v4431_r0 : BitVec 1 := Scalar.cmpi .ne v4425_r0 v4430_r0
  let v4432_r0 : BitVec 32 := Scalar.remsi v4419_r0 c128_i32_1141_r0
  let c0_i32_1146_r0 : BitVec 32 := 0#32
  let v4433_r0 : BitVec 1 := Scalar.cmpi .ne v4432_r0 c0_i32_1146_r0
  let v4434_r0 : BitVec 1 := Scalar.andi v4431_r0 v4433_r0
  let v4420_r0 : BitVec 32 := Scalar.divsi v4419_r0 c128_i32_1141_r0
  let c1_i32_1147_r0 : BitVec 32 := 1#32
  let v4435_r0 : BitVec 32 := Scalar.subi v4420_r0 c1_i32_1147_r0
  let v4436_r0 : BitVec 32 := Scalar.select v4434_r0 v4435_r0 v4420_r0
  let c128_i32_1148_r0 : BitVec 32 := 128#32
  let v4437_r0 : BitVec 32 := Scalar.muli v4436_r0 c128_i32_1148_r0
  v4437_r0
def k0_mult21 (i : grid0.Coords) : BitVec 32 :=
  let arg0 : BitVec 32 := BitVec.ofNat 32 (i 0).val
  let c8_i32_1176_r0 : BitVec 32 := 8#32
  let v4509_r0 : BitVec 32 := Scalar.muli arg0 c8_i32_1176_r0
  let c0_i32_1177_r0 : BitVec 32 := 0#32
  let v4510_r0 : BitVec 32 := Scalar.addi v4509_r0 c0_i32_1177_r0
  let c4_i32_1178_r0 : BitVec 32 := 4#32
  let v4511_r0 : BitVec 32 := Scalar.muli v4510_r0 c4_i32_1178_r0
  let c0_i32_1180_r0 : BitVec 32 := 0#32
  let v4513_r0 : BitVec 1 := Scalar.cmpi .sgt v4511_r0 c0_i32_1180_r0
  let v4514_r0 : BitVec 32 := Scalar.extui v4513_r0
  let c0_i32_1181_r0 : BitVec 32 := 0#32
  let v4515_r0 : BitVec 1 := Scalar.cmpi .slt v4511_r0 c0_i32_1181_r0
  let v4516_r0 : BitVec 32 := Scalar.extui v4515_r0
  let v4517_r0 : BitVec 32 := Scalar.subi v4514_r0 v4516_r0
  let c128_i32_1179_r0 : BitVec 32 := 128#32
  let c0_i32_1182_r0 : BitVec 32 := 0#32
  let v4518_r0 : BitVec 1 := Scalar.cmpi .sgt c128_i32_1179_r0 c0_i32_1182_r0
  let v4519_r0 : BitVec 32 := Scalar.extui v4518_r0
  let c0_i32_1183_r0 : BitVec 32 := 0#32
  let v4520_r0 : BitVec 1 := Scalar.cmpi .slt c128_i32_1179_r0 c0_i32_1183_r0
  let v4521_r0 : BitVec 32 := Scalar.extui v4520_r0
  let v4522_r0 : BitVec 32 := Scalar.subi v4519_r0 v4521_r0
  let v4523_r0 : BitVec 1 := Scalar.cmpi .ne v4517_r0 v4522_r0
  let v4524_r0 : BitVec 32 := Scalar.remsi v4511_r0 c128_i32_1179_r0
  let c0_i32_1184_r0 : BitVec 32 := 0#32
  let v4525_r0 : BitVec 1 := Scalar.cmpi .ne v4524_r0 c0_i32_1184_r0
  let v4526_r0 : BitVec 1 := Scalar.andi v4523_r0 v4525_r0
  let v4512_r0 : BitVec 32 := Scalar.divsi v4511_r0 c128_i32_1179_r0
  let c1_i32_1185_r0 : BitVec 32 := 1#32
  let v4527_r0 : BitVec 32 := Scalar.subi v4512_r0 c1_i32_1185_r0
  let v4528_r0 : BitVec 32 := Scalar.select v4526_r0 v4527_r0 v4512_r0
  let c128_i32_1186_r0 : BitVec 32 := 128#32
  let v4529_r0 : BitVec 32 := Scalar.muli v4528_r0 c128_i32_1186_r0
  v4529_r0
def k0_off6 (i : grid0.Coords) (c0_i32_1177_r0 : BitVec 32) : Fin 2 → Nat :=
  let c40_1187_r0 : Index := 40#32
  let arg0 : BitVec 32 := BitVec.ofNat 32 (i 0).val
  let c8_i32_1176_r0 : BitVec 32 := 8#32
  let v4509_r0 : BitVec 32 := Scalar.muli arg0 c8_i32_1176_r0
  let v4510_r0 : BitVec 32 := Scalar.addi v4509_r0 c0_i32_1177_r0
  let c4_i32_1178_r0 : BitVec 32 := 4#32
  let v4511_r0 : BitVec 32 := Scalar.muli v4510_r0 c4_i32_1178_r0
  let c0_i32_1180_r0 : BitVec 32 := 0#32
  let v4513_r0 : BitVec 1 := Scalar.cmpi .sgt v4511_r0 c0_i32_1180_r0
  let v4514_r0 : BitVec 32 := Scalar.extui v4513_r0
  let c0_i32_1181_r0 : BitVec 32 := 0#32
  let v4515_r0 : BitVec 1 := Scalar.cmpi .slt v4511_r0 c0_i32_1181_r0
  let v4516_r0 : BitVec 32 := Scalar.extui v4515_r0
  let v4517_r0 : BitVec 32 := Scalar.subi v4514_r0 v4516_r0
  let c128_i32_1179_r0 : BitVec 32 := 128#32
  let c0_i32_1182_r0 : BitVec 32 := 0#32
  let v4518_r0 : BitVec 1 := Scalar.cmpi .sgt c128_i32_1179_r0 c0_i32_1182_r0
  let v4519_r0 : BitVec 32 := Scalar.extui v4518_r0
  let c0_i32_1183_r0 : BitVec 32 := 0#32
  let v4520_r0 : BitVec 1 := Scalar.cmpi .slt c128_i32_1179_r0 c0_i32_1183_r0
  let v4521_r0 : BitVec 32 := Scalar.extui v4520_r0
  let v4522_r0 : BitVec 32 := Scalar.subi v4519_r0 v4521_r0
  let v4523_r0 : BitVec 1 := Scalar.cmpi .ne v4517_r0 v4522_r0
  let v4524_r0 : BitVec 32 := Scalar.remsi v4511_r0 c128_i32_1179_r0
  let c0_i32_1184_r0 : BitVec 32 := 0#32
  let v4525_r0 : BitVec 1 := Scalar.cmpi .ne v4524_r0 c0_i32_1184_r0
  let v4526_r0 : BitVec 1 := Scalar.andi v4523_r0 v4525_r0
  let v4512_r0 : BitVec 32 := Scalar.divsi v4511_r0 c128_i32_1179_r0
  let c1_i32_1185_r0 : BitVec 32 := 1#32
  let v4527_r0 : BitVec 32 := Scalar.subi v4512_r0 c1_i32_1185_r0
  let v4528_r0 : BitVec 32 := Scalar.select v4526_r0 v4527_r0 v4512_r0
  let c128_i32_1186_r0 : BitVec 32 := 128#32
  let v4529_r0 : BitVec 32 := Scalar.muli v4528_r0 c128_i32_1186_r0
  let v4530_r0 : BitVec 32 := v4529_r0
  let v4531_r0 : Index := Scalar.indexCast v4530_r0
  ![40, v4531_r0.toNat]
def k0_mult22 (i : grid0.Coords) : BitVec 32 :=
  let arg0 : BitVec 32 := BitVec.ofNat 32 (i 0).val
  let c8_i32_1198_r0 : BitVec 32 := 8#32
  let v4564_r0 : BitVec 32 := Scalar.muli arg0 c8_i32_1198_r0
  let c1_i32_1199_r0 : BitVec 32 := 1#32
  let v4565_r0 : BitVec 32 := Scalar.addi v4564_r0 c1_i32_1199_r0
  let c4_i32_1200_r0 : BitVec 32 := 4#32
  let v4566_r0 : BitVec 32 := Scalar.muli v4565_r0 c4_i32_1200_r0
  let c0_i32_1202_r0 : BitVec 32 := 0#32
  let v4568_r0 : BitVec 1 := Scalar.cmpi .sgt v4566_r0 c0_i32_1202_r0
  let v4569_r0 : BitVec 32 := Scalar.extui v4568_r0
  let c0_i32_1203_r0 : BitVec 32 := 0#32
  let v4570_r0 : BitVec 1 := Scalar.cmpi .slt v4566_r0 c0_i32_1203_r0
  let v4571_r0 : BitVec 32 := Scalar.extui v4570_r0
  let v4572_r0 : BitVec 32 := Scalar.subi v4569_r0 v4571_r0
  let c128_i32_1201_r0 : BitVec 32 := 128#32
  let c0_i32_1204_r0 : BitVec 32 := 0#32
  let v4573_r0 : BitVec 1 := Scalar.cmpi .sgt c128_i32_1201_r0 c0_i32_1204_r0
  let v4574_r0 : BitVec 32 := Scalar.extui v4573_r0
  let c0_i32_1205_r0 : BitVec 32 := 0#32
  let v4575_r0 : BitVec 1 := Scalar.cmpi .slt c128_i32_1201_r0 c0_i32_1205_r0
  let v4576_r0 : BitVec 32 := Scalar.extui v4575_r0
  let v4577_r0 : BitVec 32 := Scalar.subi v4574_r0 v4576_r0
  let v4578_r0 : BitVec 1 := Scalar.cmpi .ne v4572_r0 v4577_r0
  let v4579_r0 : BitVec 32 := Scalar.remsi v4566_r0 c128_i32_1201_r0
  let c0_i32_1206_r0 : BitVec 32 := 0#32
  let v4580_r0 : BitVec 1 := Scalar.cmpi .ne v4579_r0 c0_i32_1206_r0
  let v4581_r0 : BitVec 1 := Scalar.andi v4578_r0 v4580_r0
  let v4567_r0 : BitVec 32 := Scalar.divsi v4566_r0 c128_i32_1201_r0
  let c1_i32_1207_r0 : BitVec 32 := 1#32
  let v4582_r0 : BitVec 32 := Scalar.subi v4567_r0 c1_i32_1207_r0
  let v4583_r0 : BitVec 32 := Scalar.select v4581_r0 v4582_r0 v4567_r0
  let c128_i32_1208_r0 : BitVec 32 := 128#32
  let v4584_r0 : BitVec 32 := Scalar.muli v4583_r0 c128_i32_1208_r0
  v4584_r0
def k0_mult23 (i : grid0.Coords) : BitVec 32 :=
  let arg0 : BitVec 32 := BitVec.ofNat 32 (i 0).val
  let c8_i32_1220_r0 : BitVec 32 := 8#32
  let v4619_r0 : BitVec 32 := Scalar.muli arg0 c8_i32_1220_r0
  let c2_i32_1221_r0 : BitVec 32 := 2#32
  let v4620_r0 : BitVec 32 := Scalar.addi v4619_r0 c2_i32_1221_r0
  let c4_i32_1222_r0 : BitVec 32 := 4#32
  let v4621_r0 : BitVec 32 := Scalar.muli v4620_r0 c4_i32_1222_r0
  let c0_i32_1224_r0 : BitVec 32 := 0#32
  let v4623_r0 : BitVec 1 := Scalar.cmpi .sgt v4621_r0 c0_i32_1224_r0
  let v4624_r0 : BitVec 32 := Scalar.extui v4623_r0
  let c0_i32_1225_r0 : BitVec 32 := 0#32
  let v4625_r0 : BitVec 1 := Scalar.cmpi .slt v4621_r0 c0_i32_1225_r0
  let v4626_r0 : BitVec 32 := Scalar.extui v4625_r0
  let v4627_r0 : BitVec 32 := Scalar.subi v4624_r0 v4626_r0
  let c128_i32_1223_r0 : BitVec 32 := 128#32
  let c0_i32_1226_r0 : BitVec 32 := 0#32
  let v4628_r0 : BitVec 1 := Scalar.cmpi .sgt c128_i32_1223_r0 c0_i32_1226_r0
  let v4629_r0 : BitVec 32 := Scalar.extui v4628_r0
  let c0_i32_1227_r0 : BitVec 32 := 0#32
  let v4630_r0 : BitVec 1 := Scalar.cmpi .slt c128_i32_1223_r0 c0_i32_1227_r0
  let v4631_r0 : BitVec 32 := Scalar.extui v4630_r0
  let v4632_r0 : BitVec 32 := Scalar.subi v4629_r0 v4631_r0
  let v4633_r0 : BitVec 1 := Scalar.cmpi .ne v4627_r0 v4632_r0
  let v4634_r0 : BitVec 32 := Scalar.remsi v4621_r0 c128_i32_1223_r0
  let c0_i32_1228_r0 : BitVec 32 := 0#32
  let v4635_r0 : BitVec 1 := Scalar.cmpi .ne v4634_r0 c0_i32_1228_r0
  let v4636_r0 : BitVec 1 := Scalar.andi v4633_r0 v4635_r0
  let v4622_r0 : BitVec 32 := Scalar.divsi v4621_r0 c128_i32_1223_r0
  let c1_i32_1229_r0 : BitVec 32 := 1#32
  let v4637_r0 : BitVec 32 := Scalar.subi v4622_r0 c1_i32_1229_r0
  let v4638_r0 : BitVec 32 := Scalar.select v4636_r0 v4637_r0 v4622_r0
  let c128_i32_1230_r0 : BitVec 32 := 128#32
  let v4639_r0 : BitVec 32 := Scalar.muli v4638_r0 c128_i32_1230_r0
  v4639_r0
def k0_mult24 (i : grid0.Coords) : BitVec 32 :=
  let arg0 : BitVec 32 := BitVec.ofNat 32 (i 0).val
  let c8_i32_1242_r0 : BitVec 32 := 8#32
  let v4674_r0 : BitVec 32 := Scalar.muli arg0 c8_i32_1242_r0
  let c3_i32_1243_r0 : BitVec 32 := 3#32
  let v4675_r0 : BitVec 32 := Scalar.addi v4674_r0 c3_i32_1243_r0
  let c4_i32_1244_r0 : BitVec 32 := 4#32
  let v4676_r0 : BitVec 32 := Scalar.muli v4675_r0 c4_i32_1244_r0
  let c0_i32_1246_r0 : BitVec 32 := 0#32
  let v4678_r0 : BitVec 1 := Scalar.cmpi .sgt v4676_r0 c0_i32_1246_r0
  let v4679_r0 : BitVec 32 := Scalar.extui v4678_r0
  let c0_i32_1247_r0 : BitVec 32 := 0#32
  let v4680_r0 : BitVec 1 := Scalar.cmpi .slt v4676_r0 c0_i32_1247_r0
  let v4681_r0 : BitVec 32 := Scalar.extui v4680_r0
  let v4682_r0 : BitVec 32 := Scalar.subi v4679_r0 v4681_r0
  let c128_i32_1245_r0 : BitVec 32 := 128#32
  let c0_i32_1248_r0 : BitVec 32 := 0#32
  let v4683_r0 : BitVec 1 := Scalar.cmpi .sgt c128_i32_1245_r0 c0_i32_1248_r0
  let v4684_r0 : BitVec 32 := Scalar.extui v4683_r0
  let c0_i32_1249_r0 : BitVec 32 := 0#32
  let v4685_r0 : BitVec 1 := Scalar.cmpi .slt c128_i32_1245_r0 c0_i32_1249_r0
  let v4686_r0 : BitVec 32 := Scalar.extui v4685_r0
  let v4687_r0 : BitVec 32 := Scalar.subi v4684_r0 v4686_r0
  let v4688_r0 : BitVec 1 := Scalar.cmpi .ne v4682_r0 v4687_r0
  let v4689_r0 : BitVec 32 := Scalar.remsi v4676_r0 c128_i32_1245_r0
  let c0_i32_1250_r0 : BitVec 32 := 0#32
  let v4690_r0 : BitVec 1 := Scalar.cmpi .ne v4689_r0 c0_i32_1250_r0
  let v4691_r0 : BitVec 1 := Scalar.andi v4688_r0 v4690_r0
  let v4677_r0 : BitVec 32 := Scalar.divsi v4676_r0 c128_i32_1245_r0
  let c1_i32_1251_r0 : BitVec 32 := 1#32
  let v4692_r0 : BitVec 32 := Scalar.subi v4677_r0 c1_i32_1251_r0
  let v4693_r0 : BitVec 32 := Scalar.select v4691_r0 v4692_r0 v4677_r0
  let c128_i32_1252_r0 : BitVec 32 := 128#32
  let v4694_r0 : BitVec 32 := Scalar.muli v4693_r0 c128_i32_1252_r0
  v4694_r0
def k0_mult25 (i : grid0.Coords) : BitVec 32 :=
  let arg0 : BitVec 32 := BitVec.ofNat 32 (i 0).val
  let c8_i32_1280_r0 : BitVec 32 := 8#32
  let v4766_r0 : BitVec 32 := Scalar.muli arg0 c8_i32_1280_r0
  let c0_i32_1281_r0 : BitVec 32 := 0#32
  let v4767_r0 : BitVec 32 := Scalar.addi v4766_r0 c0_i32_1281_r0
  let c4_i32_1282_r0 : BitVec 32 := 4#32
  let v4768_r0 : BitVec 32 := Scalar.muli v4767_r0 c4_i32_1282_r0
  let c0_i32_1284_r0 : BitVec 32 := 0#32
  let v4770_r0 : BitVec 1 := Scalar.cmpi .sgt v4768_r0 c0_i32_1284_r0
  let v4771_r0 : BitVec 32 := Scalar.extui v4770_r0
  let c0_i32_1285_r0 : BitVec 32 := 0#32
  let v4772_r0 : BitVec 1 := Scalar.cmpi .slt v4768_r0 c0_i32_1285_r0
  let v4773_r0 : BitVec 32 := Scalar.extui v4772_r0
  let v4774_r0 : BitVec 32 := Scalar.subi v4771_r0 v4773_r0
  let c128_i32_1283_r0 : BitVec 32 := 128#32
  let c0_i32_1286_r0 : BitVec 32 := 0#32
  let v4775_r0 : BitVec 1 := Scalar.cmpi .sgt c128_i32_1283_r0 c0_i32_1286_r0
  let v4776_r0 : BitVec 32 := Scalar.extui v4775_r0
  let c0_i32_1287_r0 : BitVec 32 := 0#32
  let v4777_r0 : BitVec 1 := Scalar.cmpi .slt c128_i32_1283_r0 c0_i32_1287_r0
  let v4778_r0 : BitVec 32 := Scalar.extui v4777_r0
  let v4779_r0 : BitVec 32 := Scalar.subi v4776_r0 v4778_r0
  let v4780_r0 : BitVec 1 := Scalar.cmpi .ne v4774_r0 v4779_r0
  let v4781_r0 : BitVec 32 := Scalar.remsi v4768_r0 c128_i32_1283_r0
  let c0_i32_1288_r0 : BitVec 32 := 0#32
  let v4782_r0 : BitVec 1 := Scalar.cmpi .ne v4781_r0 c0_i32_1288_r0
  let v4783_r0 : BitVec 1 := Scalar.andi v4780_r0 v4782_r0
  let v4769_r0 : BitVec 32 := Scalar.divsi v4768_r0 c128_i32_1283_r0
  let c1_i32_1289_r0 : BitVec 32 := 1#32
  let v4784_r0 : BitVec 32 := Scalar.subi v4769_r0 c1_i32_1289_r0
  let v4785_r0 : BitVec 32 := Scalar.select v4783_r0 v4784_r0 v4769_r0
  let c128_i32_1290_r0 : BitVec 32 := 128#32
  let v4786_r0 : BitVec 32 := Scalar.muli v4785_r0 c128_i32_1290_r0
  v4786_r0
def k0_off7 (i : grid0.Coords) (c0_i32_1281_r0 : BitVec 32) : Fin 2 → Nat :=
  let c48_1291_r0 : Index := 48#32
  let arg0 : BitVec 32 := BitVec.ofNat 32 (i 0).val
  let c8_i32_1280_r0 : BitVec 32 := 8#32
  let v4766_r0 : BitVec 32 := Scalar.muli arg0 c8_i32_1280_r0
  let v4767_r0 : BitVec 32 := Scalar.addi v4766_r0 c0_i32_1281_r0
  let c4_i32_1282_r0 : BitVec 32 := 4#32
  let v4768_r0 : BitVec 32 := Scalar.muli v4767_r0 c4_i32_1282_r0
  let c0_i32_1284_r0 : BitVec 32 := 0#32
  let v4770_r0 : BitVec 1 := Scalar.cmpi .sgt v4768_r0 c0_i32_1284_r0
  let v4771_r0 : BitVec 32 := Scalar.extui v4770_r0
  let c0_i32_1285_r0 : BitVec 32 := 0#32
  let v4772_r0 : BitVec 1 := Scalar.cmpi .slt v4768_r0 c0_i32_1285_r0
  let v4773_r0 : BitVec 32 := Scalar.extui v4772_r0
  let v4774_r0 : BitVec 32 := Scalar.subi v4771_r0 v4773_r0
  let c128_i32_1283_r0 : BitVec 32 := 128#32
  let c0_i32_1286_r0 : BitVec 32 := 0#32
  let v4775_r0 : BitVec 1 := Scalar.cmpi .sgt c128_i32_1283_r0 c0_i32_1286_r0
  let v4776_r0 : BitVec 32 := Scalar.extui v4775_r0
  let c0_i32_1287_r0 : BitVec 32 := 0#32
  let v4777_r0 : BitVec 1 := Scalar.cmpi .slt c128_i32_1283_r0 c0_i32_1287_r0
  let v4778_r0 : BitVec 32 := Scalar.extui v4777_r0
  let v4779_r0 : BitVec 32 := Scalar.subi v4776_r0 v4778_r0
  let v4780_r0 : BitVec 1 := Scalar.cmpi .ne v4774_r0 v4779_r0
  let v4781_r0 : BitVec 32 := Scalar.remsi v4768_r0 c128_i32_1283_r0
  let c0_i32_1288_r0 : BitVec 32 := 0#32
  let v4782_r0 : BitVec 1 := Scalar.cmpi .ne v4781_r0 c0_i32_1288_r0
  let v4783_r0 : BitVec 1 := Scalar.andi v4780_r0 v4782_r0
  let v4769_r0 : BitVec 32 := Scalar.divsi v4768_r0 c128_i32_1283_r0
  let c1_i32_1289_r0 : BitVec 32 := 1#32
  let v4784_r0 : BitVec 32 := Scalar.subi v4769_r0 c1_i32_1289_r0
  let v4785_r0 : BitVec 32 := Scalar.select v4783_r0 v4784_r0 v4769_r0
  let c128_i32_1290_r0 : BitVec 32 := 128#32
  let v4786_r0 : BitVec 32 := Scalar.muli v4785_r0 c128_i32_1290_r0
  let v4787_r0 : BitVec 32 := v4786_r0
  let v4788_r0 : Index := Scalar.indexCast v4787_r0
  ![48, v4788_r0.toNat]
def k0_mult26 (i : grid0.Coords) : BitVec 32 :=
  let arg0 : BitVec 32 := BitVec.ofNat 32 (i 0).val
  let c8_i32_1303_r0 : BitVec 32 := 8#32
  let v4821_r0 : BitVec 32 := Scalar.muli arg0 c8_i32_1303_r0
  let c1_i32_1304_r0 : BitVec 32 := 1#32
  let v4822_r0 : BitVec 32 := Scalar.addi v4821_r0 c1_i32_1304_r0
  let c4_i32_1305_r0 : BitVec 32 := 4#32
  let v4823_r0 : BitVec 32 := Scalar.muli v4822_r0 c4_i32_1305_r0
  let c0_i32_1307_r0 : BitVec 32 := 0#32
  let v4825_r0 : BitVec 1 := Scalar.cmpi .sgt v4823_r0 c0_i32_1307_r0
  let v4826_r0 : BitVec 32 := Scalar.extui v4825_r0
  let c0_i32_1308_r0 : BitVec 32 := 0#32
  let v4827_r0 : BitVec 1 := Scalar.cmpi .slt v4823_r0 c0_i32_1308_r0
  let v4828_r0 : BitVec 32 := Scalar.extui v4827_r0
  let v4829_r0 : BitVec 32 := Scalar.subi v4826_r0 v4828_r0
  let c128_i32_1306_r0 : BitVec 32 := 128#32
  let c0_i32_1309_r0 : BitVec 32 := 0#32
  let v4830_r0 : BitVec 1 := Scalar.cmpi .sgt c128_i32_1306_r0 c0_i32_1309_r0
  let v4831_r0 : BitVec 32 := Scalar.extui v4830_r0
  let c0_i32_1310_r0 : BitVec 32 := 0#32
  let v4832_r0 : BitVec 1 := Scalar.cmpi .slt c128_i32_1306_r0 c0_i32_1310_r0
  let v4833_r0 : BitVec 32 := Scalar.extui v4832_r0
  let v4834_r0 : BitVec 32 := Scalar.subi v4831_r0 v4833_r0
  let v4835_r0 : BitVec 1 := Scalar.cmpi .ne v4829_r0 v4834_r0
  let v4836_r0 : BitVec 32 := Scalar.remsi v4823_r0 c128_i32_1306_r0
  let c0_i32_1311_r0 : BitVec 32 := 0#32
  let v4837_r0 : BitVec 1 := Scalar.cmpi .ne v4836_r0 c0_i32_1311_r0
  let v4838_r0 : BitVec 1 := Scalar.andi v4835_r0 v4837_r0
  let v4824_r0 : BitVec 32 := Scalar.divsi v4823_r0 c128_i32_1306_r0
  let c1_i32_1312_r0 : BitVec 32 := 1#32
  let v4839_r0 : BitVec 32 := Scalar.subi v4824_r0 c1_i32_1312_r0
  let v4840_r0 : BitVec 32 := Scalar.select v4838_r0 v4839_r0 v4824_r0
  let c128_i32_1313_r0 : BitVec 32 := 128#32
  let v4841_r0 : BitVec 32 := Scalar.muli v4840_r0 c128_i32_1313_r0
  v4841_r0
def k0_mult27 (i : grid0.Coords) : BitVec 32 :=
  let arg0 : BitVec 32 := BitVec.ofNat 32 (i 0).val
  let c8_i32_1325_r0 : BitVec 32 := 8#32
  let v4876_r0 : BitVec 32 := Scalar.muli arg0 c8_i32_1325_r0
  let c2_i32_1326_r0 : BitVec 32 := 2#32
  let v4877_r0 : BitVec 32 := Scalar.addi v4876_r0 c2_i32_1326_r0
  let c4_i32_1327_r0 : BitVec 32 := 4#32
  let v4878_r0 : BitVec 32 := Scalar.muli v4877_r0 c4_i32_1327_r0
  let c0_i32_1329_r0 : BitVec 32 := 0#32
  let v4880_r0 : BitVec 1 := Scalar.cmpi .sgt v4878_r0 c0_i32_1329_r0
  let v4881_r0 : BitVec 32 := Scalar.extui v4880_r0
  let c0_i32_1330_r0 : BitVec 32 := 0#32
  let v4882_r0 : BitVec 1 := Scalar.cmpi .slt v4878_r0 c0_i32_1330_r0
  let v4883_r0 : BitVec 32 := Scalar.extui v4882_r0
  let v4884_r0 : BitVec 32 := Scalar.subi v4881_r0 v4883_r0
  let c128_i32_1328_r0 : BitVec 32 := 128#32
  let c0_i32_1331_r0 : BitVec 32 := 0#32
  let v4885_r0 : BitVec 1 := Scalar.cmpi .sgt c128_i32_1328_r0 c0_i32_1331_r0
  let v4886_r0 : BitVec 32 := Scalar.extui v4885_r0
  let c0_i32_1332_r0 : BitVec 32 := 0#32
  let v4887_r0 : BitVec 1 := Scalar.cmpi .slt c128_i32_1328_r0 c0_i32_1332_r0
  let v4888_r0 : BitVec 32 := Scalar.extui v4887_r0
  let v4889_r0 : BitVec 32 := Scalar.subi v4886_r0 v4888_r0
  let v4890_r0 : BitVec 1 := Scalar.cmpi .ne v4884_r0 v4889_r0
  let v4891_r0 : BitVec 32 := Scalar.remsi v4878_r0 c128_i32_1328_r0
  let c0_i32_1333_r0 : BitVec 32 := 0#32
  let v4892_r0 : BitVec 1 := Scalar.cmpi .ne v4891_r0 c0_i32_1333_r0
  let v4893_r0 : BitVec 1 := Scalar.andi v4890_r0 v4892_r0
  let v4879_r0 : BitVec 32 := Scalar.divsi v4878_r0 c128_i32_1328_r0
  let c1_i32_1334_r0 : BitVec 32 := 1#32
  let v4894_r0 : BitVec 32 := Scalar.subi v4879_r0 c1_i32_1334_r0
  let v4895_r0 : BitVec 32 := Scalar.select v4893_r0 v4894_r0 v4879_r0
  let c128_i32_1335_r0 : BitVec 32 := 128#32
  let v4896_r0 : BitVec 32 := Scalar.muli v4895_r0 c128_i32_1335_r0
  v4896_r0
def k0_mult28 (i : grid0.Coords) : BitVec 32 :=
  let arg0 : BitVec 32 := BitVec.ofNat 32 (i 0).val
  let c8_i32_1347_r0 : BitVec 32 := 8#32
  let v4931_r0 : BitVec 32 := Scalar.muli arg0 c8_i32_1347_r0
  let c3_i32_1348_r0 : BitVec 32 := 3#32
  let v4932_r0 : BitVec 32 := Scalar.addi v4931_r0 c3_i32_1348_r0
  let c4_i32_1349_r0 : BitVec 32 := 4#32
  let v4933_r0 : BitVec 32 := Scalar.muli v4932_r0 c4_i32_1349_r0
  let c0_i32_1351_r0 : BitVec 32 := 0#32
  let v4935_r0 : BitVec 1 := Scalar.cmpi .sgt v4933_r0 c0_i32_1351_r0
  let v4936_r0 : BitVec 32 := Scalar.extui v4935_r0
  let c0_i32_1352_r0 : BitVec 32 := 0#32
  let v4937_r0 : BitVec 1 := Scalar.cmpi .slt v4933_r0 c0_i32_1352_r0
  let v4938_r0 : BitVec 32 := Scalar.extui v4937_r0
  let v4939_r0 : BitVec 32 := Scalar.subi v4936_r0 v4938_r0
  let c128_i32_1350_r0 : BitVec 32 := 128#32
  let c0_i32_1353_r0 : BitVec 32 := 0#32
  let v4940_r0 : BitVec 1 := Scalar.cmpi .sgt c128_i32_1350_r0 c0_i32_1353_r0
  let v4941_r0 : BitVec 32 := Scalar.extui v4940_r0
  let c0_i32_1354_r0 : BitVec 32 := 0#32
  let v4942_r0 : BitVec 1 := Scalar.cmpi .slt c128_i32_1350_r0 c0_i32_1354_r0
  let v4943_r0 : BitVec 32 := Scalar.extui v4942_r0
  let v4944_r0 : BitVec 32 := Scalar.subi v4941_r0 v4943_r0
  let v4945_r0 : BitVec 1 := Scalar.cmpi .ne v4939_r0 v4944_r0
  let v4946_r0 : BitVec 32 := Scalar.remsi v4933_r0 c128_i32_1350_r0
  let c0_i32_1355_r0 : BitVec 32 := 0#32
  let v4947_r0 : BitVec 1 := Scalar.cmpi .ne v4946_r0 c0_i32_1355_r0
  let v4948_r0 : BitVec 1 := Scalar.andi v4945_r0 v4947_r0
  let v4934_r0 : BitVec 32 := Scalar.divsi v4933_r0 c128_i32_1350_r0
  let c1_i32_1356_r0 : BitVec 32 := 1#32
  let v4949_r0 : BitVec 32 := Scalar.subi v4934_r0 c1_i32_1356_r0
  let v4950_r0 : BitVec 32 := Scalar.select v4948_r0 v4949_r0 v4934_r0
  let c128_i32_1357_r0 : BitVec 32 := 128#32
  let v4951_r0 : BitVec 32 := Scalar.muli v4950_r0 c128_i32_1357_r0
  v4951_r0
def k0_mult29 (i : grid0.Coords) : BitVec 32 :=
  let arg0 : BitVec 32 := BitVec.ofNat 32 (i 0).val
  let c8_i32_1385_r0 : BitVec 32 := 8#32
  let v5023_r0 : BitVec 32 := Scalar.muli arg0 c8_i32_1385_r0
  let c0_i32_1386_r0 : BitVec 32 := 0#32
  let v5024_r0 : BitVec 32 := Scalar.addi v5023_r0 c0_i32_1386_r0
  let c4_i32_1387_r0 : BitVec 32 := 4#32
  let v5025_r0 : BitVec 32 := Scalar.muli v5024_r0 c4_i32_1387_r0
  let c0_i32_1389_r0 : BitVec 32 := 0#32
  let v5027_r0 : BitVec 1 := Scalar.cmpi .sgt v5025_r0 c0_i32_1389_r0
  let v5028_r0 : BitVec 32 := Scalar.extui v5027_r0
  let c0_i32_1390_r0 : BitVec 32 := 0#32
  let v5029_r0 : BitVec 1 := Scalar.cmpi .slt v5025_r0 c0_i32_1390_r0
  let v5030_r0 : BitVec 32 := Scalar.extui v5029_r0
  let v5031_r0 : BitVec 32 := Scalar.subi v5028_r0 v5030_r0
  let c128_i32_1388_r0 : BitVec 32 := 128#32
  let c0_i32_1391_r0 : BitVec 32 := 0#32
  let v5032_r0 : BitVec 1 := Scalar.cmpi .sgt c128_i32_1388_r0 c0_i32_1391_r0
  let v5033_r0 : BitVec 32 := Scalar.extui v5032_r0
  let c0_i32_1392_r0 : BitVec 32 := 0#32
  let v5034_r0 : BitVec 1 := Scalar.cmpi .slt c128_i32_1388_r0 c0_i32_1392_r0
  let v5035_r0 : BitVec 32 := Scalar.extui v5034_r0
  let v5036_r0 : BitVec 32 := Scalar.subi v5033_r0 v5035_r0
  let v5037_r0 : BitVec 1 := Scalar.cmpi .ne v5031_r0 v5036_r0
  let v5038_r0 : BitVec 32 := Scalar.remsi v5025_r0 c128_i32_1388_r0
  let c0_i32_1393_r0 : BitVec 32 := 0#32
  let v5039_r0 : BitVec 1 := Scalar.cmpi .ne v5038_r0 c0_i32_1393_r0
  let v5040_r0 : BitVec 1 := Scalar.andi v5037_r0 v5039_r0
  let v5026_r0 : BitVec 32 := Scalar.divsi v5025_r0 c128_i32_1388_r0
  let c1_i32_1394_r0 : BitVec 32 := 1#32
  let v5041_r0 : BitVec 32 := Scalar.subi v5026_r0 c1_i32_1394_r0
  let v5042_r0 : BitVec 32 := Scalar.select v5040_r0 v5041_r0 v5026_r0
  let c128_i32_1395_r0 : BitVec 32 := 128#32
  let v5043_r0 : BitVec 32 := Scalar.muli v5042_r0 c128_i32_1395_r0
  v5043_r0
def k0_off8 (i : grid0.Coords) (c0_i32_1386_r0 : BitVec 32) : Fin 2 → Nat :=
  let c56_1396_r0 : Index := 56#32
  let arg0 : BitVec 32 := BitVec.ofNat 32 (i 0).val
  let c8_i32_1385_r0 : BitVec 32 := 8#32
  let v5023_r0 : BitVec 32 := Scalar.muli arg0 c8_i32_1385_r0
  let v5024_r0 : BitVec 32 := Scalar.addi v5023_r0 c0_i32_1386_r0
  let c4_i32_1387_r0 : BitVec 32 := 4#32
  let v5025_r0 : BitVec 32 := Scalar.muli v5024_r0 c4_i32_1387_r0
  let c0_i32_1389_r0 : BitVec 32 := 0#32
  let v5027_r0 : BitVec 1 := Scalar.cmpi .sgt v5025_r0 c0_i32_1389_r0
  let v5028_r0 : BitVec 32 := Scalar.extui v5027_r0
  let c0_i32_1390_r0 : BitVec 32 := 0#32
  let v5029_r0 : BitVec 1 := Scalar.cmpi .slt v5025_r0 c0_i32_1390_r0
  let v5030_r0 : BitVec 32 := Scalar.extui v5029_r0
  let v5031_r0 : BitVec 32 := Scalar.subi v5028_r0 v5030_r0
  let c128_i32_1388_r0 : BitVec 32 := 128#32
  let c0_i32_1391_r0 : BitVec 32 := 0#32
  let v5032_r0 : BitVec 1 := Scalar.cmpi .sgt c128_i32_1388_r0 c0_i32_1391_r0
  let v5033_r0 : BitVec 32 := Scalar.extui v5032_r0
  let c0_i32_1392_r0 : BitVec 32 := 0#32
  let v5034_r0 : BitVec 1 := Scalar.cmpi .slt c128_i32_1388_r0 c0_i32_1392_r0
  let v5035_r0 : BitVec 32 := Scalar.extui v5034_r0
  let v5036_r0 : BitVec 32 := Scalar.subi v5033_r0 v5035_r0
  let v5037_r0 : BitVec 1 := Scalar.cmpi .ne v5031_r0 v5036_r0
  let v5038_r0 : BitVec 32 := Scalar.remsi v5025_r0 c128_i32_1388_r0
  let c0_i32_1393_r0 : BitVec 32 := 0#32
  let v5039_r0 : BitVec 1 := Scalar.cmpi .ne v5038_r0 c0_i32_1393_r0
  let v5040_r0 : BitVec 1 := Scalar.andi v5037_r0 v5039_r0
  let v5026_r0 : BitVec 32 := Scalar.divsi v5025_r0 c128_i32_1388_r0
  let c1_i32_1394_r0 : BitVec 32 := 1#32
  let v5041_r0 : BitVec 32 := Scalar.subi v5026_r0 c1_i32_1394_r0
  let v5042_r0 : BitVec 32 := Scalar.select v5040_r0 v5041_r0 v5026_r0
  let c128_i32_1395_r0 : BitVec 32 := 128#32
  let v5043_r0 : BitVec 32 := Scalar.muli v5042_r0 c128_i32_1395_r0
  let v5044_r0 : BitVec 32 := v5043_r0
  let v5045_r0 : Index := Scalar.indexCast v5044_r0
  ![56, v5045_r0.toNat]
def k0_mult30 (i : grid0.Coords) : BitVec 32 :=
  let arg0 : BitVec 32 := BitVec.ofNat 32 (i 0).val
  let c8_i32_1407_r0 : BitVec 32 := 8#32
  let v5078_r0 : BitVec 32 := Scalar.muli arg0 c8_i32_1407_r0
  let c1_i32_1408_r0 : BitVec 32 := 1#32
  let v5079_r0 : BitVec 32 := Scalar.addi v5078_r0 c1_i32_1408_r0
  let c4_i32_1409_r0 : BitVec 32 := 4#32
  let v5080_r0 : BitVec 32 := Scalar.muli v5079_r0 c4_i32_1409_r0
  let c0_i32_1411_r0 : BitVec 32 := 0#32
  let v5082_r0 : BitVec 1 := Scalar.cmpi .sgt v5080_r0 c0_i32_1411_r0
  let v5083_r0 : BitVec 32 := Scalar.extui v5082_r0
  let c0_i32_1412_r0 : BitVec 32 := 0#32
  let v5084_r0 : BitVec 1 := Scalar.cmpi .slt v5080_r0 c0_i32_1412_r0
  let v5085_r0 : BitVec 32 := Scalar.extui v5084_r0
  let v5086_r0 : BitVec 32 := Scalar.subi v5083_r0 v5085_r0
  let c128_i32_1410_r0 : BitVec 32 := 128#32
  let c0_i32_1413_r0 : BitVec 32 := 0#32
  let v5087_r0 : BitVec 1 := Scalar.cmpi .sgt c128_i32_1410_r0 c0_i32_1413_r0
  let v5088_r0 : BitVec 32 := Scalar.extui v5087_r0
  let c0_i32_1414_r0 : BitVec 32 := 0#32
  let v5089_r0 : BitVec 1 := Scalar.cmpi .slt c128_i32_1410_r0 c0_i32_1414_r0
  let v5090_r0 : BitVec 32 := Scalar.extui v5089_r0
  let v5091_r0 : BitVec 32 := Scalar.subi v5088_r0 v5090_r0
  let v5092_r0 : BitVec 1 := Scalar.cmpi .ne v5086_r0 v5091_r0
  let v5093_r0 : BitVec 32 := Scalar.remsi v5080_r0 c128_i32_1410_r0
  let c0_i32_1415_r0 : BitVec 32 := 0#32
  let v5094_r0 : BitVec 1 := Scalar.cmpi .ne v5093_r0 c0_i32_1415_r0
  let v5095_r0 : BitVec 1 := Scalar.andi v5092_r0 v5094_r0
  let v5081_r0 : BitVec 32 := Scalar.divsi v5080_r0 c128_i32_1410_r0
  let c1_i32_1416_r0 : BitVec 32 := 1#32
  let v5096_r0 : BitVec 32 := Scalar.subi v5081_r0 c1_i32_1416_r0
  let v5097_r0 : BitVec 32 := Scalar.select v5095_r0 v5096_r0 v5081_r0
  let c128_i32_1417_r0 : BitVec 32 := 128#32
  let v5098_r0 : BitVec 32 := Scalar.muli v5097_r0 c128_i32_1417_r0
  v5098_r0
def k0_mult31 (i : grid0.Coords) : BitVec 32 :=
  let arg0 : BitVec 32 := BitVec.ofNat 32 (i 0).val
  let c8_i32_1429_r0 : BitVec 32 := 8#32
  let v5133_r0 : BitVec 32 := Scalar.muli arg0 c8_i32_1429_r0
  let c2_i32_1430_r0 : BitVec 32 := 2#32
  let v5134_r0 : BitVec 32 := Scalar.addi v5133_r0 c2_i32_1430_r0
  let c4_i32_1431_r0 : BitVec 32 := 4#32
  let v5135_r0 : BitVec 32 := Scalar.muli v5134_r0 c4_i32_1431_r0
  let c0_i32_1433_r0 : BitVec 32 := 0#32
  let v5137_r0 : BitVec 1 := Scalar.cmpi .sgt v5135_r0 c0_i32_1433_r0
  let v5138_r0 : BitVec 32 := Scalar.extui v5137_r0
  let c0_i32_1434_r0 : BitVec 32 := 0#32
  let v5139_r0 : BitVec 1 := Scalar.cmpi .slt v5135_r0 c0_i32_1434_r0
  let v5140_r0 : BitVec 32 := Scalar.extui v5139_r0
  let v5141_r0 : BitVec 32 := Scalar.subi v5138_r0 v5140_r0
  let c128_i32_1432_r0 : BitVec 32 := 128#32
  let c0_i32_1435_r0 : BitVec 32 := 0#32
  let v5142_r0 : BitVec 1 := Scalar.cmpi .sgt c128_i32_1432_r0 c0_i32_1435_r0
  let v5143_r0 : BitVec 32 := Scalar.extui v5142_r0
  let c0_i32_1436_r0 : BitVec 32 := 0#32
  let v5144_r0 : BitVec 1 := Scalar.cmpi .slt c128_i32_1432_r0 c0_i32_1436_r0
  let v5145_r0 : BitVec 32 := Scalar.extui v5144_r0
  let v5146_r0 : BitVec 32 := Scalar.subi v5143_r0 v5145_r0
  let v5147_r0 : BitVec 1 := Scalar.cmpi .ne v5141_r0 v5146_r0
  let v5148_r0 : BitVec 32 := Scalar.remsi v5135_r0 c128_i32_1432_r0
  let c0_i32_1437_r0 : BitVec 32 := 0#32
  let v5149_r0 : BitVec 1 := Scalar.cmpi .ne v5148_r0 c0_i32_1437_r0
  let v5150_r0 : BitVec 1 := Scalar.andi v5147_r0 v5149_r0
  let v5136_r0 : BitVec 32 := Scalar.divsi v5135_r0 c128_i32_1432_r0
  let c1_i32_1438_r0 : BitVec 32 := 1#32
  let v5151_r0 : BitVec 32 := Scalar.subi v5136_r0 c1_i32_1438_r0
  let v5152_r0 : BitVec 32 := Scalar.select v5150_r0 v5151_r0 v5136_r0
  let c128_i32_1439_r0 : BitVec 32 := 128#32
  let v5153_r0 : BitVec 32 := Scalar.muli v5152_r0 c128_i32_1439_r0
  v5153_r0
def k0_mult32 (i : grid0.Coords) : BitVec 32 :=
  let arg0 : BitVec 32 := BitVec.ofNat 32 (i 0).val
  let c8_i32_1451_r0 : BitVec 32 := 8#32
  let v5188_r0 : BitVec 32 := Scalar.muli arg0 c8_i32_1451_r0
  let c3_i32_1452_r0 : BitVec 32 := 3#32
  let v5189_r0 : BitVec 32 := Scalar.addi v5188_r0 c3_i32_1452_r0
  let c4_i32_1453_r0 : BitVec 32 := 4#32
  let v5190_r0 : BitVec 32 := Scalar.muli v5189_r0 c4_i32_1453_r0
  let c0_i32_1455_r0 : BitVec 32 := 0#32
  let v5192_r0 : BitVec 1 := Scalar.cmpi .sgt v5190_r0 c0_i32_1455_r0
  let v5193_r0 : BitVec 32 := Scalar.extui v5192_r0
  let c0_i32_1456_r0 : BitVec 32 := 0#32
  let v5194_r0 : BitVec 1 := Scalar.cmpi .slt v5190_r0 c0_i32_1456_r0
  let v5195_r0 : BitVec 32 := Scalar.extui v5194_r0
  let v5196_r0 : BitVec 32 := Scalar.subi v5193_r0 v5195_r0
  let c128_i32_1454_r0 : BitVec 32 := 128#32
  let c0_i32_1457_r0 : BitVec 32 := 0#32
  let v5197_r0 : BitVec 1 := Scalar.cmpi .sgt c128_i32_1454_r0 c0_i32_1457_r0
  let v5198_r0 : BitVec 32 := Scalar.extui v5197_r0
  let c0_i32_1458_r0 : BitVec 32 := 0#32
  let v5199_r0 : BitVec 1 := Scalar.cmpi .slt c128_i32_1454_r0 c0_i32_1458_r0
  let v5200_r0 : BitVec 32 := Scalar.extui v5199_r0
  let v5201_r0 : BitVec 32 := Scalar.subi v5198_r0 v5200_r0
  let v5202_r0 : BitVec 1 := Scalar.cmpi .ne v5196_r0 v5201_r0
  let v5203_r0 : BitVec 32 := Scalar.remsi v5190_r0 c128_i32_1454_r0
  let c0_i32_1459_r0 : BitVec 32 := 0#32
  let v5204_r0 : BitVec 1 := Scalar.cmpi .ne v5203_r0 c0_i32_1459_r0
  let v5205_r0 : BitVec 1 := Scalar.andi v5202_r0 v5204_r0
  let v5191_r0 : BitVec 32 := Scalar.divsi v5190_r0 c128_i32_1454_r0
  let c1_i32_1460_r0 : BitVec 32 := 1#32
  let v5206_r0 : BitVec 32 := Scalar.subi v5191_r0 c1_i32_1460_r0
  let v5207_r0 : BitVec 32 := Scalar.select v5205_r0 v5206_r0 v5191_r0
  let c128_i32_1461_r0 : BitVec 32 := 128#32
  let v5208_r0 : BitVec 32 := Scalar.muli v5207_r0 c128_i32_1461_r0
  v5208_r0
def k0_mult33 (i : grid0.Coords) : BitVec 32 :=
  let arg0 : BitVec 32 := BitVec.ofNat 32 (i 0).val
  let c8_i32_1489_r0 : BitVec 32 := 8#32
  let v5280_r0 : BitVec 32 := Scalar.muli arg0 c8_i32_1489_r0
  let c0_i32_1490_r0 : BitVec 32 := 0#32
  let v5281_r0 : BitVec 32 := Scalar.addi v5280_r0 c0_i32_1490_r0
  let c4_i32_1491_r0 : BitVec 32 := 4#32
  let v5282_r0 : BitVec 32 := Scalar.muli v5281_r0 c4_i32_1491_r0
  let c0_i32_1493_r0 : BitVec 32 := 0#32
  let v5284_r0 : BitVec 1 := Scalar.cmpi .sgt v5282_r0 c0_i32_1493_r0
  let v5285_r0 : BitVec 32 := Scalar.extui v5284_r0
  let c0_i32_1494_r0 : BitVec 32 := 0#32
  let v5286_r0 : BitVec 1 := Scalar.cmpi .slt v5282_r0 c0_i32_1494_r0
  let v5287_r0 : BitVec 32 := Scalar.extui v5286_r0
  let v5288_r0 : BitVec 32 := Scalar.subi v5285_r0 v5287_r0
  let c128_i32_1492_r0 : BitVec 32 := 128#32
  let c0_i32_1495_r0 : BitVec 32 := 0#32
  let v5289_r0 : BitVec 1 := Scalar.cmpi .sgt c128_i32_1492_r0 c0_i32_1495_r0
  let v5290_r0 : BitVec 32 := Scalar.extui v5289_r0
  let c0_i32_1496_r0 : BitVec 32 := 0#32
  let v5291_r0 : BitVec 1 := Scalar.cmpi .slt c128_i32_1492_r0 c0_i32_1496_r0
  let v5292_r0 : BitVec 32 := Scalar.extui v5291_r0
  let v5293_r0 : BitVec 32 := Scalar.subi v5290_r0 v5292_r0
  let v5294_r0 : BitVec 1 := Scalar.cmpi .ne v5288_r0 v5293_r0
  let v5295_r0 : BitVec 32 := Scalar.remsi v5282_r0 c128_i32_1492_r0
  let c0_i32_1497_r0 : BitVec 32 := 0#32
  let v5296_r0 : BitVec 1 := Scalar.cmpi .ne v5295_r0 c0_i32_1497_r0
  let v5297_r0 : BitVec 1 := Scalar.andi v5294_r0 v5296_r0
  let v5283_r0 : BitVec 32 := Scalar.divsi v5282_r0 c128_i32_1492_r0
  let c1_i32_1498_r0 : BitVec 32 := 1#32
  let v5298_r0 : BitVec 32 := Scalar.subi v5283_r0 c1_i32_1498_r0
  let v5299_r0 : BitVec 32 := Scalar.select v5297_r0 v5298_r0 v5283_r0
  let c128_i32_1499_r0 : BitVec 32 := 128#32
  let v5300_r0 : BitVec 32 := Scalar.muli v5299_r0 c128_i32_1499_r0
  v5300_r0
def k0_off9 (i : grid0.Coords) (c0_i32_1490_r0 : BitVec 32) : Fin 2 → Nat :=
  let c64_1500_r0 : Index := 64#32
  let arg0 : BitVec 32 := BitVec.ofNat 32 (i 0).val
  let c8_i32_1489_r0 : BitVec 32 := 8#32
  let v5280_r0 : BitVec 32 := Scalar.muli arg0 c8_i32_1489_r0
  let v5281_r0 : BitVec 32 := Scalar.addi v5280_r0 c0_i32_1490_r0
  let c4_i32_1491_r0 : BitVec 32 := 4#32
  let v5282_r0 : BitVec 32 := Scalar.muli v5281_r0 c4_i32_1491_r0
  let c0_i32_1493_r0 : BitVec 32 := 0#32
  let v5284_r0 : BitVec 1 := Scalar.cmpi .sgt v5282_r0 c0_i32_1493_r0
  let v5285_r0 : BitVec 32 := Scalar.extui v5284_r0
  let c0_i32_1494_r0 : BitVec 32 := 0#32
  let v5286_r0 : BitVec 1 := Scalar.cmpi .slt v5282_r0 c0_i32_1494_r0
  let v5287_r0 : BitVec 32 := Scalar.extui v5286_r0
  let v5288_r0 : BitVec 32 := Scalar.subi v5285_r0 v5287_r0
  let c128_i32_1492_r0 : BitVec 32 := 128#32
  let c0_i32_1495_r0 : BitVec 32 := 0#32
  let v5289_r0 : BitVec 1 := Scalar.cmpi .sgt c128_i32_1492_r0 c0_i32_1495_r0
  let v5290_r0 : BitVec 32 := Scalar.extui v5289_r0
  let c0_i32_1496_r0 : BitVec 32 := 0#32
  let v5291_r0 : BitVec 1 := Scalar.cmpi .slt c128_i32_1492_r0 c0_i32_1496_r0
  let v5292_r0 : BitVec 32 := Scalar.extui v5291_r0
  let v5293_r0 : BitVec 32 := Scalar.subi v5290_r0 v5292_r0
  let v5294_r0 : BitVec 1 := Scalar.cmpi .ne v5288_r0 v5293_r0
  let v5295_r0 : BitVec 32 := Scalar.remsi v5282_r0 c128_i32_1492_r0
  let c0_i32_1497_r0 : BitVec 32 := 0#32
  let v5296_r0 : BitVec 1 := Scalar.cmpi .ne v5295_r0 c0_i32_1497_r0
  let v5297_r0 : BitVec 1 := Scalar.andi v5294_r0 v5296_r0
  let v5283_r0 : BitVec 32 := Scalar.divsi v5282_r0 c128_i32_1492_r0
  let c1_i32_1498_r0 : BitVec 32 := 1#32
  let v5298_r0 : BitVec 32 := Scalar.subi v5283_r0 c1_i32_1498_r0
  let v5299_r0 : BitVec 32 := Scalar.select v5297_r0 v5298_r0 v5283_r0
  let c128_i32_1499_r0 : BitVec 32 := 128#32
  let v5300_r0 : BitVec 32 := Scalar.muli v5299_r0 c128_i32_1499_r0
  let v5301_r0 : BitVec 32 := v5300_r0
  let v5302_r0 : Index := Scalar.indexCast v5301_r0
  ![64, v5302_r0.toNat]
def k0_mult34 (i : grid0.Coords) : BitVec 32 :=
  let arg0 : BitVec 32 := BitVec.ofNat 32 (i 0).val
  let c8_i32_1512_r0 : BitVec 32 := 8#32
  let v5335_r0 : BitVec 32 := Scalar.muli arg0 c8_i32_1512_r0
  let c1_i32_1513_r0 : BitVec 32 := 1#32
  let v5336_r0 : BitVec 32 := Scalar.addi v5335_r0 c1_i32_1513_r0
  let c4_i32_1514_r0 : BitVec 32 := 4#32
  let v5337_r0 : BitVec 32 := Scalar.muli v5336_r0 c4_i32_1514_r0
  let c0_i32_1516_r0 : BitVec 32 := 0#32
  let v5339_r0 : BitVec 1 := Scalar.cmpi .sgt v5337_r0 c0_i32_1516_r0
  let v5340_r0 : BitVec 32 := Scalar.extui v5339_r0
  let c0_i32_1517_r0 : BitVec 32 := 0#32
  let v5341_r0 : BitVec 1 := Scalar.cmpi .slt v5337_r0 c0_i32_1517_r0
  let v5342_r0 : BitVec 32 := Scalar.extui v5341_r0
  let v5343_r0 : BitVec 32 := Scalar.subi v5340_r0 v5342_r0
  let c128_i32_1515_r0 : BitVec 32 := 128#32
  let c0_i32_1518_r0 : BitVec 32 := 0#32
  let v5344_r0 : BitVec 1 := Scalar.cmpi .sgt c128_i32_1515_r0 c0_i32_1518_r0
  let v5345_r0 : BitVec 32 := Scalar.extui v5344_r0
  let c0_i32_1519_r0 : BitVec 32 := 0#32
  let v5346_r0 : BitVec 1 := Scalar.cmpi .slt c128_i32_1515_r0 c0_i32_1519_r0
  let v5347_r0 : BitVec 32 := Scalar.extui v5346_r0
  let v5348_r0 : BitVec 32 := Scalar.subi v5345_r0 v5347_r0
  let v5349_r0 : BitVec 1 := Scalar.cmpi .ne v5343_r0 v5348_r0
  let v5350_r0 : BitVec 32 := Scalar.remsi v5337_r0 c128_i32_1515_r0
  let c0_i32_1520_r0 : BitVec 32 := 0#32
  let v5351_r0 : BitVec 1 := Scalar.cmpi .ne v5350_r0 c0_i32_1520_r0
  let v5352_r0 : BitVec 1 := Scalar.andi v5349_r0 v5351_r0
  let v5338_r0 : BitVec 32 := Scalar.divsi v5337_r0 c128_i32_1515_r0
  let c1_i32_1521_r0 : BitVec 32 := 1#32
  let v5353_r0 : BitVec 32 := Scalar.subi v5338_r0 c1_i32_1521_r0
  let v5354_r0 : BitVec 32 := Scalar.select v5352_r0 v5353_r0 v5338_r0
  let c128_i32_1522_r0 : BitVec 32 := 128#32
  let v5355_r0 : BitVec 32 := Scalar.muli v5354_r0 c128_i32_1522_r0
  v5355_r0
def k0_mult35 (i : grid0.Coords) : BitVec 32 :=
  let arg0 : BitVec 32 := BitVec.ofNat 32 (i 0).val
  let c8_i32_1534_r0 : BitVec 32 := 8#32
  let v5390_r0 : BitVec 32 := Scalar.muli arg0 c8_i32_1534_r0
  let c2_i32_1535_r0 : BitVec 32 := 2#32
  let v5391_r0 : BitVec 32 := Scalar.addi v5390_r0 c2_i32_1535_r0
  let c4_i32_1536_r0 : BitVec 32 := 4#32
  let v5392_r0 : BitVec 32 := Scalar.muli v5391_r0 c4_i32_1536_r0
  let c0_i32_1538_r0 : BitVec 32 := 0#32
  let v5394_r0 : BitVec 1 := Scalar.cmpi .sgt v5392_r0 c0_i32_1538_r0
  let v5395_r0 : BitVec 32 := Scalar.extui v5394_r0
  let c0_i32_1539_r0 : BitVec 32 := 0#32
  let v5396_r0 : BitVec 1 := Scalar.cmpi .slt v5392_r0 c0_i32_1539_r0
  let v5397_r0 : BitVec 32 := Scalar.extui v5396_r0
  let v5398_r0 : BitVec 32 := Scalar.subi v5395_r0 v5397_r0
  let c128_i32_1537_r0 : BitVec 32 := 128#32
  let c0_i32_1540_r0 : BitVec 32 := 0#32
  let v5399_r0 : BitVec 1 := Scalar.cmpi .sgt c128_i32_1537_r0 c0_i32_1540_r0
  let v5400_r0 : BitVec 32 := Scalar.extui v5399_r0
  let c0_i32_1541_r0 : BitVec 32 := 0#32
  let v5401_r0 : BitVec 1 := Scalar.cmpi .slt c128_i32_1537_r0 c0_i32_1541_r0
  let v5402_r0 : BitVec 32 := Scalar.extui v5401_r0
  let v5403_r0 : BitVec 32 := Scalar.subi v5400_r0 v5402_r0
  let v5404_r0 : BitVec 1 := Scalar.cmpi .ne v5398_r0 v5403_r0
  let v5405_r0 : BitVec 32 := Scalar.remsi v5392_r0 c128_i32_1537_r0
  let c0_i32_1542_r0 : BitVec 32 := 0#32
  let v5406_r0 : BitVec 1 := Scalar.cmpi .ne v5405_r0 c0_i32_1542_r0
  let v5407_r0 : BitVec 1 := Scalar.andi v5404_r0 v5406_r0
  let v5393_r0 : BitVec 32 := Scalar.divsi v5392_r0 c128_i32_1537_r0
  let c1_i32_1543_r0 : BitVec 32 := 1#32
  let v5408_r0 : BitVec 32 := Scalar.subi v5393_r0 c1_i32_1543_r0
  let v5409_r0 : BitVec 32 := Scalar.select v5407_r0 v5408_r0 v5393_r0
  let c128_i32_1544_r0 : BitVec 32 := 128#32
  let v5410_r0 : BitVec 32 := Scalar.muli v5409_r0 c128_i32_1544_r0
  v5410_r0
def k0_mult36 (i : grid0.Coords) : BitVec 32 :=
  let arg0 : BitVec 32 := BitVec.ofNat 32 (i 0).val
  let c8_i32_1556_r0 : BitVec 32 := 8#32
  let v5445_r0 : BitVec 32 := Scalar.muli arg0 c8_i32_1556_r0
  let c3_i32_1557_r0 : BitVec 32 := 3#32
  let v5446_r0 : BitVec 32 := Scalar.addi v5445_r0 c3_i32_1557_r0
  let c4_i32_1558_r0 : BitVec 32 := 4#32
  let v5447_r0 : BitVec 32 := Scalar.muli v5446_r0 c4_i32_1558_r0
  let c0_i32_1560_r0 : BitVec 32 := 0#32
  let v5449_r0 : BitVec 1 := Scalar.cmpi .sgt v5447_r0 c0_i32_1560_r0
  let v5450_r0 : BitVec 32 := Scalar.extui v5449_r0
  let c0_i32_1561_r0 : BitVec 32 := 0#32
  let v5451_r0 : BitVec 1 := Scalar.cmpi .slt v5447_r0 c0_i32_1561_r0
  let v5452_r0 : BitVec 32 := Scalar.extui v5451_r0
  let v5453_r0 : BitVec 32 := Scalar.subi v5450_r0 v5452_r0
  let c128_i32_1559_r0 : BitVec 32 := 128#32
  let c0_i32_1562_r0 : BitVec 32 := 0#32
  let v5454_r0 : BitVec 1 := Scalar.cmpi .sgt c128_i32_1559_r0 c0_i32_1562_r0
  let v5455_r0 : BitVec 32 := Scalar.extui v5454_r0
  let c0_i32_1563_r0 : BitVec 32 := 0#32
  let v5456_r0 : BitVec 1 := Scalar.cmpi .slt c128_i32_1559_r0 c0_i32_1563_r0
  let v5457_r0 : BitVec 32 := Scalar.extui v5456_r0
  let v5458_r0 : BitVec 32 := Scalar.subi v5455_r0 v5457_r0
  let v5459_r0 : BitVec 1 := Scalar.cmpi .ne v5453_r0 v5458_r0
  let v5460_r0 : BitVec 32 := Scalar.remsi v5447_r0 c128_i32_1559_r0
  let c0_i32_1564_r0 : BitVec 32 := 0#32
  let v5461_r0 : BitVec 1 := Scalar.cmpi .ne v5460_r0 c0_i32_1564_r0
  let v5462_r0 : BitVec 1 := Scalar.andi v5459_r0 v5461_r0
  let v5448_r0 : BitVec 32 := Scalar.divsi v5447_r0 c128_i32_1559_r0
  let c1_i32_1565_r0 : BitVec 32 := 1#32
  let v5463_r0 : BitVec 32 := Scalar.subi v5448_r0 c1_i32_1565_r0
  let v5464_r0 : BitVec 32 := Scalar.select v5462_r0 v5463_r0 v5448_r0
  let c128_i32_1566_r0 : BitVec 32 := 128#32
  let v5465_r0 : BitVec 32 := Scalar.muli v5464_r0 c128_i32_1566_r0
  v5465_r0
def k0_mult37 (i : grid0.Coords) : BitVec 32 :=
  let arg0 : BitVec 32 := BitVec.ofNat 32 (i 0).val
  let c8_i32_1594_r0 : BitVec 32 := 8#32
  let v5537_r0 : BitVec 32 := Scalar.muli arg0 c8_i32_1594_r0
  let c0_i32_1595_r0 : BitVec 32 := 0#32
  let v5538_r0 : BitVec 32 := Scalar.addi v5537_r0 c0_i32_1595_r0
  let c4_i32_1596_r0 : BitVec 32 := 4#32
  let v5539_r0 : BitVec 32 := Scalar.muli v5538_r0 c4_i32_1596_r0
  let c0_i32_1598_r0 : BitVec 32 := 0#32
  let v5541_r0 : BitVec 1 := Scalar.cmpi .sgt v5539_r0 c0_i32_1598_r0
  let v5542_r0 : BitVec 32 := Scalar.extui v5541_r0
  let c0_i32_1599_r0 : BitVec 32 := 0#32
  let v5543_r0 : BitVec 1 := Scalar.cmpi .slt v5539_r0 c0_i32_1599_r0
  let v5544_r0 : BitVec 32 := Scalar.extui v5543_r0
  let v5545_r0 : BitVec 32 := Scalar.subi v5542_r0 v5544_r0
  let c128_i32_1597_r0 : BitVec 32 := 128#32
  let c0_i32_1600_r0 : BitVec 32 := 0#32
  let v5546_r0 : BitVec 1 := Scalar.cmpi .sgt c128_i32_1597_r0 c0_i32_1600_r0
  let v5547_r0 : BitVec 32 := Scalar.extui v5546_r0
  let c0_i32_1601_r0 : BitVec 32 := 0#32
  let v5548_r0 : BitVec 1 := Scalar.cmpi .slt c128_i32_1597_r0 c0_i32_1601_r0
  let v5549_r0 : BitVec 32 := Scalar.extui v5548_r0
  let v5550_r0 : BitVec 32 := Scalar.subi v5547_r0 v5549_r0
  let v5551_r0 : BitVec 1 := Scalar.cmpi .ne v5545_r0 v5550_r0
  let v5552_r0 : BitVec 32 := Scalar.remsi v5539_r0 c128_i32_1597_r0
  let c0_i32_1602_r0 : BitVec 32 := 0#32
  let v5553_r0 : BitVec 1 := Scalar.cmpi .ne v5552_r0 c0_i32_1602_r0
  let v5554_r0 : BitVec 1 := Scalar.andi v5551_r0 v5553_r0
  let v5540_r0 : BitVec 32 := Scalar.divsi v5539_r0 c128_i32_1597_r0
  let c1_i32_1603_r0 : BitVec 32 := 1#32
  let v5555_r0 : BitVec 32 := Scalar.subi v5540_r0 c1_i32_1603_r0
  let v5556_r0 : BitVec 32 := Scalar.select v5554_r0 v5555_r0 v5540_r0
  let c128_i32_1604_r0 : BitVec 32 := 128#32
  let v5557_r0 : BitVec 32 := Scalar.muli v5556_r0 c128_i32_1604_r0
  v5557_r0
def k0_off10 (i : grid0.Coords) (c0_i32_1595_r0 : BitVec 32) : Fin 2 → Nat :=
  let c72_1605_r0 : Index := 72#32
  let arg0 : BitVec 32 := BitVec.ofNat 32 (i 0).val
  let c8_i32_1594_r0 : BitVec 32 := 8#32
  let v5537_r0 : BitVec 32 := Scalar.muli arg0 c8_i32_1594_r0
  let v5538_r0 : BitVec 32 := Scalar.addi v5537_r0 c0_i32_1595_r0
  let c4_i32_1596_r0 : BitVec 32 := 4#32
  let v5539_r0 : BitVec 32 := Scalar.muli v5538_r0 c4_i32_1596_r0
  let c0_i32_1598_r0 : BitVec 32 := 0#32
  let v5541_r0 : BitVec 1 := Scalar.cmpi .sgt v5539_r0 c0_i32_1598_r0
  let v5542_r0 : BitVec 32 := Scalar.extui v5541_r0
  let c0_i32_1599_r0 : BitVec 32 := 0#32
  let v5543_r0 : BitVec 1 := Scalar.cmpi .slt v5539_r0 c0_i32_1599_r0
  let v5544_r0 : BitVec 32 := Scalar.extui v5543_r0
  let v5545_r0 : BitVec 32 := Scalar.subi v5542_r0 v5544_r0
  let c128_i32_1597_r0 : BitVec 32 := 128#32
  let c0_i32_1600_r0 : BitVec 32 := 0#32
  let v5546_r0 : BitVec 1 := Scalar.cmpi .sgt c128_i32_1597_r0 c0_i32_1600_r0
  let v5547_r0 : BitVec 32 := Scalar.extui v5546_r0
  let c0_i32_1601_r0 : BitVec 32 := 0#32
  let v5548_r0 : BitVec 1 := Scalar.cmpi .slt c128_i32_1597_r0 c0_i32_1601_r0
  let v5549_r0 : BitVec 32 := Scalar.extui v5548_r0
  let v5550_r0 : BitVec 32 := Scalar.subi v5547_r0 v5549_r0
  let v5551_r0 : BitVec 1 := Scalar.cmpi .ne v5545_r0 v5550_r0
  let v5552_r0 : BitVec 32 := Scalar.remsi v5539_r0 c128_i32_1597_r0
  let c0_i32_1602_r0 : BitVec 32 := 0#32
  let v5553_r0 : BitVec 1 := Scalar.cmpi .ne v5552_r0 c0_i32_1602_r0
  let v5554_r0 : BitVec 1 := Scalar.andi v5551_r0 v5553_r0
  let v5540_r0 : BitVec 32 := Scalar.divsi v5539_r0 c128_i32_1597_r0
  let c1_i32_1603_r0 : BitVec 32 := 1#32
  let v5555_r0 : BitVec 32 := Scalar.subi v5540_r0 c1_i32_1603_r0
  let v5556_r0 : BitVec 32 := Scalar.select v5554_r0 v5555_r0 v5540_r0
  let c128_i32_1604_r0 : BitVec 32 := 128#32
  let v5557_r0 : BitVec 32 := Scalar.muli v5556_r0 c128_i32_1604_r0
  let v5558_r0 : BitVec 32 := v5557_r0
  let v5559_r0 : Index := Scalar.indexCast v5558_r0
  ![72, v5559_r0.toNat]
def k0_mult38 (i : grid0.Coords) : BitVec 32 :=
  let arg0 : BitVec 32 := BitVec.ofNat 32 (i 0).val
  let c8_i32_1616_r0 : BitVec 32 := 8#32
  let v5592_r0 : BitVec 32 := Scalar.muli arg0 c8_i32_1616_r0
  let c1_i32_1617_r0 : BitVec 32 := 1#32
  let v5593_r0 : BitVec 32 := Scalar.addi v5592_r0 c1_i32_1617_r0
  let c4_i32_1618_r0 : BitVec 32 := 4#32
  let v5594_r0 : BitVec 32 := Scalar.muli v5593_r0 c4_i32_1618_r0
  let c0_i32_1620_r0 : BitVec 32 := 0#32
  let v5596_r0 : BitVec 1 := Scalar.cmpi .sgt v5594_r0 c0_i32_1620_r0
  let v5597_r0 : BitVec 32 := Scalar.extui v5596_r0
  let c0_i32_1621_r0 : BitVec 32 := 0#32
  let v5598_r0 : BitVec 1 := Scalar.cmpi .slt v5594_r0 c0_i32_1621_r0
  let v5599_r0 : BitVec 32 := Scalar.extui v5598_r0
  let v5600_r0 : BitVec 32 := Scalar.subi v5597_r0 v5599_r0
  let c128_i32_1619_r0 : BitVec 32 := 128#32
  let c0_i32_1622_r0 : BitVec 32 := 0#32
  let v5601_r0 : BitVec 1 := Scalar.cmpi .sgt c128_i32_1619_r0 c0_i32_1622_r0
  let v5602_r0 : BitVec 32 := Scalar.extui v5601_r0
  let c0_i32_1623_r0 : BitVec 32 := 0#32
  let v5603_r0 : BitVec 1 := Scalar.cmpi .slt c128_i32_1619_r0 c0_i32_1623_r0
  let v5604_r0 : BitVec 32 := Scalar.extui v5603_r0
  let v5605_r0 : BitVec 32 := Scalar.subi v5602_r0 v5604_r0
  let v5606_r0 : BitVec 1 := Scalar.cmpi .ne v5600_r0 v5605_r0
  let v5607_r0 : BitVec 32 := Scalar.remsi v5594_r0 c128_i32_1619_r0
  let c0_i32_1624_r0 : BitVec 32 := 0#32
  let v5608_r0 : BitVec 1 := Scalar.cmpi .ne v5607_r0 c0_i32_1624_r0
  let v5609_r0 : BitVec 1 := Scalar.andi v5606_r0 v5608_r0
  let v5595_r0 : BitVec 32 := Scalar.divsi v5594_r0 c128_i32_1619_r0
  let c1_i32_1625_r0 : BitVec 32 := 1#32
  let v5610_r0 : BitVec 32 := Scalar.subi v5595_r0 c1_i32_1625_r0
  let v5611_r0 : BitVec 32 := Scalar.select v5609_r0 v5610_r0 v5595_r0
  let c128_i32_1626_r0 : BitVec 32 := 128#32
  let v5612_r0 : BitVec 32 := Scalar.muli v5611_r0 c128_i32_1626_r0
  v5612_r0
def k0_mult39 (i : grid0.Coords) : BitVec 32 :=
  let arg0 : BitVec 32 := BitVec.ofNat 32 (i 0).val
  let c8_i32_1638_r0 : BitVec 32 := 8#32
  let v5647_r0 : BitVec 32 := Scalar.muli arg0 c8_i32_1638_r0
  let c2_i32_1639_r0 : BitVec 32 := 2#32
  let v5648_r0 : BitVec 32 := Scalar.addi v5647_r0 c2_i32_1639_r0
  let c4_i32_1640_r0 : BitVec 32 := 4#32
  let v5649_r0 : BitVec 32 := Scalar.muli v5648_r0 c4_i32_1640_r0
  let c0_i32_1642_r0 : BitVec 32 := 0#32
  let v5651_r0 : BitVec 1 := Scalar.cmpi .sgt v5649_r0 c0_i32_1642_r0
  let v5652_r0 : BitVec 32 := Scalar.extui v5651_r0
  let c0_i32_1643_r0 : BitVec 32 := 0#32
  let v5653_r0 : BitVec 1 := Scalar.cmpi .slt v5649_r0 c0_i32_1643_r0
  let v5654_r0 : BitVec 32 := Scalar.extui v5653_r0
  let v5655_r0 : BitVec 32 := Scalar.subi v5652_r0 v5654_r0
  let c128_i32_1641_r0 : BitVec 32 := 128#32
  let c0_i32_1644_r0 : BitVec 32 := 0#32
  let v5656_r0 : BitVec 1 := Scalar.cmpi .sgt c128_i32_1641_r0 c0_i32_1644_r0
  let v5657_r0 : BitVec 32 := Scalar.extui v5656_r0
  let c0_i32_1645_r0 : BitVec 32 := 0#32
  let v5658_r0 : BitVec 1 := Scalar.cmpi .slt c128_i32_1641_r0 c0_i32_1645_r0
  let v5659_r0 : BitVec 32 := Scalar.extui v5658_r0
  let v5660_r0 : BitVec 32 := Scalar.subi v5657_r0 v5659_r0
  let v5661_r0 : BitVec 1 := Scalar.cmpi .ne v5655_r0 v5660_r0
  let v5662_r0 : BitVec 32 := Scalar.remsi v5649_r0 c128_i32_1641_r0
  let c0_i32_1646_r0 : BitVec 32 := 0#32
  let v5663_r0 : BitVec 1 := Scalar.cmpi .ne v5662_r0 c0_i32_1646_r0
  let v5664_r0 : BitVec 1 := Scalar.andi v5661_r0 v5663_r0
  let v5650_r0 : BitVec 32 := Scalar.divsi v5649_r0 c128_i32_1641_r0
  let c1_i32_1647_r0 : BitVec 32 := 1#32
  let v5665_r0 : BitVec 32 := Scalar.subi v5650_r0 c1_i32_1647_r0
  let v5666_r0 : BitVec 32 := Scalar.select v5664_r0 v5665_r0 v5650_r0
  let c128_i32_1648_r0 : BitVec 32 := 128#32
  let v5667_r0 : BitVec 32 := Scalar.muli v5666_r0 c128_i32_1648_r0
  v5667_r0
def k0_mult40 (i : grid0.Coords) : BitVec 32 :=
  let arg0 : BitVec 32 := BitVec.ofNat 32 (i 0).val
  let c8_i32_1660_r0 : BitVec 32 := 8#32
  let v5702_r0 : BitVec 32 := Scalar.muli arg0 c8_i32_1660_r0
  let c3_i32_1661_r0 : BitVec 32 := 3#32
  let v5703_r0 : BitVec 32 := Scalar.addi v5702_r0 c3_i32_1661_r0
  let c4_i32_1662_r0 : BitVec 32 := 4#32
  let v5704_r0 : BitVec 32 := Scalar.muli v5703_r0 c4_i32_1662_r0
  let c0_i32_1664_r0 : BitVec 32 := 0#32
  let v5706_r0 : BitVec 1 := Scalar.cmpi .sgt v5704_r0 c0_i32_1664_r0
  let v5707_r0 : BitVec 32 := Scalar.extui v5706_r0
  let c0_i32_1665_r0 : BitVec 32 := 0#32
  let v5708_r0 : BitVec 1 := Scalar.cmpi .slt v5704_r0 c0_i32_1665_r0
  let v5709_r0 : BitVec 32 := Scalar.extui v5708_r0
  let v5710_r0 : BitVec 32 := Scalar.subi v5707_r0 v5709_r0
  let c128_i32_1663_r0 : BitVec 32 := 128#32
  let c0_i32_1666_r0 : BitVec 32 := 0#32
  let v5711_r0 : BitVec 1 := Scalar.cmpi .sgt c128_i32_1663_r0 c0_i32_1666_r0
  let v5712_r0 : BitVec 32 := Scalar.extui v5711_r0
  let c0_i32_1667_r0 : BitVec 32 := 0#32
  let v5713_r0 : BitVec 1 := Scalar.cmpi .slt c128_i32_1663_r0 c0_i32_1667_r0
  let v5714_r0 : BitVec 32 := Scalar.extui v5713_r0
  let v5715_r0 : BitVec 32 := Scalar.subi v5712_r0 v5714_r0
  let v5716_r0 : BitVec 1 := Scalar.cmpi .ne v5710_r0 v5715_r0
  let v5717_r0 : BitVec 32 := Scalar.remsi v5704_r0 c128_i32_1663_r0
  let c0_i32_1668_r0 : BitVec 32 := 0#32
  let v5718_r0 : BitVec 1 := Scalar.cmpi .ne v5717_r0 c0_i32_1668_r0
  let v5719_r0 : BitVec 1 := Scalar.andi v5716_r0 v5718_r0
  let v5705_r0 : BitVec 32 := Scalar.divsi v5704_r0 c128_i32_1663_r0
  let c1_i32_1669_r0 : BitVec 32 := 1#32
  let v5720_r0 : BitVec 32 := Scalar.subi v5705_r0 c1_i32_1669_r0
  let v5721_r0 : BitVec 32 := Scalar.select v5719_r0 v5720_r0 v5705_r0
  let c128_i32_1670_r0 : BitVec 32 := 128#32
  let v5722_r0 : BitVec 32 := Scalar.muli v5721_r0 c128_i32_1670_r0
  v5722_r0
def k0_mult41 (i : grid0.Coords) : BitVec 32 :=
  let arg0 : BitVec 32 := BitVec.ofNat 32 (i 0).val
  let c8_i32_1698_r0 : BitVec 32 := 8#32
  let v5794_r0 : BitVec 32 := Scalar.muli arg0 c8_i32_1698_r0
  let c0_i32_1699_r0 : BitVec 32 := 0#32
  let v5795_r0 : BitVec 32 := Scalar.addi v5794_r0 c0_i32_1699_r0
  let c4_i32_1700_r0 : BitVec 32 := 4#32
  let v5796_r0 : BitVec 32 := Scalar.muli v5795_r0 c4_i32_1700_r0
  let c0_i32_1702_r0 : BitVec 32 := 0#32
  let v5798_r0 : BitVec 1 := Scalar.cmpi .sgt v5796_r0 c0_i32_1702_r0
  let v5799_r0 : BitVec 32 := Scalar.extui v5798_r0
  let c0_i32_1703_r0 : BitVec 32 := 0#32
  let v5800_r0 : BitVec 1 := Scalar.cmpi .slt v5796_r0 c0_i32_1703_r0
  let v5801_r0 : BitVec 32 := Scalar.extui v5800_r0
  let v5802_r0 : BitVec 32 := Scalar.subi v5799_r0 v5801_r0
  let c128_i32_1701_r0 : BitVec 32 := 128#32
  let c0_i32_1704_r0 : BitVec 32 := 0#32
  let v5803_r0 : BitVec 1 := Scalar.cmpi .sgt c128_i32_1701_r0 c0_i32_1704_r0
  let v5804_r0 : BitVec 32 := Scalar.extui v5803_r0
  let c0_i32_1705_r0 : BitVec 32 := 0#32
  let v5805_r0 : BitVec 1 := Scalar.cmpi .slt c128_i32_1701_r0 c0_i32_1705_r0
  let v5806_r0 : BitVec 32 := Scalar.extui v5805_r0
  let v5807_r0 : BitVec 32 := Scalar.subi v5804_r0 v5806_r0
  let v5808_r0 : BitVec 1 := Scalar.cmpi .ne v5802_r0 v5807_r0
  let v5809_r0 : BitVec 32 := Scalar.remsi v5796_r0 c128_i32_1701_r0
  let c0_i32_1706_r0 : BitVec 32 := 0#32
  let v5810_r0 : BitVec 1 := Scalar.cmpi .ne v5809_r0 c0_i32_1706_r0
  let v5811_r0 : BitVec 1 := Scalar.andi v5808_r0 v5810_r0
  let v5797_r0 : BitVec 32 := Scalar.divsi v5796_r0 c128_i32_1701_r0
  let c1_i32_1707_r0 : BitVec 32 := 1#32
  let v5812_r0 : BitVec 32 := Scalar.subi v5797_r0 c1_i32_1707_r0
  let v5813_r0 : BitVec 32 := Scalar.select v5811_r0 v5812_r0 v5797_r0
  let c128_i32_1708_r0 : BitVec 32 := 128#32
  let v5814_r0 : BitVec 32 := Scalar.muli v5813_r0 c128_i32_1708_r0
  v5814_r0
def k0_off11 (i : grid0.Coords) (c0_i32_1699_r0 : BitVec 32) : Fin 2 → Nat :=
  let c80_1709_r0 : Index := 80#32
  let arg0 : BitVec 32 := BitVec.ofNat 32 (i 0).val
  let c8_i32_1698_r0 : BitVec 32 := 8#32
  let v5794_r0 : BitVec 32 := Scalar.muli arg0 c8_i32_1698_r0
  let v5795_r0 : BitVec 32 := Scalar.addi v5794_r0 c0_i32_1699_r0
  let c4_i32_1700_r0 : BitVec 32 := 4#32
  let v5796_r0 : BitVec 32 := Scalar.muli v5795_r0 c4_i32_1700_r0
  let c0_i32_1702_r0 : BitVec 32 := 0#32
  let v5798_r0 : BitVec 1 := Scalar.cmpi .sgt v5796_r0 c0_i32_1702_r0
  let v5799_r0 : BitVec 32 := Scalar.extui v5798_r0
  let c0_i32_1703_r0 : BitVec 32 := 0#32
  let v5800_r0 : BitVec 1 := Scalar.cmpi .slt v5796_r0 c0_i32_1703_r0
  let v5801_r0 : BitVec 32 := Scalar.extui v5800_r0
  let v5802_r0 : BitVec 32 := Scalar.subi v5799_r0 v5801_r0
  let c128_i32_1701_r0 : BitVec 32 := 128#32
  let c0_i32_1704_r0 : BitVec 32 := 0#32
  let v5803_r0 : BitVec 1 := Scalar.cmpi .sgt c128_i32_1701_r0 c0_i32_1704_r0
  let v5804_r0 : BitVec 32 := Scalar.extui v5803_r0
  let c0_i32_1705_r0 : BitVec 32 := 0#32
  let v5805_r0 : BitVec 1 := Scalar.cmpi .slt c128_i32_1701_r0 c0_i32_1705_r0
  let v5806_r0 : BitVec 32 := Scalar.extui v5805_r0
  let v5807_r0 : BitVec 32 := Scalar.subi v5804_r0 v5806_r0
  let v5808_r0 : BitVec 1 := Scalar.cmpi .ne v5802_r0 v5807_r0
  let v5809_r0 : BitVec 32 := Scalar.remsi v5796_r0 c128_i32_1701_r0
  let c0_i32_1706_r0 : BitVec 32 := 0#32
  let v5810_r0 : BitVec 1 := Scalar.cmpi .ne v5809_r0 c0_i32_1706_r0
  let v5811_r0 : BitVec 1 := Scalar.andi v5808_r0 v5810_r0
  let v5797_r0 : BitVec 32 := Scalar.divsi v5796_r0 c128_i32_1701_r0
  let c1_i32_1707_r0 : BitVec 32 := 1#32
  let v5812_r0 : BitVec 32 := Scalar.subi v5797_r0 c1_i32_1707_r0
  let v5813_r0 : BitVec 32 := Scalar.select v5811_r0 v5812_r0 v5797_r0
  let c128_i32_1708_r0 : BitVec 32 := 128#32
  let v5814_r0 : BitVec 32 := Scalar.muli v5813_r0 c128_i32_1708_r0
  let v5815_r0 : BitVec 32 := v5814_r0
  let v5816_r0 : Index := Scalar.indexCast v5815_r0
  ![80, v5816_r0.toNat]
def k0_mult42 (i : grid0.Coords) : BitVec 32 :=
  let arg0 : BitVec 32 := BitVec.ofNat 32 (i 0).val
  let c8_i32_1721_r0 : BitVec 32 := 8#32
  let v5849_r0 : BitVec 32 := Scalar.muli arg0 c8_i32_1721_r0
  let c1_i32_1722_r0 : BitVec 32 := 1#32
  let v5850_r0 : BitVec 32 := Scalar.addi v5849_r0 c1_i32_1722_r0
  let c4_i32_1723_r0 : BitVec 32 := 4#32
  let v5851_r0 : BitVec 32 := Scalar.muli v5850_r0 c4_i32_1723_r0
  let c0_i32_1725_r0 : BitVec 32 := 0#32
  let v5853_r0 : BitVec 1 := Scalar.cmpi .sgt v5851_r0 c0_i32_1725_r0
  let v5854_r0 : BitVec 32 := Scalar.extui v5853_r0
  let c0_i32_1726_r0 : BitVec 32 := 0#32
  let v5855_r0 : BitVec 1 := Scalar.cmpi .slt v5851_r0 c0_i32_1726_r0
  let v5856_r0 : BitVec 32 := Scalar.extui v5855_r0
  let v5857_r0 : BitVec 32 := Scalar.subi v5854_r0 v5856_r0
  let c128_i32_1724_r0 : BitVec 32 := 128#32
  let c0_i32_1727_r0 : BitVec 32 := 0#32
  let v5858_r0 : BitVec 1 := Scalar.cmpi .sgt c128_i32_1724_r0 c0_i32_1727_r0
  let v5859_r0 : BitVec 32 := Scalar.extui v5858_r0
  let c0_i32_1728_r0 : BitVec 32 := 0#32
  let v5860_r0 : BitVec 1 := Scalar.cmpi .slt c128_i32_1724_r0 c0_i32_1728_r0
  let v5861_r0 : BitVec 32 := Scalar.extui v5860_r0
  let v5862_r0 : BitVec 32 := Scalar.subi v5859_r0 v5861_r0
  let v5863_r0 : BitVec 1 := Scalar.cmpi .ne v5857_r0 v5862_r0
  let v5864_r0 : BitVec 32 := Scalar.remsi v5851_r0 c128_i32_1724_r0
  let c0_i32_1729_r0 : BitVec 32 := 0#32
  let v5865_r0 : BitVec 1 := Scalar.cmpi .ne v5864_r0 c0_i32_1729_r0
  let v5866_r0 : BitVec 1 := Scalar.andi v5863_r0 v5865_r0
  let v5852_r0 : BitVec 32 := Scalar.divsi v5851_r0 c128_i32_1724_r0
  let c1_i32_1730_r0 : BitVec 32 := 1#32
  let v5867_r0 : BitVec 32 := Scalar.subi v5852_r0 c1_i32_1730_r0
  let v5868_r0 : BitVec 32 := Scalar.select v5866_r0 v5867_r0 v5852_r0
  let c128_i32_1731_r0 : BitVec 32 := 128#32
  let v5869_r0 : BitVec 32 := Scalar.muli v5868_r0 c128_i32_1731_r0
  v5869_r0
def k0_mult43 (i : grid0.Coords) : BitVec 32 :=
  let arg0 : BitVec 32 := BitVec.ofNat 32 (i 0).val
  let c8_i32_1743_r0 : BitVec 32 := 8#32
  let v5904_r0 : BitVec 32 := Scalar.muli arg0 c8_i32_1743_r0
  let c2_i32_1744_r0 : BitVec 32 := 2#32
  let v5905_r0 : BitVec 32 := Scalar.addi v5904_r0 c2_i32_1744_r0
  let c4_i32_1745_r0 : BitVec 32 := 4#32
  let v5906_r0 : BitVec 32 := Scalar.muli v5905_r0 c4_i32_1745_r0
  let c0_i32_1747_r0 : BitVec 32 := 0#32
  let v5908_r0 : BitVec 1 := Scalar.cmpi .sgt v5906_r0 c0_i32_1747_r0
  let v5909_r0 : BitVec 32 := Scalar.extui v5908_r0
  let c0_i32_1748_r0 : BitVec 32 := 0#32
  let v5910_r0 : BitVec 1 := Scalar.cmpi .slt v5906_r0 c0_i32_1748_r0
  let v5911_r0 : BitVec 32 := Scalar.extui v5910_r0
  let v5912_r0 : BitVec 32 := Scalar.subi v5909_r0 v5911_r0
  let c128_i32_1746_r0 : BitVec 32 := 128#32
  let c0_i32_1749_r0 : BitVec 32 := 0#32
  let v5913_r0 : BitVec 1 := Scalar.cmpi .sgt c128_i32_1746_r0 c0_i32_1749_r0
  let v5914_r0 : BitVec 32 := Scalar.extui v5913_r0
  let c0_i32_1750_r0 : BitVec 32 := 0#32
  let v5915_r0 : BitVec 1 := Scalar.cmpi .slt c128_i32_1746_r0 c0_i32_1750_r0
  let v5916_r0 : BitVec 32 := Scalar.extui v5915_r0
  let v5917_r0 : BitVec 32 := Scalar.subi v5914_r0 v5916_r0
  let v5918_r0 : BitVec 1 := Scalar.cmpi .ne v5912_r0 v5917_r0
  let v5919_r0 : BitVec 32 := Scalar.remsi v5906_r0 c128_i32_1746_r0
  let c0_i32_1751_r0 : BitVec 32 := 0#32
  let v5920_r0 : BitVec 1 := Scalar.cmpi .ne v5919_r0 c0_i32_1751_r0
  let v5921_r0 : BitVec 1 := Scalar.andi v5918_r0 v5920_r0
  let v5907_r0 : BitVec 32 := Scalar.divsi v5906_r0 c128_i32_1746_r0
  let c1_i32_1752_r0 : BitVec 32 := 1#32
  let v5922_r0 : BitVec 32 := Scalar.subi v5907_r0 c1_i32_1752_r0
  let v5923_r0 : BitVec 32 := Scalar.select v5921_r0 v5922_r0 v5907_r0
  let c128_i32_1753_r0 : BitVec 32 := 128#32
  let v5924_r0 : BitVec 32 := Scalar.muli v5923_r0 c128_i32_1753_r0
  v5924_r0
def k0_mult44 (i : grid0.Coords) : BitVec 32 :=
  let arg0 : BitVec 32 := BitVec.ofNat 32 (i 0).val
  let c8_i32_1765_r0 : BitVec 32 := 8#32
  let v5959_r0 : BitVec 32 := Scalar.muli arg0 c8_i32_1765_r0
  let c3_i32_1766_r0 : BitVec 32 := 3#32
  let v5960_r0 : BitVec 32 := Scalar.addi v5959_r0 c3_i32_1766_r0
  let c4_i32_1767_r0 : BitVec 32 := 4#32
  let v5961_r0 : BitVec 32 := Scalar.muli v5960_r0 c4_i32_1767_r0
  let c0_i32_1769_r0 : BitVec 32 := 0#32
  let v5963_r0 : BitVec 1 := Scalar.cmpi .sgt v5961_r0 c0_i32_1769_r0
  let v5964_r0 : BitVec 32 := Scalar.extui v5963_r0
  let c0_i32_1770_r0 : BitVec 32 := 0#32
  let v5965_r0 : BitVec 1 := Scalar.cmpi .slt v5961_r0 c0_i32_1770_r0
  let v5966_r0 : BitVec 32 := Scalar.extui v5965_r0
  let v5967_r0 : BitVec 32 := Scalar.subi v5964_r0 v5966_r0
  let c128_i32_1768_r0 : BitVec 32 := 128#32
  let c0_i32_1771_r0 : BitVec 32 := 0#32
  let v5968_r0 : BitVec 1 := Scalar.cmpi .sgt c128_i32_1768_r0 c0_i32_1771_r0
  let v5969_r0 : BitVec 32 := Scalar.extui v5968_r0
  let c0_i32_1772_r0 : BitVec 32 := 0#32
  let v5970_r0 : BitVec 1 := Scalar.cmpi .slt c128_i32_1768_r0 c0_i32_1772_r0
  let v5971_r0 : BitVec 32 := Scalar.extui v5970_r0
  let v5972_r0 : BitVec 32 := Scalar.subi v5969_r0 v5971_r0
  let v5973_r0 : BitVec 1 := Scalar.cmpi .ne v5967_r0 v5972_r0
  let v5974_r0 : BitVec 32 := Scalar.remsi v5961_r0 c128_i32_1768_r0
  let c0_i32_1773_r0 : BitVec 32 := 0#32
  let v5975_r0 : BitVec 1 := Scalar.cmpi .ne v5974_r0 c0_i32_1773_r0
  let v5976_r0 : BitVec 1 := Scalar.andi v5973_r0 v5975_r0
  let v5962_r0 : BitVec 32 := Scalar.divsi v5961_r0 c128_i32_1768_r0
  let c1_i32_1774_r0 : BitVec 32 := 1#32
  let v5977_r0 : BitVec 32 := Scalar.subi v5962_r0 c1_i32_1774_r0
  let v5978_r0 : BitVec 32 := Scalar.select v5976_r0 v5977_r0 v5962_r0
  let c128_i32_1775_r0 : BitVec 32 := 128#32
  let v5979_r0 : BitVec 32 := Scalar.muli v5978_r0 c128_i32_1775_r0
  v5979_r0
def k0_mult45 (i : grid0.Coords) : BitVec 32 :=
  let arg0 : BitVec 32 := BitVec.ofNat 32 (i 0).val
  let c8_i32_2571_r0 : BitVec 32 := 8#32
  let v9221_r0 : BitVec 32 := Scalar.muli arg0 c8_i32_2571_r0
  let c4_i32_2572_r0 : BitVec 32 := 4#32
  let v9222_r0 : BitVec 32 := Scalar.addi v9221_r0 c4_i32_2572_r0
  let c4_i32_2573_r0 : BitVec 32 := 4#32
  let v9223_r0 : BitVec 32 := Scalar.muli v9222_r0 c4_i32_2573_r0
  let c0_i32_2575_r0 : BitVec 32 := 0#32
  let v9225_r0 : BitVec 1 := Scalar.cmpi .sgt v9223_r0 c0_i32_2575_r0
  let v9226_r0 : BitVec 32 := Scalar.extui v9225_r0
  let c0_i32_2576_r0 : BitVec 32 := 0#32
  let v9227_r0 : BitVec 1 := Scalar.cmpi .slt v9223_r0 c0_i32_2576_r0
  let v9228_r0 : BitVec 32 := Scalar.extui v9227_r0
  let v9229_r0 : BitVec 32 := Scalar.subi v9226_r0 v9228_r0
  let c128_i32_2574_r0 : BitVec 32 := 128#32
  let c0_i32_2577_r0 : BitVec 32 := 0#32
  let v9230_r0 : BitVec 1 := Scalar.cmpi .sgt c128_i32_2574_r0 c0_i32_2577_r0
  let v9231_r0 : BitVec 32 := Scalar.extui v9230_r0
  let c0_i32_2578_r0 : BitVec 32 := 0#32
  let v9232_r0 : BitVec 1 := Scalar.cmpi .slt c128_i32_2574_r0 c0_i32_2578_r0
  let v9233_r0 : BitVec 32 := Scalar.extui v9232_r0
  let v9234_r0 : BitVec 32 := Scalar.subi v9231_r0 v9233_r0
  let v9235_r0 : BitVec 1 := Scalar.cmpi .ne v9229_r0 v9234_r0
  let v9236_r0 : BitVec 32 := Scalar.remsi v9223_r0 c128_i32_2574_r0
  let c0_i32_2579_r0 : BitVec 32 := 0#32
  let v9237_r0 : BitVec 1 := Scalar.cmpi .ne v9236_r0 c0_i32_2579_r0
  let v9238_r0 : BitVec 1 := Scalar.andi v9235_r0 v9237_r0
  let v9224_r0 : BitVec 32 := Scalar.divsi v9223_r0 c128_i32_2574_r0
  let c1_i32_2580_r0 : BitVec 32 := 1#32
  let v9239_r0 : BitVec 32 := Scalar.subi v9224_r0 c1_i32_2580_r0
  let v9240_r0 : BitVec 32 := Scalar.select v9238_r0 v9239_r0 v9224_r0
  let c128_i32_2581_r0 : BitVec 32 := 128#32
  let v9241_r0 : BitVec 32 := Scalar.muli v9240_r0 c128_i32_2581_r0
  v9241_r0
def k0_mult46 (i : grid0.Coords) : BitVec 32 :=
  let arg0 : BitVec 32 := BitVec.ofNat 32 (i 0).val
  let c8_i32_2594_r0 : BitVec 32 := 8#32
  let v9276_r0 : BitVec 32 := Scalar.muli arg0 c8_i32_2594_r0
  let c5_i32_r0 : BitVec 32 := 5#32
  let v9277_r0 : BitVec 32 := Scalar.addi v9276_r0 c5_i32_r0
  let c4_i32_2595_r0 : BitVec 32 := 4#32
  let v9278_r0 : BitVec 32 := Scalar.muli v9277_r0 c4_i32_2595_r0
  let c0_i32_2597_r0 : BitVec 32 := 0#32
  let v9280_r0 : BitVec 1 := Scalar.cmpi .sgt v9278_r0 c0_i32_2597_r0
  let v9281_r0 : BitVec 32 := Scalar.extui v9280_r0
  let c0_i32_2598_r0 : BitVec 32 := 0#32
  let v9282_r0 : BitVec 1 := Scalar.cmpi .slt v9278_r0 c0_i32_2598_r0
  let v9283_r0 : BitVec 32 := Scalar.extui v9282_r0
  let v9284_r0 : BitVec 32 := Scalar.subi v9281_r0 v9283_r0
  let c128_i32_2596_r0 : BitVec 32 := 128#32
  let c0_i32_2599_r0 : BitVec 32 := 0#32
  let v9285_r0 : BitVec 1 := Scalar.cmpi .sgt c128_i32_2596_r0 c0_i32_2599_r0
  let v9286_r0 : BitVec 32 := Scalar.extui v9285_r0
  let c0_i32_2600_r0 : BitVec 32 := 0#32
  let v9287_r0 : BitVec 1 := Scalar.cmpi .slt c128_i32_2596_r0 c0_i32_2600_r0
  let v9288_r0 : BitVec 32 := Scalar.extui v9287_r0
  let v9289_r0 : BitVec 32 := Scalar.subi v9286_r0 v9288_r0
  let v9290_r0 : BitVec 1 := Scalar.cmpi .ne v9284_r0 v9289_r0
  let v9291_r0 : BitVec 32 := Scalar.remsi v9278_r0 c128_i32_2596_r0
  let c0_i32_2601_r0 : BitVec 32 := 0#32
  let v9292_r0 : BitVec 1 := Scalar.cmpi .ne v9291_r0 c0_i32_2601_r0
  let v9293_r0 : BitVec 1 := Scalar.andi v9290_r0 v9292_r0
  let v9279_r0 : BitVec 32 := Scalar.divsi v9278_r0 c128_i32_2596_r0
  let c1_i32_2602_r0 : BitVec 32 := 1#32
  let v9294_r0 : BitVec 32 := Scalar.subi v9279_r0 c1_i32_2602_r0
  let v9295_r0 : BitVec 32 := Scalar.select v9293_r0 v9294_r0 v9279_r0
  let c128_i32_2603_r0 : BitVec 32 := 128#32
  let v9296_r0 : BitVec 32 := Scalar.muli v9295_r0 c128_i32_2603_r0
  v9296_r0
def k0_mult47 (i : grid0.Coords) : BitVec 32 :=
  let arg0 : BitVec 32 := BitVec.ofNat 32 (i 0).val
  let c8_i32_2616_r0 : BitVec 32 := 8#32
  let v9331_r0 : BitVec 32 := Scalar.muli arg0 c8_i32_2616_r0
  let c6_i32_r0 : BitVec 32 := 6#32
  let v9332_r0 : BitVec 32 := Scalar.addi v9331_r0 c6_i32_r0
  let c4_i32_2617_r0 : BitVec 32 := 4#32
  let v9333_r0 : BitVec 32 := Scalar.muli v9332_r0 c4_i32_2617_r0
  let c0_i32_2619_r0 : BitVec 32 := 0#32
  let v9335_r0 : BitVec 1 := Scalar.cmpi .sgt v9333_r0 c0_i32_2619_r0
  let v9336_r0 : BitVec 32 := Scalar.extui v9335_r0
  let c0_i32_2620_r0 : BitVec 32 := 0#32
  let v9337_r0 : BitVec 1 := Scalar.cmpi .slt v9333_r0 c0_i32_2620_r0
  let v9338_r0 : BitVec 32 := Scalar.extui v9337_r0
  let v9339_r0 : BitVec 32 := Scalar.subi v9336_r0 v9338_r0
  let c128_i32_2618_r0 : BitVec 32 := 128#32
  let c0_i32_2621_r0 : BitVec 32 := 0#32
  let v9340_r0 : BitVec 1 := Scalar.cmpi .sgt c128_i32_2618_r0 c0_i32_2621_r0
  let v9341_r0 : BitVec 32 := Scalar.extui v9340_r0
  let c0_i32_2622_r0 : BitVec 32 := 0#32
  let v9342_r0 : BitVec 1 := Scalar.cmpi .slt c128_i32_2618_r0 c0_i32_2622_r0
  let v9343_r0 : BitVec 32 := Scalar.extui v9342_r0
  let v9344_r0 : BitVec 32 := Scalar.subi v9341_r0 v9343_r0
  let v9345_r0 : BitVec 1 := Scalar.cmpi .ne v9339_r0 v9344_r0
  let v9346_r0 : BitVec 32 := Scalar.remsi v9333_r0 c128_i32_2618_r0
  let c0_i32_2623_r0 : BitVec 32 := 0#32
  let v9347_r0 : BitVec 1 := Scalar.cmpi .ne v9346_r0 c0_i32_2623_r0
  let v9348_r0 : BitVec 1 := Scalar.andi v9345_r0 v9347_r0
  let v9334_r0 : BitVec 32 := Scalar.divsi v9333_r0 c128_i32_2618_r0
  let c1_i32_2624_r0 : BitVec 32 := 1#32
  let v9349_r0 : BitVec 32 := Scalar.subi v9334_r0 c1_i32_2624_r0
  let v9350_r0 : BitVec 32 := Scalar.select v9348_r0 v9349_r0 v9334_r0
  let c128_i32_2625_r0 : BitVec 32 := 128#32
  let v9351_r0 : BitVec 32 := Scalar.muli v9350_r0 c128_i32_2625_r0
  v9351_r0
def k0_mult48 (i : grid0.Coords) : BitVec 32 :=
  let arg0 : BitVec 32 := BitVec.ofNat 32 (i 0).val
  let c8_i32_2638_r0 : BitVec 32 := 8#32
  let v9386_r0 : BitVec 32 := Scalar.muli arg0 c8_i32_2638_r0
  let c7_i32_2639_r0 : BitVec 32 := 7#32
  let v9387_r0 : BitVec 32 := Scalar.addi v9386_r0 c7_i32_2639_r0
  let c4_i32_2640_r0 : BitVec 32 := 4#32
  let v9388_r0 : BitVec 32 := Scalar.muli v9387_r0 c4_i32_2640_r0
  let c0_i32_2642_r0 : BitVec 32 := 0#32
  let v9390_r0 : BitVec 1 := Scalar.cmpi .sgt v9388_r0 c0_i32_2642_r0
  let v9391_r0 : BitVec 32 := Scalar.extui v9390_r0
  let c0_i32_2643_r0 : BitVec 32 := 0#32
  let v9392_r0 : BitVec 1 := Scalar.cmpi .slt v9388_r0 c0_i32_2643_r0
  let v9393_r0 : BitVec 32 := Scalar.extui v9392_r0
  let v9394_r0 : BitVec 32 := Scalar.subi v9391_r0 v9393_r0
  let c128_i32_2641_r0 : BitVec 32 := 128#32
  let c0_i32_2644_r0 : BitVec 32 := 0#32
  let v9395_r0 : BitVec 1 := Scalar.cmpi .sgt c128_i32_2641_r0 c0_i32_2644_r0
  let v9396_r0 : BitVec 32 := Scalar.extui v9395_r0
  let c0_i32_2645_r0 : BitVec 32 := 0#32
  let v9397_r0 : BitVec 1 := Scalar.cmpi .slt c128_i32_2641_r0 c0_i32_2645_r0
  let v9398_r0 : BitVec 32 := Scalar.extui v9397_r0
  let v9399_r0 : BitVec 32 := Scalar.subi v9396_r0 v9398_r0
  let v9400_r0 : BitVec 1 := Scalar.cmpi .ne v9394_r0 v9399_r0
  let v9401_r0 : BitVec 32 := Scalar.remsi v9388_r0 c128_i32_2641_r0
  let c0_i32_2646_r0 : BitVec 32 := 0#32
  let v9402_r0 : BitVec 1 := Scalar.cmpi .ne v9401_r0 c0_i32_2646_r0
  let v9403_r0 : BitVec 1 := Scalar.andi v9400_r0 v9402_r0
  let v9389_r0 : BitVec 32 := Scalar.divsi v9388_r0 c128_i32_2641_r0
  let c1_i32_2647_r0 : BitVec 32 := 1#32
  let v9404_r0 : BitVec 32 := Scalar.subi v9389_r0 c1_i32_2647_r0
  let v9405_r0 : BitVec 32 := Scalar.select v9403_r0 v9404_r0 v9389_r0
  let c128_i32_2648_r0 : BitVec 32 := 128#32
  let v9406_r0 : BitVec 32 := Scalar.muli v9405_r0 c128_i32_2648_r0
  v9406_r0
def k0_mult49 (i : grid0.Coords) : BitVec 32 :=
  let arg0 : BitVec 32 := BitVec.ofNat 32 (i 0).val
  let c8_i32_2677_r0 : BitVec 32 := 8#32
  let v9478_r0 : BitVec 32 := Scalar.muli arg0 c8_i32_2677_r0
  let c4_i32_2678_r0 : BitVec 32 := 4#32
  let v9479_r0 : BitVec 32 := Scalar.addi v9478_r0 c4_i32_2678_r0
  let c4_i32_2679_r0 : BitVec 32 := 4#32
  let v9480_r0 : BitVec 32 := Scalar.muli v9479_r0 c4_i32_2679_r0
  let c0_i32_2681_r0 : BitVec 32 := 0#32
  let v9482_r0 : BitVec 1 := Scalar.cmpi .sgt v9480_r0 c0_i32_2681_r0
  let v9483_r0 : BitVec 32 := Scalar.extui v9482_r0
  let c0_i32_2682_r0 : BitVec 32 := 0#32
  let v9484_r0 : BitVec 1 := Scalar.cmpi .slt v9480_r0 c0_i32_2682_r0
  let v9485_r0 : BitVec 32 := Scalar.extui v9484_r0
  let v9486_r0 : BitVec 32 := Scalar.subi v9483_r0 v9485_r0
  let c128_i32_2680_r0 : BitVec 32 := 128#32
  let c0_i32_2683_r0 : BitVec 32 := 0#32
  let v9487_r0 : BitVec 1 := Scalar.cmpi .sgt c128_i32_2680_r0 c0_i32_2683_r0
  let v9488_r0 : BitVec 32 := Scalar.extui v9487_r0
  let c0_i32_2684_r0 : BitVec 32 := 0#32
  let v9489_r0 : BitVec 1 := Scalar.cmpi .slt c128_i32_2680_r0 c0_i32_2684_r0
  let v9490_r0 : BitVec 32 := Scalar.extui v9489_r0
  let v9491_r0 : BitVec 32 := Scalar.subi v9488_r0 v9490_r0
  let v9492_r0 : BitVec 1 := Scalar.cmpi .ne v9486_r0 v9491_r0
  let v9493_r0 : BitVec 32 := Scalar.remsi v9480_r0 c128_i32_2680_r0
  let c0_i32_2685_r0 : BitVec 32 := 0#32
  let v9494_r0 : BitVec 1 := Scalar.cmpi .ne v9493_r0 c0_i32_2685_r0
  let v9495_r0 : BitVec 1 := Scalar.andi v9492_r0 v9494_r0
  let v9481_r0 : BitVec 32 := Scalar.divsi v9480_r0 c128_i32_2680_r0
  let c1_i32_2686_r0 : BitVec 32 := 1#32
  let v9496_r0 : BitVec 32 := Scalar.subi v9481_r0 c1_i32_2686_r0
  let v9497_r0 : BitVec 32 := Scalar.select v9495_r0 v9496_r0 v9481_r0
  let c128_i32_2687_r0 : BitVec 32 := 128#32
  let v9498_r0 : BitVec 32 := Scalar.muli v9497_r0 c128_i32_2687_r0
  v9498_r0
def k0_mult50 (i : grid0.Coords) : BitVec 32 :=
  let arg0 : BitVec 32 := BitVec.ofNat 32 (i 0).val
  let c8_i32_2700_r0 : BitVec 32 := 8#32
  let v9533_r0 : BitVec 32 := Scalar.muli arg0 c8_i32_2700_r0
  let c5_i32_2701_r0 : BitVec 32 := 5#32
  let v9534_r0 : BitVec 32 := Scalar.addi v9533_r0 c5_i32_2701_r0
  let c4_i32_2702_r0 : BitVec 32 := 4#32
  let v9535_r0 : BitVec 32 := Scalar.muli v9534_r0 c4_i32_2702_r0
  let c0_i32_2704_r0 : BitVec 32 := 0#32
  let v9537_r0 : BitVec 1 := Scalar.cmpi .sgt v9535_r0 c0_i32_2704_r0
  let v9538_r0 : BitVec 32 := Scalar.extui v9537_r0
  let c0_i32_2705_r0 : BitVec 32 := 0#32
  let v9539_r0 : BitVec 1 := Scalar.cmpi .slt v9535_r0 c0_i32_2705_r0
  let v9540_r0 : BitVec 32 := Scalar.extui v9539_r0
  let v9541_r0 : BitVec 32 := Scalar.subi v9538_r0 v9540_r0
  let c128_i32_2703_r0 : BitVec 32 := 128#32
  let c0_i32_2706_r0 : BitVec 32 := 0#32
  let v9542_r0 : BitVec 1 := Scalar.cmpi .sgt c128_i32_2703_r0 c0_i32_2706_r0
  let v9543_r0 : BitVec 32 := Scalar.extui v9542_r0
  let c0_i32_2707_r0 : BitVec 32 := 0#32
  let v9544_r0 : BitVec 1 := Scalar.cmpi .slt c128_i32_2703_r0 c0_i32_2707_r0
  let v9545_r0 : BitVec 32 := Scalar.extui v9544_r0
  let v9546_r0 : BitVec 32 := Scalar.subi v9543_r0 v9545_r0
  let v9547_r0 : BitVec 1 := Scalar.cmpi .ne v9541_r0 v9546_r0
  let v9548_r0 : BitVec 32 := Scalar.remsi v9535_r0 c128_i32_2703_r0
  let c0_i32_2708_r0 : BitVec 32 := 0#32
  let v9549_r0 : BitVec 1 := Scalar.cmpi .ne v9548_r0 c0_i32_2708_r0
  let v9550_r0 : BitVec 1 := Scalar.andi v9547_r0 v9549_r0
  let v9536_r0 : BitVec 32 := Scalar.divsi v9535_r0 c128_i32_2703_r0
  let c1_i32_2709_r0 : BitVec 32 := 1#32
  let v9551_r0 : BitVec 32 := Scalar.subi v9536_r0 c1_i32_2709_r0
  let v9552_r0 : BitVec 32 := Scalar.select v9550_r0 v9551_r0 v9536_r0
  let c128_i32_2710_r0 : BitVec 32 := 128#32
  let v9553_r0 : BitVec 32 := Scalar.muli v9552_r0 c128_i32_2710_r0
  v9553_r0
def k0_mult51 (i : grid0.Coords) : BitVec 32 :=
  let arg0 : BitVec 32 := BitVec.ofNat 32 (i 0).val
  let c8_i32_2723_r0 : BitVec 32 := 8#32
  let v9588_r0 : BitVec 32 := Scalar.muli arg0 c8_i32_2723_r0
  let c6_i32_2724_r0 : BitVec 32 := 6#32
  let v9589_r0 : BitVec 32 := Scalar.addi v9588_r0 c6_i32_2724_r0
  let c4_i32_2725_r0 : BitVec 32 := 4#32
  let v9590_r0 : BitVec 32 := Scalar.muli v9589_r0 c4_i32_2725_r0
  let c0_i32_2727_r0 : BitVec 32 := 0#32
  let v9592_r0 : BitVec 1 := Scalar.cmpi .sgt v9590_r0 c0_i32_2727_r0
  let v9593_r0 : BitVec 32 := Scalar.extui v9592_r0
  let c0_i32_2728_r0 : BitVec 32 := 0#32
  let v9594_r0 : BitVec 1 := Scalar.cmpi .slt v9590_r0 c0_i32_2728_r0
  let v9595_r0 : BitVec 32 := Scalar.extui v9594_r0
  let v9596_r0 : BitVec 32 := Scalar.subi v9593_r0 v9595_r0
  let c128_i32_2726_r0 : BitVec 32 := 128#32
  let c0_i32_2729_r0 : BitVec 32 := 0#32
  let v9597_r0 : BitVec 1 := Scalar.cmpi .sgt c128_i32_2726_r0 c0_i32_2729_r0
  let v9598_r0 : BitVec 32 := Scalar.extui v9597_r0
  let c0_i32_2730_r0 : BitVec 32 := 0#32
  let v9599_r0 : BitVec 1 := Scalar.cmpi .slt c128_i32_2726_r0 c0_i32_2730_r0
  let v9600_r0 : BitVec 32 := Scalar.extui v9599_r0
  let v9601_r0 : BitVec 32 := Scalar.subi v9598_r0 v9600_r0
  let v9602_r0 : BitVec 1 := Scalar.cmpi .ne v9596_r0 v9601_r0
  let v9603_r0 : BitVec 32 := Scalar.remsi v9590_r0 c128_i32_2726_r0
  let c0_i32_2731_r0 : BitVec 32 := 0#32
  let v9604_r0 : BitVec 1 := Scalar.cmpi .ne v9603_r0 c0_i32_2731_r0
  let v9605_r0 : BitVec 1 := Scalar.andi v9602_r0 v9604_r0
  let v9591_r0 : BitVec 32 := Scalar.divsi v9590_r0 c128_i32_2726_r0
  let c1_i32_2732_r0 : BitVec 32 := 1#32
  let v9606_r0 : BitVec 32 := Scalar.subi v9591_r0 c1_i32_2732_r0
  let v9607_r0 : BitVec 32 := Scalar.select v9605_r0 v9606_r0 v9591_r0
  let c128_i32_2733_r0 : BitVec 32 := 128#32
  let v9608_r0 : BitVec 32 := Scalar.muli v9607_r0 c128_i32_2733_r0
  v9608_r0
def k0_mult52 (i : grid0.Coords) : BitVec 32 :=
  let arg0 : BitVec 32 := BitVec.ofNat 32 (i 0).val
  let c8_i32_2746_r0 : BitVec 32 := 8#32
  let v9643_r0 : BitVec 32 := Scalar.muli arg0 c8_i32_2746_r0
  let c7_i32_2747_r0 : BitVec 32 := 7#32
  let v9644_r0 : BitVec 32 := Scalar.addi v9643_r0 c7_i32_2747_r0
  let c4_i32_2748_r0 : BitVec 32 := 4#32
  let v9645_r0 : BitVec 32 := Scalar.muli v9644_r0 c4_i32_2748_r0
  let c0_i32_2750_r0 : BitVec 32 := 0#32
  let v9647_r0 : BitVec 1 := Scalar.cmpi .sgt v9645_r0 c0_i32_2750_r0
  let v9648_r0 : BitVec 32 := Scalar.extui v9647_r0
  let c0_i32_2751_r0 : BitVec 32 := 0#32
  let v9649_r0 : BitVec 1 := Scalar.cmpi .slt v9645_r0 c0_i32_2751_r0
  let v9650_r0 : BitVec 32 := Scalar.extui v9649_r0
  let v9651_r0 : BitVec 32 := Scalar.subi v9648_r0 v9650_r0
  let c128_i32_2749_r0 : BitVec 32 := 128#32
  let c0_i32_2752_r0 : BitVec 32 := 0#32
  let v9652_r0 : BitVec 1 := Scalar.cmpi .sgt c128_i32_2749_r0 c0_i32_2752_r0
  let v9653_r0 : BitVec 32 := Scalar.extui v9652_r0
  let c0_i32_2753_r0 : BitVec 32 := 0#32
  let v9654_r0 : BitVec 1 := Scalar.cmpi .slt c128_i32_2749_r0 c0_i32_2753_r0
  let v9655_r0 : BitVec 32 := Scalar.extui v9654_r0
  let v9656_r0 : BitVec 32 := Scalar.subi v9653_r0 v9655_r0
  let v9657_r0 : BitVec 1 := Scalar.cmpi .ne v9651_r0 v9656_r0
  let v9658_r0 : BitVec 32 := Scalar.remsi v9645_r0 c128_i32_2749_r0
  let c0_i32_2754_r0 : BitVec 32 := 0#32
  let v9659_r0 : BitVec 1 := Scalar.cmpi .ne v9658_r0 c0_i32_2754_r0
  let v9660_r0 : BitVec 1 := Scalar.andi v9657_r0 v9659_r0
  let v9646_r0 : BitVec 32 := Scalar.divsi v9645_r0 c128_i32_2749_r0
  let c1_i32_2755_r0 : BitVec 32 := 1#32
  let v9661_r0 : BitVec 32 := Scalar.subi v9646_r0 c1_i32_2755_r0
  let v9662_r0 : BitVec 32 := Scalar.select v9660_r0 v9661_r0 v9646_r0
  let c128_i32_2756_r0 : BitVec 32 := 128#32
  let v9663_r0 : BitVec 32 := Scalar.muli v9662_r0 c128_i32_2756_r0
  v9663_r0
def k0_mult53 (i : grid0.Coords) : BitVec 32 :=
  let arg0 : BitVec 32 := BitVec.ofNat 32 (i 0).val
  let c8_i32_2785_r0 : BitVec 32 := 8#32
  let v9735_r0 : BitVec 32 := Scalar.muli arg0 c8_i32_2785_r0
  let c4_i32_2786_r0 : BitVec 32 := 4#32
  let v9736_r0 : BitVec 32 := Scalar.addi v9735_r0 c4_i32_2786_r0
  let c4_i32_2787_r0 : BitVec 32 := 4#32
  let v9737_r0 : BitVec 32 := Scalar.muli v9736_r0 c4_i32_2787_r0
  let c0_i32_2789_r0 : BitVec 32 := 0#32
  let v9739_r0 : BitVec 1 := Scalar.cmpi .sgt v9737_r0 c0_i32_2789_r0
  let v9740_r0 : BitVec 32 := Scalar.extui v9739_r0
  let c0_i32_2790_r0 : BitVec 32 := 0#32
  let v9741_r0 : BitVec 1 := Scalar.cmpi .slt v9737_r0 c0_i32_2790_r0
  let v9742_r0 : BitVec 32 := Scalar.extui v9741_r0
  let v9743_r0 : BitVec 32 := Scalar.subi v9740_r0 v9742_r0
  let c128_i32_2788_r0 : BitVec 32 := 128#32
  let c0_i32_2791_r0 : BitVec 32 := 0#32
  let v9744_r0 : BitVec 1 := Scalar.cmpi .sgt c128_i32_2788_r0 c0_i32_2791_r0
  let v9745_r0 : BitVec 32 := Scalar.extui v9744_r0
  let c0_i32_2792_r0 : BitVec 32 := 0#32
  let v9746_r0 : BitVec 1 := Scalar.cmpi .slt c128_i32_2788_r0 c0_i32_2792_r0
  let v9747_r0 : BitVec 32 := Scalar.extui v9746_r0
  let v9748_r0 : BitVec 32 := Scalar.subi v9745_r0 v9747_r0
  let v9749_r0 : BitVec 1 := Scalar.cmpi .ne v9743_r0 v9748_r0
  let v9750_r0 : BitVec 32 := Scalar.remsi v9737_r0 c128_i32_2788_r0
  let c0_i32_2793_r0 : BitVec 32 := 0#32
  let v9751_r0 : BitVec 1 := Scalar.cmpi .ne v9750_r0 c0_i32_2793_r0
  let v9752_r0 : BitVec 1 := Scalar.andi v9749_r0 v9751_r0
  let v9738_r0 : BitVec 32 := Scalar.divsi v9737_r0 c128_i32_2788_r0
  let c1_i32_2794_r0 : BitVec 32 := 1#32
  let v9753_r0 : BitVec 32 := Scalar.subi v9738_r0 c1_i32_2794_r0
  let v9754_r0 : BitVec 32 := Scalar.select v9752_r0 v9753_r0 v9738_r0
  let c128_i32_2795_r0 : BitVec 32 := 128#32
  let v9755_r0 : BitVec 32 := Scalar.muli v9754_r0 c128_i32_2795_r0
  v9755_r0
def k0_mult54 (i : grid0.Coords) : BitVec 32 :=
  let arg0 : BitVec 32 := BitVec.ofNat 32 (i 0).val
  let c8_i32_2807_r0 : BitVec 32 := 8#32
  let v9790_r0 : BitVec 32 := Scalar.muli arg0 c8_i32_2807_r0
  let c5_i32_2808_r0 : BitVec 32 := 5#32
  let v9791_r0 : BitVec 32 := Scalar.addi v9790_r0 c5_i32_2808_r0
  let c4_i32_2809_r0 : BitVec 32 := 4#32
  let v9792_r0 : BitVec 32 := Scalar.muli v9791_r0 c4_i32_2809_r0
  let c0_i32_2811_r0 : BitVec 32 := 0#32
  let v9794_r0 : BitVec 1 := Scalar.cmpi .sgt v9792_r0 c0_i32_2811_r0
  let v9795_r0 : BitVec 32 := Scalar.extui v9794_r0
  let c0_i32_2812_r0 : BitVec 32 := 0#32
  let v9796_r0 : BitVec 1 := Scalar.cmpi .slt v9792_r0 c0_i32_2812_r0
  let v9797_r0 : BitVec 32 := Scalar.extui v9796_r0
  let v9798_r0 : BitVec 32 := Scalar.subi v9795_r0 v9797_r0
  let c128_i32_2810_r0 : BitVec 32 := 128#32
  let c0_i32_2813_r0 : BitVec 32 := 0#32
  let v9799_r0 : BitVec 1 := Scalar.cmpi .sgt c128_i32_2810_r0 c0_i32_2813_r0
  let v9800_r0 : BitVec 32 := Scalar.extui v9799_r0
  let c0_i32_2814_r0 : BitVec 32 := 0#32
  let v9801_r0 : BitVec 1 := Scalar.cmpi .slt c128_i32_2810_r0 c0_i32_2814_r0
  let v9802_r0 : BitVec 32 := Scalar.extui v9801_r0
  let v9803_r0 : BitVec 32 := Scalar.subi v9800_r0 v9802_r0
  let v9804_r0 : BitVec 1 := Scalar.cmpi .ne v9798_r0 v9803_r0
  let v9805_r0 : BitVec 32 := Scalar.remsi v9792_r0 c128_i32_2810_r0
  let c0_i32_2815_r0 : BitVec 32 := 0#32
  let v9806_r0 : BitVec 1 := Scalar.cmpi .ne v9805_r0 c0_i32_2815_r0
  let v9807_r0 : BitVec 1 := Scalar.andi v9804_r0 v9806_r0
  let v9793_r0 : BitVec 32 := Scalar.divsi v9792_r0 c128_i32_2810_r0
  let c1_i32_2816_r0 : BitVec 32 := 1#32
  let v9808_r0 : BitVec 32 := Scalar.subi v9793_r0 c1_i32_2816_r0
  let v9809_r0 : BitVec 32 := Scalar.select v9807_r0 v9808_r0 v9793_r0
  let c128_i32_2817_r0 : BitVec 32 := 128#32
  let v9810_r0 : BitVec 32 := Scalar.muli v9809_r0 c128_i32_2817_r0
  v9810_r0
def k0_mult55 (i : grid0.Coords) : BitVec 32 :=
  let arg0 : BitVec 32 := BitVec.ofNat 32 (i 0).val
  let c8_i32_2829_r0 : BitVec 32 := 8#32
  let v9845_r0 : BitVec 32 := Scalar.muli arg0 c8_i32_2829_r0
  let c6_i32_2830_r0 : BitVec 32 := 6#32
  let v9846_r0 : BitVec 32 := Scalar.addi v9845_r0 c6_i32_2830_r0
  let c4_i32_2831_r0 : BitVec 32 := 4#32
  let v9847_r0 : BitVec 32 := Scalar.muli v9846_r0 c4_i32_2831_r0
  let c0_i32_2833_r0 : BitVec 32 := 0#32
  let v9849_r0 : BitVec 1 := Scalar.cmpi .sgt v9847_r0 c0_i32_2833_r0
  let v9850_r0 : BitVec 32 := Scalar.extui v9849_r0
  let c0_i32_2834_r0 : BitVec 32 := 0#32
  let v9851_r0 : BitVec 1 := Scalar.cmpi .slt v9847_r0 c0_i32_2834_r0
  let v9852_r0 : BitVec 32 := Scalar.extui v9851_r0
  let v9853_r0 : BitVec 32 := Scalar.subi v9850_r0 v9852_r0
  let c128_i32_2832_r0 : BitVec 32 := 128#32
  let c0_i32_2835_r0 : BitVec 32 := 0#32
  let v9854_r0 : BitVec 1 := Scalar.cmpi .sgt c128_i32_2832_r0 c0_i32_2835_r0
  let v9855_r0 : BitVec 32 := Scalar.extui v9854_r0
  let c0_i32_2836_r0 : BitVec 32 := 0#32
  let v9856_r0 : BitVec 1 := Scalar.cmpi .slt c128_i32_2832_r0 c0_i32_2836_r0
  let v9857_r0 : BitVec 32 := Scalar.extui v9856_r0
  let v9858_r0 : BitVec 32 := Scalar.subi v9855_r0 v9857_r0
  let v9859_r0 : BitVec 1 := Scalar.cmpi .ne v9853_r0 v9858_r0
  let v9860_r0 : BitVec 32 := Scalar.remsi v9847_r0 c128_i32_2832_r0
  let c0_i32_2837_r0 : BitVec 32 := 0#32
  let v9861_r0 : BitVec 1 := Scalar.cmpi .ne v9860_r0 c0_i32_2837_r0
  let v9862_r0 : BitVec 1 := Scalar.andi v9859_r0 v9861_r0
  let v9848_r0 : BitVec 32 := Scalar.divsi v9847_r0 c128_i32_2832_r0
  let c1_i32_2838_r0 : BitVec 32 := 1#32
  let v9863_r0 : BitVec 32 := Scalar.subi v9848_r0 c1_i32_2838_r0
  let v9864_r0 : BitVec 32 := Scalar.select v9862_r0 v9863_r0 v9848_r0
  let c128_i32_2839_r0 : BitVec 32 := 128#32
  let v9865_r0 : BitVec 32 := Scalar.muli v9864_r0 c128_i32_2839_r0
  v9865_r0
def k0_mult56 (i : grid0.Coords) : BitVec 32 :=
  let arg0 : BitVec 32 := BitVec.ofNat 32 (i 0).val
  let c8_i32_2851_r0 : BitVec 32 := 8#32
  let v9900_r0 : BitVec 32 := Scalar.muli arg0 c8_i32_2851_r0
  let c7_i32_2852_r0 : BitVec 32 := 7#32
  let v9901_r0 : BitVec 32 := Scalar.addi v9900_r0 c7_i32_2852_r0
  let c4_i32_2853_r0 : BitVec 32 := 4#32
  let v9902_r0 : BitVec 32 := Scalar.muli v9901_r0 c4_i32_2853_r0
  let c0_i32_2855_r0 : BitVec 32 := 0#32
  let v9904_r0 : BitVec 1 := Scalar.cmpi .sgt v9902_r0 c0_i32_2855_r0
  let v9905_r0 : BitVec 32 := Scalar.extui v9904_r0
  let c0_i32_2856_r0 : BitVec 32 := 0#32
  let v9906_r0 : BitVec 1 := Scalar.cmpi .slt v9902_r0 c0_i32_2856_r0
  let v9907_r0 : BitVec 32 := Scalar.extui v9906_r0
  let v9908_r0 : BitVec 32 := Scalar.subi v9905_r0 v9907_r0
  let c128_i32_2854_r0 : BitVec 32 := 128#32
  let c0_i32_2857_r0 : BitVec 32 := 0#32
  let v9909_r0 : BitVec 1 := Scalar.cmpi .sgt c128_i32_2854_r0 c0_i32_2857_r0
  let v9910_r0 : BitVec 32 := Scalar.extui v9909_r0
  let c0_i32_2858_r0 : BitVec 32 := 0#32
  let v9911_r0 : BitVec 1 := Scalar.cmpi .slt c128_i32_2854_r0 c0_i32_2858_r0
  let v9912_r0 : BitVec 32 := Scalar.extui v9911_r0
  let v9913_r0 : BitVec 32 := Scalar.subi v9910_r0 v9912_r0
  let v9914_r0 : BitVec 1 := Scalar.cmpi .ne v9908_r0 v9913_r0
  let v9915_r0 : BitVec 32 := Scalar.remsi v9902_r0 c128_i32_2854_r0
  let c0_i32_2859_r0 : BitVec 32 := 0#32
  let v9916_r0 : BitVec 1 := Scalar.cmpi .ne v9915_r0 c0_i32_2859_r0
  let v9917_r0 : BitVec 1 := Scalar.andi v9914_r0 v9916_r0
  let v9903_r0 : BitVec 32 := Scalar.divsi v9902_r0 c128_i32_2854_r0
  let c1_i32_2860_r0 : BitVec 32 := 1#32
  let v9918_r0 : BitVec 32 := Scalar.subi v9903_r0 c1_i32_2860_r0
  let v9919_r0 : BitVec 32 := Scalar.select v9917_r0 v9918_r0 v9903_r0
  let c128_i32_2861_r0 : BitVec 32 := 128#32
  let v9920_r0 : BitVec 32 := Scalar.muli v9919_r0 c128_i32_2861_r0
  v9920_r0
def k0_mult57 (i : grid0.Coords) : BitVec 32 :=
  let arg0 : BitVec 32 := BitVec.ofNat 32 (i 0).val
  let c8_i32_2889_r0 : BitVec 32 := 8#32
  let v9992_r0 : BitVec 32 := Scalar.muli arg0 c8_i32_2889_r0
  let c4_i32_2890_r0 : BitVec 32 := 4#32
  let v9993_r0 : BitVec 32 := Scalar.addi v9992_r0 c4_i32_2890_r0
  let c4_i32_2891_r0 : BitVec 32 := 4#32
  let v9994_r0 : BitVec 32 := Scalar.muli v9993_r0 c4_i32_2891_r0
  let c0_i32_2893_r0 : BitVec 32 := 0#32
  let v9996_r0 : BitVec 1 := Scalar.cmpi .sgt v9994_r0 c0_i32_2893_r0
  let v9997_r0 : BitVec 32 := Scalar.extui v9996_r0
  let c0_i32_2894_r0 : BitVec 32 := 0#32
  let v9998_r0 : BitVec 1 := Scalar.cmpi .slt v9994_r0 c0_i32_2894_r0
  let v9999_r0 : BitVec 32 := Scalar.extui v9998_r0
  let v10000_r0 : BitVec 32 := Scalar.subi v9997_r0 v9999_r0
  let c128_i32_2892_r0 : BitVec 32 := 128#32
  let c0_i32_2895_r0 : BitVec 32 := 0#32
  let v10001_r0 : BitVec 1 := Scalar.cmpi .sgt c128_i32_2892_r0 c0_i32_2895_r0
  let v10002_r0 : BitVec 32 := Scalar.extui v10001_r0
  let c0_i32_2896_r0 : BitVec 32 := 0#32
  let v10003_r0 : BitVec 1 := Scalar.cmpi .slt c128_i32_2892_r0 c0_i32_2896_r0
  let v10004_r0 : BitVec 32 := Scalar.extui v10003_r0
  let v10005_r0 : BitVec 32 := Scalar.subi v10002_r0 v10004_r0
  let v10006_r0 : BitVec 1 := Scalar.cmpi .ne v10000_r0 v10005_r0
  let v10007_r0 : BitVec 32 := Scalar.remsi v9994_r0 c128_i32_2892_r0
  let c0_i32_2897_r0 : BitVec 32 := 0#32
  let v10008_r0 : BitVec 1 := Scalar.cmpi .ne v10007_r0 c0_i32_2897_r0
  let v10009_r0 : BitVec 1 := Scalar.andi v10006_r0 v10008_r0
  let v9995_r0 : BitVec 32 := Scalar.divsi v9994_r0 c128_i32_2892_r0
  let c1_i32_2898_r0 : BitVec 32 := 1#32
  let v10010_r0 : BitVec 32 := Scalar.subi v9995_r0 c1_i32_2898_r0
  let v10011_r0 : BitVec 32 := Scalar.select v10009_r0 v10010_r0 v9995_r0
  let c128_i32_2899_r0 : BitVec 32 := 128#32
  let v10012_r0 : BitVec 32 := Scalar.muli v10011_r0 c128_i32_2899_r0
  v10012_r0
def k0_mult58 (i : grid0.Coords) : BitVec 32 :=
  let arg0 : BitVec 32 := BitVec.ofNat 32 (i 0).val
  let c8_i32_2911_r0 : BitVec 32 := 8#32
  let v10047_r0 : BitVec 32 := Scalar.muli arg0 c8_i32_2911_r0
  let c5_i32_2912_r0 : BitVec 32 := 5#32
  let v10048_r0 : BitVec 32 := Scalar.addi v10047_r0 c5_i32_2912_r0
  let c4_i32_2913_r0 : BitVec 32 := 4#32
  let v10049_r0 : BitVec 32 := Scalar.muli v10048_r0 c4_i32_2913_r0
  let c0_i32_2915_r0 : BitVec 32 := 0#32
  let v10051_r0 : BitVec 1 := Scalar.cmpi .sgt v10049_r0 c0_i32_2915_r0
  let v10052_r0 : BitVec 32 := Scalar.extui v10051_r0
  let c0_i32_2916_r0 : BitVec 32 := 0#32
  let v10053_r0 : BitVec 1 := Scalar.cmpi .slt v10049_r0 c0_i32_2916_r0
  let v10054_r0 : BitVec 32 := Scalar.extui v10053_r0
  let v10055_r0 : BitVec 32 := Scalar.subi v10052_r0 v10054_r0
  let c128_i32_2914_r0 : BitVec 32 := 128#32
  let c0_i32_2917_r0 : BitVec 32 := 0#32
  let v10056_r0 : BitVec 1 := Scalar.cmpi .sgt c128_i32_2914_r0 c0_i32_2917_r0
  let v10057_r0 : BitVec 32 := Scalar.extui v10056_r0
  let c0_i32_2918_r0 : BitVec 32 := 0#32
  let v10058_r0 : BitVec 1 := Scalar.cmpi .slt c128_i32_2914_r0 c0_i32_2918_r0
  let v10059_r0 : BitVec 32 := Scalar.extui v10058_r0
  let v10060_r0 : BitVec 32 := Scalar.subi v10057_r0 v10059_r0
  let v10061_r0 : BitVec 1 := Scalar.cmpi .ne v10055_r0 v10060_r0
  let v10062_r0 : BitVec 32 := Scalar.remsi v10049_r0 c128_i32_2914_r0
  let c0_i32_2919_r0 : BitVec 32 := 0#32
  let v10063_r0 : BitVec 1 := Scalar.cmpi .ne v10062_r0 c0_i32_2919_r0
  let v10064_r0 : BitVec 1 := Scalar.andi v10061_r0 v10063_r0
  let v10050_r0 : BitVec 32 := Scalar.divsi v10049_r0 c128_i32_2914_r0
  let c1_i32_2920_r0 : BitVec 32 := 1#32
  let v10065_r0 : BitVec 32 := Scalar.subi v10050_r0 c1_i32_2920_r0
  let v10066_r0 : BitVec 32 := Scalar.select v10064_r0 v10065_r0 v10050_r0
  let c128_i32_2921_r0 : BitVec 32 := 128#32
  let v10067_r0 : BitVec 32 := Scalar.muli v10066_r0 c128_i32_2921_r0
  v10067_r0
def k0_mult59 (i : grid0.Coords) : BitVec 32 :=
  let arg0 : BitVec 32 := BitVec.ofNat 32 (i 0).val
  let c8_i32_2933_r0 : BitVec 32 := 8#32
  let v10102_r0 : BitVec 32 := Scalar.muli arg0 c8_i32_2933_r0
  let c6_i32_2934_r0 : BitVec 32 := 6#32
  let v10103_r0 : BitVec 32 := Scalar.addi v10102_r0 c6_i32_2934_r0
  let c4_i32_2935_r0 : BitVec 32 := 4#32
  let v10104_r0 : BitVec 32 := Scalar.muli v10103_r0 c4_i32_2935_r0
  let c0_i32_2937_r0 : BitVec 32 := 0#32
  let v10106_r0 : BitVec 1 := Scalar.cmpi .sgt v10104_r0 c0_i32_2937_r0
  let v10107_r0 : BitVec 32 := Scalar.extui v10106_r0
  let c0_i32_2938_r0 : BitVec 32 := 0#32
  let v10108_r0 : BitVec 1 := Scalar.cmpi .slt v10104_r0 c0_i32_2938_r0
  let v10109_r0 : BitVec 32 := Scalar.extui v10108_r0
  let v10110_r0 : BitVec 32 := Scalar.subi v10107_r0 v10109_r0
  let c128_i32_2936_r0 : BitVec 32 := 128#32
  let c0_i32_2939_r0 : BitVec 32 := 0#32
  let v10111_r0 : BitVec 1 := Scalar.cmpi .sgt c128_i32_2936_r0 c0_i32_2939_r0
  let v10112_r0 : BitVec 32 := Scalar.extui v10111_r0
  let c0_i32_2940_r0 : BitVec 32 := 0#32
  let v10113_r0 : BitVec 1 := Scalar.cmpi .slt c128_i32_2936_r0 c0_i32_2940_r0
  let v10114_r0 : BitVec 32 := Scalar.extui v10113_r0
  let v10115_r0 : BitVec 32 := Scalar.subi v10112_r0 v10114_r0
  let v10116_r0 : BitVec 1 := Scalar.cmpi .ne v10110_r0 v10115_r0
  let v10117_r0 : BitVec 32 := Scalar.remsi v10104_r0 c128_i32_2936_r0
  let c0_i32_2941_r0 : BitVec 32 := 0#32
  let v10118_r0 : BitVec 1 := Scalar.cmpi .ne v10117_r0 c0_i32_2941_r0
  let v10119_r0 : BitVec 1 := Scalar.andi v10116_r0 v10118_r0
  let v10105_r0 : BitVec 32 := Scalar.divsi v10104_r0 c128_i32_2936_r0
  let c1_i32_2942_r0 : BitVec 32 := 1#32
  let v10120_r0 : BitVec 32 := Scalar.subi v10105_r0 c1_i32_2942_r0
  let v10121_r0 : BitVec 32 := Scalar.select v10119_r0 v10120_r0 v10105_r0
  let c128_i32_2943_r0 : BitVec 32 := 128#32
  let v10122_r0 : BitVec 32 := Scalar.muli v10121_r0 c128_i32_2943_r0
  v10122_r0
def k0_mult60 (i : grid0.Coords) : BitVec 32 :=
  let arg0 : BitVec 32 := BitVec.ofNat 32 (i 0).val
  let c8_i32_2955_r0 : BitVec 32 := 8#32
  let v10157_r0 : BitVec 32 := Scalar.muli arg0 c8_i32_2955_r0
  let c7_i32_2956_r0 : BitVec 32 := 7#32
  let v10158_r0 : BitVec 32 := Scalar.addi v10157_r0 c7_i32_2956_r0
  let c4_i32_2957_r0 : BitVec 32 := 4#32
  let v10159_r0 : BitVec 32 := Scalar.muli v10158_r0 c4_i32_2957_r0
  let c0_i32_2959_r0 : BitVec 32 := 0#32
  let v10161_r0 : BitVec 1 := Scalar.cmpi .sgt v10159_r0 c0_i32_2959_r0
  let v10162_r0 : BitVec 32 := Scalar.extui v10161_r0
  let c0_i32_2960_r0 : BitVec 32 := 0#32
  let v10163_r0 : BitVec 1 := Scalar.cmpi .slt v10159_r0 c0_i32_2960_r0
  let v10164_r0 : BitVec 32 := Scalar.extui v10163_r0
  let v10165_r0 : BitVec 32 := Scalar.subi v10162_r0 v10164_r0
  let c128_i32_2958_r0 : BitVec 32 := 128#32
  let c0_i32_2961_r0 : BitVec 32 := 0#32
  let v10166_r0 : BitVec 1 := Scalar.cmpi .sgt c128_i32_2958_r0 c0_i32_2961_r0
  let v10167_r0 : BitVec 32 := Scalar.extui v10166_r0
  let c0_i32_2962_r0 : BitVec 32 := 0#32
  let v10168_r0 : BitVec 1 := Scalar.cmpi .slt c128_i32_2958_r0 c0_i32_2962_r0
  let v10169_r0 : BitVec 32 := Scalar.extui v10168_r0
  let v10170_r0 : BitVec 32 := Scalar.subi v10167_r0 v10169_r0
  let v10171_r0 : BitVec 1 := Scalar.cmpi .ne v10165_r0 v10170_r0
  let v10172_r0 : BitVec 32 := Scalar.remsi v10159_r0 c128_i32_2958_r0
  let c0_i32_2963_r0 : BitVec 32 := 0#32
  let v10173_r0 : BitVec 1 := Scalar.cmpi .ne v10172_r0 c0_i32_2963_r0
  let v10174_r0 : BitVec 1 := Scalar.andi v10171_r0 v10173_r0
  let v10160_r0 : BitVec 32 := Scalar.divsi v10159_r0 c128_i32_2958_r0
  let c1_i32_2964_r0 : BitVec 32 := 1#32
  let v10175_r0 : BitVec 32 := Scalar.subi v10160_r0 c1_i32_2964_r0
  let v10176_r0 : BitVec 32 := Scalar.select v10174_r0 v10175_r0 v10160_r0
  let c128_i32_2965_r0 : BitVec 32 := 128#32
  let v10177_r0 : BitVec 32 := Scalar.muli v10176_r0 c128_i32_2965_r0
  v10177_r0
def k0_mult61 (i : grid0.Coords) : BitVec 32 :=
  let arg0 : BitVec 32 := BitVec.ofNat 32 (i 0).val
  let c8_i32_2993_r0 : BitVec 32 := 8#32
  let v10249_r0 : BitVec 32 := Scalar.muli arg0 c8_i32_2993_r0
  let c4_i32_2994_r0 : BitVec 32 := 4#32
  let v10250_r0 : BitVec 32 := Scalar.addi v10249_r0 c4_i32_2994_r0
  let c4_i32_2995_r0 : BitVec 32 := 4#32
  let v10251_r0 : BitVec 32 := Scalar.muli v10250_r0 c4_i32_2995_r0
  let c0_i32_2997_r0 : BitVec 32 := 0#32
  let v10253_r0 : BitVec 1 := Scalar.cmpi .sgt v10251_r0 c0_i32_2997_r0
  let v10254_r0 : BitVec 32 := Scalar.extui v10253_r0
  let c0_i32_2998_r0 : BitVec 32 := 0#32
  let v10255_r0 : BitVec 1 := Scalar.cmpi .slt v10251_r0 c0_i32_2998_r0
  let v10256_r0 : BitVec 32 := Scalar.extui v10255_r0
  let v10257_r0 : BitVec 32 := Scalar.subi v10254_r0 v10256_r0
  let c128_i32_2996_r0 : BitVec 32 := 128#32
  let c0_i32_2999_r0 : BitVec 32 := 0#32
  let v10258_r0 : BitVec 1 := Scalar.cmpi .sgt c128_i32_2996_r0 c0_i32_2999_r0
  let v10259_r0 : BitVec 32 := Scalar.extui v10258_r0
  let c0_i32_3000_r0 : BitVec 32 := 0#32
  let v10260_r0 : BitVec 1 := Scalar.cmpi .slt c128_i32_2996_r0 c0_i32_3000_r0
  let v10261_r0 : BitVec 32 := Scalar.extui v10260_r0
  let v10262_r0 : BitVec 32 := Scalar.subi v10259_r0 v10261_r0
  let v10263_r0 : BitVec 1 := Scalar.cmpi .ne v10257_r0 v10262_r0
  let v10264_r0 : BitVec 32 := Scalar.remsi v10251_r0 c128_i32_2996_r0
  let c0_i32_3001_r0 : BitVec 32 := 0#32
  let v10265_r0 : BitVec 1 := Scalar.cmpi .ne v10264_r0 c0_i32_3001_r0
  let v10266_r0 : BitVec 1 := Scalar.andi v10263_r0 v10265_r0
  let v10252_r0 : BitVec 32 := Scalar.divsi v10251_r0 c128_i32_2996_r0
  let c1_i32_3002_r0 : BitVec 32 := 1#32
  let v10267_r0 : BitVec 32 := Scalar.subi v10252_r0 c1_i32_3002_r0
  let v10268_r0 : BitVec 32 := Scalar.select v10266_r0 v10267_r0 v10252_r0
  let c128_i32_3003_r0 : BitVec 32 := 128#32
  let v10269_r0 : BitVec 32 := Scalar.muli v10268_r0 c128_i32_3003_r0
  v10269_r0
def k0_mult62 (i : grid0.Coords) : BitVec 32 :=
  let arg0 : BitVec 32 := BitVec.ofNat 32 (i 0).val
  let c8_i32_3015_r0 : BitVec 32 := 8#32
  let v10304_r0 : BitVec 32 := Scalar.muli arg0 c8_i32_3015_r0
  let c5_i32_3016_r0 : BitVec 32 := 5#32
  let v10305_r0 : BitVec 32 := Scalar.addi v10304_r0 c5_i32_3016_r0
  let c4_i32_3017_r0 : BitVec 32 := 4#32
  let v10306_r0 : BitVec 32 := Scalar.muli v10305_r0 c4_i32_3017_r0
  let c0_i32_3019_r0 : BitVec 32 := 0#32
  let v10308_r0 : BitVec 1 := Scalar.cmpi .sgt v10306_r0 c0_i32_3019_r0
  let v10309_r0 : BitVec 32 := Scalar.extui v10308_r0
  let c0_i32_3020_r0 : BitVec 32 := 0#32
  let v10310_r0 : BitVec 1 := Scalar.cmpi .slt v10306_r0 c0_i32_3020_r0
  let v10311_r0 : BitVec 32 := Scalar.extui v10310_r0
  let v10312_r0 : BitVec 32 := Scalar.subi v10309_r0 v10311_r0
  let c128_i32_3018_r0 : BitVec 32 := 128#32
  let c0_i32_3021_r0 : BitVec 32 := 0#32
  let v10313_r0 : BitVec 1 := Scalar.cmpi .sgt c128_i32_3018_r0 c0_i32_3021_r0
  let v10314_r0 : BitVec 32 := Scalar.extui v10313_r0
  let c0_i32_3022_r0 : BitVec 32 := 0#32
  let v10315_r0 : BitVec 1 := Scalar.cmpi .slt c128_i32_3018_r0 c0_i32_3022_r0
  let v10316_r0 : BitVec 32 := Scalar.extui v10315_r0
  let v10317_r0 : BitVec 32 := Scalar.subi v10314_r0 v10316_r0
  let v10318_r0 : BitVec 1 := Scalar.cmpi .ne v10312_r0 v10317_r0
  let v10319_r0 : BitVec 32 := Scalar.remsi v10306_r0 c128_i32_3018_r0
  let c0_i32_3023_r0 : BitVec 32 := 0#32
  let v10320_r0 : BitVec 1 := Scalar.cmpi .ne v10319_r0 c0_i32_3023_r0
  let v10321_r0 : BitVec 1 := Scalar.andi v10318_r0 v10320_r0
  let v10307_r0 : BitVec 32 := Scalar.divsi v10306_r0 c128_i32_3018_r0
  let c1_i32_3024_r0 : BitVec 32 := 1#32
  let v10322_r0 : BitVec 32 := Scalar.subi v10307_r0 c1_i32_3024_r0
  let v10323_r0 : BitVec 32 := Scalar.select v10321_r0 v10322_r0 v10307_r0
  let c128_i32_3025_r0 : BitVec 32 := 128#32
  let v10324_r0 : BitVec 32 := Scalar.muli v10323_r0 c128_i32_3025_r0
  v10324_r0
def k0_mult63 (i : grid0.Coords) : BitVec 32 :=
  let arg0 : BitVec 32 := BitVec.ofNat 32 (i 0).val
  let c8_i32_3037_r0 : BitVec 32 := 8#32
  let v10359_r0 : BitVec 32 := Scalar.muli arg0 c8_i32_3037_r0
  let c6_i32_3038_r0 : BitVec 32 := 6#32
  let v10360_r0 : BitVec 32 := Scalar.addi v10359_r0 c6_i32_3038_r0
  let c4_i32_3039_r0 : BitVec 32 := 4#32
  let v10361_r0 : BitVec 32 := Scalar.muli v10360_r0 c4_i32_3039_r0
  let c0_i32_3041_r0 : BitVec 32 := 0#32
  let v10363_r0 : BitVec 1 := Scalar.cmpi .sgt v10361_r0 c0_i32_3041_r0
  let v10364_r0 : BitVec 32 := Scalar.extui v10363_r0
  let c0_i32_3042_r0 : BitVec 32 := 0#32
  let v10365_r0 : BitVec 1 := Scalar.cmpi .slt v10361_r0 c0_i32_3042_r0
  let v10366_r0 : BitVec 32 := Scalar.extui v10365_r0
  let v10367_r0 : BitVec 32 := Scalar.subi v10364_r0 v10366_r0
  let c128_i32_3040_r0 : BitVec 32 := 128#32
  let c0_i32_3043_r0 : BitVec 32 := 0#32
  let v10368_r0 : BitVec 1 := Scalar.cmpi .sgt c128_i32_3040_r0 c0_i32_3043_r0
  let v10369_r0 : BitVec 32 := Scalar.extui v10368_r0
  let c0_i32_3044_r0 : BitVec 32 := 0#32
  let v10370_r0 : BitVec 1 := Scalar.cmpi .slt c128_i32_3040_r0 c0_i32_3044_r0
  let v10371_r0 : BitVec 32 := Scalar.extui v10370_r0
  let v10372_r0 : BitVec 32 := Scalar.subi v10369_r0 v10371_r0
  let v10373_r0 : BitVec 1 := Scalar.cmpi .ne v10367_r0 v10372_r0
  let v10374_r0 : BitVec 32 := Scalar.remsi v10361_r0 c128_i32_3040_r0
  let c0_i32_3045_r0 : BitVec 32 := 0#32
  let v10375_r0 : BitVec 1 := Scalar.cmpi .ne v10374_r0 c0_i32_3045_r0
  let v10376_r0 : BitVec 1 := Scalar.andi v10373_r0 v10375_r0
  let v10362_r0 : BitVec 32 := Scalar.divsi v10361_r0 c128_i32_3040_r0
  let c1_i32_3046_r0 : BitVec 32 := 1#32
  let v10377_r0 : BitVec 32 := Scalar.subi v10362_r0 c1_i32_3046_r0
  let v10378_r0 : BitVec 32 := Scalar.select v10376_r0 v10377_r0 v10362_r0
  let c128_i32_3047_r0 : BitVec 32 := 128#32
  let v10379_r0 : BitVec 32 := Scalar.muli v10378_r0 c128_i32_3047_r0
  v10379_r0
def k0_mult64 (i : grid0.Coords) : BitVec 32 :=
  let arg0 : BitVec 32 := BitVec.ofNat 32 (i 0).val
  let c8_i32_3059_r0 : BitVec 32 := 8#32
  let v10414_r0 : BitVec 32 := Scalar.muli arg0 c8_i32_3059_r0
  let c7_i32_3060_r0 : BitVec 32 := 7#32
  let v10415_r0 : BitVec 32 := Scalar.addi v10414_r0 c7_i32_3060_r0
  let c4_i32_3061_r0 : BitVec 32 := 4#32
  let v10416_r0 : BitVec 32 := Scalar.muli v10415_r0 c4_i32_3061_r0
  let c0_i32_3063_r0 : BitVec 32 := 0#32
  let v10418_r0 : BitVec 1 := Scalar.cmpi .sgt v10416_r0 c0_i32_3063_r0
  let v10419_r0 : BitVec 32 := Scalar.extui v10418_r0
  let c0_i32_3064_r0 : BitVec 32 := 0#32
  let v10420_r0 : BitVec 1 := Scalar.cmpi .slt v10416_r0 c0_i32_3064_r0
  let v10421_r0 : BitVec 32 := Scalar.extui v10420_r0
  let v10422_r0 : BitVec 32 := Scalar.subi v10419_r0 v10421_r0
  let c128_i32_3062_r0 : BitVec 32 := 128#32
  let c0_i32_3065_r0 : BitVec 32 := 0#32
  let v10423_r0 : BitVec 1 := Scalar.cmpi .sgt c128_i32_3062_r0 c0_i32_3065_r0
  let v10424_r0 : BitVec 32 := Scalar.extui v10423_r0
  let c0_i32_3066_r0 : BitVec 32 := 0#32
  let v10425_r0 : BitVec 1 := Scalar.cmpi .slt c128_i32_3062_r0 c0_i32_3066_r0
  let v10426_r0 : BitVec 32 := Scalar.extui v10425_r0
  let v10427_r0 : BitVec 32 := Scalar.subi v10424_r0 v10426_r0
  let v10428_r0 : BitVec 1 := Scalar.cmpi .ne v10422_r0 v10427_r0
  let v10429_r0 : BitVec 32 := Scalar.remsi v10416_r0 c128_i32_3062_r0
  let c0_i32_3067_r0 : BitVec 32 := 0#32
  let v10430_r0 : BitVec 1 := Scalar.cmpi .ne v10429_r0 c0_i32_3067_r0
  let v10431_r0 : BitVec 1 := Scalar.andi v10428_r0 v10430_r0
  let v10417_r0 : BitVec 32 := Scalar.divsi v10416_r0 c128_i32_3062_r0
  let c1_i32_3068_r0 : BitVec 32 := 1#32
  let v10432_r0 : BitVec 32 := Scalar.subi v10417_r0 c1_i32_3068_r0
  let v10433_r0 : BitVec 32 := Scalar.select v10431_r0 v10432_r0 v10417_r0
  let c128_i32_3069_r0 : BitVec 32 := 128#32
  let v10434_r0 : BitVec 32 := Scalar.muli v10433_r0 c128_i32_3069_r0
  v10434_r0
def k0_mult65 (i : grid0.Coords) : BitVec 32 :=
  let arg0 : BitVec 32 := BitVec.ofNat 32 (i 0).val
  let c8_i32_3097_r0 : BitVec 32 := 8#32
  let v10506_r0 : BitVec 32 := Scalar.muli arg0 c8_i32_3097_r0
  let c4_i32_3098_r0 : BitVec 32 := 4#32
  let v10507_r0 : BitVec 32 := Scalar.addi v10506_r0 c4_i32_3098_r0
  let c4_i32_3099_r0 : BitVec 32 := 4#32
  let v10508_r0 : BitVec 32 := Scalar.muli v10507_r0 c4_i32_3099_r0
  let c0_i32_3101_r0 : BitVec 32 := 0#32
  let v10510_r0 : BitVec 1 := Scalar.cmpi .sgt v10508_r0 c0_i32_3101_r0
  let v10511_r0 : BitVec 32 := Scalar.extui v10510_r0
  let c0_i32_3102_r0 : BitVec 32 := 0#32
  let v10512_r0 : BitVec 1 := Scalar.cmpi .slt v10508_r0 c0_i32_3102_r0
  let v10513_r0 : BitVec 32 := Scalar.extui v10512_r0
  let v10514_r0 : BitVec 32 := Scalar.subi v10511_r0 v10513_r0
  let c128_i32_3100_r0 : BitVec 32 := 128#32
  let c0_i32_3103_r0 : BitVec 32 := 0#32
  let v10515_r0 : BitVec 1 := Scalar.cmpi .sgt c128_i32_3100_r0 c0_i32_3103_r0
  let v10516_r0 : BitVec 32 := Scalar.extui v10515_r0
  let c0_i32_3104_r0 : BitVec 32 := 0#32
  let v10517_r0 : BitVec 1 := Scalar.cmpi .slt c128_i32_3100_r0 c0_i32_3104_r0
  let v10518_r0 : BitVec 32 := Scalar.extui v10517_r0
  let v10519_r0 : BitVec 32 := Scalar.subi v10516_r0 v10518_r0
  let v10520_r0 : BitVec 1 := Scalar.cmpi .ne v10514_r0 v10519_r0
  let v10521_r0 : BitVec 32 := Scalar.remsi v10508_r0 c128_i32_3100_r0
  let c0_i32_3105_r0 : BitVec 32 := 0#32
  let v10522_r0 : BitVec 1 := Scalar.cmpi .ne v10521_r0 c0_i32_3105_r0
  let v10523_r0 : BitVec 1 := Scalar.andi v10520_r0 v10522_r0
  let v10509_r0 : BitVec 32 := Scalar.divsi v10508_r0 c128_i32_3100_r0
  let c1_i32_3106_r0 : BitVec 32 := 1#32
  let v10524_r0 : BitVec 32 := Scalar.subi v10509_r0 c1_i32_3106_r0
  let v10525_r0 : BitVec 32 := Scalar.select v10523_r0 v10524_r0 v10509_r0
  let c128_i32_3107_r0 : BitVec 32 := 128#32
  let v10526_r0 : BitVec 32 := Scalar.muli v10525_r0 c128_i32_3107_r0
  v10526_r0
def k0_mult66 (i : grid0.Coords) : BitVec 32 :=
  let arg0 : BitVec 32 := BitVec.ofNat 32 (i 0).val
  let c8_i32_3119_r0 : BitVec 32 := 8#32
  let v10561_r0 : BitVec 32 := Scalar.muli arg0 c8_i32_3119_r0
  let c5_i32_3120_r0 : BitVec 32 := 5#32
  let v10562_r0 : BitVec 32 := Scalar.addi v10561_r0 c5_i32_3120_r0
  let c4_i32_3121_r0 : BitVec 32 := 4#32
  let v10563_r0 : BitVec 32 := Scalar.muli v10562_r0 c4_i32_3121_r0
  let c0_i32_3123_r0 : BitVec 32 := 0#32
  let v10565_r0 : BitVec 1 := Scalar.cmpi .sgt v10563_r0 c0_i32_3123_r0
  let v10566_r0 : BitVec 32 := Scalar.extui v10565_r0
  let c0_i32_3124_r0 : BitVec 32 := 0#32
  let v10567_r0 : BitVec 1 := Scalar.cmpi .slt v10563_r0 c0_i32_3124_r0
  let v10568_r0 : BitVec 32 := Scalar.extui v10567_r0
  let v10569_r0 : BitVec 32 := Scalar.subi v10566_r0 v10568_r0
  let c128_i32_3122_r0 : BitVec 32 := 128#32
  let c0_i32_3125_r0 : BitVec 32 := 0#32
  let v10570_r0 : BitVec 1 := Scalar.cmpi .sgt c128_i32_3122_r0 c0_i32_3125_r0
  let v10571_r0 : BitVec 32 := Scalar.extui v10570_r0
  let c0_i32_3126_r0 : BitVec 32 := 0#32
  let v10572_r0 : BitVec 1 := Scalar.cmpi .slt c128_i32_3122_r0 c0_i32_3126_r0
  let v10573_r0 : BitVec 32 := Scalar.extui v10572_r0
  let v10574_r0 : BitVec 32 := Scalar.subi v10571_r0 v10573_r0
  let v10575_r0 : BitVec 1 := Scalar.cmpi .ne v10569_r0 v10574_r0
  let v10576_r0 : BitVec 32 := Scalar.remsi v10563_r0 c128_i32_3122_r0
  let c0_i32_3127_r0 : BitVec 32 := 0#32
  let v10577_r0 : BitVec 1 := Scalar.cmpi .ne v10576_r0 c0_i32_3127_r0
  let v10578_r0 : BitVec 1 := Scalar.andi v10575_r0 v10577_r0
  let v10564_r0 : BitVec 32 := Scalar.divsi v10563_r0 c128_i32_3122_r0
  let c1_i32_3128_r0 : BitVec 32 := 1#32
  let v10579_r0 : BitVec 32 := Scalar.subi v10564_r0 c1_i32_3128_r0
  let v10580_r0 : BitVec 32 := Scalar.select v10578_r0 v10579_r0 v10564_r0
  let c128_i32_3129_r0 : BitVec 32 := 128#32
  let v10581_r0 : BitVec 32 := Scalar.muli v10580_r0 c128_i32_3129_r0
  v10581_r0
def k0_mult67 (i : grid0.Coords) : BitVec 32 :=
  let arg0 : BitVec 32 := BitVec.ofNat 32 (i 0).val
  let c8_i32_3141_r0 : BitVec 32 := 8#32
  let v10616_r0 : BitVec 32 := Scalar.muli arg0 c8_i32_3141_r0
  let c6_i32_3142_r0 : BitVec 32 := 6#32
  let v10617_r0 : BitVec 32 := Scalar.addi v10616_r0 c6_i32_3142_r0
  let c4_i32_3143_r0 : BitVec 32 := 4#32
  let v10618_r0 : BitVec 32 := Scalar.muli v10617_r0 c4_i32_3143_r0
  let c0_i32_3145_r0 : BitVec 32 := 0#32
  let v10620_r0 : BitVec 1 := Scalar.cmpi .sgt v10618_r0 c0_i32_3145_r0
  let v10621_r0 : BitVec 32 := Scalar.extui v10620_r0
  let c0_i32_3146_r0 : BitVec 32 := 0#32
  let v10622_r0 : BitVec 1 := Scalar.cmpi .slt v10618_r0 c0_i32_3146_r0
  let v10623_r0 : BitVec 32 := Scalar.extui v10622_r0
  let v10624_r0 : BitVec 32 := Scalar.subi v10621_r0 v10623_r0
  let c128_i32_3144_r0 : BitVec 32 := 128#32
  let c0_i32_3147_r0 : BitVec 32 := 0#32
  let v10625_r0 : BitVec 1 := Scalar.cmpi .sgt c128_i32_3144_r0 c0_i32_3147_r0
  let v10626_r0 : BitVec 32 := Scalar.extui v10625_r0
  let c0_i32_3148_r0 : BitVec 32 := 0#32
  let v10627_r0 : BitVec 1 := Scalar.cmpi .slt c128_i32_3144_r0 c0_i32_3148_r0
  let v10628_r0 : BitVec 32 := Scalar.extui v10627_r0
  let v10629_r0 : BitVec 32 := Scalar.subi v10626_r0 v10628_r0
  let v10630_r0 : BitVec 1 := Scalar.cmpi .ne v10624_r0 v10629_r0
  let v10631_r0 : BitVec 32 := Scalar.remsi v10618_r0 c128_i32_3144_r0
  let c0_i32_3149_r0 : BitVec 32 := 0#32
  let v10632_r0 : BitVec 1 := Scalar.cmpi .ne v10631_r0 c0_i32_3149_r0
  let v10633_r0 : BitVec 1 := Scalar.andi v10630_r0 v10632_r0
  let v10619_r0 : BitVec 32 := Scalar.divsi v10618_r0 c128_i32_3144_r0
  let c1_i32_3150_r0 : BitVec 32 := 1#32
  let v10634_r0 : BitVec 32 := Scalar.subi v10619_r0 c1_i32_3150_r0
  let v10635_r0 : BitVec 32 := Scalar.select v10633_r0 v10634_r0 v10619_r0
  let c128_i32_3151_r0 : BitVec 32 := 128#32
  let v10636_r0 : BitVec 32 := Scalar.muli v10635_r0 c128_i32_3151_r0
  v10636_r0
def k0_mult68 (i : grid0.Coords) : BitVec 32 :=
  let arg0 : BitVec 32 := BitVec.ofNat 32 (i 0).val
  let c8_i32_3163_r0 : BitVec 32 := 8#32
  let v10671_r0 : BitVec 32 := Scalar.muli arg0 c8_i32_3163_r0
  let c7_i32_3164_r0 : BitVec 32 := 7#32
  let v10672_r0 : BitVec 32 := Scalar.addi v10671_r0 c7_i32_3164_r0
  let c4_i32_3165_r0 : BitVec 32 := 4#32
  let v10673_r0 : BitVec 32 := Scalar.muli v10672_r0 c4_i32_3165_r0
  let c0_i32_3167_r0 : BitVec 32 := 0#32
  let v10675_r0 : BitVec 1 := Scalar.cmpi .sgt v10673_r0 c0_i32_3167_r0
  let v10676_r0 : BitVec 32 := Scalar.extui v10675_r0
  let c0_i32_3168_r0 : BitVec 32 := 0#32
  let v10677_r0 : BitVec 1 := Scalar.cmpi .slt v10673_r0 c0_i32_3168_r0
  let v10678_r0 : BitVec 32 := Scalar.extui v10677_r0
  let v10679_r0 : BitVec 32 := Scalar.subi v10676_r0 v10678_r0
  let c128_i32_3166_r0 : BitVec 32 := 128#32
  let c0_i32_3169_r0 : BitVec 32 := 0#32
  let v10680_r0 : BitVec 1 := Scalar.cmpi .sgt c128_i32_3166_r0 c0_i32_3169_r0
  let v10681_r0 : BitVec 32 := Scalar.extui v10680_r0
  let c0_i32_3170_r0 : BitVec 32 := 0#32
  let v10682_r0 : BitVec 1 := Scalar.cmpi .slt c128_i32_3166_r0 c0_i32_3170_r0
  let v10683_r0 : BitVec 32 := Scalar.extui v10682_r0
  let v10684_r0 : BitVec 32 := Scalar.subi v10681_r0 v10683_r0
  let v10685_r0 : BitVec 1 := Scalar.cmpi .ne v10679_r0 v10684_r0
  let v10686_r0 : BitVec 32 := Scalar.remsi v10673_r0 c128_i32_3166_r0
  let c0_i32_3171_r0 : BitVec 32 := 0#32
  let v10687_r0 : BitVec 1 := Scalar.cmpi .ne v10686_r0 c0_i32_3171_r0
  let v10688_r0 : BitVec 1 := Scalar.andi v10685_r0 v10687_r0
  let v10674_r0 : BitVec 32 := Scalar.divsi v10673_r0 c128_i32_3166_r0
  let c1_i32_3172_r0 : BitVec 32 := 1#32
  let v10689_r0 : BitVec 32 := Scalar.subi v10674_r0 c1_i32_3172_r0
  let v10690_r0 : BitVec 32 := Scalar.select v10688_r0 v10689_r0 v10674_r0
  let c128_i32_3173_r0 : BitVec 32 := 128#32
  let v10691_r0 : BitVec 32 := Scalar.muli v10690_r0 c128_i32_3173_r0
  v10691_r0
def k0_mult69 (i : grid0.Coords) : BitVec 32 :=
  let arg0 : BitVec 32 := BitVec.ofNat 32 (i 0).val
  let c8_i32_3201_r0 : BitVec 32 := 8#32
  let v10763_r0 : BitVec 32 := Scalar.muli arg0 c8_i32_3201_r0
  let c4_i32_3202_r0 : BitVec 32 := 4#32
  let v10764_r0 : BitVec 32 := Scalar.addi v10763_r0 c4_i32_3202_r0
  let c4_i32_3203_r0 : BitVec 32 := 4#32
  let v10765_r0 : BitVec 32 := Scalar.muli v10764_r0 c4_i32_3203_r0
  let c0_i32_3205_r0 : BitVec 32 := 0#32
  let v10767_r0 : BitVec 1 := Scalar.cmpi .sgt v10765_r0 c0_i32_3205_r0
  let v10768_r0 : BitVec 32 := Scalar.extui v10767_r0
  let c0_i32_3206_r0 : BitVec 32 := 0#32
  let v10769_r0 : BitVec 1 := Scalar.cmpi .slt v10765_r0 c0_i32_3206_r0
  let v10770_r0 : BitVec 32 := Scalar.extui v10769_r0
  let v10771_r0 : BitVec 32 := Scalar.subi v10768_r0 v10770_r0
  let c128_i32_3204_r0 : BitVec 32 := 128#32
  let c0_i32_3207_r0 : BitVec 32 := 0#32
  let v10772_r0 : BitVec 1 := Scalar.cmpi .sgt c128_i32_3204_r0 c0_i32_3207_r0
  let v10773_r0 : BitVec 32 := Scalar.extui v10772_r0
  let c0_i32_3208_r0 : BitVec 32 := 0#32
  let v10774_r0 : BitVec 1 := Scalar.cmpi .slt c128_i32_3204_r0 c0_i32_3208_r0
  let v10775_r0 : BitVec 32 := Scalar.extui v10774_r0
  let v10776_r0 : BitVec 32 := Scalar.subi v10773_r0 v10775_r0
  let v10777_r0 : BitVec 1 := Scalar.cmpi .ne v10771_r0 v10776_r0
  let v10778_r0 : BitVec 32 := Scalar.remsi v10765_r0 c128_i32_3204_r0
  let c0_i32_3209_r0 : BitVec 32 := 0#32
  let v10779_r0 : BitVec 1 := Scalar.cmpi .ne v10778_r0 c0_i32_3209_r0
  let v10780_r0 : BitVec 1 := Scalar.andi v10777_r0 v10779_r0
  let v10766_r0 : BitVec 32 := Scalar.divsi v10765_r0 c128_i32_3204_r0
  let c1_i32_3210_r0 : BitVec 32 := 1#32
  let v10781_r0 : BitVec 32 := Scalar.subi v10766_r0 c1_i32_3210_r0
  let v10782_r0 : BitVec 32 := Scalar.select v10780_r0 v10781_r0 v10766_r0
  let c128_i32_3211_r0 : BitVec 32 := 128#32
  let v10783_r0 : BitVec 32 := Scalar.muli v10782_r0 c128_i32_3211_r0
  v10783_r0
def k0_mult70 (i : grid0.Coords) : BitVec 32 :=
  let arg0 : BitVec 32 := BitVec.ofNat 32 (i 0).val
  let c8_i32_3223_r0 : BitVec 32 := 8#32
  let v10818_r0 : BitVec 32 := Scalar.muli arg0 c8_i32_3223_r0
  let c5_i32_3224_r0 : BitVec 32 := 5#32
  let v10819_r0 : BitVec 32 := Scalar.addi v10818_r0 c5_i32_3224_r0
  let c4_i32_3225_r0 : BitVec 32 := 4#32
  let v10820_r0 : BitVec 32 := Scalar.muli v10819_r0 c4_i32_3225_r0
  let c0_i32_3227_r0 : BitVec 32 := 0#32
  let v10822_r0 : BitVec 1 := Scalar.cmpi .sgt v10820_r0 c0_i32_3227_r0
  let v10823_r0 : BitVec 32 := Scalar.extui v10822_r0
  let c0_i32_3228_r0 : BitVec 32 := 0#32
  let v10824_r0 : BitVec 1 := Scalar.cmpi .slt v10820_r0 c0_i32_3228_r0
  let v10825_r0 : BitVec 32 := Scalar.extui v10824_r0
  let v10826_r0 : BitVec 32 := Scalar.subi v10823_r0 v10825_r0
  let c128_i32_3226_r0 : BitVec 32 := 128#32
  let c0_i32_3229_r0 : BitVec 32 := 0#32
  let v10827_r0 : BitVec 1 := Scalar.cmpi .sgt c128_i32_3226_r0 c0_i32_3229_r0
  let v10828_r0 : BitVec 32 := Scalar.extui v10827_r0
  let c0_i32_3230_r0 : BitVec 32 := 0#32
  let v10829_r0 : BitVec 1 := Scalar.cmpi .slt c128_i32_3226_r0 c0_i32_3230_r0
  let v10830_r0 : BitVec 32 := Scalar.extui v10829_r0
  let v10831_r0 : BitVec 32 := Scalar.subi v10828_r0 v10830_r0
  let v10832_r0 : BitVec 1 := Scalar.cmpi .ne v10826_r0 v10831_r0
  let v10833_r0 : BitVec 32 := Scalar.remsi v10820_r0 c128_i32_3226_r0
  let c0_i32_3231_r0 : BitVec 32 := 0#32
  let v10834_r0 : BitVec 1 := Scalar.cmpi .ne v10833_r0 c0_i32_3231_r0
  let v10835_r0 : BitVec 1 := Scalar.andi v10832_r0 v10834_r0
  let v10821_r0 : BitVec 32 := Scalar.divsi v10820_r0 c128_i32_3226_r0
  let c1_i32_3232_r0 : BitVec 32 := 1#32
  let v10836_r0 : BitVec 32 := Scalar.subi v10821_r0 c1_i32_3232_r0
  let v10837_r0 : BitVec 32 := Scalar.select v10835_r0 v10836_r0 v10821_r0
  let c128_i32_3233_r0 : BitVec 32 := 128#32
  let v10838_r0 : BitVec 32 := Scalar.muli v10837_r0 c128_i32_3233_r0
  v10838_r0
def k0_mult71 (i : grid0.Coords) : BitVec 32 :=
  let arg0 : BitVec 32 := BitVec.ofNat 32 (i 0).val
  let c8_i32_3245_r0 : BitVec 32 := 8#32
  let v10873_r0 : BitVec 32 := Scalar.muli arg0 c8_i32_3245_r0
  let c6_i32_3246_r0 : BitVec 32 := 6#32
  let v10874_r0 : BitVec 32 := Scalar.addi v10873_r0 c6_i32_3246_r0
  let c4_i32_3247_r0 : BitVec 32 := 4#32
  let v10875_r0 : BitVec 32 := Scalar.muli v10874_r0 c4_i32_3247_r0
  let c0_i32_3249_r0 : BitVec 32 := 0#32
  let v10877_r0 : BitVec 1 := Scalar.cmpi .sgt v10875_r0 c0_i32_3249_r0
  let v10878_r0 : BitVec 32 := Scalar.extui v10877_r0
  let c0_i32_3250_r0 : BitVec 32 := 0#32
  let v10879_r0 : BitVec 1 := Scalar.cmpi .slt v10875_r0 c0_i32_3250_r0
  let v10880_r0 : BitVec 32 := Scalar.extui v10879_r0
  let v10881_r0 : BitVec 32 := Scalar.subi v10878_r0 v10880_r0
  let c128_i32_3248_r0 : BitVec 32 := 128#32
  let c0_i32_3251_r0 : BitVec 32 := 0#32
  let v10882_r0 : BitVec 1 := Scalar.cmpi .sgt c128_i32_3248_r0 c0_i32_3251_r0
  let v10883_r0 : BitVec 32 := Scalar.extui v10882_r0
  let c0_i32_3252_r0 : BitVec 32 := 0#32
  let v10884_r0 : BitVec 1 := Scalar.cmpi .slt c128_i32_3248_r0 c0_i32_3252_r0
  let v10885_r0 : BitVec 32 := Scalar.extui v10884_r0
  let v10886_r0 : BitVec 32 := Scalar.subi v10883_r0 v10885_r0
  let v10887_r0 : BitVec 1 := Scalar.cmpi .ne v10881_r0 v10886_r0
  let v10888_r0 : BitVec 32 := Scalar.remsi v10875_r0 c128_i32_3248_r0
  let c0_i32_3253_r0 : BitVec 32 := 0#32
  let v10889_r0 : BitVec 1 := Scalar.cmpi .ne v10888_r0 c0_i32_3253_r0
  let v10890_r0 : BitVec 1 := Scalar.andi v10887_r0 v10889_r0
  let v10876_r0 : BitVec 32 := Scalar.divsi v10875_r0 c128_i32_3248_r0
  let c1_i32_3254_r0 : BitVec 32 := 1#32
  let v10891_r0 : BitVec 32 := Scalar.subi v10876_r0 c1_i32_3254_r0
  let v10892_r0 : BitVec 32 := Scalar.select v10890_r0 v10891_r0 v10876_r0
  let c128_i32_3255_r0 : BitVec 32 := 128#32
  let v10893_r0 : BitVec 32 := Scalar.muli v10892_r0 c128_i32_3255_r0
  v10893_r0
def k0_mult72 (i : grid0.Coords) : BitVec 32 :=
  let arg0 : BitVec 32 := BitVec.ofNat 32 (i 0).val
  let c8_i32_3267_r0 : BitVec 32 := 8#32
  let v10928_r0 : BitVec 32 := Scalar.muli arg0 c8_i32_3267_r0
  let c7_i32_3268_r0 : BitVec 32 := 7#32
  let v10929_r0 : BitVec 32 := Scalar.addi v10928_r0 c7_i32_3268_r0
  let c4_i32_3269_r0 : BitVec 32 := 4#32
  let v10930_r0 : BitVec 32 := Scalar.muli v10929_r0 c4_i32_3269_r0
  let c0_i32_3271_r0 : BitVec 32 := 0#32
  let v10932_r0 : BitVec 1 := Scalar.cmpi .sgt v10930_r0 c0_i32_3271_r0
  let v10933_r0 : BitVec 32 := Scalar.extui v10932_r0
  let c0_i32_3272_r0 : BitVec 32 := 0#32
  let v10934_r0 : BitVec 1 := Scalar.cmpi .slt v10930_r0 c0_i32_3272_r0
  let v10935_r0 : BitVec 32 := Scalar.extui v10934_r0
  let v10936_r0 : BitVec 32 := Scalar.subi v10933_r0 v10935_r0
  let c128_i32_3270_r0 : BitVec 32 := 128#32
  let c0_i32_3273_r0 : BitVec 32 := 0#32
  let v10937_r0 : BitVec 1 := Scalar.cmpi .sgt c128_i32_3270_r0 c0_i32_3273_r0
  let v10938_r0 : BitVec 32 := Scalar.extui v10937_r0
  let c0_i32_3274_r0 : BitVec 32 := 0#32
  let v10939_r0 : BitVec 1 := Scalar.cmpi .slt c128_i32_3270_r0 c0_i32_3274_r0
  let v10940_r0 : BitVec 32 := Scalar.extui v10939_r0
  let v10941_r0 : BitVec 32 := Scalar.subi v10938_r0 v10940_r0
  let v10942_r0 : BitVec 1 := Scalar.cmpi .ne v10936_r0 v10941_r0
  let v10943_r0 : BitVec 32 := Scalar.remsi v10930_r0 c128_i32_3270_r0
  let c0_i32_3275_r0 : BitVec 32 := 0#32
  let v10944_r0 : BitVec 1 := Scalar.cmpi .ne v10943_r0 c0_i32_3275_r0
  let v10945_r0 : BitVec 1 := Scalar.andi v10942_r0 v10944_r0
  let v10931_r0 : BitVec 32 := Scalar.divsi v10930_r0 c128_i32_3270_r0
  let c1_i32_3276_r0 : BitVec 32 := 1#32
  let v10946_r0 : BitVec 32 := Scalar.subi v10931_r0 c1_i32_3276_r0
  let v10947_r0 : BitVec 32 := Scalar.select v10945_r0 v10946_r0 v10931_r0
  let c128_i32_3277_r0 : BitVec 32 := 128#32
  let v10948_r0 : BitVec 32 := Scalar.muli v10947_r0 c128_i32_3277_r0
  v10948_r0
def k0_mult73 (i : grid0.Coords) : BitVec 32 :=
  let arg0 : BitVec 32 := BitVec.ofNat 32 (i 0).val
  let c8_i32_3305_r0 : BitVec 32 := 8#32
  let v11020_r0 : BitVec 32 := Scalar.muli arg0 c8_i32_3305_r0
  let c4_i32_3306_r0 : BitVec 32 := 4#32
  let v11021_r0 : BitVec 32 := Scalar.addi v11020_r0 c4_i32_3306_r0
  let c4_i32_3307_r0 : BitVec 32 := 4#32
  let v11022_r0 : BitVec 32 := Scalar.muli v11021_r0 c4_i32_3307_r0
  let c0_i32_3309_r0 : BitVec 32 := 0#32
  let v11024_r0 : BitVec 1 := Scalar.cmpi .sgt v11022_r0 c0_i32_3309_r0
  let v11025_r0 : BitVec 32 := Scalar.extui v11024_r0
  let c0_i32_3310_r0 : BitVec 32 := 0#32
  let v11026_r0 : BitVec 1 := Scalar.cmpi .slt v11022_r0 c0_i32_3310_r0
  let v11027_r0 : BitVec 32 := Scalar.extui v11026_r0
  let v11028_r0 : BitVec 32 := Scalar.subi v11025_r0 v11027_r0
  let c128_i32_3308_r0 : BitVec 32 := 128#32
  let c0_i32_3311_r0 : BitVec 32 := 0#32
  let v11029_r0 : BitVec 1 := Scalar.cmpi .sgt c128_i32_3308_r0 c0_i32_3311_r0
  let v11030_r0 : BitVec 32 := Scalar.extui v11029_r0
  let c0_i32_3312_r0 : BitVec 32 := 0#32
  let v11031_r0 : BitVec 1 := Scalar.cmpi .slt c128_i32_3308_r0 c0_i32_3312_r0
  let v11032_r0 : BitVec 32 := Scalar.extui v11031_r0
  let v11033_r0 : BitVec 32 := Scalar.subi v11030_r0 v11032_r0
  let v11034_r0 : BitVec 1 := Scalar.cmpi .ne v11028_r0 v11033_r0
  let v11035_r0 : BitVec 32 := Scalar.remsi v11022_r0 c128_i32_3308_r0
  let c0_i32_3313_r0 : BitVec 32 := 0#32
  let v11036_r0 : BitVec 1 := Scalar.cmpi .ne v11035_r0 c0_i32_3313_r0
  let v11037_r0 : BitVec 1 := Scalar.andi v11034_r0 v11036_r0
  let v11023_r0 : BitVec 32 := Scalar.divsi v11022_r0 c128_i32_3308_r0
  let c1_i32_3314_r0 : BitVec 32 := 1#32
  let v11038_r0 : BitVec 32 := Scalar.subi v11023_r0 c1_i32_3314_r0
  let v11039_r0 : BitVec 32 := Scalar.select v11037_r0 v11038_r0 v11023_r0
  let c128_i32_3315_r0 : BitVec 32 := 128#32
  let v11040_r0 : BitVec 32 := Scalar.muli v11039_r0 c128_i32_3315_r0
  v11040_r0
def k0_mult74 (i : grid0.Coords) : BitVec 32 :=
  let arg0 : BitVec 32 := BitVec.ofNat 32 (i 0).val
  let c8_i32_3327_r0 : BitVec 32 := 8#32
  let v11075_r0 : BitVec 32 := Scalar.muli arg0 c8_i32_3327_r0
  let c5_i32_3328_r0 : BitVec 32 := 5#32
  let v11076_r0 : BitVec 32 := Scalar.addi v11075_r0 c5_i32_3328_r0
  let c4_i32_3329_r0 : BitVec 32 := 4#32
  let v11077_r0 : BitVec 32 := Scalar.muli v11076_r0 c4_i32_3329_r0
  let c0_i32_3331_r0 : BitVec 32 := 0#32
  let v11079_r0 : BitVec 1 := Scalar.cmpi .sgt v11077_r0 c0_i32_3331_r0
  let v11080_r0 : BitVec 32 := Scalar.extui v11079_r0
  let c0_i32_3332_r0 : BitVec 32 := 0#32
  let v11081_r0 : BitVec 1 := Scalar.cmpi .slt v11077_r0 c0_i32_3332_r0
  let v11082_r0 : BitVec 32 := Scalar.extui v11081_r0
  let v11083_r0 : BitVec 32 := Scalar.subi v11080_r0 v11082_r0
  let c128_i32_3330_r0 : BitVec 32 := 128#32
  let c0_i32_3333_r0 : BitVec 32 := 0#32
  let v11084_r0 : BitVec 1 := Scalar.cmpi .sgt c128_i32_3330_r0 c0_i32_3333_r0
  let v11085_r0 : BitVec 32 := Scalar.extui v11084_r0
  let c0_i32_3334_r0 : BitVec 32 := 0#32
  let v11086_r0 : BitVec 1 := Scalar.cmpi .slt c128_i32_3330_r0 c0_i32_3334_r0
  let v11087_r0 : BitVec 32 := Scalar.extui v11086_r0
  let v11088_r0 : BitVec 32 := Scalar.subi v11085_r0 v11087_r0
  let v11089_r0 : BitVec 1 := Scalar.cmpi .ne v11083_r0 v11088_r0
  let v11090_r0 : BitVec 32 := Scalar.remsi v11077_r0 c128_i32_3330_r0
  let c0_i32_3335_r0 : BitVec 32 := 0#32
  let v11091_r0 : BitVec 1 := Scalar.cmpi .ne v11090_r0 c0_i32_3335_r0
  let v11092_r0 : BitVec 1 := Scalar.andi v11089_r0 v11091_r0
  let v11078_r0 : BitVec 32 := Scalar.divsi v11077_r0 c128_i32_3330_r0
  let c1_i32_3336_r0 : BitVec 32 := 1#32
  let v11093_r0 : BitVec 32 := Scalar.subi v11078_r0 c1_i32_3336_r0
  let v11094_r0 : BitVec 32 := Scalar.select v11092_r0 v11093_r0 v11078_r0
  let c128_i32_3337_r0 : BitVec 32 := 128#32
  let v11095_r0 : BitVec 32 := Scalar.muli v11094_r0 c128_i32_3337_r0
  v11095_r0
def k0_mult75 (i : grid0.Coords) : BitVec 32 :=
  let arg0 : BitVec 32 := BitVec.ofNat 32 (i 0).val
  let c8_i32_3349_r0 : BitVec 32 := 8#32
  let v11130_r0 : BitVec 32 := Scalar.muli arg0 c8_i32_3349_r0
  let c6_i32_3350_r0 : BitVec 32 := 6#32
  let v11131_r0 : BitVec 32 := Scalar.addi v11130_r0 c6_i32_3350_r0
  let c4_i32_3351_r0 : BitVec 32 := 4#32
  let v11132_r0 : BitVec 32 := Scalar.muli v11131_r0 c4_i32_3351_r0
  let c0_i32_3353_r0 : BitVec 32 := 0#32
  let v11134_r0 : BitVec 1 := Scalar.cmpi .sgt v11132_r0 c0_i32_3353_r0
  let v11135_r0 : BitVec 32 := Scalar.extui v11134_r0
  let c0_i32_3354_r0 : BitVec 32 := 0#32
  let v11136_r0 : BitVec 1 := Scalar.cmpi .slt v11132_r0 c0_i32_3354_r0
  let v11137_r0 : BitVec 32 := Scalar.extui v11136_r0
  let v11138_r0 : BitVec 32 := Scalar.subi v11135_r0 v11137_r0
  let c128_i32_3352_r0 : BitVec 32 := 128#32
  let c0_i32_3355_r0 : BitVec 32 := 0#32
  let v11139_r0 : BitVec 1 := Scalar.cmpi .sgt c128_i32_3352_r0 c0_i32_3355_r0
  let v11140_r0 : BitVec 32 := Scalar.extui v11139_r0
  let c0_i32_3356_r0 : BitVec 32 := 0#32
  let v11141_r0 : BitVec 1 := Scalar.cmpi .slt c128_i32_3352_r0 c0_i32_3356_r0
  let v11142_r0 : BitVec 32 := Scalar.extui v11141_r0
  let v11143_r0 : BitVec 32 := Scalar.subi v11140_r0 v11142_r0
  let v11144_r0 : BitVec 1 := Scalar.cmpi .ne v11138_r0 v11143_r0
  let v11145_r0 : BitVec 32 := Scalar.remsi v11132_r0 c128_i32_3352_r0
  let c0_i32_3357_r0 : BitVec 32 := 0#32
  let v11146_r0 : BitVec 1 := Scalar.cmpi .ne v11145_r0 c0_i32_3357_r0
  let v11147_r0 : BitVec 1 := Scalar.andi v11144_r0 v11146_r0
  let v11133_r0 : BitVec 32 := Scalar.divsi v11132_r0 c128_i32_3352_r0
  let c1_i32_3358_r0 : BitVec 32 := 1#32
  let v11148_r0 : BitVec 32 := Scalar.subi v11133_r0 c1_i32_3358_r0
  let v11149_r0 : BitVec 32 := Scalar.select v11147_r0 v11148_r0 v11133_r0
  let c128_i32_3359_r0 : BitVec 32 := 128#32
  let v11150_r0 : BitVec 32 := Scalar.muli v11149_r0 c128_i32_3359_r0
  v11150_r0
def k0_mult76 (i : grid0.Coords) : BitVec 32 :=
  let arg0 : BitVec 32 := BitVec.ofNat 32 (i 0).val
  let c8_i32_3371_r0 : BitVec 32 := 8#32
  let v11185_r0 : BitVec 32 := Scalar.muli arg0 c8_i32_3371_r0
  let c7_i32_3372_r0 : BitVec 32 := 7#32
  let v11186_r0 : BitVec 32 := Scalar.addi v11185_r0 c7_i32_3372_r0
  let c4_i32_3373_r0 : BitVec 32 := 4#32
  let v11187_r0 : BitVec 32 := Scalar.muli v11186_r0 c4_i32_3373_r0
  let c0_i32_3375_r0 : BitVec 32 := 0#32
  let v11189_r0 : BitVec 1 := Scalar.cmpi .sgt v11187_r0 c0_i32_3375_r0
  let v11190_r0 : BitVec 32 := Scalar.extui v11189_r0
  let c0_i32_3376_r0 : BitVec 32 := 0#32
  let v11191_r0 : BitVec 1 := Scalar.cmpi .slt v11187_r0 c0_i32_3376_r0
  let v11192_r0 : BitVec 32 := Scalar.extui v11191_r0
  let v11193_r0 : BitVec 32 := Scalar.subi v11190_r0 v11192_r0
  let c128_i32_3374_r0 : BitVec 32 := 128#32
  let c0_i32_3377_r0 : BitVec 32 := 0#32
  let v11194_r0 : BitVec 1 := Scalar.cmpi .sgt c128_i32_3374_r0 c0_i32_3377_r0
  let v11195_r0 : BitVec 32 := Scalar.extui v11194_r0
  let c0_i32_3378_r0 : BitVec 32 := 0#32
  let v11196_r0 : BitVec 1 := Scalar.cmpi .slt c128_i32_3374_r0 c0_i32_3378_r0
  let v11197_r0 : BitVec 32 := Scalar.extui v11196_r0
  let v11198_r0 : BitVec 32 := Scalar.subi v11195_r0 v11197_r0
  let v11199_r0 : BitVec 1 := Scalar.cmpi .ne v11193_r0 v11198_r0
  let v11200_r0 : BitVec 32 := Scalar.remsi v11187_r0 c128_i32_3374_r0
  let c0_i32_3379_r0 : BitVec 32 := 0#32
  let v11201_r0 : BitVec 1 := Scalar.cmpi .ne v11200_r0 c0_i32_3379_r0
  let v11202_r0 : BitVec 1 := Scalar.andi v11199_r0 v11201_r0
  let v11188_r0 : BitVec 32 := Scalar.divsi v11187_r0 c128_i32_3374_r0
  let c1_i32_3380_r0 : BitVec 32 := 1#32
  let v11203_r0 : BitVec 32 := Scalar.subi v11188_r0 c1_i32_3380_r0
  let v11204_r0 : BitVec 32 := Scalar.select v11202_r0 v11203_r0 v11188_r0
  let c128_i32_3381_r0 : BitVec 32 := 128#32
  let v11205_r0 : BitVec 32 := Scalar.muli v11204_r0 c128_i32_3381_r0
  v11205_r0
def k0_mult77 (i : grid0.Coords) : BitVec 32 :=
  let arg0 : BitVec 32 := BitVec.ofNat 32 (i 0).val
  let c8_i32_3409_r0 : BitVec 32 := 8#32
  let v11277_r0 : BitVec 32 := Scalar.muli arg0 c8_i32_3409_r0
  let c4_i32_3410_r0 : BitVec 32 := 4#32
  let v11278_r0 : BitVec 32 := Scalar.addi v11277_r0 c4_i32_3410_r0
  let c4_i32_3411_r0 : BitVec 32 := 4#32
  let v11279_r0 : BitVec 32 := Scalar.muli v11278_r0 c4_i32_3411_r0
  let c0_i32_3413_r0 : BitVec 32 := 0#32
  let v11281_r0 : BitVec 1 := Scalar.cmpi .sgt v11279_r0 c0_i32_3413_r0
  let v11282_r0 : BitVec 32 := Scalar.extui v11281_r0
  let c0_i32_3414_r0 : BitVec 32 := 0#32
  let v11283_r0 : BitVec 1 := Scalar.cmpi .slt v11279_r0 c0_i32_3414_r0
  let v11284_r0 : BitVec 32 := Scalar.extui v11283_r0
  let v11285_r0 : BitVec 32 := Scalar.subi v11282_r0 v11284_r0
  let c128_i32_3412_r0 : BitVec 32 := 128#32
  let c0_i32_3415_r0 : BitVec 32 := 0#32
  let v11286_r0 : BitVec 1 := Scalar.cmpi .sgt c128_i32_3412_r0 c0_i32_3415_r0
  let v11287_r0 : BitVec 32 := Scalar.extui v11286_r0
  let c0_i32_3416_r0 : BitVec 32 := 0#32
  let v11288_r0 : BitVec 1 := Scalar.cmpi .slt c128_i32_3412_r0 c0_i32_3416_r0
  let v11289_r0 : BitVec 32 := Scalar.extui v11288_r0
  let v11290_r0 : BitVec 32 := Scalar.subi v11287_r0 v11289_r0
  let v11291_r0 : BitVec 1 := Scalar.cmpi .ne v11285_r0 v11290_r0
  let v11292_r0 : BitVec 32 := Scalar.remsi v11279_r0 c128_i32_3412_r0
  let c0_i32_3417_r0 : BitVec 32 := 0#32
  let v11293_r0 : BitVec 1 := Scalar.cmpi .ne v11292_r0 c0_i32_3417_r0
  let v11294_r0 : BitVec 1 := Scalar.andi v11291_r0 v11293_r0
  let v11280_r0 : BitVec 32 := Scalar.divsi v11279_r0 c128_i32_3412_r0
  let c1_i32_3418_r0 : BitVec 32 := 1#32
  let v11295_r0 : BitVec 32 := Scalar.subi v11280_r0 c1_i32_3418_r0
  let v11296_r0 : BitVec 32 := Scalar.select v11294_r0 v11295_r0 v11280_r0
  let c128_i32_3419_r0 : BitVec 32 := 128#32
  let v11297_r0 : BitVec 32 := Scalar.muli v11296_r0 c128_i32_3419_r0
  v11297_r0
def k0_mult78 (i : grid0.Coords) : BitVec 32 :=
  let arg0 : BitVec 32 := BitVec.ofNat 32 (i 0).val
  let c8_i32_3431_r0 : BitVec 32 := 8#32
  let v11332_r0 : BitVec 32 := Scalar.muli arg0 c8_i32_3431_r0
  let c5_i32_3432_r0 : BitVec 32 := 5#32
  let v11333_r0 : BitVec 32 := Scalar.addi v11332_r0 c5_i32_3432_r0
  let c4_i32_3433_r0 : BitVec 32 := 4#32
  let v11334_r0 : BitVec 32 := Scalar.muli v11333_r0 c4_i32_3433_r0
  let c0_i32_3435_r0 : BitVec 32 := 0#32
  let v11336_r0 : BitVec 1 := Scalar.cmpi .sgt v11334_r0 c0_i32_3435_r0
  let v11337_r0 : BitVec 32 := Scalar.extui v11336_r0
  let c0_i32_3436_r0 : BitVec 32 := 0#32
  let v11338_r0 : BitVec 1 := Scalar.cmpi .slt v11334_r0 c0_i32_3436_r0
  let v11339_r0 : BitVec 32 := Scalar.extui v11338_r0
  let v11340_r0 : BitVec 32 := Scalar.subi v11337_r0 v11339_r0
  let c128_i32_3434_r0 : BitVec 32 := 128#32
  let c0_i32_3437_r0 : BitVec 32 := 0#32
  let v11341_r0 : BitVec 1 := Scalar.cmpi .sgt c128_i32_3434_r0 c0_i32_3437_r0
  let v11342_r0 : BitVec 32 := Scalar.extui v11341_r0
  let c0_i32_3438_r0 : BitVec 32 := 0#32
  let v11343_r0 : BitVec 1 := Scalar.cmpi .slt c128_i32_3434_r0 c0_i32_3438_r0
  let v11344_r0 : BitVec 32 := Scalar.extui v11343_r0
  let v11345_r0 : BitVec 32 := Scalar.subi v11342_r0 v11344_r0
  let v11346_r0 : BitVec 1 := Scalar.cmpi .ne v11340_r0 v11345_r0
  let v11347_r0 : BitVec 32 := Scalar.remsi v11334_r0 c128_i32_3434_r0
  let c0_i32_3439_r0 : BitVec 32 := 0#32
  let v11348_r0 : BitVec 1 := Scalar.cmpi .ne v11347_r0 c0_i32_3439_r0
  let v11349_r0 : BitVec 1 := Scalar.andi v11346_r0 v11348_r0
  let v11335_r0 : BitVec 32 := Scalar.divsi v11334_r0 c128_i32_3434_r0
  let c1_i32_3440_r0 : BitVec 32 := 1#32
  let v11350_r0 : BitVec 32 := Scalar.subi v11335_r0 c1_i32_3440_r0
  let v11351_r0 : BitVec 32 := Scalar.select v11349_r0 v11350_r0 v11335_r0
  let c128_i32_3441_r0 : BitVec 32 := 128#32
  let v11352_r0 : BitVec 32 := Scalar.muli v11351_r0 c128_i32_3441_r0
  v11352_r0
def k0_mult79 (i : grid0.Coords) : BitVec 32 :=
  let arg0 : BitVec 32 := BitVec.ofNat 32 (i 0).val
  let c8_i32_3453_r0 : BitVec 32 := 8#32
  let v11387_r0 : BitVec 32 := Scalar.muli arg0 c8_i32_3453_r0
  let c6_i32_3454_r0 : BitVec 32 := 6#32
  let v11388_r0 : BitVec 32 := Scalar.addi v11387_r0 c6_i32_3454_r0
  let c4_i32_3455_r0 : BitVec 32 := 4#32
  let v11389_r0 : BitVec 32 := Scalar.muli v11388_r0 c4_i32_3455_r0
  let c0_i32_3457_r0 : BitVec 32 := 0#32
  let v11391_r0 : BitVec 1 := Scalar.cmpi .sgt v11389_r0 c0_i32_3457_r0
  let v11392_r0 : BitVec 32 := Scalar.extui v11391_r0
  let c0_i32_3458_r0 : BitVec 32 := 0#32
  let v11393_r0 : BitVec 1 := Scalar.cmpi .slt v11389_r0 c0_i32_3458_r0
  let v11394_r0 : BitVec 32 := Scalar.extui v11393_r0
  let v11395_r0 : BitVec 32 := Scalar.subi v11392_r0 v11394_r0
  let c128_i32_3456_r0 : BitVec 32 := 128#32
  let c0_i32_3459_r0 : BitVec 32 := 0#32
  let v11396_r0 : BitVec 1 := Scalar.cmpi .sgt c128_i32_3456_r0 c0_i32_3459_r0
  let v11397_r0 : BitVec 32 := Scalar.extui v11396_r0
  let c0_i32_3460_r0 : BitVec 32 := 0#32
  let v11398_r0 : BitVec 1 := Scalar.cmpi .slt c128_i32_3456_r0 c0_i32_3460_r0
  let v11399_r0 : BitVec 32 := Scalar.extui v11398_r0
  let v11400_r0 : BitVec 32 := Scalar.subi v11397_r0 v11399_r0
  let v11401_r0 : BitVec 1 := Scalar.cmpi .ne v11395_r0 v11400_r0
  let v11402_r0 : BitVec 32 := Scalar.remsi v11389_r0 c128_i32_3456_r0
  let c0_i32_3461_r0 : BitVec 32 := 0#32
  let v11403_r0 : BitVec 1 := Scalar.cmpi .ne v11402_r0 c0_i32_3461_r0
  let v11404_r0 : BitVec 1 := Scalar.andi v11401_r0 v11403_r0
  let v11390_r0 : BitVec 32 := Scalar.divsi v11389_r0 c128_i32_3456_r0
  let c1_i32_3462_r0 : BitVec 32 := 1#32
  let v11405_r0 : BitVec 32 := Scalar.subi v11390_r0 c1_i32_3462_r0
  let v11406_r0 : BitVec 32 := Scalar.select v11404_r0 v11405_r0 v11390_r0
  let c128_i32_3463_r0 : BitVec 32 := 128#32
  let v11407_r0 : BitVec 32 := Scalar.muli v11406_r0 c128_i32_3463_r0
  v11407_r0
def k0_mult80 (i : grid0.Coords) : BitVec 32 :=
  let arg0 : BitVec 32 := BitVec.ofNat 32 (i 0).val
  let c8_i32_3475_r0 : BitVec 32 := 8#32
  let v11442_r0 : BitVec 32 := Scalar.muli arg0 c8_i32_3475_r0
  let c7_i32_3476_r0 : BitVec 32 := 7#32
  let v11443_r0 : BitVec 32 := Scalar.addi v11442_r0 c7_i32_3476_r0
  let c4_i32_3477_r0 : BitVec 32 := 4#32
  let v11444_r0 : BitVec 32 := Scalar.muli v11443_r0 c4_i32_3477_r0
  let c0_i32_3479_r0 : BitVec 32 := 0#32
  let v11446_r0 : BitVec 1 := Scalar.cmpi .sgt v11444_r0 c0_i32_3479_r0
  let v11447_r0 : BitVec 32 := Scalar.extui v11446_r0
  let c0_i32_3480_r0 : BitVec 32 := 0#32
  let v11448_r0 : BitVec 1 := Scalar.cmpi .slt v11444_r0 c0_i32_3480_r0
  let v11449_r0 : BitVec 32 := Scalar.extui v11448_r0
  let v11450_r0 : BitVec 32 := Scalar.subi v11447_r0 v11449_r0
  let c128_i32_3478_r0 : BitVec 32 := 128#32
  let c0_i32_3481_r0 : BitVec 32 := 0#32
  let v11451_r0 : BitVec 1 := Scalar.cmpi .sgt c128_i32_3478_r0 c0_i32_3481_r0
  let v11452_r0 : BitVec 32 := Scalar.extui v11451_r0
  let c0_i32_3482_r0 : BitVec 32 := 0#32
  let v11453_r0 : BitVec 1 := Scalar.cmpi .slt c128_i32_3478_r0 c0_i32_3482_r0
  let v11454_r0 : BitVec 32 := Scalar.extui v11453_r0
  let v11455_r0 : BitVec 32 := Scalar.subi v11452_r0 v11454_r0
  let v11456_r0 : BitVec 1 := Scalar.cmpi .ne v11450_r0 v11455_r0
  let v11457_r0 : BitVec 32 := Scalar.remsi v11444_r0 c128_i32_3478_r0
  let c0_i32_3483_r0 : BitVec 32 := 0#32
  let v11458_r0 : BitVec 1 := Scalar.cmpi .ne v11457_r0 c0_i32_3483_r0
  let v11459_r0 : BitVec 1 := Scalar.andi v11456_r0 v11458_r0
  let v11445_r0 : BitVec 32 := Scalar.divsi v11444_r0 c128_i32_3478_r0
  let c1_i32_3484_r0 : BitVec 32 := 1#32
  let v11460_r0 : BitVec 32 := Scalar.subi v11445_r0 c1_i32_3484_r0
  let v11461_r0 : BitVec 32 := Scalar.select v11459_r0 v11460_r0 v11445_r0
  let c128_i32_3485_r0 : BitVec 32 := 128#32
  let v11462_r0 : BitVec 32 := Scalar.muli v11461_r0 c128_i32_3485_r0
  v11462_r0
def k0_mult81 (i : grid0.Coords) : BitVec 32 :=
  let arg0 : BitVec 32 := BitVec.ofNat 32 (i 0).val
  let c8_i32_3513_r0 : BitVec 32 := 8#32
  let v11534_r0 : BitVec 32 := Scalar.muli arg0 c8_i32_3513_r0
  let c4_i32_3514_r0 : BitVec 32 := 4#32
  let v11535_r0 : BitVec 32 := Scalar.addi v11534_r0 c4_i32_3514_r0
  let c4_i32_3515_r0 : BitVec 32 := 4#32
  let v11536_r0 : BitVec 32 := Scalar.muli v11535_r0 c4_i32_3515_r0
  let c0_i32_3517_r0 : BitVec 32 := 0#32
  let v11538_r0 : BitVec 1 := Scalar.cmpi .sgt v11536_r0 c0_i32_3517_r0
  let v11539_r0 : BitVec 32 := Scalar.extui v11538_r0
  let c0_i32_3518_r0 : BitVec 32 := 0#32
  let v11540_r0 : BitVec 1 := Scalar.cmpi .slt v11536_r0 c0_i32_3518_r0
  let v11541_r0 : BitVec 32 := Scalar.extui v11540_r0
  let v11542_r0 : BitVec 32 := Scalar.subi v11539_r0 v11541_r0
  let c128_i32_3516_r0 : BitVec 32 := 128#32
  let c0_i32_3519_r0 : BitVec 32 := 0#32
  let v11543_r0 : BitVec 1 := Scalar.cmpi .sgt c128_i32_3516_r0 c0_i32_3519_r0
  let v11544_r0 : BitVec 32 := Scalar.extui v11543_r0
  let c0_i32_3520_r0 : BitVec 32 := 0#32
  let v11545_r0 : BitVec 1 := Scalar.cmpi .slt c128_i32_3516_r0 c0_i32_3520_r0
  let v11546_r0 : BitVec 32 := Scalar.extui v11545_r0
  let v11547_r0 : BitVec 32 := Scalar.subi v11544_r0 v11546_r0
  let v11548_r0 : BitVec 1 := Scalar.cmpi .ne v11542_r0 v11547_r0
  let v11549_r0 : BitVec 32 := Scalar.remsi v11536_r0 c128_i32_3516_r0
  let c0_i32_3521_r0 : BitVec 32 := 0#32
  let v11550_r0 : BitVec 1 := Scalar.cmpi .ne v11549_r0 c0_i32_3521_r0
  let v11551_r0 : BitVec 1 := Scalar.andi v11548_r0 v11550_r0
  let v11537_r0 : BitVec 32 := Scalar.divsi v11536_r0 c128_i32_3516_r0
  let c1_i32_3522_r0 : BitVec 32 := 1#32
  let v11552_r0 : BitVec 32 := Scalar.subi v11537_r0 c1_i32_3522_r0
  let v11553_r0 : BitVec 32 := Scalar.select v11551_r0 v11552_r0 v11537_r0
  let c128_i32_3523_r0 : BitVec 32 := 128#32
  let v11554_r0 : BitVec 32 := Scalar.muli v11553_r0 c128_i32_3523_r0
  v11554_r0
def k0_mult82 (i : grid0.Coords) : BitVec 32 :=
  let arg0 : BitVec 32 := BitVec.ofNat 32 (i 0).val
  let c8_i32_3535_r0 : BitVec 32 := 8#32
  let v11589_r0 : BitVec 32 := Scalar.muli arg0 c8_i32_3535_r0
  let c5_i32_3536_r0 : BitVec 32 := 5#32
  let v11590_r0 : BitVec 32 := Scalar.addi v11589_r0 c5_i32_3536_r0
  let c4_i32_3537_r0 : BitVec 32 := 4#32
  let v11591_r0 : BitVec 32 := Scalar.muli v11590_r0 c4_i32_3537_r0
  let c0_i32_3539_r0 : BitVec 32 := 0#32
  let v11593_r0 : BitVec 1 := Scalar.cmpi .sgt v11591_r0 c0_i32_3539_r0
  let v11594_r0 : BitVec 32 := Scalar.extui v11593_r0
  let c0_i32_3540_r0 : BitVec 32 := 0#32
  let v11595_r0 : BitVec 1 := Scalar.cmpi .slt v11591_r0 c0_i32_3540_r0
  let v11596_r0 : BitVec 32 := Scalar.extui v11595_r0
  let v11597_r0 : BitVec 32 := Scalar.subi v11594_r0 v11596_r0
  let c128_i32_3538_r0 : BitVec 32 := 128#32
  let c0_i32_3541_r0 : BitVec 32 := 0#32
  let v11598_r0 : BitVec 1 := Scalar.cmpi .sgt c128_i32_3538_r0 c0_i32_3541_r0
  let v11599_r0 : BitVec 32 := Scalar.extui v11598_r0
  let c0_i32_3542_r0 : BitVec 32 := 0#32
  let v11600_r0 : BitVec 1 := Scalar.cmpi .slt c128_i32_3538_r0 c0_i32_3542_r0
  let v11601_r0 : BitVec 32 := Scalar.extui v11600_r0
  let v11602_r0 : BitVec 32 := Scalar.subi v11599_r0 v11601_r0
  let v11603_r0 : BitVec 1 := Scalar.cmpi .ne v11597_r0 v11602_r0
  let v11604_r0 : BitVec 32 := Scalar.remsi v11591_r0 c128_i32_3538_r0
  let c0_i32_3543_r0 : BitVec 32 := 0#32
  let v11605_r0 : BitVec 1 := Scalar.cmpi .ne v11604_r0 c0_i32_3543_r0
  let v11606_r0 : BitVec 1 := Scalar.andi v11603_r0 v11605_r0
  let v11592_r0 : BitVec 32 := Scalar.divsi v11591_r0 c128_i32_3538_r0
  let c1_i32_3544_r0 : BitVec 32 := 1#32
  let v11607_r0 : BitVec 32 := Scalar.subi v11592_r0 c1_i32_3544_r0
  let v11608_r0 : BitVec 32 := Scalar.select v11606_r0 v11607_r0 v11592_r0
  let c128_i32_3545_r0 : BitVec 32 := 128#32
  let v11609_r0 : BitVec 32 := Scalar.muli v11608_r0 c128_i32_3545_r0
  v11609_r0
def k0_mult83 (i : grid0.Coords) : BitVec 32 :=
  let arg0 : BitVec 32 := BitVec.ofNat 32 (i 0).val
  let c8_i32_3557_r0 : BitVec 32 := 8#32
  let v11644_r0 : BitVec 32 := Scalar.muli arg0 c8_i32_3557_r0
  let c6_i32_3558_r0 : BitVec 32 := 6#32
  let v11645_r0 : BitVec 32 := Scalar.addi v11644_r0 c6_i32_3558_r0
  let c4_i32_3559_r0 : BitVec 32 := 4#32
  let v11646_r0 : BitVec 32 := Scalar.muli v11645_r0 c4_i32_3559_r0
  let c0_i32_3561_r0 : BitVec 32 := 0#32
  let v11648_r0 : BitVec 1 := Scalar.cmpi .sgt v11646_r0 c0_i32_3561_r0
  let v11649_r0 : BitVec 32 := Scalar.extui v11648_r0
  let c0_i32_3562_r0 : BitVec 32 := 0#32
  let v11650_r0 : BitVec 1 := Scalar.cmpi .slt v11646_r0 c0_i32_3562_r0
  let v11651_r0 : BitVec 32 := Scalar.extui v11650_r0
  let v11652_r0 : BitVec 32 := Scalar.subi v11649_r0 v11651_r0
  let c128_i32_3560_r0 : BitVec 32 := 128#32
  let c0_i32_3563_r0 : BitVec 32 := 0#32
  let v11653_r0 : BitVec 1 := Scalar.cmpi .sgt c128_i32_3560_r0 c0_i32_3563_r0
  let v11654_r0 : BitVec 32 := Scalar.extui v11653_r0
  let c0_i32_3564_r0 : BitVec 32 := 0#32
  let v11655_r0 : BitVec 1 := Scalar.cmpi .slt c128_i32_3560_r0 c0_i32_3564_r0
  let v11656_r0 : BitVec 32 := Scalar.extui v11655_r0
  let v11657_r0 : BitVec 32 := Scalar.subi v11654_r0 v11656_r0
  let v11658_r0 : BitVec 1 := Scalar.cmpi .ne v11652_r0 v11657_r0
  let v11659_r0 : BitVec 32 := Scalar.remsi v11646_r0 c128_i32_3560_r0
  let c0_i32_3565_r0 : BitVec 32 := 0#32
  let v11660_r0 : BitVec 1 := Scalar.cmpi .ne v11659_r0 c0_i32_3565_r0
  let v11661_r0 : BitVec 1 := Scalar.andi v11658_r0 v11660_r0
  let v11647_r0 : BitVec 32 := Scalar.divsi v11646_r0 c128_i32_3560_r0
  let c1_i32_3566_r0 : BitVec 32 := 1#32
  let v11662_r0 : BitVec 32 := Scalar.subi v11647_r0 c1_i32_3566_r0
  let v11663_r0 : BitVec 32 := Scalar.select v11661_r0 v11662_r0 v11647_r0
  let c128_i32_3567_r0 : BitVec 32 := 128#32
  let v11664_r0 : BitVec 32 := Scalar.muli v11663_r0 c128_i32_3567_r0
  v11664_r0
def k0_mult84 (i : grid0.Coords) : BitVec 32 :=
  let arg0 : BitVec 32 := BitVec.ofNat 32 (i 0).val
  let c8_i32_3579_r0 : BitVec 32 := 8#32
  let v11699_r0 : BitVec 32 := Scalar.muli arg0 c8_i32_3579_r0
  let c7_i32_3580_r0 : BitVec 32 := 7#32
  let v11700_r0 : BitVec 32 := Scalar.addi v11699_r0 c7_i32_3580_r0
  let c4_i32_3581_r0 : BitVec 32 := 4#32
  let v11701_r0 : BitVec 32 := Scalar.muli v11700_r0 c4_i32_3581_r0
  let c0_i32_3583_r0 : BitVec 32 := 0#32
  let v11703_r0 : BitVec 1 := Scalar.cmpi .sgt v11701_r0 c0_i32_3583_r0
  let v11704_r0 : BitVec 32 := Scalar.extui v11703_r0
  let c0_i32_3584_r0 : BitVec 32 := 0#32
  let v11705_r0 : BitVec 1 := Scalar.cmpi .slt v11701_r0 c0_i32_3584_r0
  let v11706_r0 : BitVec 32 := Scalar.extui v11705_r0
  let v11707_r0 : BitVec 32 := Scalar.subi v11704_r0 v11706_r0
  let c128_i32_3582_r0 : BitVec 32 := 128#32
  let c0_i32_3585_r0 : BitVec 32 := 0#32
  let v11708_r0 : BitVec 1 := Scalar.cmpi .sgt c128_i32_3582_r0 c0_i32_3585_r0
  let v11709_r0 : BitVec 32 := Scalar.extui v11708_r0
  let c0_i32_3586_r0 : BitVec 32 := 0#32
  let v11710_r0 : BitVec 1 := Scalar.cmpi .slt c128_i32_3582_r0 c0_i32_3586_r0
  let v11711_r0 : BitVec 32 := Scalar.extui v11710_r0
  let v11712_r0 : BitVec 32 := Scalar.subi v11709_r0 v11711_r0
  let v11713_r0 : BitVec 1 := Scalar.cmpi .ne v11707_r0 v11712_r0
  let v11714_r0 : BitVec 32 := Scalar.remsi v11701_r0 c128_i32_3582_r0
  let c0_i32_3587_r0 : BitVec 32 := 0#32
  let v11715_r0 : BitVec 1 := Scalar.cmpi .ne v11714_r0 c0_i32_3587_r0
  let v11716_r0 : BitVec 1 := Scalar.andi v11713_r0 v11715_r0
  let v11702_r0 : BitVec 32 := Scalar.divsi v11701_r0 c128_i32_3582_r0
  let c1_i32_3588_r0 : BitVec 32 := 1#32
  let v11717_r0 : BitVec 32 := Scalar.subi v11702_r0 c1_i32_3588_r0
  let v11718_r0 : BitVec 32 := Scalar.select v11716_r0 v11717_r0 v11702_r0
  let c128_i32_3589_r0 : BitVec 32 := 128#32
  let v11719_r0 : BitVec 32 := Scalar.muli v11718_r0 c128_i32_3589_r0
  v11719_r0
def k0_mult85 (i : grid0.Coords) : BitVec 32 :=
  let arg0 : BitVec 32 := BitVec.ofNat 32 (i 0).val
  let c8_i32_3617_r0 : BitVec 32 := 8#32
  let v11791_r0 : BitVec 32 := Scalar.muli arg0 c8_i32_3617_r0
  let c4_i32_3618_r0 : BitVec 32 := 4#32
  let v11792_r0 : BitVec 32 := Scalar.addi v11791_r0 c4_i32_3618_r0
  let c4_i32_3619_r0 : BitVec 32 := 4#32
  let v11793_r0 : BitVec 32 := Scalar.muli v11792_r0 c4_i32_3619_r0
  let c0_i32_3621_r0 : BitVec 32 := 0#32
  let v11795_r0 : BitVec 1 := Scalar.cmpi .sgt v11793_r0 c0_i32_3621_r0
  let v11796_r0 : BitVec 32 := Scalar.extui v11795_r0
  let c0_i32_3622_r0 : BitVec 32 := 0#32
  let v11797_r0 : BitVec 1 := Scalar.cmpi .slt v11793_r0 c0_i32_3622_r0
  let v11798_r0 : BitVec 32 := Scalar.extui v11797_r0
  let v11799_r0 : BitVec 32 := Scalar.subi v11796_r0 v11798_r0
  let c128_i32_3620_r0 : BitVec 32 := 128#32
  let c0_i32_3623_r0 : BitVec 32 := 0#32
  let v11800_r0 : BitVec 1 := Scalar.cmpi .sgt c128_i32_3620_r0 c0_i32_3623_r0
  let v11801_r0 : BitVec 32 := Scalar.extui v11800_r0
  let c0_i32_3624_r0 : BitVec 32 := 0#32
  let v11802_r0 : BitVec 1 := Scalar.cmpi .slt c128_i32_3620_r0 c0_i32_3624_r0
  let v11803_r0 : BitVec 32 := Scalar.extui v11802_r0
  let v11804_r0 : BitVec 32 := Scalar.subi v11801_r0 v11803_r0
  let v11805_r0 : BitVec 1 := Scalar.cmpi .ne v11799_r0 v11804_r0
  let v11806_r0 : BitVec 32 := Scalar.remsi v11793_r0 c128_i32_3620_r0
  let c0_i32_3625_r0 : BitVec 32 := 0#32
  let v11807_r0 : BitVec 1 := Scalar.cmpi .ne v11806_r0 c0_i32_3625_r0
  let v11808_r0 : BitVec 1 := Scalar.andi v11805_r0 v11807_r0
  let v11794_r0 : BitVec 32 := Scalar.divsi v11793_r0 c128_i32_3620_r0
  let c1_i32_3626_r0 : BitVec 32 := 1#32
  let v11809_r0 : BitVec 32 := Scalar.subi v11794_r0 c1_i32_3626_r0
  let v11810_r0 : BitVec 32 := Scalar.select v11808_r0 v11809_r0 v11794_r0
  let c128_i32_3627_r0 : BitVec 32 := 128#32
  let v11811_r0 : BitVec 32 := Scalar.muli v11810_r0 c128_i32_3627_r0
  v11811_r0
def k0_mult86 (i : grid0.Coords) : BitVec 32 :=
  let arg0 : BitVec 32 := BitVec.ofNat 32 (i 0).val
  let c8_i32_3639_r0 : BitVec 32 := 8#32
  let v11846_r0 : BitVec 32 := Scalar.muli arg0 c8_i32_3639_r0
  let c5_i32_3640_r0 : BitVec 32 := 5#32
  let v11847_r0 : BitVec 32 := Scalar.addi v11846_r0 c5_i32_3640_r0
  let c4_i32_3641_r0 : BitVec 32 := 4#32
  let v11848_r0 : BitVec 32 := Scalar.muli v11847_r0 c4_i32_3641_r0
  let c0_i32_3643_r0 : BitVec 32 := 0#32
  let v11850_r0 : BitVec 1 := Scalar.cmpi .sgt v11848_r0 c0_i32_3643_r0
  let v11851_r0 : BitVec 32 := Scalar.extui v11850_r0
  let c0_i32_3644_r0 : BitVec 32 := 0#32
  let v11852_r0 : BitVec 1 := Scalar.cmpi .slt v11848_r0 c0_i32_3644_r0
  let v11853_r0 : BitVec 32 := Scalar.extui v11852_r0
  let v11854_r0 : BitVec 32 := Scalar.subi v11851_r0 v11853_r0
  let c128_i32_3642_r0 : BitVec 32 := 128#32
  let c0_i32_3645_r0 : BitVec 32 := 0#32
  let v11855_r0 : BitVec 1 := Scalar.cmpi .sgt c128_i32_3642_r0 c0_i32_3645_r0
  let v11856_r0 : BitVec 32 := Scalar.extui v11855_r0
  let c0_i32_3646_r0 : BitVec 32 := 0#32
  let v11857_r0 : BitVec 1 := Scalar.cmpi .slt c128_i32_3642_r0 c0_i32_3646_r0
  let v11858_r0 : BitVec 32 := Scalar.extui v11857_r0
  let v11859_r0 : BitVec 32 := Scalar.subi v11856_r0 v11858_r0
  let v11860_r0 : BitVec 1 := Scalar.cmpi .ne v11854_r0 v11859_r0
  let v11861_r0 : BitVec 32 := Scalar.remsi v11848_r0 c128_i32_3642_r0
  let c0_i32_3647_r0 : BitVec 32 := 0#32
  let v11862_r0 : BitVec 1 := Scalar.cmpi .ne v11861_r0 c0_i32_3647_r0
  let v11863_r0 : BitVec 1 := Scalar.andi v11860_r0 v11862_r0
  let v11849_r0 : BitVec 32 := Scalar.divsi v11848_r0 c128_i32_3642_r0
  let c1_i32_3648_r0 : BitVec 32 := 1#32
  let v11864_r0 : BitVec 32 := Scalar.subi v11849_r0 c1_i32_3648_r0
  let v11865_r0 : BitVec 32 := Scalar.select v11863_r0 v11864_r0 v11849_r0
  let c128_i32_3649_r0 : BitVec 32 := 128#32
  let v11866_r0 : BitVec 32 := Scalar.muli v11865_r0 c128_i32_3649_r0
  v11866_r0
def k0_mult87 (i : grid0.Coords) : BitVec 32 :=
  let arg0 : BitVec 32 := BitVec.ofNat 32 (i 0).val
  let c8_i32_3661_r0 : BitVec 32 := 8#32
  let v11901_r0 : BitVec 32 := Scalar.muli arg0 c8_i32_3661_r0
  let c6_i32_3662_r0 : BitVec 32 := 6#32
  let v11902_r0 : BitVec 32 := Scalar.addi v11901_r0 c6_i32_3662_r0
  let c4_i32_3663_r0 : BitVec 32 := 4#32
  let v11903_r0 : BitVec 32 := Scalar.muli v11902_r0 c4_i32_3663_r0
  let c0_i32_3665_r0 : BitVec 32 := 0#32
  let v11905_r0 : BitVec 1 := Scalar.cmpi .sgt v11903_r0 c0_i32_3665_r0
  let v11906_r0 : BitVec 32 := Scalar.extui v11905_r0
  let c0_i32_3666_r0 : BitVec 32 := 0#32
  let v11907_r0 : BitVec 1 := Scalar.cmpi .slt v11903_r0 c0_i32_3666_r0
  let v11908_r0 : BitVec 32 := Scalar.extui v11907_r0
  let v11909_r0 : BitVec 32 := Scalar.subi v11906_r0 v11908_r0
  let c128_i32_3664_r0 : BitVec 32 := 128#32
  let c0_i32_3667_r0 : BitVec 32 := 0#32
  let v11910_r0 : BitVec 1 := Scalar.cmpi .sgt c128_i32_3664_r0 c0_i32_3667_r0
  let v11911_r0 : BitVec 32 := Scalar.extui v11910_r0
  let c0_i32_3668_r0 : BitVec 32 := 0#32
  let v11912_r0 : BitVec 1 := Scalar.cmpi .slt c128_i32_3664_r0 c0_i32_3668_r0
  let v11913_r0 : BitVec 32 := Scalar.extui v11912_r0
  let v11914_r0 : BitVec 32 := Scalar.subi v11911_r0 v11913_r0
  let v11915_r0 : BitVec 1 := Scalar.cmpi .ne v11909_r0 v11914_r0
  let v11916_r0 : BitVec 32 := Scalar.remsi v11903_r0 c128_i32_3664_r0
  let c0_i32_3669_r0 : BitVec 32 := 0#32
  let v11917_r0 : BitVec 1 := Scalar.cmpi .ne v11916_r0 c0_i32_3669_r0
  let v11918_r0 : BitVec 1 := Scalar.andi v11915_r0 v11917_r0
  let v11904_r0 : BitVec 32 := Scalar.divsi v11903_r0 c128_i32_3664_r0
  let c1_i32_3670_r0 : BitVec 32 := 1#32
  let v11919_r0 : BitVec 32 := Scalar.subi v11904_r0 c1_i32_3670_r0
  let v11920_r0 : BitVec 32 := Scalar.select v11918_r0 v11919_r0 v11904_r0
  let c128_i32_3671_r0 : BitVec 32 := 128#32
  let v11921_r0 : BitVec 32 := Scalar.muli v11920_r0 c128_i32_3671_r0
  v11921_r0
def k0_mult88 (i : grid0.Coords) : BitVec 32 :=
  let arg0 : BitVec 32 := BitVec.ofNat 32 (i 0).val
  let c8_i32_3683_r0 : BitVec 32 := 8#32
  let v11956_r0 : BitVec 32 := Scalar.muli arg0 c8_i32_3683_r0
  let c7_i32_3684_r0 : BitVec 32 := 7#32
  let v11957_r0 : BitVec 32 := Scalar.addi v11956_r0 c7_i32_3684_r0
  let c4_i32_3685_r0 : BitVec 32 := 4#32
  let v11958_r0 : BitVec 32 := Scalar.muli v11957_r0 c4_i32_3685_r0
  let c0_i32_3687_r0 : BitVec 32 := 0#32
  let v11960_r0 : BitVec 1 := Scalar.cmpi .sgt v11958_r0 c0_i32_3687_r0
  let v11961_r0 : BitVec 32 := Scalar.extui v11960_r0
  let c0_i32_3688_r0 : BitVec 32 := 0#32
  let v11962_r0 : BitVec 1 := Scalar.cmpi .slt v11958_r0 c0_i32_3688_r0
  let v11963_r0 : BitVec 32 := Scalar.extui v11962_r0
  let v11964_r0 : BitVec 32 := Scalar.subi v11961_r0 v11963_r0
  let c128_i32_3686_r0 : BitVec 32 := 128#32
  let c0_i32_3689_r0 : BitVec 32 := 0#32
  let v11965_r0 : BitVec 1 := Scalar.cmpi .sgt c128_i32_3686_r0 c0_i32_3689_r0
  let v11966_r0 : BitVec 32 := Scalar.extui v11965_r0
  let c0_i32_3690_r0 : BitVec 32 := 0#32
  let v11967_r0 : BitVec 1 := Scalar.cmpi .slt c128_i32_3686_r0 c0_i32_3690_r0
  let v11968_r0 : BitVec 32 := Scalar.extui v11967_r0
  let v11969_r0 : BitVec 32 := Scalar.subi v11966_r0 v11968_r0
  let v11970_r0 : BitVec 1 := Scalar.cmpi .ne v11964_r0 v11969_r0
  let v11971_r0 : BitVec 32 := Scalar.remsi v11958_r0 c128_i32_3686_r0
  let c0_i32_3691_r0 : BitVec 32 := 0#32
  let v11972_r0 : BitVec 1 := Scalar.cmpi .ne v11971_r0 c0_i32_3691_r0
  let v11973_r0 : BitVec 1 := Scalar.andi v11970_r0 v11972_r0
  let v11959_r0 : BitVec 32 := Scalar.divsi v11958_r0 c128_i32_3686_r0
  let c1_i32_3692_r0 : BitVec 32 := 1#32
  let v11974_r0 : BitVec 32 := Scalar.subi v11959_r0 c1_i32_3692_r0
  let v11975_r0 : BitVec 32 := Scalar.select v11973_r0 v11974_r0 v11959_r0
  let c128_i32_3693_r0 : BitVec 32 := 128#32
  let v11976_r0 : BitVec 32 := Scalar.muli v11975_r0 c128_i32_3693_r0
  v11976_r0
def k0_cond2 (i : grid0.Coords) : BitVec 1 :=
  let arg0 : BitVec 32 := BitVec.ofNat 32 (i 0).val
  let c47_i32_r0 : BitVec 32 := 47#32
  let v12040_r0 : BitVec 1 := Scalar.cmpi .eq arg0 c47_i32_r0
  let v12041_r0 : BitVec 32 := Scalar.extui v12040_r0
  let c0_i32_3715_r0 : BitVec 32 := 0#32
  let v12042_r0 : BitVec 1 := Scalar.cmpi .ne v12041_r0 c0_i32_3715_r0
  v12042_r0

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3072x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S88x1536 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S88x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S88x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S88x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S88x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S88x1x6144 : Shape := ⟨3, ![88, 1, 6144]⟩
abbrev S3072x49152 : Shape := ⟨2, ![3072, 49152]⟩
abbrev S96x49152 : Shape := ⟨2, ![96, 49152]⟩
abbrev S88x1536 : Shape := ⟨2, ![88, 1536]⟩
abbrev S88x1x32 : Shape := ⟨3, ![88, 1, 32]⟩
abbrev S_ : Shape := ⟨0, ![]⟩
abbrev S96x32x49152 : Shape := ⟨3, ![96, 32, 49152]⟩
abbrev S96x1x49152 : Shape := ⟨3, ![96, 1, 49152]⟩
abbrev S88x1x96x32x2 : Shape := ⟨5, ![88, 1, 96, 32, 2]⟩
abbrev S88x1x96x32x1 : Shape := ⟨5, ![88, 1, 96, 32, 1]⟩
abbrev S88x1x96x32 : Shape := ⟨4, ![88, 1, 96, 32]⟩
abbrev S88x1x49152 : Shape := ⟨3, ![88, 1, 49152]⟩
abbrev S32 : Shape := ⟨1, ![32]⟩
abbrev S88x1536x1 : Shape := ⟨3, ![88, 1536, 1]⟩
abbrev S1x1x32 : Shape := ⟨3, ![1, 1, 32]⟩
abbrev S88x1536x32 : Shape := ⟨3, ![88, 1536, 32]⟩
abbrev S88x49152 : Shape := ⟨2, ![88, 49152]⟩
abbrev S88x1 : Shape := ⟨2, ![88, 1]⟩
abbrev S88x1x1 : Shape := ⟨3, ![88, 1, 1]⟩
abbrev S88x32 : Shape := ⟨2, ![88, 32]⟩
abbrev S88x32x1 : Shape := ⟨3, ![88, 32, 1]⟩
abbrev S1 : Shape := ⟨1, ![1]⟩
abbrev S1x1x1 : Shape := ⟨3, ![1, 1, 1]⟩
abbrev S88x384x128 : Shape := ⟨3, ![88, 384, 128]⟩

abbrev nBuf : Space → Nat
  | .hbm => 184
  | .vmem => 0
  | .smem => 0
  | _ => 0

abbrev hbmTy0_0 (i : Nat) : BufTy := match i % 128 with
  | 0 => ⟨S88x1x6144, .bf16⟩
  | 1 => ⟨S3072x49152, .i8⟩
  | 2 => ⟨S96x49152, .f32⟩
  | 3 => ⟨S88x1536, .i32⟩
  | 4 => ⟨S88x1x32, .i32⟩
  | 5 => ⟨S3072x49152, .i32⟩
  | 6 => ⟨S_, .i32⟩
  | 7 => ⟨S3072x49152, .i32⟩
  | 8 => ⟨S3072x49152, .i32⟩
  | 9 => ⟨S_, .i32⟩
  | 10 => ⟨S3072x49152, .i32⟩
  | 11 => ⟨S3072x49152, .i1⟩
  | 12 => ⟨S_, .i32⟩
  | 13 => ⟨S3072x49152, .i32⟩
  | 14 => ⟨S3072x49152, .i32⟩
  | 15 => ⟨S3072x49152, .i32⟩
  | 16 => ⟨S3072x49152, .bf16⟩
  | 17 => ⟨S96x32x49152, .bf16⟩
  | 18 => ⟨S_, .i32⟩
  | 19 => ⟨S3072x49152, .i32⟩
  | 20 => ⟨S3072x49152, .i32⟩
  | 21 => ⟨S_, .i32⟩
  | 22 => ⟨S3072x49152, .i32⟩
  | 23 => ⟨S3072x49152, .i1⟩
  | 24 => ⟨S_, .i32⟩
  | 25 => ⟨S3072x49152, .i32⟩
  | 26 => ⟨S3072x49152, .i32⟩
  | 27 => ⟨S3072x49152, .i32⟩
  | 28 => ⟨S3072x49152, .bf16⟩
  | 29 => ⟨S96x32x49152, .bf16⟩
  | 30 => ⟨S96x49152, .bf16⟩
  | 31 => ⟨S96x1x49152, .bf16⟩
  | 32 => ⟨S96x32x49152, .bf16⟩
  | 33 => ⟨S96x32x49152, .bf16⟩
  | 34 => ⟨S96x32x49152, .bf16⟩
  | 35 => ⟨S96x32x49152, .bf16⟩
  | 36 => ⟨S88x1x96x32x2, .bf16⟩
  | 37 => ⟨S88x1x96x32x1, .bf16⟩
  | 38 => ⟨S88x1x96x32, .bf16⟩
  | 39 => ⟨S88x1x49152, .f32⟩
  | 40 => ⟨S88x1x96x32x1, .bf16⟩
  | 41 => ⟨S88x1x96x32, .bf16⟩
  | 42 => ⟨S88x1x49152, .f32⟩
  | 43 => ⟨S88x1x49152, .f32⟩
  | 44 => ⟨S32, .i32⟩
  | 45 => ⟨S88x1536x1, .i32⟩
  | 46 => ⟨S1x1x32, .i32⟩
  | 47 => ⟨S88x1536x32, .i32⟩
  | 48 => ⟨S88x1536x32, .i32⟩
  | 49 => ⟨S88x1536x32, .i32⟩
  | 50 => ⟨S_, .i32⟩
  | 51 => ⟨S88x1536x32, .i32⟩
  | 52 => ⟨S88x1536x32, .i32⟩
  | 53 => ⟨S_, .i32⟩
  | 54 => ⟨S88x1536x32, .i32⟩
  | 55 => ⟨S88x1536x32, .i1⟩
  | 56 => ⟨S88x49152, .i1⟩
  | 57 => ⟨S88x1x49152, .i1⟩
  | 58 => ⟨S_, .f32⟩
  | 59 => ⟨S_, .f32⟩
  | 60 => ⟨S88x1x49152, .f32⟩
  | 61 => ⟨S88x1x49152, .f32⟩
  | 62 => ⟨S_, .f32⟩
  | 63 => ⟨S88x1, .f32⟩
  | 64 => ⟨S88x1, .f32⟩
  | 65 => ⟨S_, .f32⟩
  | 66 => ⟨S88x1, .f32⟩
  | 67 => ⟨S88x1, .i1⟩
  | 68 => ⟨S_, .f32⟩
  | 69 => ⟨S_, .f32⟩
  | 70 => ⟨S88x1, .f32⟩
  | 71 => ⟨S88x1, .f32⟩
  | 72 => ⟨S88x1x1, .f32⟩
  | 73 => ⟨S88x1x49152, .f32⟩
  | 74 => ⟨S88x1x49152, .f32⟩
  | 75 => ⟨S88x1x49152, .f32⟩
  | 76 => ⟨S_, .f32⟩
  | 77 => ⟨S88x1, .f32⟩
  | 78 => ⟨S88x1, .f32⟩
  | 79 => ⟨S88x1, .f32⟩
  | 80 => ⟨S88x32, .i32⟩
  | 81 => ⟨S_, .i32⟩
  | 82 => ⟨S_, .i32⟩
  | 83 => ⟨S88x32, .i32⟩
  | 84 => ⟨S88x32, .i32⟩
  | 85 => ⟨S88x32, .i32⟩
  | 86 => ⟨S_, .i32⟩
  | 87 => ⟨S88x32, .i32⟩
  | 88 => ⟨S88x32, .i1⟩
  | 89 => ⟨S88x32, .i32⟩
  | 90 => ⟨S88x32, .i32⟩
  | 91 => ⟨S_, .i32⟩
  | 92 => ⟨S88x32, .i32⟩
  | 93 => ⟨S88x32, .i1⟩
  | 94 => ⟨S88x32, .i1⟩
  | 95 => ⟨S_, .i32⟩
  | 96 => ⟨S88x32, .i32⟩
  | 97 => ⟨S88x32, .i32⟩
  | 98 => ⟨S88x32, .i32⟩
  | 99 => ⟨S_, .i32⟩
  | 100 => ⟨S88x32, .i32⟩
  | 101 => ⟨S88x32, .i1⟩
  | 102 => ⟨S_, .i32⟩
  | 103 => ⟨S88x32, .i32⟩
  | 104 => ⟨S88x32, .i32⟩
  | 105 => ⟨S88x32, .i32⟩
  | 106 => ⟨S88x32x1, .i32⟩
  | 107 => ⟨S1, .i32⟩
  | 108 => ⟨S_, .i32⟩
  | 109 => ⟨S88x32x1, .i32⟩
  | 110 => ⟨S88x32x1, .i1⟩
  | 111 => ⟨S1x1x1, .i32⟩
  | 112 => ⟨S88x32x1, .i32⟩
  | 113 => ⟨S88x32x1, .i1⟩
  | 114 => ⟨S88x32x1, .i1⟩
  | 115 => ⟨S_, .i1⟩
  | 116 => ⟨S88x32, .i1⟩
  | 117 => ⟨S88x32, .i32⟩
  | 118 => ⟨S_, .i32⟩
  | 119 => ⟨S88x32, .i32⟩
  | 120 => ⟨S88x32, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S88x32, .i32⟩
  | _ => ⟨S88x1x6144, .bf16⟩

abbrev hbmTy0_1 (i : Nat) : BufTy := match i % 128 with
  | 0 => ⟨S88x32, .i32⟩
  | 1 => ⟨S_, .i32⟩
  | 2 => ⟨S88x32, .i32⟩
  | 3 => ⟨S88x32, .i1⟩
  | 4 => ⟨S_, .i32⟩
  | 5 => ⟨S88x32, .i32⟩
  | 6 => ⟨S88x32, .i1⟩
  | 7 => ⟨S_, .i32⟩
  | 8 => ⟨S_, .i1⟩
  | 9 => ⟨S88x32, .i1⟩
  | 10 => ⟨S88x32, .i1⟩
  | 11 => ⟨S88x32, .i1⟩
  | 12 => ⟨S88x32, .i32⟩
  | 13 => ⟨S88x32, .i32⟩
  | 14 => ⟨S88x32, .i32⟩
  | 15 => ⟨S88x32, .i32⟩
  | 16 => ⟨S_, .i32⟩
  | 17 => ⟨S88x32, .i32⟩
  | 18 => ⟨S88x32, .i32⟩
  | 19 => ⟨S_, .i32⟩
  | 20 => ⟨S88x32, .i32⟩
  | 21 => ⟨S88x32, .i1⟩
  | 22 => ⟨S88x49152, .f32⟩
  | 23 => ⟨S_, .i32⟩
  | 24 => ⟨S88x32, .i32⟩
  | 25 => ⟨S88x32, .i1⟩
  | 26 => ⟨S_, .i32⟩
  | 27 => ⟨S88x32, .i32⟩
  | 28 => ⟨S88x32, .i32⟩
  | 29 => ⟨S88x32, .i32⟩
  | 30 => ⟨S88x32x1, .i32⟩
  | 31 => ⟨S1, .i32⟩
  | 32 => ⟨S_, .i32⟩
  | 33 => ⟨S88x32x1, .i32⟩
  | 34 => ⟨S88x32x1, .i1⟩
  | 35 => ⟨S1x1x1, .i32⟩
  | 36 => ⟨S88x32x1, .i32⟩
  | 37 => ⟨S88x32x1, .i1⟩
  | 38 => ⟨S88x32x1, .i1⟩
  | 39 => ⟨S_, .i1⟩
  | 40 => ⟨S88x32, .i1⟩
  | 41 => ⟨S88x32, .f32⟩
  | 42 => ⟨S_, .f32⟩
  | 43 => ⟨S88x32, .f32⟩
  | 44 => ⟨S88x32, .f32⟩
  | 45 => ⟨S88x32, .f32⟩
  | 46 => ⟨S88x32, .f32⟩
  | 47 => ⟨S_, .f32⟩
  | 48 => ⟨S_, .f32⟩
  | 49 => ⟨S88x32, .f32⟩
  | 50 => ⟨S88x32, .f32⟩
  | 51 => ⟨S_, .f32⟩
  | 52 => ⟨S_, .f32⟩
  | 53 => ⟨S88x1x49152, .f32⟩
  | 54 => ⟨S88x1x49152, .f32⟩
  | 55 => ⟨S88x384x128, .f32⟩
  | _ => ⟨S88x1x6144, .bf16⟩

abbrev hbmTy (i : Nat) : BufTy := match i / 128 with
  | 0 => hbmTy0_0 i
  | 1 => hbmTy0_1 i
  | _ => ⟨S88x1x6144, .bf16⟩

abbrev bufTy : (tb : Table) → Fin (tcTables nBuf tb) → BufTy
  | .hbm, ⟨i, _⟩ => hbmTy i
  | _, _ => ⟨S88x1x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_5 : Ref sig .tc := ⟨.hbm, 50, rfl⟩
abbrev main_v39 : Ref sig .tc := ⟨.hbm, 51, rfl⟩
abbrev main_v40 : Ref sig .tc := ⟨.hbm, 52, rfl⟩
abbrev main_c_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst : Ref sig .tc := ⟨.hbm, 58, rfl⟩
abbrev main_call2_v0 : Ref sig .tc := ⟨.hbm, 59, rfl⟩
abbrev main_call2_v1 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_cst_8 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_call3_v0 : Ref sig .tc := ⟨.hbm, 69, rfl⟩
abbrev main_call3_v1 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_c_11 : Ref sig .tc := ⟨.hbm, 81, rfl⟩
abbrev main_call4_v0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_v5 : Ref sig .tc := ⟨.hbm, 87, rfl⟩
abbrev main_call4_v6 : Ref sig .tc := ⟨.hbm, 88, rfl⟩
abbrev main_call4_v7 : Ref sig .tc := ⟨.hbm, 89, rfl⟩
abbrev main_call4_v8 : Ref sig .tc := ⟨.hbm, 90, rfl⟩
abbrev main_call4_c : Ref sig .tc := ⟨.hbm, 91, rfl⟩
abbrev main_call4_v9 : Ref sig .tc := ⟨.hbm, 92, rfl⟩
abbrev main_call4_v10 : Ref sig .tc := ⟨.hbm, 93, rfl⟩
abbrev main_call4_v11 : Ref sig .tc := ⟨.hbm, 94, rfl⟩
abbrev main_call4_c_0 : Ref sig .tc := ⟨.hbm, 95, rfl⟩
abbrev main_call4_v12 : Ref sig .tc := ⟨.hbm, 96, rfl⟩
abbrev main_call4_v13 : Ref sig .tc := ⟨.hbm, 97, rfl⟩
abbrev main_v59 : Ref sig .tc := ⟨.hbm, 98, rfl⟩
abbrev main_call5_c : Ref sig .tc := ⟨.hbm, 99, rfl⟩
abbrev main_call5_v0 : Ref sig .tc := ⟨.hbm, 100, rfl⟩
abbrev main_call5_v1 : Ref sig .tc := ⟨.hbm, 101, rfl⟩
abbrev main_call5_c_0 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_call5_v5 : Ref sig .tc := ⟨.hbm, 106, rfl⟩
abbrev main_call5_c_1 : Ref sig .tc := ⟨.hbm, 107, rfl⟩
abbrev main_call5_c_2 : Ref sig .tc := ⟨.hbm, 108, rfl⟩
abbrev main_call5_v6 : Ref sig .tc := ⟨.hbm, 109, rfl⟩
abbrev main_call5_v7 : Ref sig .tc := ⟨.hbm, 110, rfl⟩
abbrev main_call5_v8 : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_call5_c_3 : Ref sig .tc := ⟨.hbm, 115, rfl⟩
abbrev main_call5_v12 : Ref sig .tc := ⟨.hbm, 116, rfl⟩
abbrev main_call5_v13 : Ref sig .tc := ⟨.hbm, 117, rfl⟩
abbrev main_call5_c_4 : Ref sig .tc := ⟨.hbm, 118, rfl⟩
abbrev main_call5_v14 : Ref sig .tc := ⟨.hbm, 119, rfl⟩
abbrev main_v60 : Ref sig .tc := ⟨.hbm, 120, rfl⟩
abbrev main_c_12 : Ref sig .tc := ⟨.hbm, 121, rfl⟩
abbrev main_call6_v0 : Ref sig .tc := ⟨.hbm, 122, rfl⟩
abbrev main_call6_c : Ref sig .tc := ⟨.hbm, 123, rfl⟩
abbrev main_call6_v1 : Ref sig .tc := ⟨.hbm, 124, rfl⟩
abbrev main_call6_c_0 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_call6_c_1 : Ref sig .tc := ⟨.hbm, 129, rfl⟩
abbrev main_call6_v5 : Ref sig .tc := ⟨.hbm, 130, rfl⟩
abbrev main_call6_v6 : Ref sig .tc := ⟨.hbm, 131, rfl⟩
abbrev main_call6_c_2 : Ref sig .tc := ⟨.hbm, 132, rfl⟩
abbrev main_call6_v7 : Ref sig .tc := ⟨.hbm, 133, rfl⟩
abbrev main_call6_v8 : Ref sig .tc := ⟨.hbm, 134, rfl⟩
abbrev main_call6_c_3 : Ref sig .tc := ⟨.hbm, 135, rfl⟩
abbrev main_call6_v9 : Ref sig .tc := ⟨.hbm, 136, rfl⟩
abbrev main_call6_v10 : Ref sig .tc := ⟨.hbm, 137, rfl⟩
abbrev main_call6_v11 : Ref sig .tc := ⟨.hbm, 138, rfl⟩
abbrev main_call6_v12 : Ref sig .tc := ⟨.hbm, 139, rfl⟩
abbrev main_call6_v13 : Ref sig .tc := ⟨.hbm, 140, rfl⟩
abbrev main_call6_v14 : Ref sig .tc := ⟨.hbm, 141, rfl⟩
abbrev main_v61 : Ref sig .tc := ⟨.hbm, 142, rfl⟩
abbrev main_v62 : Ref sig .tc := ⟨.hbm, 143, rfl⟩
abbrev main_c_13 : Ref sig .tc := ⟨.hbm, 144, rfl⟩
abbrev main_v63 : Ref sig .tc := ⟨.hbm, 145, rfl⟩
abbrev main_v64 : Ref sig .tc := ⟨.hbm, 146, rfl⟩
abbrev main_c_14 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_call7_c : Ref sig .tc := ⟨.hbm, 151, rfl⟩
abbrev main_call7_v0 : Ref sig .tc := ⟨.hbm, 152, rfl⟩
abbrev main_call7_v1 : Ref sig .tc := ⟨.hbm, 153, rfl⟩
abbrev main_call7_c_0 : Ref sig .tc := ⟨.hbm, 154, rfl⟩
abbrev main_call7_v2 : Ref sig .tc := ⟨.hbm, 155, rfl⟩
abbrev main_call7_v3 : Ref sig .tc := ⟨.hbm, 156, rfl⟩
abbrev main_call7_v4 : Ref sig .tc := ⟨.hbm, 157, rfl⟩
abbrev main_call7_v5 : Ref sig .tc := ⟨.hbm, 158, rfl⟩
abbrev main_call7_c_1 : Ref sig .tc := ⟨.hbm, 159, rfl⟩
abbrev main_call7_c_2 : Ref sig .tc := ⟨.hbm, 160, rfl⟩
abbrev main_call7_v6 : Ref sig .tc := ⟨.hbm, 161, rfl⟩
abbrev main_call7_v7 : Ref sig .tc := ⟨.hbm, 162, rfl⟩
abbrev main_call7_v8 : Ref sig .tc := ⟨.hbm, 163, rfl⟩
abbrev main_call7_v9 : Ref sig .tc := ⟨.hbm, 164, rfl⟩
abbrev main_call7_v10 : Ref sig .tc := ⟨.hbm, 165, rfl⟩
abbrev main_call7_v11 : Ref sig .tc := ⟨.hbm, 166, rfl⟩
abbrev main_call7_c_3 : Ref sig .tc := ⟨.hbm, 167, rfl⟩
abbrev main_call7_v12 : Ref sig .tc := ⟨.hbm, 168, rfl⟩
abbrev main_call7_v13 : Ref sig .tc := ⟨.hbm, 169, rfl⟩
abbrev main_call7_cst : Ref sig .tc := ⟨.hbm, 170, rfl⟩
abbrev main_call7_v14 : Ref sig .tc := ⟨.hbm, 171, rfl⟩
abbrev main_v68 : Ref sig .tc := ⟨.hbm, 172, rfl⟩
abbrev main_v69 : Ref sig .tc := ⟨.hbm, 173, rfl⟩
abbrev main_v70 : Ref sig .tc := ⟨.hbm, 174, rfl⟩
abbrev main_cst_15 : Ref sig .tc := ⟨.hbm, 175, rfl⟩
abbrev main_call8_v0 : Ref sig .tc := ⟨.hbm, 176, rfl⟩
abbrev main_call8_v1 : Ref sig .tc := ⟨.hbm, 177, rfl⟩
abbrev main_v71 : Ref sig .tc := ⟨.hbm, 178, rfl⟩
abbrev main_cst_16 : Ref sig .tc := ⟨.hbm, 179, rfl⟩
abbrev main_call9_v0 : Ref sig .tc := ⟨.hbm, 180, rfl⟩
abbrev main_call9_v1 : Ref sig .tc := ⟨.hbm, 181, rfl⟩
abbrev main_v72 : Ref sig .tc := ⟨.hbm, 182, rfl⟩
abbrev main_v73 : Ref sig .tc := ⟨.hbm, 183, rfl⟩

abbrev nD : Nat := 1
abbrev τ : Topo := Topo.v7x

variable {F : FTy → Type} [FloatOps F]
-- ==== Proof.Kernel.Cond.lean ====
/-
  The two conditions of the kernel's body in closed form: its first conditional is taken at the first point of the grid and its
  last one at the last point.
-/
module

public import proofs.«01_k».proof.Proof.Gen.Kernel.Frame
public import proofs.«01_k».proof.Proof.Gen.Kernel.Skeleton
public import Idealize.ShloMosaic.Lib.Claim

@[expose] public section

noncomputable section

namespace Cert.Proof.Kernel

open Cert.Kernel Cert.Kernel.Gen
open Idealize.ShloMosaic Idealize.ShloMosaic.TcCoe Idealize.ShloMosaic.Tactic

/-- The first conditional's condition. -/
abbrev cond0_0 (i : grid0.Coords) : Prop := (Scalar.cmpi .ne (Scalar.extui (Scalar.cmpi .eq (BitVec.ofNat 32 (i 0).val) 0#32)) 0#32) = 1#1

/-- It holds at the first point only. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-- The last conditional's condition. -/
abbrev cond0_1 (i : grid0.Coords) : Prop := k0_cond2 i = 1#1

/-- It holds at the last point only. -/
theorem hcond0_1 : ∀ t : Fin cfg0.N, cond0_1 (grid0.coords t) ↔ t.val % 48 = 47 :=
  (fun t => by
    have ht : t.val < 48 := Nat.lt_of_lt_of_eq t.isLt N_0
    have e0 : (grid0.coords t 0).val = t.val / 1 % 48 := Pipeline.Grid.coords_val t 0 (by decide) rfl
    simp only [cond0_1, k0_cond2, e0]
    word_cmp
   : ∀ t : Fin grid0.N, cond0_1 (grid0.coords t) ↔ t.val % 48 = 47)

end Cert.Proof.Kernel

end
-- ==== Proof.Kernel.RunA.lean ====
/-
  What one call of the kernel's body does at the first point of the grid: started with its buffers held whole, it ends with the five
  inputs as they were and with the listed pieces written into each buffer it stores into. The pieces are found by the run.
-/
module

public import proofs.«01_k».proof.Proof.Kernel.Cond

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 9600000 in
/-- The pieces written at the first point, and that the body's run writes them. The result block is held through its flat
    704-row shape, in which the body stores. -/
def run_A (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : cond0_0 i) (hc1 : ¬cond0_1 i)
    (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    Σ' (L5 : List (View.Piece (Elt F) S704x128 .f32)), Σ' (L8 : List (View.Piece (Elt F) S88x128 .f32)), Σ' (L9 : List (View.Piece (Elt F) S88x128 .f32)), { L10 : List (View.Piece (Elt F) S88x128 .f32) //
      ∀ (E : Set ℕ) (K : PUnit → sProp 𝕄),
        iprop((View.loc (c : Thread nD τ) arg1.view ↦[arg1.view.set]{fullShare} f0) ∗ (View.loc (c : Thread nD τ) arg2.view ↦[arg2.view.set]{fullShare} f1) ∗ (View.loc (c : Thread nD τ) arg3.view ↦[arg3.view.set]{fullShare} f2) ∗ (View.loc (c : Thread nD τ) arg4.view ↦[arg4.view.set]{fullShare} f3) ∗ (View.loc (c : Thread nD τ) arg5.view ↦[arg5.view.set]{fullShare} f4) ∗ (∃ d, owns (c : Thread nD τ) (arg6.reshape S704x128 reshapes_S88x8x128_S704x128.1 reshapes_S88x8x128_S704x128.2 harg6.contiguous) fullShare d) ∗ (View.loc (c : Thread nD τ) arg7.view ↦[arg7.view.set]{fullShare} f6) ∗ (View.loc (c : Thread nD τ) arg8.view ↦[arg8.view.set]{fullShare} f7) ∗ (View.loc (c : Thread nD τ) arg9.view ↦[arg9.view.set]{fullShare} f8) ∗ (View.loc (c : Thread nD τ) arg10.view ↦[arg10.view.set]{fullShare} f9) ∗ (View.loc (c : Thread nD τ) arg11.view ↦[arg11.view.set]{fullShare} f10)
          ∗ (iprop((View.loc (c : Thread nD τ) arg1.view ↦[arg1.view.set]{fullShare} f0) ∗ (View.loc (c : Thread nD τ) arg2.view ↦[arg2.view.set]{fullShare} f1) ∗ (View.loc (c : Thread nD τ) arg3.view ↦[arg3.view.set]{fullShare} f2) ∗ (View.loc (c : Thread nD τ) arg4.view ↦[arg4.view.set]{fullShare} f3) ∗ (View.loc (c : Thread nD τ) arg5.view ↦[arg5.view.set]{fullShare} f4) ∗ (∃ f, (View.loc (c : Thread nD τ) (arg6.reshape S704x128 reshapes_S88x8x128_S704x128.1 reshapes_S88x8x128_S704x128.2 harg6.contiguous).view ↦[(arg6.reshape S704x128 reshapes_S88x8x128_S704x128.1 reshapes_S88x8x128_S704x128.2 harg6.contiguous).view.set]{fullShare} ((arg6.reshape S704x128 reshapes_S88x8x128_S704x128.1 reshapes_S88x8x128_S704x128.2 harg6.contiguous).view.writes (Elt F) f L5))) ∗ (View.loc (c : Thread nD τ) arg7.view ↦[arg7.view.set]{fullShare} f6) ∗ (View.loc (c : Thread nD τ) arg8.view ↦[arg8.view.set]{fullShare} f7) ∗ (View.loc (c : Thread nD τ) arg9.view ↦[arg9.view.set]{fullShare} (arg9.view.writes (Elt F) f8 L8)) ∗ (View.loc (c : Thread nD τ) arg10.view ↦[arg10.view.set]{fullShare} (arg10.view.writes (Elt F) f9 L9)) ∗ (View.loc (c : Thread nD τ) arg11.view ↦[arg11.view.set]{fullShare} (arg11.view.writes (Elt F) f10 L10))) -∗ K ⟨⟩))
        ⊢ wp frame (wpE (defs₀ (F := F)) Variants.none c none) E (cc0_masked_lm_head i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_masked_lm_head_eq_skeleton]; unfold cc0_masked_lm_head_skel
    unfold owns
    iintro ⟨H0, H1, H2, H3, H4, ⟨%d5, %f5, -, H5⟩, H6, H7, H8, H9, H10, Hk⟩
    sl_exec_parts (disch := first | sl_exact hc0 | sl_exact hc1)
    sl_step
    iapply Hk
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [H9]; · iexact H9
    iexact H10

end Cert.Proof.Kernel

end
-- ==== Proof.Kernel.RunB.lean ====
/-
  What one call of the kernel's body does at a point that is neither the first nor the last of the grid: started with its buffers held whole, it ends with the five
  inputs as they were and with the listed pieces written into each buffer it stores into. The pieces are found by the run.
-/
module

public import proofs.«01_k».proof.Proof.Kernel.Cond

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 9600000 in
/-- The pieces written at a point that is neither the first nor the last, and that the body's run writes them. The result block is held through its flat
    704-row shape, in which the body stores. -/
def run_B (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : ¬cond0_1 i)
    (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    Σ' (L5 : List (View.Piece (Elt F) S704x128 .f32)), Σ' (L8 : List (View.Piece (Elt F) S88x128 .f32)), Σ' (L9 : List (View.Piece (Elt F) S88x128 .f32)), { L10 : List (View.Piece (Elt F) S88x128 .f32) //
      ∀ (E : Set ℕ) (K : PUnit → sProp 𝕄),
        iprop((View.loc (c : Thread nD τ) arg1.view ↦[arg1.view.set]{fullShare} f0) ∗ (View.loc (c : Thread nD τ) arg2.view ↦[arg2.view.set]{fullShare} f1) ∗ (View.loc (c : Thread nD τ) arg3.view ↦[arg3.view.set]{fullShare} f2) ∗ (View.loc (c : Thread nD τ) arg4.view ↦[arg4.view.set]{fullShare} f3) ∗ (View.loc (c : Thread nD τ) arg5.view ↦[arg5.view.set]{fullShare} f4) ∗ (∃ d, owns (c : Thread nD τ) (arg6.reshape S704x128 reshapes_S88x8x128_S704x128.1 reshapes_S88x8x128_S704x128.2 harg6.contiguous) fullShare d) ∗ (View.loc (c : Thread nD τ) arg7.view ↦[arg7.view.set]{fullShare} f6) ∗ (View.loc (c : Thread nD τ) arg8.view ↦[arg8.view.set]{fullShare} f7) ∗ (View.loc (c : Thread nD τ) arg9.view ↦[arg9.view.set]{fullShare} f8) ∗ (View.loc (c : Thread nD τ) arg10.view ↦[arg10.view.set]{fullShare} f9) ∗ (View.loc (c : Thread nD τ) arg11.view ↦[arg11.view.set]{fullShare} f10)
          ∗ (iprop((View.loc (c : Thread nD τ) arg1.view ↦[arg1.view.set]{fullShare} f0) ∗ (View.loc (c : Thread nD τ) arg2.view ↦[arg2.view.set]{fullShare} f1) ∗ (View.loc (c : Thread nD τ) arg3.view ↦[arg3.view.set]{fullShare} f2) ∗ (View.loc (c : Thread nD τ) arg4.view ↦[arg4.view.set]{fullShare} f3) ∗ (View.loc (c : Thread nD τ) arg5.view ↦[arg5.view.set]{fullShare} f4) ∗ (∃ f, (View.loc (c : Thread nD τ) (arg6.reshape S704x128 reshapes_S88x8x128_S704x128.1 reshapes_S88x8x128_S704x128.2 harg6.contiguous).view ↦[(arg6.reshape S704x128 reshapes_S88x8x128_S704x128.1 reshapes_S88x8x128_S704x128.2 harg6.contiguous).view.set]{fullShare} ((arg6.reshape S704x128 reshapes_S88x8x128_S704x128.1 reshapes_S88x8x128_S704x128.2 harg6.contiguous).view.writes (Elt F) f L5))) ∗ (View.loc (c : Thread nD τ) arg7.view ↦[arg7.view.set]{fullShare} f6) ∗ (View.loc (c : Thread nD τ) arg8.view ↦[arg8.view.set]{fullShare} f7) ∗ (View.loc (c : Thread nD τ) arg9.view ↦[arg9.view.set]{fullShare} (arg9.view.writes (Elt F) f8 L8)) ∗ (View.loc (c : Thread nD τ) arg10.view ↦[arg10.view.set]{fullShare} (arg10.view.writes (Elt F) f9 L9)) ∗ (View.loc (c : Thread nD τ) arg11.view ↦[arg11.view.set]{fullShare} (arg11.view.writes (Elt F) f10 L10))) -∗ K ⟨⟩))
        ⊢ wp frame (wpE (defs₀ (F := F)) Variants.none c none) E (cc0_masked_lm_head i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_masked_lm_head_eq_skeleton]; unfold cc0_masked_lm_head_skel
    unfold owns
    iintro ⟨H0, H1, H2, H3, H4, ⟨%d5, %f5, -, H5⟩, H6, H7, H8, H9, H10, Hk⟩
    sl_exec_parts (disch := first | sl_exact hc0 | sl_exact hc1)
    sl_step
    iapply Hk
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [H9]; · iexact H9
    iexact H10

end Cert.Proof.Kernel

end
-- ==== Proof.Kernel.RunC.lean ====
/-
  What one call of the kernel's body does at the last point of the grid: started with its buffers held whole, it ends with the five
  inputs as they were and with the listed pieces written into each buffer it stores into. The pieces are found by the run.
-/
module

public import proofs.«01_k».proof.Proof.Kernel.Cond

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 9600000 in
/-- The pieces written at the last point, and that the body's run writes them. The result block is held through its flat
    704-row shape, in which the body stores. -/
def run_C (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : cond0_1 i)
    (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    Σ' (L5 : List (View.Piece (Elt F) S704x128 .f32)), Σ' (L6 : List (View.Piece (Elt F) S88x1 .f32)), Σ' (L7 : List (View.Piece (Elt F) S88x32 .f32)), Σ' (L8 : List (View.Piece (Elt F) S88x128 .f32)), Σ' (L9 : List (View.Piece (Elt F) S88x128 .f32)), { L10 : List (View.Piece (Elt F) S88x128 .f32) //
      ∀ (E : Set ℕ) (K : PUnit → sProp 𝕄),
        iprop((View.loc (c : Thread nD τ) arg1.view ↦[arg1.view.set]{fullShare} f0) ∗ (View.loc (c : Thread nD τ) arg2.view ↦[arg2.view.set]{fullShare} f1) ∗ (View.loc (c : Thread nD τ) arg3.view ↦[arg3.view.set]{fullShare} f2) ∗ (View.loc (c : Thread nD τ) arg4.view ↦[arg4.view.set]{fullShare} f3) ∗ (View.loc (c : Thread nD τ) arg5.view ↦[arg5.view.set]{fullShare} f4) ∗ (∃ d, owns (c : Thread nD τ) (arg6.reshape S704x128 reshapes_S88x8x128_S704x128.1 reshapes_S88x8x128_S704x128.2 harg6.contiguous) fullShare d) ∗ (View.loc (c : Thread nD τ) arg7.view ↦[arg7.view.set]{fullShare} f6) ∗ (View.loc (c : Thread nD τ) arg8.view ↦[arg8.view.set]{fullShare} f7) ∗ (View.loc (c : Thread nD τ) arg9.view ↦[arg9.view.set]{fullShare} f8) ∗ (View.loc (c : Thread nD τ) arg10.view ↦[arg10.view.set]{fullShare} f9) ∗ (View.loc (c : Thread nD τ) arg11.view ↦[arg11.view.set]{fullShare} f10)
          ∗ (iprop((View.loc (c : Thread nD τ) arg1.view ↦[arg1.view.set]{fullShare} f0) ∗ (View.loc (c : Thread nD τ) arg2.view ↦[arg2.view.set]{fullShare} f1) ∗ (View.loc (c : Thread nD τ) arg3.view ↦[arg3.view.set]{fullShare} f2) ∗ (View.loc (c : Thread nD τ) arg4.view ↦[arg4.view.set]{fullShare} f3) ∗ (View.loc (c : Thread nD τ) arg5.view ↦[arg5.view.set]{fullShare} f4) ∗ (∃ f, (View.loc (c : Thread nD τ) (arg6.reshape S704x128 reshapes_S88x8x128_S704x128.1 reshapes_S88x8x128_S704x128.2 harg6.contiguous).view ↦[(arg6.reshape S704x128 reshapes_S88x8x128_S704x128.1 reshapes_S88x8x128_S704x128.2 harg6.contiguous).view.set]{fullShare} ((arg6.reshape S704x128 reshapes_S88x8x128_S704x128.1 reshapes_S88x8x128_S704x128.2 harg6.contiguous).view.writes (Elt F) f L5))) ∗ (View.loc (c : Thread nD τ) arg7.view ↦[arg7.view.set]{fullShare} (arg7.view.writes (Elt F) f6 L6)) ∗ (View.loc (c : Thread nD τ) arg8.view ↦[arg8.view.set]{fullShare} (arg8.view.writes (Elt F) f7 L7)) ∗ (View.loc (c : Thread nD τ) arg9.view ↦[arg9.view.set]{fullShare} (arg9.view.writes (Elt F) f8 L8)) ∗ (View.loc (c : Thread nD τ) arg10.view ↦[arg10.view.set]{fullShare} (arg10.view.writes (Elt F) f9 L9)) ∗ (View.loc (c : Thread nD τ) arg11.view ↦[arg11.view.set]{fullShare} (arg11.view.writes (Elt F) f10 L10))) -∗ K ⟨⟩))
        ⊢ wp frame (wpE (defs₀ (F := F)) Variants.none c none) E (cc0_masked_lm_head i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0_masked_lm_head_eq_skeleton]; unfold cc0_masked_lm_head_skel
    unfold owns
    iintro ⟨H0, H1, H2, H3, H4, ⟨%d5, %f5, -, H5⟩, H6, H7, H8, H9, H10, Hk⟩
    sl_exec_parts (disch := first | sl_exact hc0 | sl_exact hc1)
    sl_step
    iapply Hk
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [H9]; · iexact H9
    iexact H10

end Cert.Proof.Kernel

end
-- ==== Proof.Reshape.lean ====
/-
  A buffer held through a reshaped memref is the buffer held through the memref itself.
-/
module

public import Idealize.ShloMosaic.Lib.Memref
public import Idealize.ShloMosaic.Lib.Exec.Geometry
public import Idealize.ShloMosaic.Lib.Tactic

@[expose] public section

noncomputable section

namespace Cert.Proof

open Idealize.ShloMosaic
open Idealize.SL
open Idealize.SL.BI (sProp)
open scoped Idealize.SL.BI
open Idealize.SL.BI.BIBase Idealize.SL.BI.Laws Idealize.SL.ProofMode
open Idealize.SL.RA

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable (c : Thread nD τ) {sp : Space} {s s' : Shape} {e : EltTy} (m : Memref sig c.2.kind sp s e) (h : s'.numel = s.numel)
  (hr : 2 ≤ s.rank ∧ 2 ≤ s'.rank) (hc : m.view.Contiguous) (q : PosShare TreeShare)

/-- Reading through the reshaped memref is reading through the memref at the reshaped index. -/
theorem read_reshape (f : BufTy.Contents Val m.view.ty) (j : s'.Idx) :
    (m.reshape s' h hr hc).view.read Val f j = m.view.read Val f (Shape.reshapeEquiv h j) := rfl

/-- Held at some contents, it is held at some contents through the reshaped memref. -/
theorem reshape_of_owns (X : s.Idx → Val e) :
    (owns c m q X : sProp 𝕄) ⊢ iprop(∃ d, owns c (m.reshape s' h hr hc) q d) := by
  unfold owns
  iintro ⟨%f, -, H⟩
  iexists (fun j => m.view.read Val f (Shape.reshapeEquiv h j)), f
  isplitr
  · ipureintro; rfl
  rw [Memref.set_view_reshape m h hr hc]
  iexact H

/-- Held at given contents through the reshaped memref, it is held at those contents re-indexed. -/
theorem owns_of_reshape (f : BufTy.Contents Val m.view.ty) :
    ((View.loc c (m.reshape s' h hr hc).view ↦[(m.reshape s' h hr hc).view.set]{q} f : sProp 𝕄)) ⊢ owns c m q (m.view.read Val f) := by
  unfold owns
  iintro H
  iexists f
  isplitr
  · ipureintro; rfl
  rw [← Memref.set_view_reshape m h hr hc]
  iexact H

/-- The same, with the contents read there named. -/
theorem owns_of_reshape_eq (f : BufTy.Contents Val m.view.ty) (X : s.Idx → Val e) (hX : m.view.read Val f = X) :
    ((View.loc c (m.reshape s' h hr hc).view ↦[(m.reshape s' h hr hc).view.set]{q} f : sProp 𝕄)) ⊢ owns c m q X := by
  subst hX
  exact owns_of_reshape c m h hr hc q f

/-- A buffer held at some contents is owned at what is read there. -/
theorem owns_any (f : BufTy.Contents Val m.view.ty) :
    ((View.loc c m.view ↦[m.view.set]{q} f : sProp 𝕄)) ⊢ iprop(∃ d, owns c m q d) := by
  unfold owns
  iintro H
  iexists (m.view.read Val f), f
  isplitr
  · ipureintro; exact Eq.refl _
  iexact H

end Cert.Proof

end
-- ==== Proof.Kernel.Frame.lean ====
/-
  The frame of the kernel: run from any memory with zero counters, it ends with its arguments as they were and every counter at
  zero. Nothing is said here of what it leaves in its three results.
-/
module

public import proofs.«01_k».proof.Proof.Kernel.RunA
public import proofs.«01_k».proof.Proof.Kernel.RunB
public import proofs.«01_k».proof.Proof.Kernel.RunC
public import proofs.«01_k».proof.Proof.Reshape

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Staging and scratch memrefs -/

theorem liveAt0_0 : ∀ t : Fin cfg0.N, cfg0.idle 0 (grid0.coords t) = false := fun _ => rfl
abbrev ms0_0 (t : Fin cfg0.N) : Memref sig .tc .vmem S96x6144 .bf16 := win0_0.stage (cfg0.slots t 0)
abbrev hs0_0 (t : Fin cfg0.N) : (ms0_0 t).IsWhole := hstage0_0 ((cfg0.slots t 0).cast nbuf0_0)
theorem liveAt0_1 : ∀ t : Fin cfg0.N, cfg0.idle 1 (grid0.coords t) = false := fun _ => rfl
abbrev ms0_1 (t : Fin cfg0.N) : Memref sig .tc .vmem S3072x1024 .i8 := win0_1.stage (cfg0.slots t 1)
abbrev hs0_1 (t : Fin cfg0.N) : (ms0_1 t).IsWhole := hstage0_1 ((cfg0.slots t 1).cast nbuf0_1)
theorem liveAt0_2 : ∀ t : Fin cfg0.N, cfg0.idle 2 (grid0.coords t) = false := fun _ => rfl
abbrev ms0_2 (t : Fin cfg0.N) : Memref sig .tc .vmem S96x1024 .f32 := win0_2.stage (cfg0.slots t 2)
abbrev hs0_2 (t : Fin cfg0.N) : (ms0_2 t).IsWhole := hstage0_2 ((cfg0.slots t 2).cast nbuf0_2)
theorem liveAt0_3 : ∀ t : Fin cfg0.N, cfg0.idle 3 (grid0.coords t) = false := fun _ => rfl
abbrev ms0_3 (t : Fin cfg0.N) : Memref sig .tc .vmem S88x1536 .i32 := win0_3.stage (cfg0.slots t 3)
abbrev hs0_3 (t : Fin cfg0.N) : (ms0_3 t).IsWhole := hstage0_3 ((cfg0.slots t 3).cast nbuf0_3)
theorem liveAt0_4 : ∀ t : Fin cfg0.N, cfg0.idle 4 (grid0.coords t) = false := fun _ => rfl
abbrev ms0_4 (t : Fin cfg0.N) : Memref sig .tc .vmem S88x128 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S88x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S88x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S88x32 .f32 := win0_7.stage (cfg0.slots t 7)
abbrev hs0_7 (t : Fin cfg0.N) : (ms0_7 t).IsWhole := hstage0_7 ((cfg0.slots t 7).cast nbuf0_7)
abbrev scM0_0 : Memref sig .tc .vmem S88x128 .f32 := Memref.whole cc0_scratch0
abbrev scM0_1 : Memref sig .tc .vmem S88x128 .f32 := Memref.whole cc0_scratch1
abbrev scM0_2 : Memref sig .tc .vmem S88x128 .f32 := Memref.whole cc0_scratch2

/-- The class's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Nothing is named of what the body leaves in the three results. -/
def forgets0 : Fin 8 → Bool := fun w => w.val == 5 || w.val == 6 || w.val == 7

/-- The proof data: the arrays as the region finds them, each input's buffer at its block throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : ((dats m 0 c).leavesExact 0 t : sProp 𝕄) = owns (c : Thread nD τ) (ms0_0 t) fullShare (iblk m c 0 t) := by
  unfold Dat.leavesExact; rw [liveAt0_0 t, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : ((dats m 0 c).leavesExact 1 t : sProp 𝕄) = owns (c : Thread nD τ) (ms0_1 t) fullShare (iblk m c 1 t) := by
  unfold Dat.leavesExact; rw [liveAt0_1 t, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : ((dats m 0 c).leavesExact 2 t : sProp 𝕄) = owns (c : Thread nD τ) (ms0_2 t) fullShare (iblk m c 2 t) := by
  unfold Dat.leavesExact; rw [liveAt0_2 t, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : ((dats m 0 c).leavesExact 3 t : sProp 𝕄) = owns (c : Thread nD τ) (ms0_3 t) fullShare (iblk m c 3 t) := by
  unfold Dat.leavesExact; rw [liveAt0_3 t, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : ((dats m 0 c).leavesExact 4 t : sProp 𝕄) = owns (c : Thread nD τ) (ms0_4 t) fullShare (iblk m c 4 t) := by
  unfold Dat.leavesExact; rw [liveAt0_4 t, after0_4]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d)
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (∃ d, owns (c : Thread nD τ) (ms0_5 t) fullShare d)
    ∗ (∃ d, owns (c : Thread nD τ) (ms0_6 t) fullShare d)
    ∗ (∃ d, owns (c : Thread nD τ) (ms0_7 t) fullShare d))

set_option maxHeartbeats 9600000 in
/-- The body at any point, by the run of its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  have hN : t.val < 48 := lt_of_lt_of_eq t.isLt (show cfg0.N = 48 from N_0)
  by_cases h0 : t.val % 48 = 0
  · have h1 : ¬t.val % 48 = 47 := by omega
    iintro ⟨⟨⟨⟨%e0, S0⟩, ⟨%e1, S1⟩, ⟨%e2, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    ihave H5 := (reshape_of_owns (c : Thread nD τ) (ms0_5 t) reshapes_S88x8x128_S704x128.1 reshapes_S88x8x128_S704x128.2 (hs0_5 t).contiguous fullShare _) $$ H5
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H6 with ⟨%f6, %hf6, H6⟩
    icases H7 with ⟨%f7, %hf7, H7⟩
    icases S0 with ⟨%f8, %hf8, S0⟩
    icases S1 with ⟨%f9, %hf9, S1⟩
    icases S2 with ⟨%f10, %hf10, S2⟩
    iapply ((run_A c (grid0.coords t) _ _ _ _ _ _ _ _ _ _ _ _ _ _ _ _ _ _ _ _ _ _ ((hcond0_0 t).mpr h0) (fun h => h1 ((hcond0_1 t).mp h)) f0 f1 f2 f3 f4 f6 f7 f8 f9 f10).2.2.2.2 Set.univ _)
    isplitl [H0]; · iexact H0
    isplitl [H1]; · iexact H1
    isplitl [H2]; · iexact H2
    isplitl [H3]; · iexact H3
    isplitl [H4]; · iexact H4
    isplitl [H5]; · unfold owns; iexact H5
    isplitl [H6]; · iexact H6
    isplitl [H7]; · iexact H7
    isplitl [S0]; · iexact S0
    isplitl [S1]; · iexact S1
    isplitl [S2]; · iexact S2
    iintro ⟨H0, H1, H2, H3, H4, ⟨%f5, H5⟩, H6, H7, S0, S1, S2⟩
    isplitl [S0 S1 S2 Hg]
    · isplitl [S0 S1 S2]
      · isplitl [S0]; · iapply (owns_any (c : Thread nD τ) scM0_0 fullShare) $$ S0
        isplitl [S1]; · iapply (owns_any (c : Thread nD τ) scM0_1 fullShare) $$ S1
        iapply (owns_any (c : Thread nD τ) scM0_2 fullShare) $$ S2
      iexact Hg
    isplitl [Ho]; · iexact Ho
    isplitl [H0]; · iexists _; isplitr; rotate_left; iexact H0; ipureintro; exact hf0
    isplitl [H1]; · iexists _; isplitr; rotate_left; iexact H1; ipureintro; exact hf1
    isplitl [H2]; · iexists _; isplitr; rotate_left; iexact H2; ipureintro; exact hf2
    isplitl [H3]; · iexists _; isplitr; rotate_left; iexact H3; ipureintro; exact hf3
    isplitl [H4]; · iexists _; isplitr; rotate_left; iexact H4; ipureintro; exact hf4
    isplitl [H5]
    · ihave H5 := (owns_of_reshape (c : Thread nD τ) (ms0_5 t) reshapes_S88x8x128_S704x128.1 reshapes_S88x8x128_S704x128.2 (hs0_5 t).contiguous fullShare _) $$ H5
      unfold owns; iexists _; iexact H5
    isplitl [H6]; · iapply (owns_any (c : Thread nD τ) (ms0_6 t) fullShare) $$ H6
    iapply (owns_any (c : Thread nD τ) (ms0_7 t) fullShare) $$ H7
  by_cases h1 : t.val % 48 = 47
  · iintro ⟨⟨⟨⟨%e0, S0⟩, ⟨%e1, S1⟩, ⟨%e2, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    ihave H5 := (reshape_of_owns (c : Thread nD τ) (ms0_5 t) reshapes_S88x8x128_S704x128.1 reshapes_S88x8x128_S704x128.2 (hs0_5 t).contiguous fullShare _) $$ H5
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H6 with ⟨%f6, %hf6, H6⟩
    icases H7 with ⟨%f7, %hf7, H7⟩
    icases S0 with ⟨%f8, %hf8, S0⟩
    icases S1 with ⟨%f9, %hf9, S1⟩
    icases S2 with ⟨%f10, %hf10, S2⟩
    iapply ((run_C c (grid0.coords t) _ _ _ _ _ _ _ _ _ _ _ _ _ _ _ _ _ _ _ _ _ _ (fun h => h0 ((hcond0_0 t).mp h)) ((hcond0_1 t).mpr h1) f0 f1 f2 f3 f4 f6 f7 f8 f9 f10).2.2.2.2.2.2 Set.univ _)
    isplitl [H0]; · iexact H0
    isplitl [H1]; · iexact H1
    isplitl [H2]; · iexact H2
    isplitl [H3]; · iexact H3
    isplitl [H4]; · iexact H4
    isplitl [H5]; · unfold owns; iexact H5
    isplitl [H6]; · iexact H6
    isplitl [H7]; · iexact H7
    isplitl [S0]; · iexact S0
    isplitl [S1]; · iexact S1
    isplitl [S2]; · iexact S2
    iintro ⟨H0, H1, H2, H3, H4, ⟨%f5, H5⟩, H6, H7, S0, S1, S2⟩
    isplitl [S0 S1 S2 Hg]
    · isplitl [S0 S1 S2]
      · isplitl [S0]; · iapply (owns_any (c : Thread nD τ) scM0_0 fullShare) $$ S0
        isplitl [S1]; · iapply (owns_any (c : Thread nD τ) scM0_1 fullShare) $$ S1
        iapply (owns_any (c : Thread nD τ) scM0_2 fullShare) $$ S2
      iexact Hg
    isplitl [Ho]; · iexact Ho
    isplitl [H0]; · iexists _; isplitr; rotate_left; iexact H0; ipureintro; exact hf0
    isplitl [H1]; · iexists _; isplitr; rotate_left; iexact H1; ipureintro; exact hf1
    isplitl [H2]; · iexists _; isplitr; rotate_left; iexact H2; ipureintro; exact hf2
    isplitl [H3]; · iexists _; isplitr; rotate_left; iexact H3; ipureintro; exact hf3
    isplitl [H4]; · iexists _; isplitr; rotate_left; iexact H4; ipureintro; exact hf4
    isplitl [H5]
    · ihave H5 := (owns_of_reshape (c : Thread nD τ) (ms0_5 t) reshapes_S88x8x128_S704x128.1 reshapes_S88x8x128_S704x128.2 (hs0_5 t).contiguous fullShare _) $$ H5
      unfold owns; iexists _; iexact H5
    isplitl [H6]; · iapply (owns_any (c : Thread nD τ) (ms0_6 t) fullShare) $$ H6
    iapply (owns_any (c : Thread nD τ) (ms0_7 t) fullShare) $$ H7
  · iintro ⟨⟨⟨⟨%e0, S0⟩, ⟨%e1, S1⟩, ⟨%e2, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    ihave H5 := (reshape_of_owns (c : Thread nD τ) (ms0_5 t) reshapes_S88x8x128_S704x128.1 reshapes_S88x8x128_S704x128.2 (hs0_5 t).contiguous fullShare _) $$ H5
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H6 with ⟨%f6, %hf6, H6⟩
    icases H7 with ⟨%f7, %hf7, H7⟩
    icases S0 with ⟨%f8, %hf8, S0⟩
    icases S1 with ⟨%f9, %hf9, S1⟩
    icases S2 with ⟨%f10, %hf10, S2⟩
    iapply ((run_B c (grid0.coords t) _ _ _ _ _ _ _ _ _ _ _ _ _ _ _ _ _ _ _ _ _ _ (fun h => h0 ((hcond0_0 t).mp h)) (fun h => h1 ((hcond0_1 t).mp h)) f0 f1 f2 f3 f4 f6 f7 f8 f9 f10).2.2.2.2 Set.univ _)
    isplitl [H0]; · iexact H0
    isplitl [H1]; · iexact H1
    isplitl [H2]; · iexact H2
    isplitl [H3]; · iexact H3
    isplitl [H4]; · iexact H4
    isplitl [H5]; · unfold owns; iexact H5
    isplitl [H6]; · iexact H6
    isplitl [H7]; · iexact H7
    isplitl [S0]; · iexact S0
    isplitl [S1]; · iexact S1
    isplitl [S2]; · iexact S2
    iintro ⟨H0, H1, H2, H3, H4, ⟨%f5, H5⟩, H6, H7, S0, S1, S2⟩
    isplitl [S0 S1 S2 Hg]
    · isplitl [S0 S1 S2]
      · isplitl [S0]; · iapply (owns_any (c : Thread nD τ) scM0_0 fullShare) $$ S0
        isplitl [S1]; · iapply (owns_any (c : Thread nD τ) scM0_1 fullShare) $$ S1
        iapply (owns_any (c : Thread nD τ) scM0_2 fullShare) $$ S2
      iexact Hg
    isplitl [Ho]; · iexact Ho
    isplitl [H0]; · iexists _; isplitr; rotate_left; iexact H0; ipureintro; exact hf0
    isplitl [H1]; · iexists _; isplitr; rotate_left; iexact H1; ipureintro; exact hf1
    isplitl [H2]; · iexists _; isplitr; rotate_left; iexact H2; ipureintro; exact hf2
    isplitl [H3]; · iexists _; isplitr; rotate_left; iexact H3; ipureintro; exact hf3
    isplitl [H4]; · iexists _; isplitr; rotate_left; iexact H4; ipureintro; exact hf4
    isplitl [H5]
    · ihave H5 := (owns_of_reshape (c : Thread nD τ) (ms0_5 t) reshapes_S88x8x128_S704x128.1 reshapes_S88x8x128_S704x128.2 (hs0_5 t).contiguous fullShare _) $$ H5
      unfold owns; iexists _; iexact H5
    isplitl [H6]; · iapply (owns_any (c : Thread nD τ) (ms0_6 t) fullShare) $$ H6
    iapply (owns_any (c : Thread nD τ) (ms0_7 t) fullShare) $$ H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := .rfl
theorem hout (c : Dev nD) : (dats m 0 c).Φ (Fin.last cfg0.N) ⊢ Pipeline.ΦA spec0 c := .rfl

-- the launch theorem's implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      ((h c).2 main_arg4 (Pipeline.mem_restRefs_of main_arg4 (by decide) (by decide))).trans (V_main_arg4 m c)⟩) (run_main m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.Kernel

end
-- ==== Proof.KernelIdeal.Cond.lean ====
/-
  The two conditions of the kernel's body in closed form: its first conditional is taken at the first point of the grid and its
  last one at the last point.
-/
module

public import proofs.«01_k».proof.Proof.Gen.KernelIdeal.Frame
public import proofs.«01_k».proof.Proof.Gen.KernelIdeal.Skeleton
public import Idealize.ShloMosaic.Lib.Claim

@[expose] public section

noncomputable section

namespace Cert.Proof.KernelIdeal

open Cert.KernelIdeal Cert.KernelIdeal.Gen
open Idealize.ShloMosaic Idealize.ShloMosaic.TcCoe Idealize.ShloMosaic.Tactic

/-- The first conditional's condition. -/
abbrev cond0_0 (i : grid0.Coords) : Prop := (Scalar.cmpi .ne (Scalar.extui (Scalar.cmpi .eq (BitVec.ofNat 32 (i 0).val) 0#32)) 0#32) = 1#1

/-- It holds at the first point only. -/
theorem hcond0_0 : ∀ t : Fin cfg0.N, cond0_0 (grid0.coords t) ↔ t.val % 48 = 0 :=
  (fun t => by
    have ht : t.val < 48 := Nat.lt_of_lt_of_eq t.isLt N_0
    have e0 : (grid0.coords t 0).val = t.val / 1 % 48 := Pipeline.Grid.coords_val t 0 (by decide) rfl
    simp only [cond0_0, e0]
    word_cmp
   : ∀ t : Fin grid0.N, cond0_0 (grid0.coords t) ↔ t.val % 48 = 0)

/-- The last conditional's condition. -/
abbrev cond0_1 (i : grid0.Coords) : Prop := k0_cond2 i = 1#1

/-- It holds at the last point only. -/
theorem hcond0_1 : ∀ t : Fin cfg0.N, cond0_1 (grid0.coords t) ↔ t.val % 48 = 47 :=
  (fun t => by
    have ht : t.val < 48 := Nat.lt_of_lt_of_eq t.isLt N_0
    have e0 : (grid0.coords t 0).val = t.val / 1 % 48 := Pipeline.Grid.coords_val t 0 (by decide) rfl
    simp only [cond0_1, k0_cond2, e0]
    word_cmp
   : ∀ t : Fin grid0.N, cond0_1 (grid0.coords t) ↔ t.val % 48 = 47)

end Cert.Proof.KernelIdeal

end
-- ==== Proof.KernelIdeal.RunA.lean ====
/-
  What one call of the kernel's body does at the first point of the grid: started with its buffers held whole, it ends with the five
  inputs as they were and with the listed pieces written into each buffer it stores into. The pieces are found by the run.
-/
module

public import proofs.«01_k».proof.Proof.KernelIdeal.Cond

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 9600000 in
/-- The pieces written at the first point, and that the body's run writes them. The result block is held through its flat
    704-row shape, in which the body stores. -/
def run_A (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : cond0_0 i) (hc1 : ¬cond0_1 i)
    (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    Σ' (L5 : List (View.Piece (Elt F) S704x128 .f32)), Σ' (L8 : List (View.Piece (Elt F) S88x128 .f32)), Σ' (L9 : List (View.Piece (Elt F) S88x128 .f32)), { L10 : List (View.Piece (Elt F) S88x128 .f32) //
      ∀ (E : Set ℕ) (K : PUnit → sProp 𝕄),
        iprop((View.loc (c : Thread nD τ) arg1.view ↦[arg1.view.set]{fullShare} f0) ∗ (View.loc (c : Thread nD τ) arg2.view ↦[arg2.view.set]{fullShare} f1) ∗ (View.loc (c : Thread nD τ) arg3.view ↦[arg3.view.set]{fullShare} f2) ∗ (View.loc (c : Thread nD τ) arg4.view ↦[arg4.view.set]{fullShare} f3) ∗ (View.loc (c : Thread nD τ) arg5.view ↦[arg5.view.set]{fullShare} f4) ∗ (∃ d, owns (c : Thread nD τ) (arg6.reshape S704x128 reshapes_S88x8x128_S704x128.1 reshapes_S88x8x128_S704x128.2 harg6.contiguous) fullShare d) ∗ (View.loc (c : Thread nD τ) arg7.view ↦[arg7.view.set]{fullShare} f6) ∗ (View.loc (c : Thread nD τ) arg8.view ↦[arg8.view.set]{fullShare} f7) ∗ (View.loc (c : Thread nD τ) arg9.view ↦[arg9.view.set]{fullShare} f8) ∗ (View.loc (c : Thread nD τ) arg10.view ↦[arg10.view.set]{fullShare} f9) ∗ (View.loc (c : Thread nD τ) arg11.view ↦[arg11.view.set]{fullShare} f10)
          ∗ (iprop((View.loc (c : Thread nD τ) arg1.view ↦[arg1.view.set]{fullShare} f0) ∗ (View.loc (c : Thread nD τ) arg2.view ↦[arg2.view.set]{fullShare} f1) ∗ (View.loc (c : Thread nD τ) arg3.view ↦[arg3.view.set]{fullShare} f2) ∗ (View.loc (c : Thread nD τ) arg4.view ↦[arg4.view.set]{fullShare} f3) ∗ (View.loc (c : Thread nD τ) arg5.view ↦[arg5.view.set]{fullShare} f4) ∗ (∃ f, (View.loc (c : Thread nD τ) (arg6.reshape S704x128 reshapes_S88x8x128_S704x128.1 reshapes_S88x8x128_S704x128.2 harg6.contiguous).view ↦[(arg6.reshape S704x128 reshapes_S88x8x128_S704x128.1 reshapes_S88x8x128_S704x128.2 harg6.contiguous).view.set]{fullShare} ((arg6.reshape S704x128 reshapes_S88x8x128_S704x128.1 reshapes_S88x8x128_S704x128.2 harg6.contiguous).view.writes (Elt F) f L5))) ∗ (View.loc (c : Thread nD τ) arg7.view ↦[arg7.view.set]{fullShare} f6) ∗ (View.loc (c : Thread nD τ) arg8.view ↦[arg8.view.set]{fullShare} f7) ∗ (View.loc (c : Thread nD τ) arg9.view ↦[arg9.view.set]{fullShare} (arg9.view.writes (Elt F) f8 L8)) ∗ (View.loc (c : Thread nD τ) arg10.view ↦[arg10.view.set]{fullShare} (arg10.view.writes (Elt F) f9 L9)) ∗ (View.loc (c : Thread nD τ) arg11.view ↦[arg11.view.set]{fullShare} (arg11.view.writes (Elt F) f10 L10))) -∗ K ⟨⟩))
        ⊢ wp frame (wpE (defs₀ (F := F)) Variants.none c none) E (cc0_masked_lm_head i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_masked_lm_head_eq_skeleton]; unfold cc0_masked_lm_head_skel
    unfold owns
    iintro ⟨H0, H1, H2, H3, H4, ⟨%d5, %f5, -, H5⟩, H6, H7, H8, H9, H10, Hk⟩
    sl_exec_parts (disch := first | sl_exact hc0 | sl_exact hc1)
    sl_step
    iapply Hk
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [H9]; · iexact H9
    iexact H10

end Cert.Proof.KernelIdeal

end
-- ==== Proof.KernelIdeal.RunB.lean ====
/-
  What one call of the kernel's body does at a point that is neither the first nor the last of the grid: started with its buffers held whole, it ends with the five
  inputs as they were and with the listed pieces written into each buffer it stores into. The pieces are found by the run.
-/
module

public import proofs.«01_k».proof.Proof.KernelIdeal.Cond

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 9600000 in
/-- The pieces written at a point that is neither the first nor the last, and that the body's run writes them. The result block is held through its flat
    704-row shape, in which the body stores. -/
def run_B (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : ¬cond0_1 i)
    (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    Σ' (L5 : List (View.Piece (Elt F) S704x128 .f32)), Σ' (L8 : List (View.Piece (Elt F) S88x128 .f32)), Σ' (L9 : List (View.Piece (Elt F) S88x128 .f32)), { L10 : List (View.Piece (Elt F) S88x128 .f32) //
      ∀ (E : Set ℕ) (K : PUnit → sProp 𝕄),
        iprop((View.loc (c : Thread nD τ) arg1.view ↦[arg1.view.set]{fullShare} f0) ∗ (View.loc (c : Thread nD τ) arg2.view ↦[arg2.view.set]{fullShare} f1) ∗ (View.loc (c : Thread nD τ) arg3.view ↦[arg3.view.set]{fullShare} f2) ∗ (View.loc (c : Thread nD τ) arg4.view ↦[arg4.view.set]{fullShare} f3) ∗ (View.loc (c : Thread nD τ) arg5.view ↦[arg5.view.set]{fullShare} f4) ∗ (∃ d, owns (c : Thread nD τ) (arg6.reshape S704x128 reshapes_S88x8x128_S704x128.1 reshapes_S88x8x128_S704x128.2 harg6.contiguous) fullShare d) ∗ (View.loc (c : Thread nD τ) arg7.view ↦[arg7.view.set]{fullShare} f6) ∗ (View.loc (c : Thread nD τ) arg8.view ↦[arg8.view.set]{fullShare} f7) ∗ (View.loc (c : Thread nD τ) arg9.view ↦[arg9.view.set]{fullShare} f8) ∗ (View.loc (c : Thread nD τ) arg10.view ↦[arg10.view.set]{fullShare} f9) ∗ (View.loc (c : Thread nD τ) arg11.view ↦[arg11.view.set]{fullShare} f10)
          ∗ (iprop((View.loc (c : Thread nD τ) arg1.view ↦[arg1.view.set]{fullShare} f0) ∗ (View.loc (c : Thread nD τ) arg2.view ↦[arg2.view.set]{fullShare} f1) ∗ (View.loc (c : Thread nD τ) arg3.view ↦[arg3.view.set]{fullShare} f2) ∗ (View.loc (c : Thread nD τ) arg4.view ↦[arg4.view.set]{fullShare} f3) ∗ (View.loc (c : Thread nD τ) arg5.view ↦[arg5.view.set]{fullShare} f4) ∗ (∃ f, (View.loc (c : Thread nD τ) (arg6.reshape S704x128 reshapes_S88x8x128_S704x128.1 reshapes_S88x8x128_S704x128.2 harg6.contiguous).view ↦[(arg6.reshape S704x128 reshapes_S88x8x128_S704x128.1 reshapes_S88x8x128_S704x128.2 harg6.contiguous).view.set]{fullShare} ((arg6.reshape S704x128 reshapes_S88x8x128_S704x128.1 reshapes_S88x8x128_S704x128.2 harg6.contiguous).view.writes (Elt F) f L5))) ∗ (View.loc (c : Thread nD τ) arg7.view ↦[arg7.view.set]{fullShare} f6) ∗ (View.loc (c : Thread nD τ) arg8.view ↦[arg8.view.set]{fullShare} f7) ∗ (View.loc (c : Thread nD τ) arg9.view ↦[arg9.view.set]{fullShare} (arg9.view.writes (Elt F) f8 L8)) ∗ (View.loc (c : Thread nD τ) arg10.view ↦[arg10.view.set]{fullShare} (arg10.view.writes (Elt F) f9 L9)) ∗ (View.loc (c : Thread nD τ) arg11.view ↦[arg11.view.set]{fullShare} (arg11.view.writes (Elt F) f10 L10))) -∗ K ⟨⟩))
        ⊢ wp frame (wpE (defs₀ (F := F)) Variants.none c none) E (cc0_masked_lm_head i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_masked_lm_head_eq_skeleton]; unfold cc0_masked_lm_head_skel
    unfold owns
    iintro ⟨H0, H1, H2, H3, H4, ⟨%d5, %f5, -, H5⟩, H6, H7, H8, H9, H10, Hk⟩
    sl_exec_parts (disch := first | sl_exact hc0 | sl_exact hc1)
    sl_step
    iapply Hk
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [H9]; · iexact H9
    iexact H10

end Cert.Proof.KernelIdeal

end
-- ==== Proof.KernelIdeal.RunC.lean ====
/-
  What one call of the kernel's body does at the last point of the grid: started with its buffers held whole, it ends with the five
  inputs as they were and with the listed pieces written into each buffer it stores into. The pieces are found by the run.
-/
module

public import proofs.«01_k».proof.Proof.KernelIdeal.Cond

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 9600000 in
/-- The pieces written at the last point, and that the body's run writes them. The result block is held through its flat
    704-row shape, in which the body stores. -/
def run_C (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : cond0_1 i)
    (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    Σ' (L5 : List (View.Piece (Elt F) S704x128 .f32)), Σ' (L6 : List (View.Piece (Elt F) S88x1 .f32)), Σ' (L7 : List (View.Piece (Elt F) S88x32 .f32)), Σ' (L8 : List (View.Piece (Elt F) S88x128 .f32)), Σ' (L9 : List (View.Piece (Elt F) S88x128 .f32)), { L10 : List (View.Piece (Elt F) S88x128 .f32) //
      ∀ (E : Set ℕ) (K : PUnit → sProp 𝕄),
        iprop((View.loc (c : Thread nD τ) arg1.view ↦[arg1.view.set]{fullShare} f0) ∗ (View.loc (c : Thread nD τ) arg2.view ↦[arg2.view.set]{fullShare} f1) ∗ (View.loc (c : Thread nD τ) arg3.view ↦[arg3.view.set]{fullShare} f2) ∗ (View.loc (c : Thread nD τ) arg4.view ↦[arg4.view.set]{fullShare} f3) ∗ (View.loc (c : Thread nD τ) arg5.view ↦[arg5.view.set]{fullShare} f4) ∗ (∃ d, owns (c : Thread nD τ) (arg6.reshape S704x128 reshapes_S88x8x128_S704x128.1 reshapes_S88x8x128_S704x128.2 harg6.contiguous) fullShare d) ∗ (View.loc (c : Thread nD τ) arg7.view ↦[arg7.view.set]{fullShare} f6) ∗ (View.loc (c : Thread nD τ) arg8.view ↦[arg8.view.set]{fullShare} f7) ∗ (View.loc (c : Thread nD τ) arg9.view ↦[arg9.view.set]{fullShare} f8) ∗ (View.loc (c : Thread nD τ) arg10.view ↦[arg10.view.set]{fullShare} f9) ∗ (View.loc (c : Thread nD τ) arg11.view ↦[arg11.view.set]{fullShare} f10)
          ∗ (iprop((View.loc (c : Thread nD τ) arg1.view ↦[arg1.view.set]{fullShare} f0) ∗ (View.loc (c : Thread nD τ) arg2.view ↦[arg2.view.set]{fullShare} f1) ∗ (View.loc (c : Thread nD τ) arg3.view ↦[arg3.view.set]{fullShare} f2) ∗ (View.loc (c : Thread nD τ) arg4.view ↦[arg4.view.set]{fullShare} f3) ∗ (View.loc (c : Thread nD τ) arg5.view ↦[arg5.view.set]{fullShare} f4) ∗ (∃ f, (View.loc (c : Thread nD τ) (arg6.reshape S704x128 reshapes_S88x8x128_S704x128.1 reshapes_S88x8x128_S704x128.2 harg6.contiguous).view ↦[(arg6.reshape S704x128 reshapes_S88x8x128_S704x128.1 reshapes_S88x8x128_S704x128.2 harg6.contiguous).view.set]{fullShare} ((arg6.reshape S704x128 reshapes_S88x8x128_S704x128.1 reshapes_S88x8x128_S704x128.2 harg6.contiguous).view.writes (Elt F) f L5))) ∗ (View.loc (c : Thread nD τ) arg7.view ↦[arg7.view.set]{fullShare} (arg7.view.writes (Elt F) f6 L6)) ∗ (View.loc (c : Thread nD τ) arg8.view ↦[arg8.view.set]{fullShare} (arg8.view.writes (Elt F) f7 L7)) ∗ (View.loc (c : Thread nD τ) arg9.view ↦[arg9.view.set]{fullShare} (arg9.view.writes (Elt F) f8 L8)) ∗ (View.loc (c : Thread nD τ) arg10.view ↦[arg10.view.set]{fullShare} (arg10.view.writes (Elt F) f9 L9)) ∗ (View.loc (c : Thread nD τ) arg11.view ↦[arg11.view.set]{fullShare} (arg11.view.writes (Elt F) f10 L10))) -∗ K ⟨⟩))
        ⊢ wp frame (wpE (defs₀ (F := F)) Variants.none c none) E (cc0_masked_lm_head i arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun E K => ?run⟩
  case run =>
    simp only [cc0_masked_lm_head_eq_skeleton]; unfold cc0_masked_lm_head_skel
    unfold owns
    iintro ⟨H0, H1, H2, H3, H4, ⟨%d5, %f5, -, H5⟩, H6, H7, H8, H9, H10, Hk⟩
    sl_exec_parts (disch := first | sl_exact hc0 | sl_exact hc1)
    sl_step
    iapply Hk
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    isplitl [H9]; · iexact H9
    iexact H10

end Cert.Proof.KernelIdeal

end
-- ==== Proof.KernelIdeal.Spec.lean ====
/-
  What one call of the kernel's body writes into its block of masked logits, written once for all its
  pieces: the weight tile of one contraction block, the matrix units' state after the contraction
  blocks, the mask of one chunk, and the 88 pieces in the order they are written (the last first).
-/
module

public import proofs.«01_k».proof.Proof.KernelIdeal.Cond

@[expose] public section

set_option maxRecDepth 16384

noncomputable section

namespace Cert.Proof.KernelIdeal

open Cert.KernelIdeal Cert.KernelIdeal.Gen
open Idealize.ShloMosaic

variable {F : FTy → Type} [FloatOps F] [Named F]

/-- The activations of contraction block `kb`. -/
def act (x0 : Vec F S96x6144 .bf16) (kb : Fin 24) : FVec F S96x256 .bf16 :=
  shapeCast S96x256
    (fun x => x0 ((Rect.unit (s := S96x6144) ![0, 256 * kb.val] S96x256.size
      (by intro a; fin_cases a <;> simp <;> omega)).toLoadRect.idx x))
    shapeCasts_S96x256_S96x256

/-- The packed weights of contraction block `kb` and column tile `jc`. -/
def wide (x1 : Vec F S3072x1024 .i8) (kb : Fin 24) (jc : Fin 4) : IVec S128x256 32 :=
  extui 32 (fun x => x1 ((Rect.unit (s := S3072x1024) ![128 * kb.val, 256 * jc.val] S128x256.size
      (by intro a; fin_cases a <;> simp <;> omega)).toLoadRect.idx x) : IVec S128x256 8) natLt_8_32

/-- The signed codes of the tile: each packed row gives its low half, then its high half. -/
def codes (x1 : Vec F S3072x1024 .i8) (kb : Fin 24) (jc : Fin 4) : FVec F S256x256 .bf16 :=
  sitofp .bf16 (shapeCast S256x256
    (concatenate S128x2x256 1
      [⟨S128x1x256, shapeCast S128x1x256 (shrsi (shli (wide (F := F) x1 kb jc) (broadcast S128x256 28#32)) (broadcast S128x256 28#32)) shapeCasts_S128x256_S128x1x256⟩,
       ⟨S128x1x256, shapeCast S128x1x256 (shrsi (shli (wide (F := F) x1 kb jc) (broadcast S128x256 24#32)) (broadcast S128x256 28#32)) shapeCasts_S128x256_S128x1x256⟩]
      concatenates_S128x1x256_S128x1x256_S128x2x256_d1) shapeCasts_S128x2x256_S256x256)

/-- The scales of group `g` of the contraction block, repeated over sixteen rows. -/
def scl (x2 : Vec F S96x1024 .f32) (kb : Fin 24) (jc : Fin 4) (g : Fin 4) : FVec F S16x256 .bf16 :=
  truncf .bf16 (broadcastTo S16x256 (shapeCast S1x256
    (fun x => x2 ((Rect.unit (s := S96x1024) ![4 * kb.val + g.val, 256 * jc.val] S1x256.size
      (by intro a; fin_cases a <;> simp <;> omega)).toLoadRect.idx x))
    shapeCasts_S1x256_S1x256) broadcasts_S1x256_S16x256) bitsLt_bf16_f32

/-- Sixteen rows of the scaled tile. -/
def part (x1 : Vec F S3072x1024 .i8) (x2 : Vec F S96x1024 .f32) (kb : Fin 24) (jc : Fin 4) (t : Fin 16) :
    FVec F S16x256 .bf16 :=
  mulf (extractStridedSlice S16x256 ![16 * t.val, 0] (codes x1 kb jc)
      ⟨rfl, by intro a; fin_cases a <;> simp <;> omega⟩)
    (scl x2 kb jc ⟨t.val / 4, by omega⟩)

/-- The scaled weight tile. -/
def tile (x1 : Vec F S3072x1024 .i8) (x2 : Vec F S96x1024 .f32) (kb : Fin 24) (jc : Fin 4) :
    FVec F S256x256 .bf16 :=
  concatenate S256x256 0
    [⟨S16x256, part x1 x2 kb jc 0⟩, ⟨S16x256, part x1 x2 kb jc 1⟩, ⟨S16x256, part x1 x2 kb jc 2⟩, ⟨S16x256, part x1 x2 kb jc 3⟩, ⟨S16x256, part x1 x2 kb jc 4⟩, ⟨S16x256, part x1 x2 kb jc 5⟩, ⟨S16x256, part x1 x2 kb jc 6⟩, ⟨S16x256, part x1 x2 kb jc 7⟩, ⟨S16x256, part x1 x2 kb jc 8⟩, ⟨S16x256, part x1 x2 kb jc 9⟩, ⟨S16x256, part x1 x2 kb jc 10⟩, ⟨S16x256, part x1 x2 kb jc 11⟩, ⟨S16x256, part x1 x2 kb jc 12⟩, ⟨S16x256, part x1 x2 kb jc 13⟩, ⟨S16x256, part x1 x2 kb jc 14⟩, ⟨S16x256, part x1 x2 kb jc 15⟩]
    concatenates_S16x256_S16x256_S16x256_S16x256_S16x256_S16x256_S16x256_S16x256_S16x256_S16x256_S16x256_S16x256_S16x256_S16x256_S16x256_S16x256_S256x256_d0

/-- One contraction block on both units, accumulating at row `A`. -/
def stp (x0 : Vec F S96x6144 .bf16) (x1 : Vec F S3072x1024 .i8) (x2 : Vec F S96x1024 .f32) (p : Fin 2)
    (A : Nat) (hA : Mxu.Fits A 96) (s : Mxu F) (kb : Fin 24) : Mxu F :=
  ((((s.pushed 0 ⟨kb.val % 2, by omega⟩ false (tile x1 x2 kb ⟨2 * p.val, by omega⟩)).accLhs 0 ⟨kb.val % 2, by omega⟩ A (act x0 kb) hA).pushed 1
    ⟨kb.val % 2, by omega⟩ false (tile x1 x2 kb ⟨2 * p.val + 1, by omega⟩)).accLhs 1 ⟨kb.val % 2, by omega⟩ A (act x0 kb) hA)

/-- The contraction blocks in order. -/
def kbs : List (Fin 24) := [0, 1, 2, 3, 4, 5, 6, 7, 8, 9, 10, 11, 12, 13, 14, 15, 16, 17, 18, 19, 20, 21, 22, 23]

/-- The units after the first pair of column tiles. -/
def st0 (s : Mxu F) (x0 : Vec F S96x6144 .bf16) (x1 : Vec F S3072x1024 .i8) (x2 : Vec F S96x1024 .f32) : Mxu F :=
  kbs.foldl (stp x0 x1 x2 0 0 fits_0_96) s

/-- The units after the second pair of column tiles. -/
def st1 (s : Mxu F) (x0 : Vec F S96x6144 .bf16) (x1 : Vec F S3072x1024 .i8) (x2 : Vec F S96x1024 .f32) : Mxu F :=
  kbs.foldl (stp x0 x1 x2 1 24 fits_24_96) (((st0 s x0 x1 x2).pop 0 0 96 fits_0_96).pop 1 0 96 fits_0_96)

/-- The products of column tile `jc` with all rows. -/
def prod (s : Mxu F) (x0 : Vec F S96x6144 .bf16) (x1 : Vec F S3072x1024 .i8) (x2 : Vec F S96x1024 .f32) :
    Fin 4 → FVec F S96x256 .f32
  | 0 => (st0 s x0 x1 x2).read 0 0 fits_0_96
  | 1 => ((st0 s x0 x1 x2).pop 0 0 96 fits_0_96).read 1 0 fits_0_96
  | 2 => (st1 s x0 x1 x2).read 0 24 fits_24_96
  | 3 => ((st1 s x0 x1 x2).pop 0 24 96 fits_24_96).read 1 24 fits_24_96

/-- The first mask word of chunk `ch` of grid point `i`. -/
def word0 (i : grid0.Coords) (ch : BitVec 32) : BitVec 32 :=
  Scalar.muli (Scalar.addi (Scalar.muli (BitVec.ofNat 32 (i 0).val) 8#32) ch) 4#32

/-- The position of that word in its tile of 128 words. -/
def wordIn (i : grid0.Coords) (ch : BitVec 32) : BitVec 32 :=
  Scalar.select
    (Scalar.andi (Scalar.xori (Scalar.cmpi .slt (Scalar.remsi (word0 i ch) (Scalar.select (Scalar.cmpi .eq 128#32 0#32) 1#32 128#32)) 0#32)
        (Scalar.cmpi .slt (Scalar.select (Scalar.cmpi .eq 128#32 0#32) 1#32 128#32) 0#32))
      (Scalar.cmpi .ne (Scalar.remsi (word0 i ch) (Scalar.select (Scalar.cmpi .eq 128#32 0#32) 1#32 128#32)) 0#32))
    (Scalar.addi (Scalar.remsi (word0 i ch) (Scalar.select (Scalar.cmpi .eq 128#32 0#32) 1#32 128#32)) (Scalar.select (Scalar.cmpi .eq 128#32 0#32) 1#32 128#32))
    (Scalar.remsi (word0 i ch) (Scalar.select (Scalar.cmpi .eq 128#32 0#32) 1#32 128#32))

/-- The tile of mask words read for row group `rg` and chunk `ch` lies in the mask. -/
theorem wtile_inb (i : grid0.Coords) (rg : Fin 11) (ch : Fin 8) (a : Fin 2) :
    (![8 * rg.val, k0_off1 i (BitVec.ofNat 32 ch.val) 1] : Fin 2 → Nat) a + S8x128.size a ≤ S88x1536.size a := by
  have h := k0_off1_inb i ch
  fin_cases a
  · simp; omega
  · exact h 1

/-- The mask words read for row group `rg` and chunk `ch`. -/
def wtile (i : grid0.Coords) (x3 : Vec F S88x1536 .i32) (rg : Fin 11) (ch : Fin 8) : IVec S8x128 32 :=
  fun x => x3 ((Rect.unit (s := S88x1536) ![8 * rg.val, k0_off1 i (BitVec.ofNat 32 ch.val) 1] S8x128.size
    (wtile_inb i rg ch)).toLoadRect.idx x)

/-- The word of each lane, relative to the chunk's first. -/
def wordOff : IVec S8x128 32 :=
  select (andi k0_pay597 k0_pay598) (subi k0_pay596 (broadcast S8x128 1#32)) k0_pay596

/-- Which lanes of row group `rg` and chunk `ch` are allowed. -/
def okv (i : grid0.Coords) (x3 : Vec F S88x1536 .i32) (rg : Fin 11) (ch : Fin 8) : IVec S8x128 1 :=
  cmpi .ne (andi (dynamicGather 1 (wtile (F := F) i x3 rg ch)
    (shapeCast S8x128 (shapeCast S8x128x1 (addi wordOff (broadcast S8x128 (wordIn i (BitVec.ofNat 32 ch.val)))) shapeCasts_S8x128_S8x128x1) shapeCasts_S8x128x1_S8x128))
    k0_pay595) (broadcast S8x128 0#32)

/-- The products of row group `rg` and chunk `ch`. -/
def val (s : Mxu F) (x0 : Vec F S96x6144 .bf16) (x1 : Vec F S3072x1024 .i8) (x2 : Vec F S96x1024 .f32)
    (rg : Fin 11) (ch : Fin 8) : FVec F S8x128 .f32 :=
  extractStridedSlice S8x128 ![8 * rg.val, 128 * (ch.val % 2)] (prod s x0 x1 x2 ⟨ch.val / 2, by omega⟩)
    ⟨rfl, by intro a; fin_cases a <;> simp <;> omega⟩

/-- The piece stored for row group `rg` and chunk `ch`. -/
def pc (s : Mxu F) (i : grid0.Coords) (x0 : Vec F S96x6144 .bf16) (x1 : Vec F S3072x1024 .i8) (x2 : Vec F S96x1024 .f32)
    (x3 : Vec F S88x1536 .i32) (rg : Fin 11) (ch : Fin 8) : View.Piece (Elt F) S704x128 .f32 :=
  ⟨⟨⟨![64 * rg.val + ch.val, 0], S8x128.size, ![8, 1],
      (by intro a; fin_cases a <;> simp <;> omega)⟩, spos_8_1⟩,
    select (okv (F := F) i x3 rg ch) (val s x0 x1 x2 rg ch) (broadcast S8x128 (Scalar.ofBits .f32 0x00000000#32))⟩

/-- Row group and chunk of each store, the last store first. -/
def order : List (Fin 11 × Fin 8) :=
  [(10, 7), (10, 6), (10, 5), (10, 4), (9, 7), (9, 6), (9, 5), (9, 4), (8, 7), (8, 6), (8, 5), (8, 4), (7, 7), (7, 6), (7, 5), (7, 4), (6, 7), (6, 6), (6, 5), (6, 4), (5, 7), (5, 6), (5, 5), (5, 4), (4, 7), (4, 6), (4, 5), (4, 4), (3, 7), (3, 6), (3, 5), (3, 4), (2, 7), (2, 6), (2, 5), (2, 4), (1, 7), (1, 6), (1, 5), (1, 4), (0, 7), (0, 6), (0, 5), (0, 4), (10, 3), (10, 2), (10, 1), (10, 0), (9, 3), (9, 2), (9, 1), (9, 0), (8, 3), (8, 2), (8, 1), (8, 0), (7, 3), (7, 2), (7, 1), (7, 0), (6, 3), (6, 2), (6, 1), (6, 0), (5, 3), (5, 2), (5, 1), (5, 0), (4, 3), (4, 2), (4, 1), (4, 0), (3, 3), (3, 2), (3, 1), (3, 0), (2, 3), (2, 2), (2, 1), (2, 0), (1, 3), (1, 2), (1, 1), (1, 0), (0, 3), (0, 2), (0, 1), (0, 0)]

/-- All the pieces, the last first. -/
def pcs (s : Mxu F) (i : grid0.Coords) (x0 : Vec F S96x6144 .bf16) (x1 : Vec F S3072x1024 .i8) (x2 : Vec F S96x1024 .f32)
    (x3 : Vec F S88x1536 .i32) : List (View.Piece (Elt F) S704x128 .f32) :=
  order.map fun p => pc s i x0 x1 x2 x3 p.1 p.2

end Cert.Proof.KernelIdeal
-- ==== Proof.KernelIdeal.Read.lean ====
/-
  What the block of masked logits holds once all 88 pieces are written: each of its elements is an
  element of the piece that covers it.
-/
module

public import proofs.«01_k».proof.Proof.KernelIdeal.Spec
public import proofs.«01_k».proof.Proof.Reshape
public import Idealize.ShloMosaic.Lib.ValueLayout
public import Idealize.ShloMosaic.Lib.Writes

@[expose] public section

set_option maxRecDepth 16384

noncomputable section

namespace Cert.Proof.KernelIdeal

open Cert.KernelIdeal Cert.KernelIdeal.Gen
open Idealize.ShloMosaic Idealize.ShloMosaic.ValueIdx

variable {F : FTy → Type} [FloatOps F] [Named F]

/-- An element that some piece covers, and on which all the pieces covering it agree, reads that value. -/
theorem read_writes_agree {sig : RefSig} {κ : Kind} {sp : Space} {s : Shape} {e : EltTy} {Val : EltTy → Type}
    (v : View sig κ sp s e) (f : v.ty.Contents Val) (j : s.Idx) (w : Val e) :
    ∀ L : List (View.Piece Val s e), (∃ p ∈ L, ∃ x, p.1.emb x = j) → (∀ p ∈ L, ∀ x, p.1.emb x = j → p.2 x = w) →
      v.read Val (v.writes Val f L) j = w := by
  intro L
  induction L with
  | nil => rintro ⟨p, hp, _⟩; simp at hp
  | cons p L ih =>
    intro hex hag
    by_cases hj : ∃ x, p.1.emb x = j
    · obtain ⟨x, hx⟩ := hj
      subst hx
      obtain ⟨r, u⟩ := p
      exact (View.read_writes_cons_emb v f r u L x).trans (hag _ (List.mem_cons_self ..) x rfl)
    · rw [View.writes_cons]
      rw [View.read_slice_write_of_not_mem]
      · apply ih
        · obtain ⟨q, hq, x, hx⟩ := hex
          rcases List.mem_cons.mp hq with rfl | hq
          · exact absurd ⟨x, hx⟩ hj
          · exact ⟨q, hq, x, hx⟩
        · intro q hq x hx
          exact hag q (List.mem_cons_of_mem _ hq) x hx
      · intro hm
        obtain ⟨x, -, hx⟩ := Finset.mem_map.mp hm
        exact hj ⟨x, hx⟩

/-- The block of masked logits, element by element. -/
def outv (i : grid0.Coords) (x0 : Vec F S96x6144 .bf16) (x1 : Vec F S3072x1024 .i8) (x2 : Vec F S96x1024 .f32)
    (x3 : Vec F S88x1536 .i32) : Vec F S88x8x128 .f32 := fun y =>
  (pc Mxu.init i x0 x1 x2 x3 ⟨(y 0).val / 8, by have : (y 0).val < 88 := (y 0).isLt; omega⟩ (y 1)).2
    (ix2 (⟨(y 0).val % 8, by omega⟩ : Fin 8) (y 2))

theorem order_mem (rg : Fin 11) (ch : Fin 8) : (rg, ch) ∈ order := by
  revert rg ch; decide

/-- Through the flat 704-row shape, the pieces written give that block. -/
theorem read_pcs {κ : Kind} {sp : Space} (m : Memref sig κ sp S88x8x128 .f32)
    (h : S704x128.numel = S88x8x128.numel) (hr : 2 ≤ S88x8x128.rank ∧ 2 ≤ S704x128.rank) (hc : m.view.Contiguous)
    (f : BufTy.Contents (Elt F) m.view.ty)
    (i : grid0.Coords) (x0 : Vec F S96x6144 .bf16) (x1 : Vec F S3072x1024 .i8) (x2 : Vec F S96x1024 .f32)
    (x3 : Vec F S88x1536 .i32) :
    m.view.read (Elt F) ((m.reshape S704x128 h hr hc).view.writes (Elt F) f (pcs Mxu.init i x0 x1 x2 x3)) = outv i x0 x1 x2 x3 := by
  funext y
  obtain ⟨a, b, l, rfl⟩ : ∃ (a : Fin 88) (b : Fin 8) (l : Fin 128), y = ix3 a b l := ⟨y 0, y 1, y 2, by
    funext k; fin_cases k <;> rfl⟩
  have hj : Shape.reshapeEquiv h (ix2 (⟨8 * a.val + b.val, by omega⟩ : Fin 704) l) = (ix3 a b l : S88x8x128.Idx) :=
    Shape.reshapeEquiv_eq_of_rowMajor h (by
      rw [Shape.rowMajor_val_three, Shape.rowMajor_val_two]
      show ((a.val * 8 + b.val) * 128 + l.val) = (8 * a.val + b.val) * 128 + l.val
      omega)
  rw [← hj]
  refine Eq.trans (b := (m.reshape S704x128 h hr hc).view.read (Elt F) _ (ix2 (⟨8 * a.val + b.val, by omega⟩ : Fin 704) l)) rfl ?_
  rw [hj]
  apply read_writes_agree
  · refine ⟨pc Mxu.init i x0 x1 x2 x3 ⟨a.val / 8, by omega⟩ b, List.mem_map.mpr ⟨_, order_mem ⟨a.val / 8, by omega⟩ b, rfl⟩,
      ix2 (⟨a.val % 8, by omega⟩ : Fin 8) l, ?_⟩
    funext k
    apply Fin.ext
    fin_cases k
    · show 64 * (a.val / 8) + b.val + 8 * (a.val % 8) = 8 * a.val + b.val
      omega
    · show 0 + 1 * l.val = l.val
      omega
  · intro p hp x hx
    obtain ⟨⟨rg, ch⟩, -, rfl⟩ := List.mem_map.mp hp
    obtain ⟨u, v, rfl⟩ : ∃ (u : Fin 8) (v : Fin 128), x = ix2 u v := ⟨x 0, x 1, by
      funext k; fin_cases k <;> rfl⟩
    have h0 : 64 * rg.val + ch.val + 8 * u.val = 8 * a.val + b.val := congrArg Fin.val (congrFun hx 0)
    have h1 : 0 + 1 * v.val = l.val := congrArg Fin.val (congrFun hx 1)
    obtain rfl : ch = b := Fin.ext (by omega)
    obtain rfl : v = l := Fin.ext (by omega)
    have e1 : rg = ⟨a.val / 8, by omega⟩ := Fin.ext (by show rg.val = a.val / 8; omega)
    have e2 : u = ⟨a.val % 8, by omega⟩ := Fin.ext (by show u.val = a.val % 8; omega)
    rw [e1, e2]
    rfl

/-- Popping what nothing was accumulated into leaves the initial state. -/
theorem pops_init : ((((Mxu.init.pop 0 0 96 fits_0_96).pop 0 24 96 fits_24_96).pop 1 0 96 fits_0_96).pop 1 24 96 fits_24_96 : Mxu F) = Mxu.init := by
  have hg : ∀ (s : Mxu F) (q : Fin 2) (A M : Nat) (h : Mxu.Fits A M), s = Mxu.init → s.pop q A M h = Mxu.init := by
    rintro s q A M h rfl
    refine (Mxu.eq_init_of_drained (s := Mxu.init.pop q A M h) ⟨fun _ _ => rfl, fun q' R => ?_⟩)
    show (if _ then false else false) = false
    simp
  exact hg _ _ _ _ _ (hg _ _ _ _ _ (hg _ _ _ _ _ (hg _ _ _ _ _ rfl)))

end Cert.Proof.KernelIdeal
-- ==== Proof.KernelIdeal.PiecesA.lean ====
/-
  The pieces that the run at a point of case A writes into the block of masked logits are the pieces written out once for all.
-/
module

public import proofs.«01_k».proof.Proof.KernelIdeal.RunA
public import proofs.«01_k».proof.Proof.KernelIdeal.Read

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

set_option maxHeartbeats 9600000 in
/-- The pieces the run writes are the ones written out. -/
theorem pieces_A (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    (run_A c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).1 = pcs ((((Mxu.init.pop 0 0 96 fits_0_96).pop 0 24 96 fits_24_96).pop 1 0 96 fits_0_96).pop 1 24 96 fits_24_96) i (arg1.view.read (Elt F) f0) (arg2.view.read (Elt F) f1) (arg3.view.read (Elt F) f2) (arg4.view.read (Elt F) f3) := by
  sl_kernel_rfl

/-- So the block of masked logits ends at its contents element by element. -/
theorem read_A (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) (f5 : BufTy.Contents (Elt F) arg6.view.ty)
    {x0 : Vec F S96x6144 .bf16} {x1 : Vec F S3072x1024 .i8} {x2 : Vec F S96x1024 .f32} {x3 : Vec F S88x1536 .i32}
    (hf0 : arg1.view.read (Elt F) f0 = x0) (hf1 : arg2.view.read (Elt F) f1 = x1) (hf2 : arg3.view.read (Elt F) f2 = x2)
    (hf3 : arg4.view.read (Elt F) f3 = x3) :
    arg6.view.read (Elt F) ((arg6.reshape S704x128 reshapes_S88x8x128_S704x128.1 reshapes_S88x8x128_S704x128.2 harg6.contiguous).view.writes (Elt F) f5
      (run_A c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).1) = outv i x0 x1 x2 x3 := by
  subst hf0 hf1 hf2 hf3
  rw [pieces_A, pops_init, read_pcs]

end Cert.Proof.KernelIdeal
-- ==== Proof.KernelIdeal.PiecesB.lean ====
/-
  The pieces that the run at a point of case B writes into the block of masked logits are the pieces written out once for all.
-/
module

public import proofs.«01_k».proof.Proof.KernelIdeal.RunB
public import proofs.«01_k».proof.Proof.KernelIdeal.Read

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

set_option maxHeartbeats 9600000 in
/-- The pieces the run writes are the ones written out. -/
theorem pieces_B (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    (run_B c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).1 = pcs Mxu.init i (arg1.view.read (Elt F) f0) (arg2.view.read (Elt F) f1) (arg3.view.read (Elt F) f2) (arg4.view.read (Elt F) f3) := by
  sl_kernel_rfl

/-- So the block of masked logits ends at its contents element by element. -/
theorem read_B (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) (f5 : BufTy.Contents (Elt F) arg6.view.ty)
    {x0 : Vec F S96x6144 .bf16} {x1 : Vec F S3072x1024 .i8} {x2 : Vec F S96x1024 .f32} {x3 : Vec F S88x1536 .i32}
    (hf0 : arg1.view.read (Elt F) f0 = x0) (hf1 : arg2.view.read (Elt F) f1 = x1) (hf2 : arg3.view.read (Elt F) f2 = x2)
    (hf3 : arg4.view.read (Elt F) f3 = x3) :
    arg6.view.read (Elt F) ((arg6.reshape S704x128 reshapes_S88x8x128_S704x128.1 reshapes_S88x8x128_S704x128.2 harg6.contiguous).view.writes (Elt F) f5
      (run_B c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).1) = outv i x0 x1 x2 x3 := by
  subst hf0 hf1 hf2 hf3
  rw [pieces_B, read_pcs]

end Cert.Proof.KernelIdeal
-- ==== Proof.KernelIdeal.PiecesC.lean ====
/-
  The pieces that the run at a point of case C writes into the block of masked logits are the pieces written out once for all.
-/
module

public import proofs.«01_k».proof.Proof.KernelIdeal.RunC
public import proofs.«01_k».proof.Proof.KernelIdeal.Read

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

set_option maxHeartbeats 9600000 in
/-- The pieces the run writes are the ones written out. -/
theorem pieces_C (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    (run_C c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).1 = pcs Mxu.init i (arg1.view.read (Elt F) f0) (arg2.view.read (Elt F) f1) (arg3.view.read (Elt F) f2) (arg4.view.read (Elt F) f3) := by
  sl_kernel_rfl

/-- So the block of masked logits ends at its contents element by element. -/
theorem read_C (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) (f5 : BufTy.Contents (Elt F) arg6.view.ty)
    {x0 : Vec F S96x6144 .bf16} {x1 : Vec F S3072x1024 .i8} {x2 : Vec F S96x1024 .f32} {x3 : Vec F S88x1536 .i32}
    (hf0 : arg1.view.read (Elt F) f0 = x0) (hf1 : arg2.view.read (Elt F) f1 = x1) (hf2 : arg3.view.read (Elt F) f2 = x2)
    (hf3 : arg4.view.read (Elt F) f3 = x3) :
    arg6.view.read (Elt F) ((arg6.reshape S704x128 reshapes_S88x8x128_S704x128.1 reshapes_S88x8x128_S704x128.2 harg6.contiguous).view.writes (Elt F) f5
      (run_C c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).1) = outv i x0 x1 x2 x3 := by
  subst hf0 hf1 hf2 hf3
  rw [pieces_C, read_pcs]

end Cert.Proof.KernelIdeal
-- ==== Proof.KernelIdeal.Frame.lean ====
/-
  The frame of the kernel: run from any memory with zero counters, it ends with its arguments as they were and every counter at
  zero. Of its results, the
  first is named block by block; nothing is said of what it leaves in the other two.
-/
module

public import proofs.«01_k».proof.Proof.KernelIdeal.RunA
public import proofs.«01_k».proof.Proof.KernelIdeal.RunB
public import proofs.«01_k».proof.Proof.KernelIdeal.RunC
public import proofs.«01_k».proof.Proof.Reshape
public import proofs.«01_k».proof.Proof.KernelIdeal.PiecesA
public import proofs.«01_k».proof.Proof.KernelIdeal.PiecesB
public import proofs.«01_k».proof.Proof.KernelIdeal.PiecesC

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Staging and scratch memrefs -/

theorem liveAt0_0 : ∀ t : Fin cfg0.N, cfg0.idle 0 (grid0.coords t) = false := fun _ => rfl
abbrev ms0_0 (t : Fin cfg0.N) : Memref sig .tc .vmem S96x6144 .bf16 := win0_0.stage (cfg0.slots t 0)
abbrev hs0_0 (t : Fin cfg0.N) : (ms0_0 t).IsWhole := hstage0_0 ((cfg0.slots t 0).cast nbuf0_0)
theorem liveAt0_1 : ∀ t : Fin cfg0.N, cfg0.idle 1 (grid0.coords t) = false := fun _ => rfl
abbrev ms0_1 (t : Fin cfg0.N) : Memref sig .tc .vmem S3072x1024 .i8 := win0_1.stage (cfg0.slots t 1)
abbrev hs0_1 (t : Fin cfg0.N) : (ms0_1 t).IsWhole := hstage0_1 ((cfg0.slots t 1).cast nbuf0_1)
theorem liveAt0_2 : ∀ t : Fin cfg0.N, cfg0.idle 2 (grid0.coords t) = false := fun _ => rfl
abbrev ms0_2 (t : Fin cfg0.N) : Memref sig .tc .vmem S96x1024 .f32 := win0_2.stage (cfg0.slots t 2)
abbrev hs0_2 (t : Fin cfg0.N) : (ms0_2 t).IsWhole := hstage0_2 ((cfg0.slots t 2).cast nbuf0_2)
theorem liveAt0_3 : ∀ t : Fin cfg0.N, cfg0.idle 3 (grid0.coords t) = false := fun _ => rfl
abbrev ms0_3 (t : Fin cfg0.N) : Memref sig .tc .vmem S88x1536 .i32 := win0_3.stage (cfg0.slots t 3)
abbrev hs0_3 (t : Fin cfg0.N) : (ms0_3 t).IsWhole := hstage0_3 ((cfg0.slots t 3).cast nbuf0_3)
theorem liveAt0_4 : ∀ t : Fin cfg0.N, cfg0.idle 4 (grid0.coords t) = false := fun _ => rfl
abbrev ms0_4 (t : Fin cfg0.N) : Memref sig .tc .vmem S88x128 .i32 := win0_4.stage (cfg0.slots t 4)
abbrev hs0_4 (t : Fin cfg0.N) : (ms0_4 t).IsWhole := hstage0_4 ((cfg0.slots t 4).cast nbuf0_4)
theorem liveAt0_5 : ∀ t : Fin cfg0.N, cfg0.idle 5 (grid0.coords t) = false := fun _ => rfl
abbrev ms0_5 (t : Fin cfg0.N) : Memref sig .tc .vmem S88x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S88x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S88x32 .f32 := win0_7.stage (cfg0.slots t 7)
abbrev hs0_7 (t : Fin cfg0.N) : (ms0_7 t).IsWhole := hstage0_7 ((cfg0.slots t 7).cast nbuf0_7)
abbrev scM0_0 : Memref sig .tc .vmem S88x128 .f32 := Memref.whole cc0_scratch0
abbrev scM0_1 : Memref sig .tc .vmem S88x128 .f32 := Memref.whole cc0_scratch1
abbrev scM0_2 : Memref sig .tc .vmem S88x128 .f32 := Memref.whole cc0_scratch2

/-- The class's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Nothing is named of what the body leaves in the second and third results. -/
def forgets0 : Fin 8 → Bool := fun w => w.val == 6 || w.val == 7

/-- The proof data: the arrays as the region finds them, each input's buffer at its block throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv (grid0.coords t) (iblk m c 0 t) (iblk m c 1 t) (iblk m c 2 t) (iblk m c 3 t)
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_5 (c : Dev nD) (t : Fin cfg0.N) : (dats m 0 c).after 5 t = outv (grid0.coords t) (iblk m c 0 t) (iblk m c 1 t) (iblk m c 2 t) (iblk m c 3 t) := by dsimp only [dats]
theorem leaves0_5 (c : Dev nD) (t : Fin cfg0.N) : ((dats m 0 c).leavesExact 5 t : sProp 𝕄) = owns (c : Thread nD τ) (ms0_5 t) fullShare (outv (grid0.coords t) (iblk m c 0 t) (iblk m c 1 t) (iblk m c 2 t) (iblk m c 3 t)) := by
  unfold Dat.leavesExact; rw [liveAt0_5 t, after0_5]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : ((dats m 0 c).leavesExact 0 t : sProp 𝕄) = owns (c : Thread nD τ) (ms0_0 t) fullShare (iblk m c 0 t) := by
  unfold Dat.leavesExact; rw [liveAt0_0 t, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : ((dats m 0 c).leavesExact 1 t : sProp 𝕄) = owns (c : Thread nD τ) (ms0_1 t) fullShare (iblk m c 1 t) := by
  unfold Dat.leavesExact; rw [liveAt0_1 t, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : ((dats m 0 c).leavesExact 2 t : sProp 𝕄) = owns (c : Thread nD τ) (ms0_2 t) fullShare (iblk m c 2 t) := by
  unfold Dat.leavesExact; rw [liveAt0_2 t, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : ((dats m 0 c).leavesExact 3 t : sProp 𝕄) = owns (c : Thread nD τ) (ms0_3 t) fullShare (iblk m c 3 t) := by
  unfold Dat.leavesExact; rw [liveAt0_3 t, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : ((dats m 0 c).leavesExact 4 t : sProp 𝕄) = owns (c : Thread nD τ) (ms0_4 t) fullShare (iblk m c 4 t) := by
  unfold Dat.leavesExact; rw [liveAt0_4 t, after0_4]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d))

set_option maxHeartbeats 9600000 in
/-- The body at any point, by the run of its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4, leaves0_5]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA0_eq]
  have hN : t.val < 48 := lt_of_lt_of_eq t.isLt (show cfg0.N = 48 from N_0)
  by_cases h0 : t.val % 48 = 0
  · have h1 : ¬t.val % 48 = 47 := by omega
    iintro ⟨⟨⟨⟨%e0, S0⟩, ⟨%e1, S1⟩, ⟨%e2, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    ihave H5 := (reshape_of_owns (c : Thread nD τ) (ms0_5 t) reshapes_S88x8x128_S704x128.1 reshapes_S88x8x128_S704x128.2 (hs0_5 t).contiguous fullShare _) $$ H5
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H6 with ⟨%f6, %hf6, H6⟩
    icases H7 with ⟨%f7, %hf7, H7⟩
    icases S0 with ⟨%f8, %hf8, S0⟩
    icases S1 with ⟨%f9, %hf9, S1⟩
    icases S2 with ⟨%f10, %hf10, S2⟩
    iapply ((run_A c (grid0.coords t) _ _ _ _ _ _ _ _ _ _ _ _ _ _ _ _ _ _ _ _ _ _ ((hcond0_0 t).mpr h0) (fun h => h1 ((hcond0_1 t).mp h)) f0 f1 f2 f3 f4 f6 f7 f8 f9 f10).2.2.2.2 Set.univ _)
    isplitl [H0]; · iexact H0
    isplitl [H1]; · iexact H1
    isplitl [H2]; · iexact H2
    isplitl [H3]; · iexact H3
    isplitl [H4]; · iexact H4
    isplitl [H5]; · unfold owns; iexact H5
    isplitl [H6]; · iexact H6
    isplitl [H7]; · iexact H7
    isplitl [S0]; · iexact S0
    isplitl [S1]; · iexact S1
    isplitl [S2]; · iexact S2
    iintro ⟨H0, H1, H2, H3, H4, ⟨%f5, H5⟩, H6, H7, S0, S1, S2⟩
    isplitl [S0 S1 S2 Hg]
    · isplitl [S0 S1 S2]
      · isplitl [S0]; · iapply (owns_any (c : Thread nD τ) scM0_0 fullShare) $$ S0
        isplitl [S1]; · iapply (owns_any (c : Thread nD τ) scM0_1 fullShare) $$ S1
        iapply (owns_any (c : Thread nD τ) scM0_2 fullShare) $$ S2
      iexact Hg
    isplitl [Ho]; · iexact Ho
    isplitl [H0]; · iexists _; isplitr; rotate_left; iexact H0; ipureintro; exact hf0
    isplitl [H1]; · iexists _; isplitr; rotate_left; iexact H1; ipureintro; exact hf1
    isplitl [H2]; · iexists _; isplitr; rotate_left; iexact H2; ipureintro; exact hf2
    isplitl [H3]; · iexists _; isplitr; rotate_left; iexact H3; ipureintro; exact hf3
    isplitl [H4]; · iexists _; isplitr; rotate_left; iexact H4; ipureintro; exact hf4
    isplitl [H5]
    · ihave H5 := (owns_of_reshape_eq (c : Thread nD τ) (ms0_5 t) reshapes_S88x8x128_S704x128.1 reshapes_S88x8x128_S704x128.2 (hs0_5 t).contiguous fullShare _ _ (read_A c (grid0.coords t) _ _ _ _ _ _ _ _ _ _ _ _ _ _ _ _ _ _ _ _ _ _ ((hcond0_0 t).mpr h0) (fun h => h1 ((hcond0_1 t).mp h)) f0 f1 f2 f3 f4 f6 f7 f8 f9 f10 f5 hf0 hf1 hf2 hf3)) $$ H5
      unfold owns; iexact H5
    isplitl [H6]; · iapply (owns_any (c : Thread nD τ) (ms0_6 t) fullShare) $$ H6
    iapply (owns_any (c : Thread nD τ) (ms0_7 t) fullShare) $$ H7
  by_cases h1 : t.val % 48 = 47
  · iintro ⟨⟨⟨⟨%e0, S0⟩, ⟨%e1, S1⟩, ⟨%e2, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    ihave H5 := (reshape_of_owns (c : Thread nD τ) (ms0_5 t) reshapes_S88x8x128_S704x128.1 reshapes_S88x8x128_S704x128.2 (hs0_5 t).contiguous fullShare _) $$ H5
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H6 with ⟨%f6, %hf6, H6⟩
    icases H7 with ⟨%f7, %hf7, H7⟩
    icases S0 with ⟨%f8, %hf8, S0⟩
    icases S1 with ⟨%f9, %hf9, S1⟩
    icases S2 with ⟨%f10, %hf10, S2⟩
    iapply ((run_C c (grid0.coords t) _ _ _ _ _ _ _ _ _ _ _ _ _ _ _ _ _ _ _ _ _ _ (fun h => h0 ((hcond0_0 t).mp h)) ((hcond0_1 t).mpr h1) f0 f1 f2 f3 f4 f6 f7 f8 f9 f10).2.2.2.2.2.2 Set.univ _)
    isplitl [H0]; · iexact H0
    isplitl [H1]; · iexact H1
    isplitl [H2]; · iexact H2
    isplitl [H3]; · iexact H3
    isplitl [H4]; · iexact H4
    isplitl [H5]; · unfold owns; iexact H5
    isplitl [H6]; · iexact H6
    isplitl [H7]; · iexact H7
    isplitl [S0]; · iexact S0
    isplitl [S1]; · iexact S1
    isplitl [S2]; · iexact S2
    iintro ⟨H0, H1, H2, H3, H4, ⟨%f5, H5⟩, H6, H7, S0, S1, S2⟩
    isplitl [S0 S1 S2 Hg]
    · isplitl [S0 S1 S2]
      · isplitl [S0]; · iapply (owns_any (c : Thread nD τ) scM0_0 fullShare) $$ S0
        isplitl [S1]; · iapply (owns_any (c : Thread nD τ) scM0_1 fullShare) $$ S1
        iapply (owns_any (c : Thread nD τ) scM0_2 fullShare) $$ S2
      iexact Hg
    isplitl [Ho]; · iexact Ho
    isplitl [H0]; · iexists _; isplitr; rotate_left; iexact H0; ipureintro; exact hf0
    isplitl [H1]; · iexists _; isplitr; rotate_left; iexact H1; ipureintro; exact hf1
    isplitl [H2]; · iexists _; isplitr; rotate_left; iexact H2; ipureintro; exact hf2
    isplitl [H3]; · iexists _; isplitr; rotate_left; iexact H3; ipureintro; exact hf3
    isplitl [H4]; · iexists _; isplitr; rotate_left; iexact H4; ipureintro; exact hf4
    isplitl [H5]
    · ihave H5 := (owns_of_reshape_eq (c : Thread nD τ) (ms0_5 t) reshapes_S88x8x128_S704x128.1 reshapes_S88x8x128_S704x128.2 (hs0_5 t).contiguous fullShare _ _ (read_C c (grid0.coords t) _ _ _ _ _ _ _ _ _ _ _ _ _ _ _ _ _ _ _ _ _ _ (fun h => h0 ((hcond0_0 t).mp h)) ((hcond0_1 t).mpr h1) f0 f1 f2 f3 f4 f6 f7 f8 f9 f10 f5 hf0 hf1 hf2 hf3)) $$ H5
      unfold owns; iexact H5
    isplitl [H6]; · iapply (owns_any (c : Thread nD τ) (ms0_6 t) fullShare) $$ H6
    iapply (owns_any (c : Thread nD τ) (ms0_7 t) fullShare) $$ H7
  · iintro ⟨⟨⟨⟨%e0, S0⟩, ⟨%e1, S1⟩, ⟨%e2, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    ihave H5 := (reshape_of_owns (c : Thread nD τ) (ms0_5 t) reshapes_S88x8x128_S704x128.1 reshapes_S88x8x128_S704x128.2 (hs0_5 t).contiguous fullShare _) $$ H5
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H6 with ⟨%f6, %hf6, H6⟩
    icases H7 with ⟨%f7, %hf7, H7⟩
    icases S0 with ⟨%f8, %hf8, S0⟩
    icases S1 with ⟨%f9, %hf9, S1⟩
    icases S2 with ⟨%f10, %hf10, S2⟩
    iapply ((run_B c (grid0.coords t) _ _ _ _ _ _ _ _ _ _ _ _ _ _ _ _ _ _ _ _ _ _ (fun h => h0 ((hcond0_0 t).mp h)) (fun h => h1 ((hcond0_1 t).mp h)) f0 f1 f2 f3 f4 f6 f7 f8 f9 f10).2.2.2.2 Set.univ _)
    isplitl [H0]; · iexact H0
    isplitl [H1]; · iexact H1
    isplitl [H2]; · iexact H2
    isplitl [H3]; · iexact H3
    isplitl [H4]; · iexact H4
    isplitl [H5]; · unfold owns; iexact H5
    isplitl [H6]; · iexact H6
    isplitl [H7]; · iexact H7
    isplitl [S0]; · iexact S0
    isplitl [S1]; · iexact S1
    isplitl [S2]; · iexact S2
    iintro ⟨H0, H1, H2, H3, H4, ⟨%f5, H5⟩, H6, H7, S0, S1, S2⟩
    isplitl [S0 S1 S2 Hg]
    · isplitl [S0 S1 S2]
      · isplitl [S0]; · iapply (owns_any (c : Thread nD τ) scM0_0 fullShare) $$ S0
        isplitl [S1]; · iapply (owns_any (c : Thread nD τ) scM0_1 fullShare) $$ S1
        iapply (owns_any (c : Thread nD τ) scM0_2 fullShare) $$ S2
      iexact Hg
    isplitl [Ho]; · iexact Ho
    isplitl [H0]; · iexists _; isplitr; rotate_left; iexact H0; ipureintro; exact hf0
    isplitl [H1]; · iexists _; isplitr; rotate_left; iexact H1; ipureintro; exact hf1
    isplitl [H2]; · iexists _; isplitr; rotate_left; iexact H2; ipureintro; exact hf2
    isplitl [H3]; · iexists _; isplitr; rotate_left; iexact H3; ipureintro; exact hf3
    isplitl [H4]; · iexists _; isplitr; rotate_left; iexact H4; ipureintro; exact hf4
    isplitl [H5]
    · ihave H5 := (owns_of_reshape_eq (c : Thread nD τ) (ms0_5 t) reshapes_S88x8x128_S704x128.1 reshapes_S88x8x128_S704x128.2 (hs0_5 t).contiguous fullShare _ _ (read_B c (grid0.coords t) _ _ _ _ _ _ _ _ _ _ _ _ _ _ _ _ _ _ _ _ _ _ (fun h => h0 ((hcond0_0 t).mp h)) (fun h => h1 ((hcond0_1 t).mp h)) f0 f1 f2 f3 f4 f6 f7 f8 f9 f10 f5 hf0 hf1 hf2 hf3)) $$ H5
      unfold owns; iexact H5
    isplitl [H6]; · iapply (owns_any (c : Thread nD τ) (ms0_6 t) fullShare) $$ H6
    iapply (owns_any (c : Thread nD τ) (ms0_7 t) fullShare) $$ H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := .rfl
theorem hout (c : Dev nD) : (dats m 0 c).Φ (Fin.last cfg0.N) ⊢ Pipeline.ΦA spec0 c := .rfl

-- the launch theorem's implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((A_eq m c 1).trans (V_main_arg1 m c)),
      (Pipeline.RDat.FramePost.arr_in h c 2 rfl).trans ((A_eq m c 2).trans (V_main_arg2 m c)),
      (Pipeline.RDat.FramePost.arr_in h c 3 rfl).trans ((A_eq m c 3).trans (V_main_arg3 m c)),
      ((h c).2 main_arg4 (Pipeline.mem_restRefs_of main_arg4 (by decide) (by decide))).trans (V_main_arg4 m c)⟩) (run_main m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Proof.KernelIdeal

end
-- ==== Proof.KernelIdeal.Sums.lean ====
/-
  The products of a column tile at `Ideal`: the matrix units' buffers, after all the contraction
  blocks, hold the sum over the blocks and over the rows of each block's weight tile.
-/
module

public import proofs.«01_k».proof.Proof.KernelIdeal.Spec
public import Idealize.ShloMosaic.Lib.Mxu.Lemmas
public import Idealize.ShloMosaic.Lib.Pointwise

@[expose] public section

set_option maxRecDepth 16384

noncomputable section

namespace Cert.Proof.KernelIdeal

open Cert.KernelIdeal Cert.KernelIdeal.Gen
open Idealize.ShloMosaic
open scoped BigOperators

/-- At `Ideal` an accumulate adds its pass, whether or not the row was live: a row that is not live
    holds zero. -/
theorem read_accLhs_add (s : Mxu Ideal) (q r : Fin 2) (A : Nat) {M : Nat} {φ : FTy} (lhs : FVec Ideal (Mxu.STile M) φ)
    (h : Mxu.Fits A M) (i : (Mxu.STile M).Idx) :
    (s.accLhs q r A lhs h).read q A h i = (s.read q A h i + (s.staged q r).pass lhs i : EReal) := by
  rw [Mxu.read_accLhs]
  show Mxu.deposit (s.live q (Mxu.row h (i 0))) _ _ = _
  cases hl : s.live q (Mxu.row h (i 0)) with
  | true => rfl
  | false =>
    have hz : s.read q A h i = (0 : EReal) := by
      show s.acc q (Mxu.row h (i 0)) (i 1) = _
      exact (s.clean _ _ _ hl).trans Ideal.ofBits_zero_f32
    rw [hz]
    show _ = (0 + _ : EReal)
    rw [zero_add]; rfl

/-- The pass of `lhs` by a tile pushed untransposed, at an index. -/
theorem pass_apply {M : Nat} {φ φ' : FTy} (lhs : FVec Ideal (Mxu.STile M) φ) (v : FVec Ideal (Mxu.STile 256) φ')
    (r : Fin M) (c : Fin 256) :
    (⟨φ', false, v⟩ : Mxu.Staged Ideal).pass lhs (ix2 r c)
      = (∑ k : Fin 256, lhs (ix2 r k) * v (ix2 k c) : EReal) := by
  rw [Mxu.Staged.pass_false, Ideal.mxuPass_def]
  show (∑ k : (DotDims.plain M 256 256).contr.Idx, _ : EReal) = _
  rw [DotDims.sum_contr₁ (DotDims.plain M 256 256) (a := 1) rfl (K := 256) rfl]
  refine Finset.sum_congr rfl fun k _ => ?_
  congr 2
  · funext a; match a with | 0 => rfl | 1 => rfl
  · funext a; match a with | 0 => rfl | 1 => rfl

/-- The contribution of contraction block `kb` to column tile `jc`. -/
def term (x0 : Vec Ideal S96x6144 .bf16) (x1 : Vec Ideal S3072x1024 .i8) (x2 : Vec Ideal S96x1024 .f32)
    (jc : Fin 4) (i : S96x256.Idx) (kb : Fin 24) : EReal :=
  ∑ k : Fin 256, (act x0 kb (ix2 (i 0) k) : EReal) * tile x1 x2 kb jc (ix2 k (i 1))

/-- No unit has a tile staged. -/
def Empty (s : Mxu Ideal) : Prop := ∀ q r, s.reg q r = none

section
variable (x0 : Vec Ideal S96x6144 .bf16) (x1 : Vec Ideal S3072x1024 .i8) (x2 : Vec Ideal S96x1024 .f32)
  (p : Fin 2) (A : Nat) (hA : Mxu.Fits A 96)

theorem empty_push_acc (s : Mxu Ideal) (hs : Empty s) (q r : Fin 2) (lhs : FVec Ideal (Mxu.STile 96) .bf16)
    (v : FVec Ideal (Mxu.STile 256) .bf16) : Empty ((s.pushed q r false v).accLhs q r A lhs hA) := by
  intro q' r'
  by_cases h : q' = q ∧ r' = r
  · obtain ⟨rfl, rfl⟩ := h
    exact Mxu.reg_accLhs ..
  · rw [Mxu.reg_accLhs_ne _ _ _ _ _ _ _ _ h, Mxu.reg_pushed_ne _ _ _ _ _ _ _ h]
    exact hs q' r'

theorem read_push_acc (s : Mxu Ideal) (hs : Empty s) (q r : Fin 2) (lhs : FVec Ideal (Mxu.STile 96) .bf16)
    (v : FVec Ideal (Mxu.STile 256) .bf16) (i : S96x256.Idx) :
    ((s.pushed q r false v).accLhs q r A lhs hA).read q A hA i
      = (s.read q A hA i + ∑ k : Fin 256, lhs (ix2 (i 0) k) * v (ix2 k (i 1)) : EReal) := by
  rw [read_accLhs_add, Mxu.read_pushed, Mxu.staged_eq, Mxu.reg_pushed_of_none _ _ _ _ _ (hs q r), Option.getD_some]
  congr 1
  have : i = ix2 (i 0) (i 1) := by funext a; match a with | 0 => rfl | 1 => rfl
  conv_lhs => rw [this]
  exact pass_apply lhs v (i 0) (i 1)

theorem read_push_acc_ne (s : Mxu Ideal) (q r : Fin 2) (lhs : FVec Ideal (Mxu.STile 96) .bf16)
    (v : FVec Ideal (Mxu.STile 256) .bf16) (q' : Fin 2) (A' : Nat) (hA' : Mxu.Fits A' 96)
    (hne : q' ≠ q ∨ 4 * A' + 96 ≤ 4 * A ∨ 4 * A + 96 ≤ 4 * A') :
    ((s.pushed q r false v).accLhs q r A lhs hA).read q' A' hA' = s.read q' A' hA' := by
  rw [Mxu.read_accLhs_ne _ _ _ _ _ _ _ _ _ hne, Mxu.read_pushed]

theorem stp_empty (s : Mxu Ideal) (hs : Empty s) (kb : Fin 24) : Empty (stp x0 x1 x2 p A hA s kb) :=
  empty_push_acc _ hA _ (empty_push_acc _ hA _ hs _ _ _ _) _ _ _ _

theorem stp_read0 (s : Mxu Ideal) (hs : Empty s) (kb : Fin 24) (i : S96x256.Idx) :
    (stp x0 x1 x2 p A hA s kb).read 0 A hA i
      = (s.read 0 A hA i + term x0 x1 x2 ⟨2 * p.val, by omega⟩ i kb : EReal) := by
  unfold stp
  rw [read_push_acc_ne _ _ _ _ _ _ _ _ _ _ (Or.inl (by decide)), read_push_acc _ _ _ hs]
  rfl

theorem stp_read1 (s : Mxu Ideal) (hs : Empty s) (kb : Fin 24) (i : S96x256.Idx) :
    (stp x0 x1 x2 p A hA s kb).read 1 A hA i
      = (s.read 1 A hA i + term x0 x1 x2 ⟨2 * p.val + 1, by omega⟩ i kb : EReal) := by
  unfold stp
  rw [read_push_acc _ _ _ (empty_push_acc _ hA _ hs _ _ _ _), read_push_acc_ne _ _ _ _ _ _ _ _ _ _ (Or.inl (by decide))]
  rfl

theorem stp_read_ne (s : Mxu Ideal) (kb : Fin 24) (q' : Fin 2) (A' : Nat) (hA' : Mxu.Fits A' 96)
    (hne : 4 * A' + 96 ≤ 4 * A ∨ 4 * A + 96 ≤ 4 * A') :
    (stp x0 x1 x2 p A hA s kb).read q' A' hA' = s.read q' A' hA' := by
  unfold stp
  rw [read_push_acc_ne _ _ _ _ _ _ _ _ _ _ (Or.inr hne), read_push_acc_ne _ _ _ _ _ _ _ _ _ _ (Or.inr hne)]

theorem fold_empty (L : List (Fin 24)) (s : Mxu Ideal) (hs : Empty s) : Empty (L.foldl (stp x0 x1 x2 p A hA) s) := by
  induction L generalizing s with
  | nil => exact hs
  | cons kb L ih => exact ih _ (stp_empty x0 x1 x2 p A hA s hs kb)

theorem fold_read_ne (L : List (Fin 24)) (s : Mxu Ideal) (q' : Fin 2) (A' : Nat) (hA' : Mxu.Fits A' 96)
    (hne : 4 * A' + 96 ≤ 4 * A ∨ 4 * A + 96 ≤ 4 * A') :
    (L.foldl (stp x0 x1 x2 p A hA) s).read q' A' hA' = s.read q' A' hA' := by
  induction L generalizing s with
  | nil => rfl
  | cons kb L ih => rw [List.foldl_cons, ih, stp_read_ne _ _ _ _ _ _ _ _ _ _ _ hne]

theorem fold_read0 (L : List (Fin 24)) (s : Mxu Ideal) (hs : Empty s) (i : S96x256.Idx) :
    (L.foldl (stp x0 x1 x2 p A hA) s).read 0 A hA i
      = (s.read 0 A hA i + (L.map (term x0 x1 x2 ⟨2 * p.val, by omega⟩ i)).sum : EReal) := by
  induction L generalizing s with
  | nil => exact (add_zero _).symm
  | cons kb L ih =>
    rw [List.foldl_cons, ih _ (stp_empty x0 x1 x2 p A hA s hs kb), stp_read0 _ _ _ _ _ _ _ hs, List.map_cons, List.sum_cons,
      add_assoc]

theorem fold_read1 (L : List (Fin 24)) (s : Mxu Ideal) (hs : Empty s) (i : S96x256.Idx) :
    (L.foldl (stp x0 x1 x2 p A hA) s).read 1 A hA i
      = (s.read 1 A hA i + (L.map (term x0 x1 x2 ⟨2 * p.val + 1, by omega⟩ i)).sum : EReal) := by
  induction L generalizing s with
  | nil => exact (add_zero _).symm
  | cons kb L ih =>
    rw [List.foldl_cons, ih _ (stp_empty x0 x1 x2 p A hA s hs kb), stp_read1 _ _ _ _ _ _ _ hs, List.map_cons, List.sum_cons,
      add_assoc]

end

theorem kbs_eq : kbs = List.finRange 24 := by decide

theorem kbs_sum (f : Fin 24 → EReal) : (kbs.map f).sum = ∑ kb, f kb := by
  rw [kbs_eq, ← List.sum_ofFn, List.ofFn_eq_map]

theorem init_empty : Empty (Mxu.init (F := Ideal)) := fun q r => Mxu.reg_init q r

theorem init_read (q : Fin 2) (A : Nat) (hA : Mxu.Fits A 96) (i : S96x256.Idx) :
    (Mxu.init (F := Ideal)).read q A hA i = (0 : EReal) := by
  rw [Mxu.read_init]; exact Ideal.ofBits_zero_f32

section
variable (x0 : Vec Ideal S96x6144 .bf16) (x1 : Vec Ideal S3072x1024 .i8) (x2 : Vec Ideal S96x1024 .f32)

theorem st0_empty : Empty (st0 Mxu.init x0 x1 x2) := by
  unfold st0
  exact fold_empty x0 x1 x2 0 0 fits_0_96 kbs _ init_empty

/-- The units before the second pair of column tiles. -/
def mid : Mxu Ideal := ((st0 Mxu.init x0 x1 x2).pop 0 0 96 fits_0_96).pop 1 0 96 fits_0_96

theorem mid_empty : Empty (mid x0 x1 x2) := by
  intro q r
  unfold mid
  rw [Mxu.reg_pop, Mxu.reg_pop]
  generalize hs : st0 Mxu.init x0 x1 x2 = s
  have h := st0_empty x0 x1 x2
  rw [hs] at h
  exact h q r

theorem mid_read (q : Fin 2) (i : S96x256.Idx) : (mid x0 x1 x2).read q 24 fits_24_96 i = (0 : EReal) := by
  unfold mid
  rw [Mxu.read_pop_ne _ _ _ _ _ _ _ (Or.inr (Or.inr (by decide))), Mxu.read_pop_ne _ _ _ _ _ _ _ (Or.inr (Or.inr (by decide)))]
  unfold st0
  rw [fold_read_ne x0 x1 x2 0 0 fits_0_96 kbs _ _ _ _ (Or.inr (by decide)), init_read]

theorem prod_apply0 (i : S96x256.Idx) : prod Mxu.init x0 x1 x2 0 i = (∑ kb, term x0 x1 x2 0 i kb : EReal) := by
  rw [prod.eq_1]; unfold st0
  rw [fold_read0 _ _ _ _ _ _ _ _ init_empty, init_read, kbs_sum, zero_add]; rfl

theorem prod_apply1 (i : S96x256.Idx) : prod Mxu.init x0 x1 x2 1 i = (∑ kb, term x0 x1 x2 1 i kb : EReal) := by
  rw [prod.eq_2, Mxu.read_pop_ne _ _ _ _ _ _ _ (Or.inl (by decide))]; unfold st0
  rw [fold_read1 _ _ _ _ _ _ _ _ init_empty, init_read, kbs_sum, zero_add]; rfl

theorem st1_eq : st1 Mxu.init x0 x1 x2 = kbs.foldl (stp x0 x1 x2 1 24 fits_24_96) (mid x0 x1 x2) := by
  unfold st1 mid; with_reducible rfl

theorem prod_apply2 (i : S96x256.Idx) : prod Mxu.init x0 x1 x2 2 i = (∑ kb, term x0 x1 x2 2 i kb : EReal) := by
  rw [prod.eq_3, st1_eq]
  rw [fold_read0 _ _ _ _ _ _ _ _ (mid_empty x0 x1 x2), mid_read, kbs_sum, zero_add]; rfl

theorem prod_apply3 (i : S96x256.Idx) : prod Mxu.init x0 x1 x2 3 i = (∑ kb, term x0 x1 x2 3 i kb : EReal) := by
  rw [prod.eq_4, Mxu.read_pop_ne _ _ _ _ _ _ _ (Or.inl (by decide)), st1_eq]
  rw [fold_read1 _ _ _ _ _ _ _ _ (mid_empty x0 x1 x2), mid_read, kbs_sum, zero_add]; rfl

/-- The products of column tile `jc`, element by element. -/
theorem prod_apply (jc : Fin 4) (i : S96x256.Idx) :
    prod Mxu.init x0 x1 x2 jc i = (∑ kb, term x0 x1 x2 jc i kb : EReal) := by
  match jc with
  | 0 => exact prod_apply0 x0 x1 x2 i
  | 1 => exact prod_apply1 x0 x1 x2 i
  | 2 => exact prod_apply2 x0 x1 x2 i
  | 3 => exact prod_apply3 x0 x1 x2 i

end

end Cert.Proof.KernelIdeal
-- ==== Proof.KernelIdeal.Tile.lean ====
/-
  The weight tile of one contraction block at an index, at `Ideal`: the signed four-bit code of the
  packed weight times the scale of its group of 64 rows.
-/
module

public import proofs.«01_k».proof.Proof.KernelIdeal.Sums
public import Idealize.ShloMosaic.Lib.Pipeline.Value

@[expose] public section

set_option maxRecDepth 16384

noncomputable section

namespace Cert.Proof.KernelIdeal

open Cert.KernelIdeal Cert.KernelIdeal.Gen
open Idealize.ShloMosaic
open scoped BigOperators

/-- The signed four-bit code in the low (`hi = false`) or the high half of a packed byte. -/
def code (w : BitVec 8) (hi : Bool) : BitVec 32 :=
  if hi then ((w.setWidth 32) <<< 24).sshiftRight 28 else ((w.setWidth 32) <<< 28).sshiftRight 28

/-- The weight of row `r` and column `c`: its code times its group's scale. -/
def weight (b1 : Fin 3072 → BitVec 8) (b2 : Fin 96 → EReal) (r : Fin 6144) : EReal :=
  (((code (b1 ⟨r.val / 2, by omega⟩) (r.val % 2 == 1)).toInt : ℝ) : EReal) * b2 ⟨r.val / 64, by omega⟩

section
variable (x0 : Vec Ideal S96x6144 .bf16) (x1 : Vec Ideal S3072x1024 .i8) (x2 : Vec Ideal S96x1024 .f32)

theorem act_apply (kb : Fin 24) (r : Fin 96) (k : Fin 256) :
    act x0 kb (ix2 r k) = x0 (ix2 r (⟨256 * kb.val + k.val, by omega⟩ : Fin 6144)) := by
  pointwise [act]

theorem wide_apply (kb : Fin 24) (jc : Fin 4) (r : Fin 128) (c : Fin 256) :
    wide (F := Ideal) x1 kb jc (ix2 r c)
      = (x1 (ix2 (⟨128 * kb.val + r.val, by omega⟩ : Fin 3072) (⟨256 * jc.val + c.val, by omega⟩ : Fin 1024)) : BitVec 8).setWidth 32 := by
  pointwise [wide]

theorem scl_apply (kb : Fin 24) (jc : Fin 4) (g : Fin 4) (r : Fin 16) (c : Fin 256) :
    scl x2 kb jc g (ix2 r c)
      = x2 (ix2 (⟨4 * kb.val + g.val, by omega⟩ : Fin 96) (⟨256 * jc.val + c.val, by omega⟩ : Fin 1024)) := by
  pointwise [scl]

theorem codes_apply (kb : Fin 24) (jc : Fin 4) (k : Fin 256) (c : Fin 256) :
    codes (F := Ideal) x1 kb jc (ix2 k c)
      = (((code (x1 (ix2 (⟨128 * kb.val + k.val / 2, by omega⟩ : Fin 3072) (⟨256 * jc.val + c.val, by omega⟩ : Fin 1024)))
          (k.val % 2 == 1)).toInt : ℝ) : EReal) := by
  pointwise [codes]
  have e := wide_apply x1 kb jc ⟨k.val / 2, by omega⟩ c
  generalize wide (F := Ideal) x1 kb jc = W at e ⊢
  generalize (x1 _ : BitVec 8) = w at e ⊢
  by_cases h : k.val % 2 < 1
  · have h0 : (k.val % 2 == 1) = false := by simp; omega
    rw [dif_pos h, h0, e]
    rfl
  · have h0 : (k.val % 2 == 1) = true := by simp; omega
    rw [dif_neg h, h0, e]
    rfl

theorem tile_eq (kb : Fin 24) (jc : Fin 4) (hc) :
    tile x1 x2 kb jc = concatenate S256x256 0
      (List.ofFn fun t : Fin 16 => (⟨S16x256, part x1 x2 kb jc t⟩ : (s : Shape) × (s.Idx → EReal))) hc := rfl

theorem part_apply (kb : Fin 24) (jc : Fin 4) (t : Fin 16) (r : Fin 16) (c : Fin 256) :
    part x1 x2 kb jc t (ix2 r c)
      = (codes x1 kb jc (ix2 (⟨16 * t.val + r.val, by omega⟩ : Fin 256) c) * scl x2 kb jc ⟨t.val / 4, by omega⟩ (ix2 r c) : EReal) := by
  pointwise [part]

theorem tile_apply (kb : Fin 24) (jc : Fin 4) (k : Fin 256) (c : Fin 256) :
    tile (F := Ideal) x1 x2 kb jc (ix2 k c)
      = weight (fun r => x1 (ix2 r (⟨256 * jc.val + c.val, by omega⟩ : Fin 1024)))
          (fun g => x2 (ix2 g (⟨256 * jc.val + c.val, by omega⟩ : Fin 1024))) ⟨256 * kb.val + k.val, by omega⟩ := by
  rw [tile_eq x1 x2 kb jc concatenates_S16x256_S16x256_S16x256_S16x256_S16x256_S16x256_S16x256_S16x256_S16x256_S16x256_S16x256_S16x256_S16x256_S16x256_S16x256_S16x256_S256x256_d0]
  refine (concatenate_ofFn_apply (s₁ := S16x256) (0 : Fin S256x256.rank) (fun t => part x1 x2 kb jc t) _ rfl 16 rfl (ix2 k c)
    ⟨k.val / 16, by omega⟩ rfl (ix2 (⟨k.val % 16, by omega⟩ : Fin 16) c) rfl
    (by intro b hb; match b with | 0 => exact absurd rfl hb | 1 => rfl)).trans ?_
  rw [part_apply, codes_apply, scl_apply]
  unfold weight
  congr 1
  · congr 4
    · congr 2
      apply Fin.ext; simp; omega
    · simp; omega
  · congr 2
    apply Fin.ext; simp; omega

end

end Cert.Proof.KernelIdeal
-- ==== Proof.KernelIdeal.Mask.lean ====
/-
  The mask of one chunk at an index: the bit of the mask word that belongs to the lane.
-/
module

public import proofs.«01_k».proof.Proof.KernelIdeal.Spec
public import Idealize.ShloMosaic.Lib.Pointwise

@[expose] public section

set_option maxRecDepth 16384

noncomputable section

namespace Cert.Proof.KernelIdeal

open Cert.KernelIdeal Cert.KernelIdeal.Gen
open Idealize.ShloMosaic

/-- The grid point of a number. -/
def mkc (a : Fin 48) : grid0.Coords := fun b => a.cast (by match b with | ⟨0, _⟩ => rfl)

theorem eq_mkc (i : grid0.Coords) : i = mkc (i 0) := by
  funext b; match b with | ⟨0, _⟩ => rfl

/-- The first mask word of a chunk, by numbers: its position in its tile of 128 words. -/
theorem wordIn_eq (i : grid0.Coords) (ch : Fin 8) :
    wordIn i (BitVec.ofNat 32 ch.val) = BitVec.ofNat 32 (((i 0).val * 8 + ch.val) * 4 % 128) := by
  have key : ∀ (a : Fin 48) (ch : Fin 8), wordIn (mkc a) (BitVec.ofNat 32 ch.val)
      = BitVec.ofNat 32 ((a.val * 8 + ch.val) * 4 % 128) := by decide +kernel
  rw [eq_mkc i]; exact key (i 0) ch

/-- The first column of that tile. -/
theorem off1_eq (i : grid0.Coords) (ch : Fin 8) :
    k0_off1 i (BitVec.ofNat 32 ch.val) 1 = ((i 0).val * 8 + ch.val) * 4 / 128 * 128 := by
  have key : ∀ (a : Fin 48) (ch : Fin 8), k0_off1 (mkc a) (BitVec.ofNat 32 ch.val) 1
      = (a.val * 8 + ch.val) * 4 / 128 * 128 := by decide +kernel
  rw [eq_mkc i]; exact key (i 0) ch

/-- The word of a lane, relative to the chunk's first. -/
theorem lane_word (u : Fin 8) (l : Fin 128) : wordOff (ix2 u l) = BitVec.ofNat 32 (l.val / 32) := by
  have key : ∀ (l : Fin 128), wordOff (ix2 (0 : Fin 8) l) = BitVec.ofNat 32 (l.val / 32) := by decide +kernel
  exact key l

/-- The bit of a lane in its word. -/
theorem lane_bit (u : Fin 8) (l : Fin 128) : k0_pay595 (ix2 u l) = 1#32 <<< (l.val % 32) := by
  have key : ∀ (l : Fin 128), k0_pay595 (ix2 (0 : Fin 8) l) = 1#32 <<< (l.val % 32) := by decide +kernel
  exact key l

/-- A word and one bit alone is zero exactly when the word's bit is clear. -/
theorem and_bit (w : BitVec 32) (n : Nat) (hn : n < 32) :
    IntOp.cmpi .ne (IntOp.andi w (1#32 <<< n)) 0#32 = BitVec.ofBool (w.getLsbD n) := by
  show BitVec.ofBool (w &&& 1#32 <<< n != 0#32) = _
  congr 1
  rw [← BitVec.twoPow_eq, BitVec.and_twoPow]
  cases w.getLsbD n
  · simp
  · simp only [if_true, bne_iff_ne, ne_eq]
    intro h
    have := congrArg (fun b => b.getLsbD n) h
    simp [hn] at this

theorem off_lt (i : grid0.Coords) (ch : Fin 8) (l : Fin 128) : ((i 0).val * 8 + ch.val) * 4 + l.val / 32 < 1536 := by
  have : (i 0).val < 48 := (i 0).isLt
  omega

/-- Which lanes are allowed: the lane's bit of the mask word of its 32 columns. -/
theorem okv_apply {F : FTy → Type} [FloatOps F] [Named F] (i : grid0.Coords) (x3 : Vec F S88x1536 .i32) (rg : Fin 11) (ch : Fin 8) (u : Fin 8) (l : Fin 128) :
    okv (F := F) i x3 rg ch (ix2 u l)
      = BitVec.ofBool ((x3 (ix2 (⟨8 * rg.val + u.val, by omega⟩ : Fin 88)
          (⟨((i 0).val * 8 + ch.val) * 4 + l.val / 32, off_lt i ch l⟩ : Fin 1536)) : BitVec 32).getLsbD (l.val % 32)) := by
  pointwise [okv, wtile, lane_word, lane_bit]
  rw [and_bit _ _ (Nat.mod_lt _ (by decide))]
  congr 4
  apply Fin.ext
  have hi : (i 0).val < 48 := (i 0).isLt
  show k0_off1 i (BitVec.ofNat 32 ch.val) 1 + (BitVec.ofNat 32 (l.val / 32) + wordIn i (BitVec.ofNat 32 ch.val)).toNat % 128
    = ((i 0).val * 8 + ch.val) * 4 + l.val / 32
  rw [off1_eq, wordIn_eq, BitVec.toNat_add, BitVec.toNat_ofNat, BitVec.toNat_ofNat]
  omega

end Cert.Proof.KernelIdeal
-- ==== Proof.KernelIdeal.Out.lean ====
/-
  The block of masked logits of one grid point at an index, at `Ideal`: the logit of the row and
  column where the mask allows the column, and zero elsewhere.
-/
module

public import proofs.«01_k».proof.Proof.KernelIdeal.Tile
public import proofs.«01_k».proof.Proof.KernelIdeal.Mask
public import proofs.«01_k».proof.Proof.KernelIdeal.Read

@[expose] public section

set_option maxRecDepth 16384

noncomputable section

namespace Cert.Proof.KernelIdeal

open Cert.KernelIdeal Cert.KernelIdeal.Gen
open Idealize.ShloMosaic
open scoped BigOperators

/-- One masked logit: activations `a`, packed weights `b1` and scales `b2` of the column, the mask
    word `w` of its 32 columns and its position `n` in them. -/
def logit (a : Fin 6144 → EReal) (b1 : Fin 3072 → BitVec 8) (b2 : Fin 96 → EReal) (w : BitVec 32) (n : Nat) : EReal :=
  if w.getLsbD n then ∑ r : Fin 6144, a r * weight b1 b2 r else 0

section
variable (x0 : Vec Ideal S96x6144 .bf16) (x1 : Vec Ideal S3072x1024 .i8) (x2 : Vec Ideal S96x1024 .f32)
  (x3 : Vec Ideal S88x1536 .i32)

theorem prod_sum (jc : Fin 4) (r : Fin 96) (c : Fin 256) :
    prod Mxu.init x0 x1 x2 jc (ix2 r c)
      = (∑ k : Fin 6144, x0 (ix2 r k) * weight (fun k => x1 (ix2 k (⟨256 * jc.val + c.val, by omega⟩ : Fin 1024)))
          (fun g => x2 (ix2 g (⟨256 * jc.val + c.val, by omega⟩ : Fin 1024))) k : EReal) := by
  rw [prod_apply, Fin.sum_univ_tiles 24 256 rfl]
  refine Finset.sum_congr rfl fun kb _ => ?_
  unfold term
  refine Finset.sum_congr rfl fun k _ => ?_
  rw [show (ix2 ((ix2 r c : S96x256.Idx) 0) k : S96x256.Idx) = ix2 r k from rfl,
    show (ix2 k ((ix2 r c : S96x256.Idx) 1) : S256x256.Idx) = ix2 k c from rfl, act_apply, tile_apply]
  have e : (⟨256 * kb.val + k.val, by omega⟩ : Fin 6144) = ⟨kb.val * 256 + k.val, by omega⟩ :=
    Fin.ext (by show 256 * kb.val + k.val = kb.val * 256 + k.val; omega)
  rw [e]

theorem outv_apply (i : grid0.Coords) (a : Fin 88) (ch : Fin 8) (l : Fin 128) :
    outv (F := Ideal) i x0 x1 x2 x3 (ix3 a ch l)
      = logit (fun k => x0 (ix2 (⟨a.val, by omega⟩ : Fin 96) k))
          (fun k => x1 (ix2 k (⟨128 * ch.val + l.val, by omega⟩ : Fin 1024)))
          (fun g => x2 (ix2 g (⟨128 * ch.val + l.val, by omega⟩ : Fin 1024)))
          (x3 (ix2 a (⟨((i 0).val * 8 + ch.val) * 4 + l.val / 32, off_lt i ch l⟩ : Fin 1536))) (l.val % 32) := by
  show select (okv (F := Ideal) i x3 ⟨a.val / 8, by omega⟩ ch) (val Mxu.init x0 x1 x2 ⟨a.val / 8, by omega⟩ ch)
    (broadcast S8x128 (Scalar.ofBits .f32 0x00000000#32)) (ix2 (⟨a.val % 8, by omega⟩ : Fin 8) l) = _
  have e1 := okv_apply (F := Ideal) i x3 ⟨a.val / 8, by omega⟩ ch ⟨a.val % 8, by omega⟩ l
  have e2 : val Mxu.init x0 x1 x2 ⟨a.val / 8, by omega⟩ ch (ix2 (⟨a.val % 8, by omega⟩ : Fin 8) l)
      = prod Mxu.init x0 x1 x2 ⟨ch.val / 2, by omega⟩ (ix2 (⟨8 * (a.val / 8) + a.val % 8, by omega⟩ : Fin 96) (⟨128 * (ch.val % 2) + l.val, by omega⟩ : Fin 256)) := by
    pointwise [val]
  have e3 : (⟨8 * (a.val / 8) + a.val % 8, by omega⟩ : Fin 96) = ⟨a.val, by omega⟩ := Fin.ext (Nat.div_add_mod _ _)
  have e4 : (⟨8 * (a.val / 8) + a.val % 8, by omega⟩ : Fin 88) = a := Fin.ext (Nat.div_add_mod _ _)
  have e5 : (⟨256 * (ch.val / 2) + (128 * (ch.val % 2) + l.val), by omega⟩ : Fin 1024) = ⟨128 * ch.val + l.val, by omega⟩ :=
    Fin.ext (by show 256 * (ch.val / 2) + (128 * (ch.val % 2) + l.val) = 128 * ch.val + l.val; omega)
  rw [prod_sum, e3] at e2
  simp only [e5] at e2
  simp only [e4] at e1
  show Scalar.select _ _ _ = _
  rw [e1, e2]
  unfold logit
  generalize (x3 _ : BitVec 32).getLsbD _ = b
  cases b
  · exact Ideal.ofBits_zero_f32
  · rfl

end

end Cert.Proof.KernelIdeal
-- ==== Proof.KernelIdeal.Blocks.lean ====
/-
  The blocks the kernel's windows bring in, at an index, in terms of the arguments.
-/
module

public import proofs.«01_k».proof.Proof.KernelIdeal.Frame
public import proofs.«01_k».proof.Proof.KernelIdeal.Out
public import Idealize.ShloMosaic.Lib.Pipeline.ValueKit
public import Idealize.ShloMosaic.Lib.StableHlo.Run

@[expose] public section

set_option maxRecDepth 16384

noncomputable section

namespace Cert.Proof.KernelIdeal

open Cert.KernelIdeal Cert.KernelIdeal.Gen
open Idealize.ShloMosaic Idealize.ShloMosaic.TcCoe Idealize.ShloMosaic.StableHlo
open Idealize.ShloMosaic.Pipeline (Dat Cfg Window)
open scoped BigOperators

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, t.val, 0] := (by decide +kernel : ∀ t : Fin grid0.N, _)
theorem crd : ∀ t : Fin cfg0.N, (grid0.coords t 0).val = t.val := (by decide +kernel : ∀ t : Fin grid0.N, _)

theorem t_lt : ∀ t : Fin cfg0.N, t.val < 48 := (by decide +kernel : ∀ t : Fin grid0.N, _)

theorem padded_apply (x : FVec Ideal S88x1x6144 .bf16) (v : FVec Ideal S_ .bf16) (a : Fin 88) (k : Fin 6144) :
    pad S96x6144 ![0, 0] ![8, 0] ![0, 0] (shapeCast S88x6144 x shapeCasts_S88x1x6144_S88x6144) v
      pads_S88x6144_S96x6144_080_000 h_S_ (ix2 (⟨a.val, by omega⟩ : Fin 96) k) = x (ix3 a (0 : Fin 1) k) := by
  pointwise []

/-- The padded activations. -/
theorem V_main_v1 (c : Dev nD) (a : Fin 88) (k : Fin 6144) :
    V m c main_v1 (ix2 (⟨a.val, by omega⟩ : Fin 96) k) = m ((c.tc : Thread nD τ).loc main_arg0) (ix3 a (0 : Fin 1) k) := by
  have e : V m c main_v1 = pad S96x6144 ![0, 0] ![8, 0] ![0, 0]
      (shapeCast S88x6144 (m ((c.tc : Thread nD τ).loc main_arg0) : FVec Ideal S88x1x6144 .bf16) shapeCasts_S88x1x6144_S88x6144)
      (sitofp .bf16 (constantI S_ 32 0#32) : FVec Ideal S_ .bf16) pads_S88x6144_S96x6144_080_000 h_S_ := by
    simp only [V, hostOps0, hostOps0_1, hostOps0_2, hostOps0_3, List.flatten_cons, List.flatten_nil, List.append_nil, List.cons_append, List.nil_append, TRef.binary, TRef.unary, TRef.toBuf, TRef.ofBuf, cast_eq]
    after_results_simp
    rfl
  rw [e]
  exact padded_apply _ _ a k

theorem blk0 (c : Dev nD) (t : Fin cfg0.N) (a : Fin 88) (k : Fin 6144) :
    iblk m c 0 t (ix2 (⟨a.val, by omega⟩ : Fin 96) k) = m ((c.tc : Thread nD τ).loc main_arg0) (ix3 a (0 : Fin 1) k) := by
  refine Eq.trans ?_ (V_main_v1 m c a k)
  blk_simp [iblk, idx0]
  congr 1
  blk_ext [idx0]

theorem blk1 (c : Dev nD) (t : Fin cfg0.N) (k : Fin 3072) (j : Fin 1024) :
    iblk m c 1 t (ix2 k j) = m ((c.tc : Thread nD τ).loc main_arg1) (ix2 k (⟨1024 * t.val + j.val, by have := t_lt t; omega⟩ : Fin 49152)) := by
  blk_simp [iblk, idx1]
  rw [V_main_arg1]
  congr 1
  blk_ext [idx1]

theorem blk2 (c : Dev nD) (t : Fin cfg0.N) (g : Fin 96) (j : Fin 1024) :
    iblk m c 2 t (ix2 g j) = m ((c.tc : Thread nD τ).loc main_arg2) (ix2 g (⟨1024 * t.val + j.val, by have := t_lt t; omega⟩ : Fin 49152)) := by
  blk_simp [iblk, idx2]
  rw [V_main_arg2]
  congr 1
  blk_ext [idx2]

theorem blk3 (c : Dev nD) (t : Fin cfg0.N) (a : Fin 88) (w : Fin 1536) :
    iblk m c 3 t (ix2 a w) = m ((c.tc : Thread nD τ).loc main_arg3) (ix2 a w) := by
  blk_simp [iblk, idx3]
  rw [V_main_arg3]
  congr 1
  blk_ext [idx3]

theorem padded_ids_apply (x : IVec S88x1x32 32) (v : IVec S_ 32) (a : Fin 88) (k : Fin 32) :
    pad S88x128 ![0, 0] ![0, 96] ![0, 0] (shapeCast S88x32 x shapeCasts_S88x1x32_S88x32) v
      pads_S88x32_S88x128_000_0960 h_S_ (ix2 a (⟨k.val, by omega⟩ : Fin 128)) = x (ix3 a (0 : Fin 1) k) := by
  pointwise []

/-- The padded candidates. -/
theorem V_main_v3 (c : Dev nD) (a : Fin 88) (k : Fin 32) :
    V m c main_v3 (ix2 a (⟨k.val, by omega⟩ : Fin 128)) = m ((c.tc : Thread nD τ).loc main_arg4) (ix3 a (0 : Fin 1) k) := by
  have e : V m c main_v3 = pad S88x128 ![0, 0] ![0, 96] ![0, 0]
      (shapeCast S88x32 (m ((c.tc : Thread nD τ).loc main_arg4) : IVec S88x1x32 32) shapeCasts_S88x1x32_S88x32)
      (constantI S_ 32 0#32 : IVec S_ 32) pads_S88x32_S88x128_000_0960 h_S_ := by
    simp only [V, hostOps0, hostOps0_1, hostOps0_2, hostOps0_3, List.flatten_cons, List.flatten_nil, List.append_nil, List.cons_append, List.nil_append, TRef.binary, TRef.unary, TRef.toBuf, TRef.ofBuf, cast_eq]
    after_results_simp
    rfl
  rw [e]
  exact padded_ids_apply _ _ a k

theorem blk4 (c : Dev nD) (t : Fin cfg0.N) (a : Fin 88) (k : Fin 32) :
    iblk m c 4 t (ix2 a (⟨k.val, by omega⟩ : Fin 128)) = m ((c.tc : Thread nD τ).loc main_arg4) (ix3 a (0 : Fin 1) k) := by
  refine Eq.trans ?_ (V_main_v3 m c a k)
  blk_simp [iblk, idx4]
  congr 1
  blk_ext [idx4]

end Cert.Proof.KernelIdeal
-- ==== Proof.Ref.lean ====
/-
  The reference's masked logits at an index, at `Ideal`.
-/
module

public import proofs.«01_k».proof.Proof.KernelIdeal.Out
public import proofs.«01_k».proof.Proof.Gen.ReferenceIdeal.Run

@[expose] public section

set_option maxRecDepth 16384

noncomputable section

namespace Cert.Proof.ReferenceIdeal

open Cert.ReferenceIdeal Cert.ReferenceIdeal.Gen
open Idealize.ShloMosaic
open scoped BigOperators

/-- The allowed columns. -/
def allowed (x3 : IVec S88x1536 32) : IVec S88x1x49152 1 :=
  broadcastInDim S88x1x49152 ![0, 2] bcast_S88x49152_S88x1x49152_0_2 (shapeCast _ (cmpi .eq (andi (Host.shrsi (broadcastInDim S88x1536x32 ![0, 1, 2] bcast_S88x1536x1_S88x1536x32_0_1_2 (broadcastInDim S88x1536x1 ![0, 1] bcast_S88x1536_S88x1536x1_0_1 x3)) (broadcastInDim S88x1536x32 ![0, 1, 2] bcast_S1x1x32_S88x1536x32_0_1_2 (broadcastInDim S1x1x32 ![2] bcast_S32_S1x1x32_2 (iotaInDim S32 32 0)))) (broadcastInDim S88x1536x32 ![] bcast_S_S88x1536x32 (constantI S_ 32 1#32))) (broadcastInDim S88x1536x32 ![] bcast_S_S88x1536x32 (constantI S_ 32 1#32))) shapeCasts_S88x1536x32_S88x49152)

/-- The sign of a four-bit code extended. -/
def signed (n : IVec S3072x49152 32) : IVec S3072x49152 32 :=
  select (cmpi .sge n (broadcastInDim S3072x49152 ![] bcast_S_S3072x49152 (constantI S_ 32 8#32))) (subi n (broadcastInDim S3072x49152 ![] bcast_S_S3072x49152 (constantI S_ 32 16#32))) n

/-- The low halves of the packed bytes. -/
def low (x1 : IVec S3072x49152 8) : IVec S3072x49152 32 :=
  andi (extui 32 x1 natLt_8_32) (broadcastInDim S3072x49152 ![] bcast_S_S3072x49152 (constantI S_ 32 15#32))

/-- The high halves of the packed bytes. -/
def high (x1 : IVec S3072x49152 8) : IVec S3072x49152 32 :=
  Host.shrsi (extui 32 x1 natLt_8_32) (broadcastInDim S3072x49152 ![] bcast_S_S3072x49152 (constantI S_ 32 4#32))

/-- Codes times their group's scale. -/
def scaled (n : IVec S3072x49152 32) (x2 : FVec Ideal S96x49152 .f32) : FVec Ideal S96x32x49152 .bf16 :=
  mulf (shapeCast _ (sitofp .bf16 (signed n)) shapeCasts_S3072x49152_S96x32x49152) (broadcastInDim S96x32x49152 ![0, 1, 2] bcast_S96x1x49152_S96x32x49152_0_1_2 (broadcastInDim S96x1x49152 ![0, 2] bcast_S96x49152_S96x1x49152_0_2 (truncf .bf16 x2 bitsLt_bf16_f32)))

/-- The activations of the even features. -/
def even (x0 : FVec Ideal S88x1x6144 .bf16) : FVec Ideal S88x1x96x32 .bf16 :=
  shapeCast _ (extractStridedSlice S88x1x96x32x1 ![0, 0, 0, 0, 0] (shapeCast _ x0 shapeCasts_S88x1x6144_S88x1x96x32x2) slices_S88x1x96x32x2_S88x1x96x32x1_0_0_0_0_0) shapeCasts_S88x1x96x32x1_S88x1x96x32

/-- The activations of the odd features. -/
def odd (x0 : FVec Ideal S88x1x6144 .bf16) : FVec Ideal S88x1x96x32 .bf16 :=
  shapeCast _ (extractStridedSlice S88x1x96x32x1 ![0, 0, 0, 0, 1] (shapeCast _ x0 shapeCasts_S88x1x6144_S88x1x96x32x2) slices_S88x1x96x32x2_S88x1x96x32x1_0_0_0_0_1) shapeCasts_S88x1x96x32x1_S88x1x96x32

/-- The logits of all columns. -/
def logits (x0 : FVec Ideal S88x1x6144 .bf16) (x1 : IVec S3072x49152 8) (x2 : FVec Ideal S96x49152 .f32) :
    FVec Ideal S88x1x49152 .f32 :=
  addf (Host.dotGeneral dot_S88x1x96x32_S96x32x49152_S88x1x49152_23_01_01_2_n_n none (even x0) (scaled (low x1) x2))
    (Host.dotGeneral dot_S88x1x96x32_S96x32x49152_S88x1x49152_23_01_01_2_n_n none (odd x0) (scaled (high x1) x2))

/-- The reference's masked logits as the term its operations compose. -/
def refOut (x0 : FVec Ideal S88x1x6144 .bf16) (x1 : IVec S3072x49152 8) (x2 : FVec Ideal S96x49152 .f32)
    (x3 : IVec S88x1536 32) : FVec Ideal S88x384x128 .f32 :=
  shapeCast _ (select (allowed x3) (logits x0 x1 x2)
    (broadcastInDim S88x1x49152 ![] bcast_S_S88x1x49152 (constant (F := Ideal) S_ .f32 0x00000000#32))) shapeCasts_S88x1x49152_S88x384x128

/-- The low half of a byte with its sign extended. -/
theorem code_low (w : BitVec 8) :
    Scalar.select (IntOp.cmpi .sge (IntOp.andi (w.setWidth 32) 15#32) 8#32)
      (IntOp.subi (IntOp.andi (w.setWidth 32) 15#32) 16#32) (IntOp.andi (w.setWidth 32) 15#32) = KernelIdeal.code w false := by
  have key : ∀ w : Fin 256, Scalar.select (IntOp.cmpi .sge (IntOp.andi ((BitVec.ofFin w : BitVec 8).setWidth 32) 15#32) 8#32)
      (IntOp.subi (IntOp.andi ((BitVec.ofFin w : BitVec 8).setWidth 32) 15#32) 16#32) (IntOp.andi ((BitVec.ofFin w : BitVec 8).setWidth 32) 15#32)
      = KernelIdeal.code (BitVec.ofFin w) false := by decide +kernel
  exact key w.toFin

/-- The high half of a byte with its sign extended. -/
theorem code_high (w : BitVec 8) :
    Scalar.select (IntOp.cmpi .sge (IntOp.shrsi .host (w.setWidth 32) 4#32) 8#32)
      (IntOp.subi (IntOp.shrsi .host (w.setWidth 32) 4#32) 16#32) (IntOp.shrsi .host (w.setWidth 32) 4#32) = KernelIdeal.code w true := by
  have key : ∀ w : Fin 256, Scalar.select (IntOp.cmpi .sge (IntOp.shrsi .host ((BitVec.ofFin w : BitVec 8).setWidth 32) 4#32) 8#32)
      (IntOp.subi (IntOp.shrsi .host ((BitVec.ofFin w : BitVec 8).setWidth 32) 4#32) 16#32) (IntOp.shrsi .host ((BitVec.ofFin w : BitVec 8).setWidth 32) 4#32)
      = KernelIdeal.code (BitVec.ofFin w) true := by decide +kernel
  exact key w.toFin

/-- The lowest bit of a shifted word. -/
theorem shift_bit (w : BitVec 32) (n : Nat) (hn : n < 32) :
    IntOp.cmpi .eq (IntOp.andi (IntOp.shrsi .host w (BitVec.ofNat 32 n)) 1#32) 1#32 = BitVec.ofBool (w.getLsbD n) := by
  have e : IntOp.shrsi .host w (BitVec.ofNat 32 n) = w.sshiftRight n := by
    have h : (BitVec.ofNat 32 n).toNat = n := by rw [BitVec.toNat_ofNat]; omega
    unfold IntOp.shrsi
    rw [h, if_pos hn]
    exact congrArg w.sshiftRight h
  rw [e]
  show BitVec.ofBool (w.sshiftRight n &&& 1#32 == 1#32) = _
  congr 1
  have h0 : (w.sshiftRight n).getLsbD 0 = w.getLsbD n := by
    rw [BitVec.getLsbD_sshiftRight]; simp [hn]
  rw [← h0, show (1#32 : BitVec 32) = BitVec.twoPow 32 0 from rfl, BitVec.and_twoPow]
  cases (w.sshiftRight n).getLsbD 0 <;> rfl

theorem allowed_apply (x3 : IVec S88x1536 32) (a : Fin 88) (v : Fin 49152) :
    allowed x3 (ix3 a (0 : Fin 1) v) = BitVec.ofBool ((x3 (ix2 a (⟨v.val / 32, by omega⟩ : Fin 1536))).getLsbD (v.val % 32)) := by
  pointwise [allowed]
  exact shift_bit _ _ (Nat.mod_lt _ (by decide))

/-- A sum over all the features is the sum over the even ones and the sum over the odd ones, by
    groups of 64. -/
theorem sum_even_odd (f : Fin 6144 → EReal) :
    ∑ r, f r = (∑ g : Fin 96, ∑ k : Fin 32, f ⟨g.val * 64 + k.val * 2, by omega⟩)
      + ∑ g : Fin 96, ∑ k : Fin 32, f ⟨g.val * 64 + k.val * 2 + 1, by omega⟩ := by
  rw [Fin.sum_univ_tiles 96 64 rfl, ← Finset.sum_add_distrib]
  refine Finset.sum_congr rfl fun g _ => ?_
  rw [Fin.sum_univ_tiles 32 2 rfl, ← Finset.sum_add_distrib]
  refine Finset.sum_congr rfl fun k _ => ?_
  rw [Fin.sum_univ_two]
  rfl

theorem weight_low (b1 : Fin 3072 → BitVec 8) (b2 : Fin 96 → EReal) (g : Fin 96) (k : Fin 32) :
    KernelIdeal.weight b1 b2 ⟨g.val * 64 + k.val * 2, by omega⟩
      = (FloatOps.sitofp (F := Ideal) .bf16 (KernelIdeal.code (b1 ⟨g.val * 32 + k.val, by omega⟩) false) * b2 g : EReal) := by
  unfold KernelIdeal.weight
  have e1 : (⟨(g.val * 64 + k.val * 2) / 2, by omega⟩ : Fin 3072) = ⟨g.val * 32 + k.val, by omega⟩ := Fin.ext (by show (g.val * 64 + k.val * 2) / 2 = g.val * 32 + k.val; omega)
  have e2 : (⟨(g.val * 64 + k.val * 2) / 64, by omega⟩ : Fin 96) = g := Fin.ext (by show (g.val * 64 + k.val * 2) / 64 = g.val; omega)
  have e3 : ((g.val * 64 + k.val * 2) % 2 == 1) = false := by simp; omega
  simp only [e1, e2, e3]
  rfl

theorem weight_high (b1 : Fin 3072 → BitVec 8) (b2 : Fin 96 → EReal) (g : Fin 96) (k : Fin 32) :
    KernelIdeal.weight b1 b2 ⟨g.val * 64 + k.val * 2 + 1, by omega⟩
      = (FloatOps.sitofp (F := Ideal) .bf16 (KernelIdeal.code (b1 ⟨g.val * 32 + k.val, by omega⟩) true) * b2 g : EReal) := by
  unfold KernelIdeal.weight
  have e1 : (⟨(g.val * 64 + k.val * 2 + 1) / 2, by omega⟩ : Fin 3072) = ⟨g.val * 32 + k.val, by omega⟩ := Fin.ext (by show (g.val * 64 + k.val * 2 + 1) / 2 = g.val * 32 + k.val; omega)
  have e2 : (⟨(g.val * 64 + k.val * 2 + 1) / 64, by omega⟩ : Fin 96) = g := Fin.ext (by show (g.val * 64 + k.val * 2 + 1) / 64 = g.val; omega)
  have e3 : ((g.val * 64 + k.val * 2 + 1) % 2 == 1) = true := by simp; omega
  simp only [e1, e2, e3]
  rfl

theorem logits_apply (x0 : FVec Ideal S88x1x6144 .bf16) (x1 : IVec S3072x49152 8) (x2 : FVec Ideal S96x49152 .f32)
    (a : Fin 88) (v : Fin 49152) :
    logits x0 x1 x2 (ix3 a (0 : Fin 1) v)
      = (∑ r : Fin 6144, x0 (ix3 a (0 : Fin 1) r) * KernelIdeal.weight (fun k => x1 (ix2 k v)) (fun g => x2 (ix2 g v)) r : EReal) := by
  rw [sum_even_odd]
  pointwise [logits, even, odd, scaled, signed, low, high]
  simp only [code_low, code_high]
  simp only [weight_low, weight_high]

theorem refOut_apply (x0 : FVec Ideal S88x1x6144 .bf16) (x1 : IVec S3072x49152 8) (x2 : FVec Ideal S96x49152 .f32)
    (x3 : IVec S88x1536 32) (a : Fin 88) (q : Fin 384) (l : Fin 128) :
    refOut x0 x1 x2 x3 (ix3 a q l)
      = KernelIdeal.logit (fun r => x0 (ix3 a (0 : Fin 1) r))
          (fun k => x1 (ix2 k (⟨q.val * 128 + l.val, by omega⟩ : Fin 49152)))
          (fun g => x2 (ix2 g (⟨q.val * 128 + l.val, by omega⟩ : Fin 49152)))
          (x3 (ix2 a (⟨q.val * 4 + l.val / 32, by omega⟩ : Fin 1536))) (l.val % 32) := by
  pointwise [refOut]
  rw [allowed_apply, logits_apply]
  have e1 : (⟨(q.val * 128 + l.val) / 32, by omega⟩ : Fin 1536) = ⟨q.val * 4 + l.val / 32, by omega⟩ :=
    Fin.ext (by show (q.val * 128 + l.val) / 32 = q.val * 4 + l.val / 32; omega)
  have e2 : (q.val * 128 + l.val) % 32 = l.val % 32 := by omega
  simp only [e1, e2]
  unfold KernelIdeal.logit
  generalize (x3 _).getLsbD _ = b
  cases b <;> rfl

end Cert.Proof.ReferenceIdeal
-- ==== Proof.Value.lean ====
/-
  The kernel's masked logits and the reference's are equal at `Ideal`.
-/
module

public import proofs.«01_k».proof.Proof.KernelIdeal.Blocks
public import proofs.«01_k».proof.Proof.Ref

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat Cfg Window)
open scoped BigOperators

variable (m : (ℓ : Loc nD τ sig) → Buf (Elt Ideal) ℓ) (ρ : Dev nD → PrngReg)

/-- The masked logits the kernel leaves. -/
def masked (c : Dev nD) : Buf (Elt Ideal) ((c.tc : Thread nD τ).loc main_v4_0) :=
  ReferenceIdeal.refOut (m ((c.tc : Thread nD τ).loc main_arg0)) (m ((c.tc : Thread nD τ).loc main_arg1))
    (m ((c.tc : Thread nD τ).loc main_arg2)) (m ((c.tc : Thread nD τ).loc main_arg3))

/-- One element of a grid point's block is the element of the masked logits it is written to. -/
theorem point (c : Dev nD) (t : Fin cfg0.N) (a : Fin 88) (ch : Fin 8) (l : Fin 128) :
    outv (F := Ideal) (grid0.coords t) (iblk m c 0 t) (iblk m c 1 t) (iblk m c 2 t) (iblk m c 3 t) (ix3 a ch l)
      = masked m c (ix3 a (⟨8 * t.val + ch.val, by have := t_lt t; omega⟩ : Fin 384) l) := by
  have ht := t_lt t
  unfold masked
  rw [ReferenceIdeal.refOut_apply, outv_apply]
  have e0 : (fun k => iblk m c 0 t (ix2 (⟨a.val, by omega⟩ : Fin 96) k)) = fun k => m ((c.tc : Thread nD τ).loc main_arg0) (ix3 a (0 : Fin 1) k) :=
    funext fun k => blk0 m c t a k
  have ec : (⟨1024 * t.val + (⟨128 * ch.val + l.val, by omega⟩ : Fin 1024).val, by omega⟩ : Fin 49152) = ⟨(8 * t.val + ch.val) * 128 + l.val, by omega⟩ :=
    Fin.ext (by show 1024 * t.val + (128 * ch.val + l.val) = (8 * t.val + ch.val) * 128 + l.val; omega)
  have e1 : (fun k => iblk m c 1 t (ix2 k (⟨128 * ch.val + l.val, by omega⟩ : Fin 1024)))
      = fun k => m ((c.tc : Thread nD τ).loc main_arg1) (ix2 k (⟨(8 * t.val + ch.val) * 128 + l.val, by omega⟩ : Fin 49152)) :=
    funext fun k => by rw [blk1, ec]
  have e2 : (fun g => iblk m c 2 t (ix2 g (⟨128 * ch.val + l.val, by omega⟩ : Fin 1024)))
      = fun g => m ((c.tc : Thread nD τ).loc main_arg2) (ix2 g (⟨(8 * t.val + ch.val) * 128 + l.val, by omega⟩ : Fin 49152)) :=
    funext fun g => by rw [blk2, ec]
  have ew : (⟨((grid0.coords t 0).val * 8 + ch.val) * 4 + l.val / 32, off_lt _ ch l⟩ : Fin 1536) = ⟨(8 * t.val + ch.val) * 4 + l.val / 32, by omega⟩ :=
    Fin.ext (by show ((grid0.coords t 0).val * 8 + ch.val) * 4 + l.val / 32 = (8 * t.val + ch.val) * 4 + l.val / 32; rw [crd]; omega)
  have e3 := blk3 m c t a ⟨(8 * t.val + ch.val) * 4 + l.val / 32, by omega⟩
  rw [e0, e1, e2, ew, e3]

/-- The result array after all the grid points. -/
theorem final (c : Dev nD) : (dats m 0 c).arrAt 5 cfg0.N = masked m c := by
  refine (dats m 0 c).arrAt_eq_of_covers 5 _ (by decide +kernel) fun t hf y => ?_
  blk_simp
  rw [after0_5]
  obtain ⟨a, b, l, rfl⟩ : ∃ (a : Fin 88) (b : Fin 8) (l : Fin 128), y = ix3 a b l := ⟨y 0, y 1, y 2, by
    funext k; fin_cases k <;> rfl⟩
  refine (point m c t a b l).trans ?_
  congr 1
  blk_ext [idx5]

/-- The kernel runs and leaves the masked logits. -/
theorem run_value : θ_run defs (onTc (τ := τ) (main (F := Ideal))) ⟨m, fun _ => 0, ρ⟩ (fun r => ∀ c : Dev nD,
    r.2.mem ((c.tc : Thread nD τ).loc main_v4_0) = masked m c) :=
  (θ_run defs _ _).mono (fun r h c => (((dats m 0 c).toRForget_arrAt_iff (w := 5) rfl _ _).mp ((h c).1 5)).trans (final m c)) (run_main m ρ)

end Cert.Proof.KernelIdeal
-- ==== Proof.KernelIdeal.Stat.lean ====
/-
  What one call of the kernel's body leaves in the two running statistics of the log-sum-exp, the
  largest allowed logit met so far in each lane and the sum of the exponentials relative to it: the
  pieces it writes, and what the statistics hold once they are written.
-/
module

public import proofs.«01_k».proof.Proof.KernelIdeal.Read

@[expose] public section

set_option maxRecDepth 16384

noncomputable section

namespace Cert.Proof.KernelIdeal

open Cert.KernelIdeal Cert.KernelIdeal.Gen
open Idealize.ShloMosaic Idealize.ShloMosaic.ValueIdx

variable {F : FTy → Type} [FloatOps F] [Named F]

/-- The eight rows of row group `rg`. -/
def rc (rg : Fin 11) : Rect S88x128 :=
  Rect.unit (s := S88x128) ![8 * rg.val, 0] S8x128.size (by intro a; fin_cases a <;> simp <;> omega)

/-- The logits of row group `rg` and chunk `ch`, the mask's constant where not allowed. -/
def mv (s : Mxu F) (i : grid0.Coords) (x0 : Vec F S96x6144 .bf16) (x1 : Vec F S3072x1024 .i8) (x2 : Vec F S96x1024 .f32)
    (x3 : Vec F S88x1536 .i32) (rg : Fin 11) (ch : Fin 8) : FVec F S8x128 .f32 :=
  select (okv (F := F) i x3 rg ch) (val s x0 x1 x2 rg ch) (broadcast S8x128 (Named.named κ "mask" 0xFF7FFFFF#32))

/-- The new maximum from the old one and four chunks. -/
def mx (v0 v1 v2 v3 mo : FVec F S8x128 .f32) : FVec F S8x128 .f32 :=
  maximumf (maximumf (maximumf (maximumf mo v0) v1) v2) v3

/-- The new sum from the old maximum and sum and four chunks. -/
def sm (v0 v1 v2 v3 mo lo : FVec F S8x128 .f32) : FVec F S8x128 .f32 :=
  addf (addf (addf (addf (mulf lo (exp (subf mo (mx v0 v1 v2 v3 mo)))) (exp (subf v0 (mx v0 v1 v2 v3 mo))))
    (exp (subf v1 (mx v0 v1 v2 v3 mo)))) (exp (subf v2 (mx v0 v1 v2 v3 mo)))) (exp (subf v3 (mx v0 v1 v2 v3 mo)))

section
variable (s : Mxu F) (i : grid0.Coords) (x0 : Vec F S96x6144 .bf16) (x1 : Vec F S3072x1024 .i8) (x2 : Vec F S96x1024 .f32)
    (x3 : Vec F S88x1536 .i32)

/-- The rows of the new maximum stored for row group `rg` after the pair `p` of column tiles. -/
def mstep (p : Fin 2) (rg : Fin 11) (mo : FVec F S8x128 .f32) : FVec F S8x128 .f32 :=
  shapeCast S8x128 (mx (mv s i x0 x1 x2 x3 rg ⟨4 * p.val, by omega⟩) (mv s i x0 x1 x2 x3 rg ⟨4 * p.val + 1, by omega⟩)
    (mv s i x0 x1 x2 x3 rg ⟨4 * p.val + 2, by omega⟩) (mv s i x0 x1 x2 x3 rg ⟨4 * p.val + 3, by omega⟩) mo) shapeCasts_S8x128_S8x128

/-- The rows of the new sum. -/
def lstep (p : Fin 2) (rg : Fin 11) (mo lo : FVec F S8x128 .f32) : FVec F S8x128 .f32 :=
  shapeCast S8x128 (sm (mv s i x0 x1 x2 x3 rg ⟨4 * p.val, by omega⟩) (mv s i x0 x1 x2 x3 rg ⟨4 * p.val + 1, by omega⟩)
    (mv s i x0 x1 x2 x3 rg ⟨4 * p.val + 2, by omega⟩) (mv s i x0 x1 x2 x3 rg ⟨4 * p.val + 3, by omega⟩) mo lo) shapeCasts_S8x128_S8x128

end

/-- The row groups in order, -/
def rgs : List (Fin 11) := [0, 1, 2, 3, 4, 5, 6, 7, 8, 9, 10]
/-- and the last first. -/
def rgsR : List (Fin 11) := [10, 9, 8, 7, 6, 5, 4, 3, 2, 1, 0]

/-- A list of pieces of a statistic. -/
abbrev PL (F : FTy → Type) : Type := List (View.Piece (Elt F) S88x128 .f32)

section
variable {κ' : Kind} {sp : Space} (v9 v10 : View sig κ' sp S88x128 .f32)

/-- The pieces of both statistics, each row group read back from the pieces before. -/
def foldS (g : Fin 11 → FVec F S8x128 .f32 → FVec F S8x128 .f32) (h : Fin 11 → FVec F S8x128 .f32 → FVec F S8x128 .f32 → FVec F S8x128 .f32)
    (ks : List (Fin 11)) (P : PL F × PL F) : PL F × PL F :=
  ks.foldl (fun L rg =>
    (⟨rc rg, g rg (v9.readCov L.1 (rc rg).toLoadRect)⟩ :: L.1,
     ⟨rc rg, h rg (v9.readCov L.1 (rc rg).toLoadRect) (v10.readCov L.2 (rc rg).toLoadRect)⟩ :: L.2)) P

/-- The pieces of both statistics, each row group read from the contents found. -/
def mapS (g : Fin 11 → FVec F S8x128 .f32 → FVec F S8x128 .f32) (h : Fin 11 → FVec F S8x128 .f32 → FVec F S8x128 .f32 → FVec F S8x128 .f32)
    (f9 : v9.ty.Contents (Elt F)) (f10 : v10.ty.Contents (Elt F)) : PL F × PL F :=
  (rgsR.map fun rg => ⟨rc rg, g rg (v9.readAt (Elt F) (rc rg).toLoadRect f9)⟩,
   rgsR.map fun rg => ⟨rc rg, h rg (v9.readAt (Elt F) (rc rg).toLoadRect f9) (v10.readAt (Elt F) (rc rg).toLoadRect f10)⟩)

variable (s : Mxu F) (i : grid0.Coords) (x0 : Vec F S96x6144 .bf16) (x1 : Vec F S3072x1024 .i8) (x2 : Vec F S96x1024 .f32)
    (x3 : Vec F S88x1536 .i32)

/-- The pieces at a point that finds the statistics of the point before. -/
def statB (f9 : v9.ty.Contents (Elt F)) (f10 : v10.ty.Contents (Elt F)) : PL F × PL F :=
  foldS v9 v10 (mstep s i x0 x1 x2 x3 1) (lstep s i x0 x1 x2 x3 1) rgs
    (mapS v9 v10 (mstep s i x0 x1 x2 x3 0) (lstep s i x0 x1 x2 x3 0) f9 f10)

/-- The pieces at the first point, which starts the statistics. -/
def statA : PL F × PL F :=
  foldS v9 v10 (mstep s i x0 x1 x2 x3 1) (lstep s i x0 x1 x2 x3 1) rgs
    (foldS v9 v10 (mstep s i x0 x1 x2 x3 0) (lstep s i x0 x1 x2 x3 0) rgs
      ([⟨Rect.unit (s := S88x128) ![0, 0] S88x128.size inb_S88x128_S88x128_0_0, k0_pay592⟩],
       [⟨Rect.unit (s := S88x128) ![0, 0] S88x128.size inb_S88x128_S88x128_0_0, k0_pay593⟩]))

/-- The pieces of the log-sum-exp at the last point, from the statistics' pieces. -/
def lseP (L : PL F × PL F) : List (View.Piece (Elt F) S88x1 .f32) :=
  rgsR.map fun rg => ⟨Rect.unit (s := S88x1) ![8 * rg.val, 0] S8x1.size (by intro a; fin_cases a <;> simp <;> omega),
    k0_pay484 (v9.readCov L.1 (rc rg).toLoadRect) (v10.readCov L.2 (rc rg).toLoadRect)⟩

end

end Cert.Proof.KernelIdeal
-- ==== Proof.KernelIdeal.StatRead.lean ====
/-
  What the two running statistics hold once a point's pieces are written: element by element, the new
  maximum and the new sum of the element's lane, from the old ones.
-/
module

public import proofs.«01_k».proof.Proof.KernelIdeal.Stat

@[expose] public section

set_option maxRecDepth 16384

noncomputable section

namespace Cert.Proof.KernelIdeal

open Cert.KernelIdeal Cert.KernelIdeal.Gen
open Idealize.ShloMosaic Idealize.ShloMosaic.ValueIdx

variable {F : FTy → Type} [FloatOps F] [Named F]

/-- The row group of an element, -/
def rgOf (y : S88x128.Idx) : Fin 11 := ⟨(y 0).val / 8, by have : (y 0).val < 88 := (y 0).isLt; omega⟩
/-- and its place in the group. -/
def inRg (y : S88x128.Idx) : S8x128.Idx := ix2 (⟨(y 0).val % 8, by omega⟩ : Fin 8) (y 1)

/-- The eight rows of a row group. -/
def rows (M : Vec F S88x128 .f32) (rg : Fin 11) : FVec F S8x128 .f32 := fun x => M ((rc rg).toLoadRect.idx x)

/-- A statistic made row group by row group. -/
def ofRows (w : Fin 11 → FVec F S8x128 .f32) : Vec F S88x128 .f32 := fun y => w (rgOf y) (inRg y)

theorem rc_emb (y : S88x128.Idx) : (rc (rgOf y)).emb (inRg y) = y := by
  funext k
  apply Fin.ext
  fin_cases k
  · show 8 * ((y 0).val / 8) + 1 * ((y 0).val % 8) = (y 0).val
    omega
  · show 0 + 1 * (y 1).val = (y 1).val
    omega

theorem rgOf_emb (rg : Fin 11) (x : S8x128.Idx) : rgOf ((rc rg).emb x) = rg := by
  apply Fin.ext
  have : (x 0).val < 8 := (x 0).isLt
  show (8 * rg.val + 1 * (x 0).val) / 8 = rg.val
  omega

variable {κ' : Kind} {sp : Space} (v v9 v10 : View sig κ' sp S88x128 .f32)

/-- One more row group written. -/
theorem read_cons (f : v.ty.Contents (Elt F)) (rg : Fin 11) (w : FVec F S8x128 .f32) (L : PL F) (y : S88x128.Idx) :
    v.read (Elt F) (v.writes (Elt F) f (⟨rc rg, w⟩ :: L)) y
      = if rgOf y = rg then w (inRg y) else v.read (Elt F) (v.writes (Elt F) f L) y := by
  by_cases h : rgOf y = rg
  · subst h
    rw [if_pos rfl]
    have := View.read_writes_cons_emb v f (rc (rgOf y)) w L (inRg y)
    rw [rc_emb] at this
    exact this
  · rw [if_neg h, View.writes_cons, View.read_slice_write_of_not_mem]
    intro hm
    obtain ⟨x, -, hx⟩ := Finset.mem_map.mp hm
    exact h (hx ▸ rgOf_emb rg x)

/-- Reading a row group back from pieces over which the statistic is known. -/
theorem readCov_rows (L : PL F) (rg : Fin 11) (M : Vec F S88x128 .f32)
    (h : ∀ f y, rgOf y = rg → v.read (Elt F) (v.writes (Elt F) f L) y = M y) :
    v.readCov L (rc rg).toLoadRect = rows M rg :=
  funext fun x => h _ _ (rgOf_emb rg x)

/-- All the row groups in turn, each read back from the pieces before. -/
theorem read_foldS (g : Fin 11 → FVec F S8x128 .f32 → FVec F S8x128 .f32) (h : Fin 11 → FVec F S8x128 .f32 → FVec F S8x128 .f32 → FVec F S8x128 .f32)
    (M L : Vec F S88x128 .f32) (P : PL F × PL F)
    (hM : ∀ f, v9.read (Elt F) (v9.writes (Elt F) f P.1) = M) (hL : ∀ f, v10.read (Elt F) (v10.writes (Elt F) f P.2) = L) :
    ∀ ks : List (Fin 11), ks.Nodup →
      (∀ f y, v9.read (Elt F) (v9.writes (Elt F) f (foldS v9 v10 g h ks P).1) y
        = if rgOf y ∈ ks then ofRows (fun rg => g rg (rows M rg)) y else M y) ∧
      (∀ f y, v10.read (Elt F) (v10.writes (Elt F) f (foldS v9 v10 g h ks P).2) y
        = if rgOf y ∈ ks then ofRows (fun rg => h rg (rows M rg) (rows L rg)) y else L y) := by
  intro ks
  induction ks using List.reverseRecOn with
  | nil =>
    intro _
    refine ⟨fun f y => ?_, fun f y => ?_⟩
    · rw [if_neg (by simp)]; exact congrFun (hM f) y
    · rw [if_neg (by simp)]; exact congrFun (hL f) y
  | append_singleton ks k ih =>
    intro hn
    obtain ⟨hn1, hk⟩ : ks.Nodup ∧ k ∉ ks := by
      rw [List.nodup_append] at hn
      exact ⟨hn.1, fun hk => hn.2.2 k hk k (by simp) rfl⟩
    obtain ⟨i1, i2⟩ := ih hn1
    have r1 : v9.readCov (foldS v9 v10 g h ks P).1 (rc k).toLoadRect = rows M k :=
      readCov_rows v9 _ k M fun f y hy => by rw [i1, if_neg (by rw [hy]; exact hk)]
    have r2 : v10.readCov (foldS v9 v10 g h ks P).2 (rc k).toLoadRect = rows L k :=
      readCov_rows v10 _ k L fun f y hy => by rw [i2, if_neg (by rw [hy]; exact hk)]
    have e : foldS v9 v10 g h (ks ++ [k]) P
        = (⟨rc k, g k (rows M k)⟩ :: (foldS v9 v10 g h ks P).1, ⟨rc k, h k (rows M k) (rows L k)⟩ :: (foldS v9 v10 g h ks P).2) := by
      rw [← r1, ← r2]; unfold foldS; rw [List.foldl_append]; rfl
    rw [e]
    refine ⟨fun f y => ?_, fun f y => ?_⟩
    · refine (read_cons v9 f k _ _ y).trans ?_
      by_cases hy : rgOf y = k
      · subst hy; rw [if_pos rfl, if_pos (by simp)]; rfl
      · rw [if_neg hy, i1]; simp [hy]
    · refine (read_cons v10 f k _ _ y).trans ?_
      by_cases hy : rgOf y = k
      · subst hy; rw [if_pos rfl, if_pos (by simp)]; rfl
      · rw [if_neg hy, i2]; simp [hy]

/-- All the row groups, each read from the contents found. -/
theorem read_mapS (w : Fin 11 → FVec F S8x128 .f32) (f : v.ty.Contents (Elt F)) :
    v.read (Elt F) (v.writes (Elt F) f (rgsR.map fun rg => (⟨rc rg, w rg⟩ : View.Piece (Elt F) S88x128 .f32))) = ofRows w := by
  funext y
  have : ∀ ks : List (Fin 11), v.read (Elt F) (v.writes (Elt F) f (ks.map fun rg => (⟨rc rg, w rg⟩ : View.Piece (Elt F) S88x128 .f32))) y
      = if rgOf y ∈ ks then ofRows w y else v.read (Elt F) f y := by
    intro ks
    induction ks with
    | nil => rw [if_neg (by simp)]; rfl
    | cons k ks ih =>
      refine (read_cons v f k _ _ y).trans ?_
      by_cases hy : rgOf y = k
      · subst hy; rw [if_pos rfl, if_pos (by simp)]; rfl
      · rw [if_neg hy, ih]; simp [hy]
  rw [this, if_pos]
  generalize rgOf y = r
  revert r; decide

variable (s : Mxu F) (i : grid0.Coords) (x0 : Vec F S96x6144 .bf16) (x1 : Vec F S3072x1024 .i8) (x2 : Vec F S96x1024 .f32)
    (x3 : Vec F S88x1536 .i32)

/-- The maximum after the pair `p` of column tiles, -/
def stM (p : Fin 2) (M : Vec F S88x128 .f32) : Vec F S88x128 .f32 := ofRows fun rg => mstep s i x0 x1 x2 x3 p rg (rows M rg)
/-- and the sum. -/
def stL (p : Fin 2) (M L : Vec F S88x128 .f32) : Vec F S88x128 .f32 := ofRows fun rg => lstep s i x0 x1 x2 x3 p rg (rows M rg) (rows L rg)

/-- The maximum after the point, -/
def ptM (M : Vec F S88x128 .f32) : Vec F S88x128 .f32 := stM s i x0 x1 x2 x3 1 (stM s i x0 x1 x2 x3 0 M)
/-- and the sum. -/
def ptL (M L : Vec F S88x128 .f32) : Vec F S88x128 .f32 := stL s i x0 x1 x2 x3 1 (stM s i x0 x1 x2 x3 0 M) (stL s i x0 x1 x2 x3 0 M L)

theorem mem_rgs (r : Fin 11) : r ∈ rgs := by revert r; decide

/-- The pieces of a whole pass over the row groups. -/
theorem read_pass (p : Fin 2) (M L : Vec F S88x128 .f32) (P : PL F × PL F)
    (hM : ∀ f, v9.read (Elt F) (v9.writes (Elt F) f P.1) = M) (hL : ∀ f, v10.read (Elt F) (v10.writes (Elt F) f P.2) = L) :
    (∀ f, v9.read (Elt F) (v9.writes (Elt F) f (foldS v9 v10 (mstep s i x0 x1 x2 x3 p) (lstep s i x0 x1 x2 x3 p) rgs P).1) = stM s i x0 x1 x2 x3 p M) ∧
    (∀ f, v10.read (Elt F) (v10.writes (Elt F) f (foldS v9 v10 (mstep s i x0 x1 x2 x3 p) (lstep s i x0 x1 x2 x3 p) rgs P).2) = stL s i x0 x1 x2 x3 p M L) := by
  obtain ⟨h1, h2⟩ := read_foldS v9 v10 (mstep s i x0 x1 x2 x3 p) (lstep s i x0 x1 x2 x3 p) M L P hM hL rgs (by decide)
  refine ⟨fun f => funext fun y => ?_, fun f => funext fun y => ?_⟩
  · rw [h1, if_pos (mem_rgs _)]; rfl
  · rw [h2, if_pos (mem_rgs _)]; rfl

/-- The statistics after a point that finds those of the point before. -/
theorem read_statB (f9 : v9.ty.Contents (Elt F)) (f10 : v10.ty.Contents (Elt F)) :
    (∀ f, v9.read (Elt F) (v9.writes (Elt F) f (statB v9 v10 s i x0 x1 x2 x3 f9 f10).1) = ptM s i x0 x1 x2 x3 (v9.read (Elt F) f9)) ∧
    (∀ f, v10.read (Elt F) (v10.writes (Elt F) f (statB v9 v10 s i x0 x1 x2 x3 f9 f10).2) = ptL s i x0 x1 x2 x3 (v9.read (Elt F) f9) (v10.read (Elt F) f10)) :=
  read_pass v9 v10 s i x0 x1 x2 x3 1 _ _ _ (fun f => read_mapS v9 _ f) (fun f => read_mapS v10 _ f)

/-- One piece that is the whole statistic. -/
theorem read_whole (w : Vec F S88x128 .f32) (f : v.ty.Contents (Elt F)) :
    v.read (Elt F) (v.writes (Elt F) f [⟨Rect.unit (s := S88x128) ![0, 0] S88x128.size inb_S88x128_S88x128_0_0, w⟩]) = w := by
  funext y
  have := View.read_writes_cons_emb v f (Rect.unit (s := S88x128) ![0, 0] S88x128.size inb_S88x128_S88x128_0_0) w [] y
  have e : (Rect.unit (s := S88x128) ![0, 0] S88x128.size inb_S88x128_S88x128_0_0).emb y = y := by
    funext k
    apply Fin.ext
    fin_cases k
    · show 0 + 1 * (y 0).val = (y 0).val
      omega
    · show 0 + 1 * (y 1).val = (y 1).val
      omega
  rw [e] at this
  exact this

/-- The statistics after the first point. -/
theorem read_statA :
    (∀ f, v9.read (Elt F) (v9.writes (Elt F) f (statA v9 v10 s i x0 x1 x2 x3).1) = ptM s i x0 x1 x2 x3 k0_pay592) ∧
    (∀ f, v10.read (Elt F) (v10.writes (Elt F) f (statA v9 v10 s i x0 x1 x2 x3).2) = ptL s i x0 x1 x2 x3 k0_pay592 k0_pay593) := by
  obtain ⟨h1, h2⟩ := read_pass v9 v10 s i x0 x1 x2 x3 0 k0_pay592 k0_pay593
    ([⟨Rect.unit (s := S88x128) ![0, 0] S88x128.size inb_S88x128_S88x128_0_0, k0_pay592⟩],
       [⟨Rect.unit (s := S88x128) ![0, 0] S88x128.size inb_S88x128_S88x128_0_0, k0_pay593⟩])
    (fun f => read_whole v9 _ f) (fun f => read_whole v10 _ f)
  exact read_pass v9 v10 s i x0 x1 x2 x3 1 _ _ _ h1 h2

/-- The log-sum-exp of the rows, from the statistics. -/
def lsev (M L : Vec F S88x128 .f32) : Vec F S88x1 .f32 := fun y =>
  k0_pay484 (rows M ⟨(y 0).val / 8, by have : (y 0).val < 88 := (y 0).isLt; omega⟩)
    (rows L ⟨(y 0).val / 8, by have : (y 0).val < 88 := (y 0).isLt; omega⟩) (ix2 (⟨(y 0).val % 8, by omega⟩ : Fin 8) (y 1))

theorem mem_rgsR (r : Fin 11) : r ∈ rgsR := by revert r; decide

/-- The pieces of the log-sum-exp give it. -/
theorem read_lse {κ'' : Kind} {sp' : Space} (u : View sig κ'' sp' S88x1 .f32) (M L : Vec F S88x128 .f32) (P : PL F × PL F)
    (hM : ∀ f, v9.read (Elt F) (v9.writes (Elt F) f P.1) = M) (hL : ∀ f, v10.read (Elt F) (v10.writes (Elt F) f P.2) = L)
    (f : u.ty.Contents (Elt F)) :
    u.read (Elt F) (u.writes (Elt F) f (lseP v9 v10 P)) = lsev M L := by
  have e : lseP v9 v10 P = rgsR.map fun rg => ⟨Rect.unit (s := S88x1) ![8 * rg.val, 0] S8x1.size (by intro a; fin_cases a <;> simp <;> omega),
      k0_pay484 (rows M rg) (rows L rg)⟩ := by
    unfold lseP
    apply List.map_congr_left
    intro rg _
    rw [readCov_rows v9 P.1 rg M (fun f y _ => congrFun (hM f) y), readCov_rows v10 P.2 rg L (fun f y _ => congrFun (hL f) y)]
  rw [e]
  funext y
  have hy0 : (y 0).val < 88 := (y 0).isLt
  have hy1 : (y 1).val < 1 := (y 1).isLt
  apply read_writes_agree
  · refine ⟨_, List.mem_map.mpr ⟨⟨(y 0).val / 8, by omega⟩, mem_rgsR _, rfl⟩, ix2 (⟨(y 0).val % 8, by omega⟩ : Fin 8) (y 1), ?_⟩
    funext k
    apply Fin.ext
    fin_cases k
    · show 8 * ((y 0).val / 8) + 1 * ((y 0).val % 8) = (y 0).val
      omega
    · show 0 + 1 * (y 1).val = (y 1).val
      omega
  · intro p hp x hx
    obtain ⟨rg, -, rfl⟩ := List.mem_map.mp hp
    obtain ⟨a, b, rfl⟩ : ∃ (a : Fin 8) (b : Fin 1), x = ix2 a b := ⟨x 0, x 1, by
      funext k; fin_cases k <;> rfl⟩
    subst hx
    have e1 : (⟨((8 * rg.val + 1 * a.val) / 8 : ℕ), by omega⟩ : Fin 11) = rg := Fin.ext (by show (8 * rg.val + 1 * a.val) / 8 = rg.val; omega)
    have e2 : (⟨((8 * rg.val + 1 * a.val) % 8 : ℕ), by omega⟩ : Fin 8) = a := Fin.ext (by show (8 * rg.val + 1 * a.val) % 8 = a.val; omega)
    have e3 : (⟨(0 + 1 * b.val : ℕ), by omega⟩ : Fin 1) = b := Fin.ext (by show 0 + 1 * b.val = b.val; omega)
    show k0_pay484 (rows M rg) (rows L rg) (ix2 a b) = k0_pay484 (rows M ⟨(8 * rg.val + 1 * a.val) / 8, _⟩) (rows L ⟨(8 * rg.val + 1 * a.val) / 8, _⟩) (ix2 (⟨(8 * rg.val + 1 * a.val) % 8, _⟩ : Fin 8) (⟨0 + 1 * b.val, _⟩ : Fin 1))
    rw [e1, e2, e3]

end Cert.Proof.KernelIdeal
-- ==== Proof.Online.lean ====
/-
  The log of a sum of exponentials, taken a few values at a time: a running maximum, and a running sum
  of exponentials that is rescaled whenever the maximum grows.
-/
module

public import Idealize.ShloMosaic.PureOps.Ideal
public import Mathlib.Algebra.BigOperators.Fin

@[expose] public section

noncomputable section

namespace Cert.Proof.Online

open Idealize.ShloMosaic
open scoped BigOperators

theorem exp_nonneg (x : EReal) : 0 ≤ Ideal.exp x := by
  induction x with
  | bot => exact le_refl _
  | top => exact le_top
  | coe r => rw [Ideal.exp_coe]; exact_mod_cast (Real.exp_pos r).le

/-- Rescaling an exponential from one maximum to a greater one. -/
theorem exp_rescale {a b c : EReal} (hab : a ≤ b) (hbc : b ≤ c) :
    Ideal.exp (a - b) * Ideal.exp (b - c) = Ideal.exp (a - c) := by
  induction c with
  | bot =>
    obtain rfl := le_bot_iff.mp hbc
    obtain rfl := le_bot_iff.mp hab
    simp
  | top =>
    simp [sub_eq_add_neg]
  | coe c =>
    induction b with
    | bot =>
      obtain rfl := le_bot_iff.mp hab
      simp
    | top => exact absurd hbc (by simp)
    | coe b =>
      induction a with
      | bot => simp [sub_eq_add_neg]
      | top => exact absurd hab (by simp)
      | coe a =>
        rw [← EReal.coe_sub, ← EReal.coe_sub, ← EReal.coe_sub, Ideal.exp_coe, Ideal.exp_coe, Ideal.exp_coe,
          ← EReal.coe_mul, ← Real.exp_add]
        congr 2
        ring

/-- A product goes through a sum of values none of which is negative. -/
theorem sum_mul_nonneg {ι : Type} (s : Finset ι) (f : ι → EReal) (c : EReal) (hf : ∀ k ∈ s, 0 ≤ f k) :
    (∑ k ∈ s, f k) * c = ∑ k ∈ s, f k * c := by
  classical
  induction s using Finset.induction_on with
  | empty => simp
  | insert k s hk ih =>
    have h1 : 0 ≤ f k := hf k (Finset.mem_insert_self k s)
    have h2 : ∀ j ∈ s, 0 ≤ f j := fun j hj => hf j (Finset.mem_insert_of_mem hj)
    rw [Finset.sum_insert hk, Finset.sum_insert hk, EReal.right_distrib_of_nonneg h1 (Finset.sum_nonneg h2), ih h2]

/-- Rescaling a sum of exponentials. -/
theorem sum_rescale {ι : Type} (s : Finset ι) (f : ι → EReal) (b c : EReal) (hb : ∀ k ∈ s, f k ≤ b) (hbc : b ≤ c) :
    (∑ k ∈ s, Ideal.exp (f k - b)) * Ideal.exp (b - c) = ∑ k ∈ s, Ideal.exp (f k - c) := by
  rw [sum_mul_nonneg s _ _ fun k _ => exp_nonneg _]
  exact Finset.sum_congr rfl fun k hk => exp_rescale (hb k hk) hbc

/-- The maximum of the first `n` values, -/
def top (f : ℕ → EReal) (n : ℕ) : EReal := (Finset.range n).sup f
/-- and the sum of their exponentials below it. -/
def tot (f : ℕ → EReal) (n : ℕ) : EReal := ∑ k ∈ Finset.range n, Ideal.exp (f k - top f n)

theorem top_zero (f : ℕ → EReal) : top f 0 = ⊥ := rfl
theorem tot_zero (f : ℕ → EReal) : tot f 0 = 0 := rfl

/-- Four more values. -/
theorem top_four (f : ℕ → EReal) (n : ℕ) :
    max (max (max (max (top f n) (f n)) (f (n + 1))) (f (n + 2))) (f (n + 3)) = top f (n + 4) := by
  have h1 : ∀ k, top f (k + 1) = max (top f k) (f k) := fun k => by
    unfold top
    rw [Finset.range_add_one, Finset.sup_insert]
    exact max_comm _ _
  rw [← h1, ← h1, ← h1, ← h1]

theorem tot_four (f : ℕ → EReal) (n : ℕ) :
    tot f n * Ideal.exp (top f n - top f (n + 4)) + Ideal.exp (f n - top f (n + 4)) + Ideal.exp (f (n + 1) - top f (n + 4))
      + Ideal.exp (f (n + 2) - top f (n + 4)) + Ideal.exp (f (n + 3) - top f (n + 4)) = tot f (n + 4) := by
  have h : top f n ≤ top f (n + 4) := Finset.sup_mono (by intro k; simp only [Finset.mem_range]; omega)
  unfold tot
  rw [sum_rescale (Finset.range n) f (top f n) _ (fun k hk => Finset.le_sup (f := f) hk) h]
  generalize top f (n + 4) = c
  rw [Finset.sum_range_succ, Finset.sum_range_succ, Finset.sum_range_succ, Finset.sum_range_succ]

/-- The log-sum-exp as the lanes give it: the greatest of the lanes' maxima, and the lanes' sums
    rescaled to it. -/
def combine {n : ℕ} (M L : Fin n → EReal) : EReal :=
  if ⊥ < Finset.univ.sup M then Finset.univ.sup M + Ideal.log (∑ l, L l * Ideal.exp (M l - Finset.univ.sup M)) else ⊥

/-- The log-sum-exp over all the values at once, shifted by their maximum when it is a number. -/
def lse {ι : Type} [Fintype ι] (w : ι → EReal) : EReal :=
  let M := if (⊥ < Finset.univ.sup w ∧ Finset.univ.sup w < ⊤) then Finset.univ.sup w else 0
  Ideal.log (∑ v, Ideal.exp (w v - M)) + M

/-- Lane by lane or all at once, it is one number, unless a value is `⊤`. -/
theorem combine_eq {n p : ℕ} (w : Fin n → ℕ → EReal) (hw : ∀ l k, w l k ≠ ⊤) :
    combine (fun l => top (w l) p) (fun l => tot (w l) p) = lse (fun lk : Fin n × Fin p => w lk.1 lk.2) := by
  have hs : Finset.univ.sup (fun l => top (w l) p) = Finset.univ.sup (fun lk : Fin n × Fin p => w lk.1 lk.2) := by
    apply le_antisymm
    · refine Finset.sup_le fun l _ => Finset.sup_le fun k hk => ?_
      exact Finset.le_sup (f := fun lk : Fin n × Fin p => w lk.1 lk.2) (Finset.mem_univ (l, ⟨k, Finset.mem_range.mp hk⟩))
    · refine Finset.sup_le fun lk _ => ?_
      refine le_trans ?_ (Finset.le_sup (f := fun l => top (w l) p) (Finset.mem_univ lk.1))
      exact Finset.le_sup (f := w lk.1) (Finset.mem_range.mpr lk.2.isLt)
  have ht : ∑ l, tot (w l) p * Ideal.exp (top (w l) p - Finset.univ.sup (fun l => top (w l) p))
      = ∑ lk : Fin n × Fin p, Ideal.exp (w lk.1 lk.2 - Finset.univ.sup (fun lk : Fin n × Fin p => w lk.1 lk.2)) := by
    rw [Fintype.sum_prod_type, ← hs]
    refine Finset.sum_congr rfl fun l _ => ?_
    unfold tot
    rw [sum_rescale (Finset.range p) (w l) (top (w l) p) _ (fun k hk => Finset.le_sup (f := w l) hk) (Finset.le_sup (f := fun l => top (w l) p) (Finset.mem_univ l))]
    exact (Fin.sum_univ_eq_sum_range (fun k => Ideal.exp (w l k - Finset.univ.sup (fun l => top (w l) p))) p).symm
  have hlt : Finset.univ.sup (fun lk : Fin n × Fin p => w lk.1 lk.2) < ⊤ :=
    (Finset.sup_lt_iff bot_lt_top).mpr fun lk _ => lt_top_iff_ne_top.mpr (hw _ _)
  unfold combine lse
  rw [ht, hs]
  by_cases h : ⊥ < Finset.univ.sup (fun lk : Fin n × Fin p => w lk.1 lk.2)
  · simp only [h, hlt, and_self, if_true]
    exact add_comm _ _
  · have hb : ∀ lk : Fin n × Fin p, w lk.1 lk.2 = ⊥ := fun lk => by
      have := Finset.le_sup (f := fun lk : Fin n × Fin p => w lk.1 lk.2) (Finset.mem_univ lk)
      rw [not_bot_lt_iff.mp h] at this
      exact le_bot_iff.mp this
    simp only [h, false_and, if_false, hb]
    have e : Ideal.log 0 = ⊥ := by
      have := Ideal.log_coe (0 : ℝ)
      simpa using this
    simp [e, sub_eq_add_neg]

/-- The values may be listed in another order. -/
theorem lse_equiv {ι κ : Type} [Fintype ι] [Fintype κ] (e : κ ≃ ι) (w : ι → EReal) : lse (fun k => w (e k)) = lse w := by
  have hs : Finset.univ.sup (fun k => w (e k)) = Finset.univ.sup w := by
    apply le_antisymm
    · exact Finset.sup_le fun k _ => Finset.le_sup (f := w) (Finset.mem_univ (e k))
    · refine Finset.sup_le fun v _ => ?_
      have := Finset.le_sup (f := fun k => w (e k)) (Finset.mem_univ (e.symm v))
      simpa using this
  unfold lse
  rw [hs]
  simp only
  rw [Equiv.sum_comp e (fun v => Ideal.exp (w v - _))]

/-- A sum of exponentials is its own absolute value. -/
theorem abs_sum {ι : Type} [Fintype ι] (w : ι → EReal) :
    max (∑ v, Ideal.exp (w v)) (-(∑ v, Ideal.exp (w v))) = ∑ v, Ideal.exp (w v) := by
  have h : 0 ≤ ∑ v, Ideal.exp (w v) := Finset.sum_nonneg fun v _ => exp_nonneg _
  refine max_eq_left (le_trans ?_ h)
  simpa using EReal.neg_le_neg_iff.mpr h

/-- The greatest value as the negation of the least negation. -/
theorem neg_inf_neg {ι : Type} [Fintype ι] (M : ι → EReal) : -(Finset.univ.inf fun l => -(M l)) = Finset.univ.sup M := by
  apply le_antisymm
  · rw [EReal.neg_le]
    exact Finset.le_inf fun l _ => EReal.neg_le_neg_iff.mpr (Finset.le_sup (Finset.mem_univ l))
  · refine Finset.sup_le fun l _ => ?_
    rw [EReal.le_neg]
    exact Finset.inf_le (f := fun l => -(M l)) (Finset.mem_univ l)

end Cert.Proof.Online

end

end
-- ==== Proof.KernelIdeal.LseStep.lean ====
/-
  The steps of the running log-sum-exp at an index, at `Ideal`: the values the kernel takes the
  maximum of, one pass over the lanes, and the rows' results from the lanes'.
-/
module

public import proofs.«01_k».proof.Proof.KernelIdeal.StatRead
public import proofs.«01_k».proof.Proof.KernelIdeal.Out
public import proofs.«01_k».proof.Proof.Online
public import Idealize.ShloMosaic.PureOps.Ideal.Laws

@[expose] public section

set_option maxRecDepth 16384

noncomputable section

namespace Cert.Proof.KernelIdeal

open Cert.KernelIdeal Cert.KernelIdeal.Gen
open Idealize.ShloMosaic
open scoped BigOperators

/-- One logit as the log-sum-exp counts it: activations `a`, packed weights `b1` and scales `b2` of the
    column, the mask word `w` of its 32 columns and its position `n` in them; a column that is not
    allowed counts as `⊥`. -/
def counted (a : Fin 6144 → EReal) (b1 : Fin 3072 → BitVec 8) (b2 : Fin 96 → EReal) (w : BitVec 32) (n : Nat) : EReal :=
  if w.getLsbD n then ∑ r : Fin 6144, a r * weight b1 b2 r else ⊥

section
variable (x0 : Vec Ideal S96x6144 .bf16) (x1 : Vec Ideal S3072x1024 .i8) (x2 : Vec Ideal S96x1024 .f32)
  (x3 : Vec Ideal S88x1536 .i32)

theorem mv_apply (i : grid0.Coords) (a : Fin 88) (ch : Fin 8) (l : Fin 128) :
    mv (F := Ideal) Mxu.init i x0 x1 x2 x3 ⟨a.val / 8, by omega⟩ ch (ix2 (⟨a.val % 8, by omega⟩ : Fin 8) l)
      = counted (fun k => x0 (ix2 (⟨a.val, by omega⟩ : Fin 96) k))
          (fun k => x1 (ix2 k (⟨128 * ch.val + l.val, by omega⟩ : Fin 1024)))
          (fun g => x2 (ix2 g (⟨128 * ch.val + l.val, by omega⟩ : Fin 1024)))
          (x3 (ix2 a (⟨((i 0).val * 8 + ch.val) * 4 + l.val / 32, off_lt i ch l⟩ : Fin 1536))) (l.val % 32) := by
  have e1 := okv_apply (F := Ideal) i x3 ⟨a.val / 8, by omega⟩ ch ⟨a.val % 8, by omega⟩ l
  have e2 : val Mxu.init x0 x1 x2 ⟨a.val / 8, by omega⟩ ch (ix2 (⟨a.val % 8, by omega⟩ : Fin 8) l)
      = prod Mxu.init x0 x1 x2 ⟨ch.val / 2, by omega⟩ (ix2 (⟨8 * (a.val / 8) + a.val % 8, by omega⟩ : Fin 96) (⟨128 * (ch.val % 2) + l.val, by omega⟩ : Fin 256)) := by
    pointwise [val]
  have e3 : (⟨8 * (a.val / 8) + a.val % 8, by omega⟩ : Fin 96) = ⟨a.val, by omega⟩ := Fin.ext (Nat.div_add_mod _ _)
  have e4 : (⟨8 * (a.val / 8) + a.val % 8, by omega⟩ : Fin 88) = a := Fin.ext (Nat.div_add_mod _ _)
  have e5 : (⟨256 * (ch.val / 2) + (128 * (ch.val % 2) + l.val), by omega⟩ : Fin 1024) = ⟨128 * ch.val + l.val, by omega⟩ :=
    Fin.ext (by show 256 * (ch.val / 2) + (128 * (ch.val % 2) + l.val) = 128 * ch.val + l.val; omega)
  rw [prod_sum, e3] at e2
  simp only [e5] at e2
  simp only [e4] at e1
  show Scalar.select _ _ _ = _
  rw [e1, e2]
  unfold counted
  generalize (x3 _ : BitVec 32).getLsbD _ = b
  cases b
  · rfl
  · rfl

end

theorem mx_apply (v0 v1 v2 v3 mo : FVec Ideal S8x128 .f32) (y : S8x128.Idx) :
    mx v0 v1 v2 v3 mo y = (max (max (max (max (mo y) (v0 y)) (v1 y)) (v2 y)) (v3 y) : EReal) := rfl

theorem sm_apply (v0 v1 v2 v3 mo lo : FVec Ideal S8x128 .f32) (y : S8x128.Idx) :
    sm v0 v1 v2 v3 mo lo y
      = (lo y * Ideal.exp ((mo y : EReal) - mx v0 v1 v2 v3 mo y) + Ideal.exp ((v0 y : EReal) - mx v0 v1 v2 v3 mo y)
        + Ideal.exp ((v1 y : EReal) - mx v0 v1 v2 v3 mo y) + Ideal.exp ((v2 y : EReal) - mx v0 v1 v2 v3 mo y)
        + Ideal.exp ((v3 y : EReal) - mx v0 v1 v2 v3 mo y) : EReal) := rfl

/-- Four values taken into a lane's maximum and sum. -/
theorem mx_four (f : ℕ → EReal) (n : ℕ) (v0 v1 v2 v3 mo : FVec Ideal S8x128 .f32) (y : S8x128.Idx)
    (h0 : v0 y = f n) (h1 : v1 y = f (n + 1)) (h2 : v2 y = f (n + 2)) (h3 : v3 y = f (n + 3)) (hm : mo y = Online.top f n) :
    mx v0 v1 v2 v3 mo y = Online.top f (n + 4) := by
  rw [mx_apply, h0, h1, h2, h3, hm, Online.top_four]

theorem sm_four (f : ℕ → EReal) (n : ℕ) (v0 v1 v2 v3 mo lo : FVec Ideal S8x128 .f32) (y : S8x128.Idx)
    (h0 : v0 y = f n) (h1 : v1 y = f (n + 1)) (h2 : v2 y = f (n + 2)) (h3 : v3 y = f (n + 3)) (hm : mo y = Online.top f n)
    (hl : lo y = Online.tot f n) :
    sm v0 v1 v2 v3 mo lo y = Online.tot f (n + 4) := by
  rw [sm_apply, mx_four f n v0 v1 v2 v3 mo y h0 h1 h2 h3 hm, h0, h1, h2, h3, hm, hl, Online.tot_four]

theorem shapeCast_self_apply (v : FVec Ideal S8x128 .f32) (y : S8x128.Idx) : shapeCast S8x128 v shapeCasts_S8x128_S8x128 y = v y := by
  pointwise []

theorem rows_apply (M : Vec Ideal S88x128 .f32) (y : S88x128.Idx) : rows M (rgOf y) (inRg y) = M y := congrArg M (rc_emb y)

section
variable (i : grid0.Coords) (x0 : Vec Ideal S96x6144 .bf16) (x1 : Vec Ideal S3072x1024 .i8) (x2 : Vec Ideal S96x1024 .f32)
  (x3 : Vec Ideal S88x1536 .i32)

/-- Half a point: four chunks of 128 columns. -/
theorem st_apply (f : ℕ → EReal) (n : ℕ) (p : Fin 2) (M L : Vec Ideal S88x128 .f32) (y : S88x128.Idx)
    (h : ∀ ch : Fin 8, mv (F := Ideal) Mxu.init i x0 x1 x2 x3 (rgOf y) ch (inRg y) = f (n + ch.val))
    (hm : M y = Online.top f (n + 4 * p.val)) (hl : L y = Online.tot f (n + 4 * p.val)) :
    stM Mxu.init i x0 x1 x2 x3 p M y = Online.top f (n + 4 * p.val + 4)
      ∧ stL Mxu.init i x0 x1 x2 x3 p M L y = Online.tot f (n + 4 * p.val + 4) := by
  have h0 := h ⟨4 * p.val, by omega⟩
  have h1 := h ⟨4 * p.val + 1, by omega⟩
  have h2 := h ⟨4 * p.val + 2, by omega⟩
  have h3 := h ⟨4 * p.val + 3, by omega⟩
  refine ⟨?_, ?_⟩
  · show shapeCast S8x128 _ shapeCasts_S8x128_S8x128 (inRg y) = _
    rw [shapeCast_self_apply]
    exact mx_four f (n + 4 * p.val) _ _ _ _ _ _ h0 h1 h2 h3 ((rows_apply M y).trans hm)
  · show shapeCast S8x128 _ shapeCasts_S8x128_S8x128 (inRg y) = _
    rw [shapeCast_self_apply]
    exact sm_four f (n + 4 * p.val) _ _ _ _ _ _ _ h0 h1 h2 h3 ((rows_apply M y).trans hm) ((rows_apply L y).trans hl)

/-- A whole point: eight chunks. -/
theorem pt_apply (f : ℕ → EReal) (n : ℕ) (M L : Vec Ideal S88x128 .f32) (y : S88x128.Idx)
    (h : ∀ ch : Fin 8, mv (F := Ideal) Mxu.init i x0 x1 x2 x3 (rgOf y) ch (inRg y) = f (n + ch.val))
    (hm : M y = Online.top f n) (hl : L y = Online.tot f n) :
    ptM Mxu.init i x0 x1 x2 x3 M y = Online.top f (n + 8) ∧ ptL Mxu.init i x0 x1 x2 x3 M L y = Online.tot f (n + 8) := by
  obtain ⟨a1, a2⟩ := st_apply i x0 x1 x2 x3 f n 0 M L y h hm hl
  exact st_apply i x0 x1 x2 x3 f n 1 _ _ y h a1 a2

end

/-- The lane sums start from nothing. -/
theorem start_apply (f : ℕ → EReal) (y : S88x128.Idx) :
    (k0_pay592 (F := Ideal) y = Online.top f 0) ∧ (k0_pay593 (F := Ideal) y = Online.tot f 0) := by
  constructor
  · rw [Online.top_zero]; rfl
  · rw [Online.tot_zero]; exact Ideal.ofBits_zero_f32

/-- The least of a row's lanes. -/
theorem row_min (v : FVec Ideal S8x128 .f32) (u : Fin 8) :
    multiReduction .minimumf [1] S8 v 0x7F800000#32 reduces_S8x128_S8 (.inl rfl) rfl (ix1 u) = (Finset.univ.inf fun l : Fin 128 => (v (ix2 u l) : EReal)) := by
  refine (multiReduction_minimumf_eq_fold v 0x7F800000#32 reduces_S8x128_S8 (.inl rfl) rfl (ix1 u)).trans ?_
  refine (Shape.Reduces.fold_filter_drop_single reduces_S8x128_S8 _ _ v (ix1 u)).trans ?_
  have e0 : (FloatOps.ofBits .f32 0x7F800000#32 : Ideal .f32) = (⊤ : EReal) := by
    show Ideal.ofBits .f32 0x7F800000#32 = ⊤
    simp [Ideal.ofBits, Ideal.ieee]
  rw [e0]
  have e1 : (v ∘ reduces_S8x128_S8.lift (ix1 u)) = fun l : Fin 128 => v (ix2 u l) := by
    funext l
    refine congrArg v ?_
    funext k; fin_cases k <;> rfl
  rw [e1]
  rfl

/-- The sum of a row's lanes. -/
theorem row_sum (v : FVec Ideal S8x128 .f32) (u : Fin 8) :
    multiReduction .add [1] S8 v 0x00000000#32 reduces_S8x128_S8 (.inl rfl) rfl (ix1 u) = (∑ l : Fin 128, v (ix2 u l) : EReal) := by
  refine (Ideal.multiReduction_add_single v _ reduces_S8x128_S8 (.inl rfl) rfl (ix1 u)).trans ?_
  refine Finset.sum_congr rfl fun l _ => congrArg v ?_
  funext k; fin_cases k <;> rfl

/-- The greatest of a row's lanes, as the kernel takes it. -/
def rowTop (M : FVec Ideal S8x128 .f32) : FVec Ideal S8x1 .f32 :=
  subf (broadcast S8x1 (Scalar.ofBits .f32 0x00000000#32)) (shapeCast S8x1 (multiReduction .minimumf [1] S8
    (subf (broadcast S8x128 (Scalar.ofBits .f32 0x00000000#32)) M) 0x7F800000#32 reduces_S8x128_S8 (.inl rfl) rfl) shapeCasts_S8_S8x1)

theorem zero_sub' (x : EReal) : (FloatOps.subf (Scalar.ofBits .f32 0x00000000#32 : Ideal .f32) x : EReal) = -x := by
  have e : (Scalar.ofBits .f32 0x00000000#32 : Ideal .f32) = (0 : EReal) := Ideal.ofBits_zero_f32
  rw [e]
  exact zero_sub x

theorem rowTop_apply (M : FVec Ideal S8x128 .f32) (u : Fin 8) :
    rowTop M (ix2 u (0 : Fin 1)) = (Finset.univ.sup fun l : Fin 128 => (M (ix2 u l) : EReal)) := by
  have e1 : shapeCast S8x1 (multiReduction .minimumf [1] S8
      (subf (broadcast S8x128 (Scalar.ofBits .f32 0x00000000#32)) M) 0x7F800000#32 reduces_S8x128_S8 (.inl rfl) rfl) shapeCasts_S8_S8x1 (ix2 u (0 : Fin 1))
      = (Finset.univ.inf fun l : Fin 128 => (-(M (ix2 u l) : EReal))) := by
    generalize hw : multiReduction .minimumf [1] S8
      (subf (broadcast S8x128 (Scalar.ofBits .f32 0x00000000#32)) M) 0x7F800000#32 reduces_S8x128_S8 (.inl rfl) rfl = w
    have : shapeCast S8x1 w shapeCasts_S8_S8x1 (ix2 u (0 : Fin 1)) = w (ix1 u) := by
      pointwise []
    rw [this, ← hw, row_min]
    refine congrArg (Finset.univ.inf) (funext fun l => ?_)
    exact zero_sub' _
  show FloatOps.subf (Scalar.ofBits .f32 0x00000000#32 : Ideal .f32) _ = _
  rw [e1]
  exact (zero_sub' _).trans (Online.neg_inf_neg _)

/-- The sum of a row's lanes, rescaled to the row's maximum. -/
def rowTot (M L : FVec Ideal S8x128 .f32) : FVec Ideal S8x1 .f32 :=
  shapeCast S8x1 (multiReduction .add [1] S8 (mulf L (exp (subf M (broadcastTo S8x128 (rowTop M) broadcasts_S8x1_S8x128))))
    0x00000000#32 reduces_S8x128_S8 (.inl rfl) rfl) shapeCasts_S8_S8x1

theorem rowTot_apply (M L : FVec Ideal S8x128 .f32) (u : Fin 8) :
    rowTot M L (ix2 u (0 : Fin 1))
      = (∑ l : Fin 128, L (ix2 u l) * Ideal.exp ((M (ix2 u l) : EReal) - rowTop M (ix2 u (0 : Fin 1))) : EReal) := by
  unfold rowTot
  generalize rowTop M = T
  generalize hw : multiReduction .add [1] S8 (mulf L (exp (subf M (broadcastTo S8x128 T broadcasts_S8x1_S8x128))))
    0x00000000#32 reduces_S8x128_S8 (.inl rfl) rfl = w
  have : shapeCast S8x1 w shapeCasts_S8_S8x1 (ix2 u (0 : Fin 1)) = w (ix1 u) := by
    pointwise []
  rw [this, ← hw, row_sum]
  refine Finset.sum_congr rfl fun l _ => ?_
  have eT : broadcastTo S8x128 T broadcasts_S8x1_S8x128 (ix2 u l) = T (ix2 u (0 : Fin 1)) := by
    pointwise []
  show (L (ix2 u l) * Ideal.exp ((M (ix2 u l) : EReal) - broadcastTo S8x128 T broadcasts_S8x1_S8x128 (ix2 u l)) : EReal) = _
  rw [eT]

/-- The row's result from its lanes. -/
theorem finish_apply (M L : FVec Ideal S8x128 .f32) (u : Fin 8) :
    k0_pay484 (F := Ideal) M L (ix2 u (0 : Fin 1)) = Online.combine (fun l : Fin 128 => (M (ix2 u l) : EReal)) (fun l => (L (ix2 u l) : EReal)) := by
  have e : k0_pay484 (F := Ideal) M L (ix2 u (0 : Fin 1))
      = Scalar.select (Ideal.cmp .ogt (rowTop M (ix2 u (0 : Fin 1))) ⊥)
          ((rowTop M (ix2 u (0 : Fin 1)) : EReal) + Ideal.log (rowTot M L (ix2 u (0 : Fin 1)))) (⊥ : EReal) := rfl
  rw [e, rowTot_apply, rowTop_apply]
  unfold Online.combine
  generalize (Finset.univ.sup fun l : Fin 128 => (M (ix2 u l) : EReal)) = T
  by_cases h : ⊥ < T
  · rw [if_pos h]
    have : Ideal.cmp .ogt T ⊥ = 1#1 := by simp [Ideal.cmp, h]
    rw [this]; rfl
  · rw [if_neg h]
    have : Ideal.cmp .ogt T ⊥ = 0#1 := by simp [Ideal.cmp, h]
    rw [this]; rfl

end Cert.Proof.KernelIdeal

end

end
-- ==== Proof.KernelIdeal.StatA.lean ====
/-
  The pieces that the run at a point of case A writes into the running statistics are the pieces written out once for all.
-/
module

public import proofs.«01_k».proof.Proof.KernelIdeal.RunA
public import proofs.«01_k».proof.Proof.KernelIdeal.StatRead

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

set_option maxHeartbeats 9600000 in
/-- The pieces of the running maximum. -/
theorem piecesm_A (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    (run_A c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.1 = (statA arg9.view arg10.view ((((Mxu.init.pop 0 0 96 fits_0_96).pop 0 24 96 fits_24_96).pop 1 0 96 fits_0_96).pop 1 24 96 fits_24_96) i (arg1.view.read (Elt F) f0) (arg2.view.read (Elt F) f1) (arg3.view.read (Elt F) f2) (arg4.view.read (Elt F) f3)).1 := by
  sl_kernel_rfl

set_option maxHeartbeats 9600000 in
/-- The pieces of the running sum. -/
theorem piecesl_A (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    (run_A c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.1 = (statA arg9.view arg10.view ((((Mxu.init.pop 0 0 96 fits_0_96).pop 0 24 96 fits_24_96).pop 1 0 96 fits_0_96).pop 1 24 96 fits_24_96) i (arg1.view.read (Elt F) f0) (arg2.view.read (Elt F) f1) (arg3.view.read (Elt F) f2) (arg4.view.read (Elt F) f3)).2 := by
  sl_kernel_rfl

/-- So the running maximum ends at its new contents, -/
theorem readm_A (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty)
    {x0 : Vec F S96x6144 .bf16} {x1 : Vec F S3072x1024 .i8} {x2 : Vec F S96x1024 .f32} {x3 : Vec F S88x1536 .i32}
    (hf0 : arg1.view.read (Elt F) f0 = x0) (hf1 : arg2.view.read (Elt F) f1 = x1) (hf2 : arg3.view.read (Elt F) f2 = x2)
    (hf3 : arg4.view.read (Elt F) f3 = x3) :
    arg9.view.read (Elt F) (arg9.view.writes (Elt F) f8 (run_A c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.1) = (ptM Mxu.init i x0 x1 x2 x3 k0_pay592) := by
  subst hf0 hf1 hf2 hf3
  rw [piecesm_A, pops_init]
  exact (read_statA arg9.view arg10.view _ _ _ _ _ _).1 f8

/-- and the running sum at its own. -/
theorem readl_A (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty)
    {x0 : Vec F S96x6144 .bf16} {x1 : Vec F S3072x1024 .i8} {x2 : Vec F S96x1024 .f32} {x3 : Vec F S88x1536 .i32}
    (hf0 : arg1.view.read (Elt F) f0 = x0) (hf1 : arg2.view.read (Elt F) f1 = x1) (hf2 : arg3.view.read (Elt F) f2 = x2)
    (hf3 : arg4.view.read (Elt F) f3 = x3) :
    arg10.view.read (Elt F) (arg10.view.writes (Elt F) f9 (run_A c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.1) = (ptL Mxu.init i x0 x1 x2 x3 k0_pay592 k0_pay593) := by
  subst hf0 hf1 hf2 hf3
  rw [piecesl_A, pops_init]
  exact (read_statA arg9.view arg10.view _ _ _ _ _ _).2 f9

end Cert.Proof.KernelIdeal
-- ==== Proof.KernelIdeal.StatB.lean ====
/-
  The pieces that the run at a point of case B writes into the running statistics are the pieces written out once for all.
-/
module

public import proofs.«01_k».proof.Proof.KernelIdeal.RunB
public import proofs.«01_k».proof.Proof.KernelIdeal.StatRead

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

set_option maxHeartbeats 9600000 in
/-- The pieces of the running maximum. -/
theorem piecesm_B (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    (run_B c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.1 = (statB arg9.view arg10.view Mxu.init i (arg1.view.read (Elt F) f0) (arg2.view.read (Elt F) f1) (arg3.view.read (Elt F) f2) (arg4.view.read (Elt F) f3) f8 f9).1 := by
  sl_kernel_rfl

set_option maxHeartbeats 9600000 in
/-- The pieces of the running sum. -/
theorem piecesl_B (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    (run_B c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.1 = (statB arg9.view arg10.view Mxu.init i (arg1.view.read (Elt F) f0) (arg2.view.read (Elt F) f1) (arg3.view.read (Elt F) f2) (arg4.view.read (Elt F) f3) f8 f9).2 := by
  sl_kernel_rfl

/-- So the running maximum ends at its new contents, -/
theorem readm_B (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty)
    {x0 : Vec F S96x6144 .bf16} {x1 : Vec F S3072x1024 .i8} {x2 : Vec F S96x1024 .f32} {x3 : Vec F S88x1536 .i32} {M L : Vec F S88x128 .f32}
    (hf0 : arg1.view.read (Elt F) f0 = x0) (hf1 : arg2.view.read (Elt F) f1 = x1) (hf2 : arg3.view.read (Elt F) f2 = x2)
    (hf3 : arg4.view.read (Elt F) f3 = x3) (hf8 : arg9.view.read (Elt F) f8 = M) (hf9 : arg10.view.read (Elt F) f9 = L) :
    arg9.view.read (Elt F) (arg9.view.writes (Elt F) f8 (run_B c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.1) = (ptM Mxu.init i x0 x1 x2 x3 M) := by
  subst hf0 hf1 hf2 hf3 hf8 hf9
  rw [piecesm_B]
  exact (read_statB arg9.view arg10.view _ _ _ _ _ _ f8 f9).1 f8

/-- and the running sum at its own. -/
theorem readl_B (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty)
    {x0 : Vec F S96x6144 .bf16} {x1 : Vec F S3072x1024 .i8} {x2 : Vec F S96x1024 .f32} {x3 : Vec F S88x1536 .i32} {M L : Vec F S88x128 .f32}
    (hf0 : arg1.view.read (Elt F) f0 = x0) (hf1 : arg2.view.read (Elt F) f1 = x1) (hf2 : arg3.view.read (Elt F) f2 = x2)
    (hf3 : arg4.view.read (Elt F) f3 = x3) (hf8 : arg9.view.read (Elt F) f8 = M) (hf9 : arg10.view.read (Elt F) f9 = L) :
    arg10.view.read (Elt F) (arg10.view.writes (Elt F) f9 (run_B c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.1) = (ptL Mxu.init i x0 x1 x2 x3 M L) := by
  subst hf0 hf1 hf2 hf3 hf8 hf9
  rw [piecesl_B]
  exact (read_statB arg9.view arg10.view _ _ _ _ _ _ f8 f9).2 f9

end Cert.Proof.KernelIdeal
-- ==== Proof.KernelIdeal.StatC.lean ====
/-
  The pieces that the run at a point of case C writes into the running statistics and the log-sum-exp are the pieces written out once for all.
-/
module

public import proofs.«01_k».proof.Proof.KernelIdeal.RunC
public import proofs.«01_k».proof.Proof.KernelIdeal.StatRead

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

set_option maxHeartbeats 9600000 in
/-- The pieces of the running maximum. -/
theorem piecesm_C (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    (run_C c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.2.1 = (statB arg9.view arg10.view Mxu.init i (arg1.view.read (Elt F) f0) (arg2.view.read (Elt F) f1) (arg3.view.read (Elt F) f2) (arg4.view.read (Elt F) f3) f8 f9).1 := by
  sl_kernel_rfl

set_option maxHeartbeats 9600000 in
/-- The pieces of the running sum. -/
theorem piecesl_C (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    (run_C c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.2.2.1 = (statB arg9.view arg10.view Mxu.init i (arg1.view.read (Elt F) f0) (arg2.view.read (Elt F) f1) (arg3.view.read (Elt F) f2) (arg4.view.read (Elt F) f3) f8 f9).2 := by
  sl_kernel_rfl

set_option maxHeartbeats 9600000 in
/-- The pieces of the log-sum-exp. -/
theorem pieceslse_C (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    (run_C c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.1 = lseP arg9.view arg10.view (statB arg9.view arg10.view Mxu.init i (arg1.view.read (Elt F) f0) (arg2.view.read (Elt F) f1) (arg3.view.read (Elt F) f2) (arg4.view.read (Elt F) f3) f8 f9) := by
  sl_kernel_rfl

/-- So the running maximum ends at its new contents, -/
theorem readm_C (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty)
    {x0 : Vec F S96x6144 .bf16} {x1 : Vec F S3072x1024 .i8} {x2 : Vec F S96x1024 .f32} {x3 : Vec F S88x1536 .i32} {M L : Vec F S88x128 .f32}
    (hf0 : arg1.view.read (Elt F) f0 = x0) (hf1 : arg2.view.read (Elt F) f1 = x1) (hf2 : arg3.view.read (Elt F) f2 = x2)
    (hf3 : arg4.view.read (Elt F) f3 = x3) (hf8 : arg9.view.read (Elt F) f8 = M) (hf9 : arg10.view.read (Elt F) f9 = L) :
    arg9.view.read (Elt F) (arg9.view.writes (Elt F) f8 (run_C c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.2.1) = (ptM Mxu.init i x0 x1 x2 x3 M) := by
  subst hf0 hf1 hf2 hf3 hf8 hf9
  rw [piecesm_C]
  exact (read_statB arg9.view arg10.view _ _ _ _ _ _ f8 f9).1 f8

/-- and the running sum at its own. -/
theorem readl_C (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty)
    {x0 : Vec F S96x6144 .bf16} {x1 : Vec F S3072x1024 .i8} {x2 : Vec F S96x1024 .f32} {x3 : Vec F S88x1536 .i32} {M L : Vec F S88x128 .f32}
    (hf0 : arg1.view.read (Elt F) f0 = x0) (hf1 : arg2.view.read (Elt F) f1 = x1) (hf2 : arg3.view.read (Elt F) f2 = x2)
    (hf3 : arg4.view.read (Elt F) f3 = x3) (hf8 : arg9.view.read (Elt F) f8 = M) (hf9 : arg10.view.read (Elt F) f9 = L) :
    arg10.view.read (Elt F) (arg10.view.writes (Elt F) f9 (run_C c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.2.2.1) = (ptL Mxu.init i x0 x1 x2 x3 M L) := by
  subst hf0 hf1 hf2 hf3 hf8 hf9
  rw [piecesl_C]
  exact (read_statB arg9.view arg10.view _ _ _ _ _ _ f8 f9).2 f9

/-- The block of the log-sum-exp ends at the one of these. -/
theorem readlse_C (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty)
    {x0 : Vec F S96x6144 .bf16} {x1 : Vec F S3072x1024 .i8} {x2 : Vec F S96x1024 .f32} {x3 : Vec F S88x1536 .i32} {M L : Vec F S88x128 .f32}
    (hf0 : arg1.view.read (Elt F) f0 = x0) (hf1 : arg2.view.read (Elt F) f1 = x1) (hf2 : arg3.view.read (Elt F) f2 = x2)
    (hf3 : arg4.view.read (Elt F) f3 = x3) (hf8 : arg9.view.read (Elt F) f8 = M) (hf9 : arg10.view.read (Elt F) f9 = L) :
    arg7.view.read (Elt F) (arg7.view.writes (Elt F) f6 (run_C c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.1) = lsev (ptM Mxu.init i x0 x1 x2 x3 M) (ptL Mxu.init i x0 x1 x2 x3 M L) := by
  subst hf0 hf1 hf2 hf3 hf8 hf9
  rw [pieceslse_C]
  exact read_lse arg9.view arg10.view arg7.view _ _ _ (read_statB arg9.view arg10.view _ _ _ _ _ _ f8 f9).1 (read_statB arg9.view arg10.view _ _ _ _ _ _ f8 f9).2 f6

end Cert.Proof.KernelIdeal
-- ==== Proof.KernelIdeal.Cand.lean ====
/-
  What one call of the kernel's body leaves in the running record of the candidates' logits, what it
  writes of the candidates' log-probabilities at the last point, and what the two hold once the pieces
  are written.
-/
module

public import proofs.«01_k».proof.Proof.KernelIdeal.StatRead

@[expose] public section

set_option maxRecDepth 16384

noncomputable section

namespace Cert.Proof.KernelIdeal

open Cert.KernelIdeal Cert.KernelIdeal.Gen
open Idealize.ShloMosaic Idealize.ShloMosaic.ValueIdx

variable {F : FTy → Type} [FloatOps F] [Named F]

/-- The candidates of row group `rg`. -/
def idv (x4 : Vec F S88x128 .i32) (rg : Fin 11) : IVec S8x128 32 :=
  shapeCast S8x128 (fun x => x4 ((rc rg).toLoadRect.idx x) : IVec S8x128 32) shapeCasts_S8x128_S8x128

/-- The number of chunk `ch` of grid point `i`. -/
def gch (i : grid0.Coords) (ch : BitVec 32) : BitVec 32 :=
  Scalar.addi (Scalar.muli (BitVec.ofNat 32 (i 0).val) 8#32) ch

/-- One chunk taken into the record: the candidates that lie in chunk `g` get their logit. -/
def pick (d : IVec S8x128 32) (v : FVec F S8x128 .f32) (g : BitVec 32) (prev : FVec F S8x128 .f32) : FVec F S8x128 .f32 :=
  select (cmpi .eq (shrsi d (broadcast S8x128 7#32)) (broadcast S8x128 g))
    (dynamicGather 1 v (shapeCast S8x128 (shapeCast S8x128x1 (andi d (broadcast S8x128 127#32)) shapeCasts_S8x128_S8x128x1) shapeCasts_S8x128x1_S8x128))
    prev

/-- The quotient by `k`, rounded down. -/
def fdiv (x : IVec S8x128 32) (k : BitVec 32) : IVec S8x128 32 :=
  select (andi (cmpi .ne (subi (extui 32 (cmpi .sgt x (broadcast S8x128 0#32)) natLt_1_32) (extui 32 (cmpi .slt x (broadcast S8x128 0#32)) natLt_1_32))
        (broadcast S8x128 (Scalar.subi (Scalar.extui (Scalar.cmpi .sgt k 0#32)) (Scalar.extui (Scalar.cmpi .slt k 0#32)))))
      (cmpi .ne (remsi x (broadcast S8x128 k)) (broadcast S8x128 0#32)))
    (subi (divsi x (broadcast S8x128 k)) (broadcast S8x128 1#32)) (divsi x (broadcast S8x128 k))

/-- The mask words `128 t` to `128 t + 127` of row group `rg`. -/
def wcol (x3 : Vec F S88x1536 .i32) (rg : Fin 11) (t : Fin 12) : IVec S8x128 32 :=
  fun x => x3 ((Rect.unit (s := S88x1536) ![8 * rg.val, 128 * t.val] S8x128.size
    (by intro a; fin_cases a <;> simp <;> omega)).toLoadRect.idx x)

/-- The candidates' mask words after tile `t`. -/
def wnext (x3 : Vec F S88x1536 .i32) (d : IVec S8x128 32) (rg : Fin 11) (prev : IVec S8x128 32) (t : Fin 12) : IVec S8x128 32 :=
  select (cmpi .eq (fdiv d 4096#32) (broadcast S8x128 (BitVec.ofNat 32 t.val)))
    (dynamicGather 1 (wcol (F := F) x3 rg t)
      (shapeCast S8x128 (shapeCast S8x128x1 (andi (fdiv d 32#32) (broadcast S8x128 127#32)) shapeCasts_S8x128_S8x128x1) shapeCasts_S8x128x1_S8x128))
    prev

/-- The tiles of mask words in order. -/
def wts : List (Fin 12) := [0, 1, 2, 3, 4, 5, 6, 7, 8, 9, 10, 11]

/-- The candidates' mask words. -/
def cwords (x3 : Vec F S88x1536 .i32) (d : IVec S8x128 32) (rg : Fin 11) : IVec S8x128 32 :=
  wts.foldl (wnext (F := F) x3 d rg) (broadcast S8x128 0#32)

/-- The log-probabilities of row group `rg` from the rows of the statistics and of the record. -/
def clpk (x3 : Vec F S88x1536 .i32) (x4 : Vec F S88x128 .i32) (rg : Fin 11) (m l c : FVec F S8x128 .f32) : FVec F S8x32 .f32 :=
  k0_pay58 (k0_pay484 m l) (cwords (F := F) x3 (idv (F := F) x4 rg) rg) (k0_pay55 (idv (F := F) x4 rg)) (k0_pay56 (idv (F := F) x4 rg)) k0_pay57 c

section
variable (s : Mxu F) (i : grid0.Coords) (x0 : Vec F S96x6144 .bf16) (x1 : Vec F S3072x1024 .i8) (x2 : Vec F S96x1024 .f32)
    (x3 : Vec F S88x1536 .i32) (x4 : Vec F S88x128 .i32)

/-- The rows of the record stored for row group `rg` after the pair `p` of column tiles. -/
def cstep (p : Fin 2) (rg : Fin 11) (c : FVec F S8x128 .f32) : FVec F S8x128 .f32 :=
  shapeCast S8x128
    (pick (idv (F := F) x4 rg) (val s x0 x1 x2 rg ⟨4 * p.val + 3, by omega⟩) (gch i (BitVec.ofNat 32 (4 * p.val + 3)))
      (pick (idv (F := F) x4 rg) (val s x0 x1 x2 rg ⟨4 * p.val + 2, by omega⟩) (gch i (BitVec.ofNat 32 (4 * p.val + 2)))
        (pick (idv (F := F) x4 rg) (val s x0 x1 x2 rg ⟨4 * p.val + 1, by omega⟩) (gch i (BitVec.ofNat 32 (4 * p.val + 1)))
          (pick (idv (F := F) x4 rg) (val s x0 x1 x2 rg ⟨4 * p.val, by omega⟩) (gch i (BitVec.ofNat 32 (4 * p.val))) c))))
    shapeCasts_S8x128_S8x128

variable {κ' : Kind} {sp : Space} (v v9 v10 : View sig κ' sp S88x128 .f32)

/-- The pieces of the record, each row group read back from the pieces before. -/
def foldC (g : Fin 11 → FVec F S8x128 .f32 → FVec F S8x128 .f32) (ks : List (Fin 11)) (P : PL F) : PL F :=
  ks.foldl (fun L rg => ⟨rc rg, g rg (v.readCov L (rc rg).toLoadRect)⟩ :: L) P

/-- The pieces of the record at a point that finds that of the point before. -/
def candB (f : v.ty.Contents (Elt F)) : PL F :=
  foldC v (cstep s i x0 x1 x2 x4 1) rgs (rgsR.map fun rg => ⟨rc rg, cstep s i x0 x1 x2 x4 0 rg (v.readAt (Elt F) (rc rg).toLoadRect f)⟩)

/-- The pieces of the record at the first point, which starts it. -/
def candA : PL F :=
  foldC v (cstep s i x0 x1 x2 x4 1) rgs (foldC v (cstep s i x0 x1 x2 x4 0) rgs
    [⟨Rect.unit (s := S88x128) ![0, 0] S88x128.size inb_S88x128_S88x128_0_0, k0_pay594⟩])

/-- The pieces of the log-probabilities at the last point. -/
def clpP (L : PL F × PL F) (C : PL F) : List (View.Piece (Elt F) S88x32 .f32) :=
  rgsR.map fun rg => ⟨Rect.unit (s := S88x32) ![8 * rg.val, 0] S8x32.size (by intro a; fin_cases a <;> simp <;> omega),
    clpk x3 x4 rg (v9.readCov L.1 (rc rg).toLoadRect) (v10.readCov L.2 (rc rg).toLoadRect) (v.readCov C (rc rg).toLoadRect)⟩

/-- All the row groups in turn, each read back from the pieces before. -/
theorem read_foldC (g : Fin 11 → FVec F S8x128 .f32 → FVec F S8x128 .f32) (M : Vec F S88x128 .f32) (P : PL F)
    (hM : ∀ f, v.read (Elt F) (v.writes (Elt F) f P) = M) :
    ∀ ks : List (Fin 11), ks.Nodup → ∀ f y, v.read (Elt F) (v.writes (Elt F) f (foldC v g ks P)) y
        = if rgOf y ∈ ks then ofRows (fun rg => g rg (rows M rg)) y else M y := by
  intro ks
  induction ks using List.reverseRecOn with
  | nil =>
    intro _ f y
    rw [if_neg (by simp)]; exact congrFun (hM f) y
  | append_singleton ks k ih =>
    intro hn
    obtain ⟨hn1, hk⟩ : ks.Nodup ∧ k ∉ ks := by
      rw [List.nodup_append] at hn
      exact ⟨hn.1, fun hk => hn.2.2 k hk k (by simp) rfl⟩
    have i1 := ih hn1
    have r1 : v.readCov (foldC v g ks P) (rc k).toLoadRect = rows M k :=
      readCov_rows v _ k M fun f y hy => by rw [i1, if_neg (by rw [hy]; exact hk)]
    have e : foldC v g (ks ++ [k]) P = ⟨rc k, g k (rows M k)⟩ :: foldC v g ks P := by
      rw [← r1]; unfold foldC; rw [List.foldl_append]; rfl
    rw [e]
    intro f y
    refine (read_cons v f k _ _ y).trans ?_
    by_cases hy : rgOf y = k
    · subst hy; rw [if_pos rfl, if_pos (by simp)]; rfl
    · rw [if_neg hy, i1]; simp [hy]

/-- The record after the pair `p` of column tiles, -/
def stC (p : Fin 2) (C : Vec F S88x128 .f32) : Vec F S88x128 .f32 := ofRows fun rg => cstep s i x0 x1 x2 x4 p rg (rows C rg)
/-- and after the point. -/
def ptC (C : Vec F S88x128 .f32) : Vec F S88x128 .f32 := stC s i x0 x1 x2 x4 1 (stC s i x0 x1 x2 x4 0 C)

theorem read_passC (p : Fin 2) (C : Vec F S88x128 .f32) (P : PL F) (hC : ∀ f, v.read (Elt F) (v.writes (Elt F) f P) = C) (f) :
    v.read (Elt F) (v.writes (Elt F) f (foldC v (cstep s i x0 x1 x2 x4 p) rgs P)) = stC s i x0 x1 x2 x4 p C := by
  funext y
  rw [read_foldC v (cstep s i x0 x1 x2 x4 p) C P hC rgs (by decide), if_pos (mem_rgs _)]; rfl

/-- The record after a point that finds that of the point before. -/
theorem read_candB (f0 : v.ty.Contents (Elt F)) (f) :
    v.read (Elt F) (v.writes (Elt F) f (candB s i x0 x1 x2 x4 v f0)) = ptC s i x0 x1 x2 x4 (v.read (Elt F) f0) :=
  read_passC s i x0 x1 x2 x4 v 1 _ _ (fun f => read_mapS v _ f) f

/-- The record after the first point. -/
theorem read_candA (f) :
    v.read (Elt F) (v.writes (Elt F) f (candA s i x0 x1 x2 x4 v)) = ptC s i x0 x1 x2 x4 k0_pay594 :=
  read_passC s i x0 x1 x2 x4 v 1 _ _ (read_passC s i x0 x1 x2 x4 v 0 _ _ (fun f => read_whole v _ f)) f

/-- The log-probabilities of the rows, from the statistics and the record. -/
def clpv (M L C : Vec F S88x128 .f32) : Vec F S88x32 .f32 := fun y =>
  clpk x3 x4 ⟨(y 0).val / 8, by have : (y 0).val < 88 := (y 0).isLt; omega⟩
    (rows M ⟨(y 0).val / 8, by have : (y 0).val < 88 := (y 0).isLt; omega⟩)
    (rows L ⟨(y 0).val / 8, by have : (y 0).val < 88 := (y 0).isLt; omega⟩)
    (rows C ⟨(y 0).val / 8, by have : (y 0).val < 88 := (y 0).isLt; omega⟩) (ix2 (⟨(y 0).val % 8, by omega⟩ : Fin 8) (y 1))

/-- The pieces of the log-probabilities give them. -/
theorem read_clp {κ'' : Kind} {sp' : Space} (u : View sig κ'' sp' S88x32 .f32) (M L C : Vec F S88x128 .f32) (P : PL F × PL F) (Q : PL F)
    (hM : ∀ f, v9.read (Elt F) (v9.writes (Elt F) f P.1) = M) (hL : ∀ f, v10.read (Elt F) (v10.writes (Elt F) f P.2) = L)
    (hC : ∀ f, v.read (Elt F) (v.writes (Elt F) f Q) = C) (f : u.ty.Contents (Elt F)) :
    u.read (Elt F) (u.writes (Elt F) f (clpP x3 x4 v v9 v10 P Q)) = clpv x3 x4 M L C := by
  have e : clpP x3 x4 v v9 v10 P Q = rgsR.map fun rg => ⟨Rect.unit (s := S88x32) ![8 * rg.val, 0] S8x32.size (by intro a; fin_cases a <;> simp <;> omega),
      clpk x3 x4 rg (rows M rg) (rows L rg) (rows C rg)⟩ := by
    unfold clpP
    apply List.map_congr_left
    intro rg _
    rw [readCov_rows v9 P.1 rg M (fun f y _ => congrFun (hM f) y), readCov_rows v10 P.2 rg L (fun f y _ => congrFun (hL f) y),
      readCov_rows v Q rg C (fun f y _ => congrFun (hC f) y)]
  rw [e]
  funext y
  have hy0 : (y 0).val < 88 := (y 0).isLt
  have hy1 : (y 1).val < 32 := (y 1).isLt
  apply read_writes_agree
  · refine ⟨_, List.mem_map.mpr ⟨⟨(y 0).val / 8, by omega⟩, mem_rgsR _, rfl⟩, ix2 (⟨(y 0).val % 8, by omega⟩ : Fin 8) (y 1), ?_⟩
    funext k
    apply Fin.ext
    fin_cases k
    · show 8 * ((y 0).val / 8) + 1 * ((y 0).val % 8) = (y 0).val
      omega
    · show 0 + 1 * (y 1).val = (y 1).val
      omega
  · intro p hp x hx
    obtain ⟨rg, -, rfl⟩ := List.mem_map.mp hp
    obtain ⟨a, b, rfl⟩ : ∃ (a : Fin 8) (b : Fin 32), x = ix2 a b := ⟨x 0, x 1, by
      funext k; fin_cases k <;> rfl⟩
    subst hx
    have e1 : (⟨((8 * rg.val + 1 * a.val) / 8 : ℕ), by omega⟩ : Fin 11) = rg := Fin.ext (by show (8 * rg.val + 1 * a.val) / 8 = rg.val; omega)
    have e2 : (⟨((8 * rg.val + 1 * a.val) % 8 : ℕ), by omega⟩ : Fin 8) = a := Fin.ext (by show (8 * rg.val + 1 * a.val) % 8 = a.val; omega)
    have e3 : (⟨(0 + 1 * b.val : ℕ), by omega⟩ : Fin 32) = b := Fin.ext (by show 0 + 1 * b.val = b.val; omega)
    show clpk x3 x4 rg (rows M rg) (rows L rg) (rows C rg) (ix2 a b) = clpk x3 x4 ⟨(8 * rg.val + 1 * a.val) / 8, _⟩ (rows M ⟨(8 * rg.val + 1 * a.val) / 8, _⟩) (rows L ⟨(8 * rg.val + 1 * a.val) / 8, _⟩) (rows C ⟨(8 * rg.val + 1 * a.val) / 8, _⟩) (ix2 (⟨(8 * rg.val + 1 * a.val) % 8, _⟩ : Fin 8) (⟨0 + 1 * b.val, _⟩ : Fin 32))
    rw [e1, e2, e3]

end

end Cert.Proof.KernelIdeal
-- ==== Proof.KernelIdeal.CandA.lean ====
/-
  The pieces that the run at a point of case A writes into the record of the candidates' logits are the pieces written out once for all.
-/
module

public import proofs.«01_k».proof.Proof.KernelIdeal.RunA
public import proofs.«01_k».proof.Proof.KernelIdeal.Cand

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

set_option maxHeartbeats 9600000 in
/-- The pieces of the record. -/
theorem piecesc_A (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    (run_A c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.2.1 = candA ((((Mxu.init.pop 0 0 96 fits_0_96).pop 0 24 96 fits_24_96).pop 1 0 96 fits_0_96).pop 1 24 96 fits_24_96) i (arg1.view.read (Elt F) f0) (arg2.view.read (Elt F) f1) (arg3.view.read (Elt F) f2) (arg5.view.read (Elt F) f4) arg11.view := by
  sl_kernel_rfl

/-- So the record ends at its new contents. -/
theorem readc_A (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty)
    {x0 : Vec F S96x6144 .bf16} {x1 : Vec F S3072x1024 .i8} {x2 : Vec F S96x1024 .f32} {x4 : Vec F S88x128 .i32}
    (hf0 : arg1.view.read (Elt F) f0 = x0) (hf1 : arg2.view.read (Elt F) f1 = x1) (hf2 : arg3.view.read (Elt F) f2 = x2)
    (hf4 : arg5.view.read (Elt F) f4 = x4) :
    arg11.view.read (Elt F) (arg11.view.writes (Elt F) f10 (run_A c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.2.1) = ptC Mxu.init i x0 x1 x2 x4 k0_pay594 := by
  subst hf0 hf1 hf2 hf4
  rw [piecesc_A, pops_init]
  exact read_candA _ _ _ _ _ _ arg11.view f10

end Cert.Proof.KernelIdeal
-- ==== Proof.KernelIdeal.CandB.lean ====
/-
  The pieces that the run at a point of case B writes into the record of the candidates' logits are the pieces written out once for all.
-/
module

public import proofs.«01_k».proof.Proof.KernelIdeal.RunB
public import proofs.«01_k».proof.Proof.KernelIdeal.Cand

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

set_option maxHeartbeats 9600000 in
/-- The pieces of the record. -/
theorem piecesc_B (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    (run_B c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.2.1 = candB Mxu.init i (arg1.view.read (Elt F) f0) (arg2.view.read (Elt F) f1) (arg3.view.read (Elt F) f2) (arg5.view.read (Elt F) f4) arg11.view f10 := by
  sl_kernel_rfl

/-- So the record ends at its new contents. -/
theorem readc_B (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : ¬cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty)
    {x0 : Vec F S96x6144 .bf16} {x1 : Vec F S3072x1024 .i8} {x2 : Vec F S96x1024 .f32} {x4 : Vec F S88x128 .i32} {C : Vec F S88x128 .f32}
    (hf0 : arg1.view.read (Elt F) f0 = x0) (hf1 : arg2.view.read (Elt F) f1 = x1) (hf2 : arg3.view.read (Elt F) f2 = x2)
    (hf4 : arg5.view.read (Elt F) f4 = x4) (hf10 : arg11.view.read (Elt F) f10 = C) :
    arg11.view.read (Elt F) (arg11.view.writes (Elt F) f10 (run_B c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.2.1) = ptC Mxu.init i x0 x1 x2 x4 C := by
  subst hf0 hf1 hf2 hf4 hf10
  rw [piecesc_B]
  exact read_candB _ _ _ _ _ _ arg11.view f10 f10

end Cert.Proof.KernelIdeal
-- ==== Proof.KernelIdeal.CandC.lean ====
/-
  The pieces that the run at a point of case C writes into the record of the candidates' logits and into their log-probabilities are the pieces written out once for all.
-/
module

public import proofs.«01_k».proof.Proof.KernelIdeal.StatC
public import proofs.«01_k».proof.Proof.KernelIdeal.Cand

@[expose] public section

set_option maxRecDepth 65536

noncomputable section

namespace Cert.Proof.KernelIdeal

open Cert.KernelIdeal Cert.KernelIdeal.Gen
open Idealize.ShloMosaic Idealize.ShloMosaic.TcCoe Idealize.ShloMosaic.Tactic

variable {F : FTy → Type} [FloatOps F] [Named F]

set_option maxHeartbeats 9600000 in
/-- The pieces of the record. -/
theorem piecesc_C (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    (run_C c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.2.2.2.1 = candB Mxu.init i (arg1.view.read (Elt F) f0) (arg2.view.read (Elt F) f1) (arg3.view.read (Elt F) f2) (arg5.view.read (Elt F) f4) arg11.view f10 := by
  sl_kernel_rfl

set_option maxHeartbeats 19200000 in
/-- The pieces of the log-probabilities. -/
theorem piecesclp_C (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty) :
    (run_C c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.1 = clpP (arg4.view.read (Elt F) f3) (arg5.view.read (Elt F) f4) arg11.view arg9.view arg10.view (statB arg9.view arg10.view Mxu.init i (arg1.view.read (Elt F) f0) (arg2.view.read (Elt F) f1) (arg3.view.read (Elt F) f2) (arg4.view.read (Elt F) f3) f8 f9) (candB Mxu.init i (arg1.view.read (Elt F) f0) (arg2.view.read (Elt F) f1) (arg3.view.read (Elt F) f2) (arg5.view.read (Elt F) f4) arg11.view f10) := by
  sl_kernel_rfl

/-- So the record ends at its new contents. -/
theorem readc_C (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty)
    {x0 : Vec F S96x6144 .bf16} {x1 : Vec F S3072x1024 .i8} {x2 : Vec F S96x1024 .f32} {x4 : Vec F S88x128 .i32} {C : Vec F S88x128 .f32}
    (hf0 : arg1.view.read (Elt F) f0 = x0) (hf1 : arg2.view.read (Elt F) f1 = x1) (hf2 : arg3.view.read (Elt F) f2 = x2)
    (hf4 : arg5.view.read (Elt F) f4 = x4) (hf10 : arg11.view.read (Elt F) f10 = C) :
    arg11.view.read (Elt F) (arg11.view.writes (Elt F) f10 (run_C c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.2.2.2.1) = ptC Mxu.init i x0 x1 x2 x4 C := by
  subst hf0 hf1 hf2 hf4 hf10
  rw [piecesc_C]
  exact read_candB _ _ _ _ _ _ arg11.view f10 f10

/-- The block of the log-probabilities ends at those of these. -/
theorem readclp_C (c : Dev nD) (i : grid0.Coords) (arg1 : Memref sig .tc .vmem S96x6144 .bf16) (harg1 : arg1.IsWhole) (arg2 : Memref sig .tc .vmem S3072x1024 .i8) (harg2 : arg2.IsWhole) (arg3 : Memref sig .tc .vmem S96x1024 .f32) (harg3 : arg3.IsWhole) (arg4 : Memref sig .tc .vmem S88x1536 .i32) (harg4 : arg4.IsWhole) (arg5 : Memref sig .tc .vmem S88x128 .i32) (harg5 : arg5.IsWhole) (arg6 : Memref sig .tc .vmem S88x8x128 .f32) (harg6 : arg6.IsWhole) (arg7 : Memref sig .tc .vmem S88x1 .f32) (harg7 : arg7.IsWhole) (arg8 : Memref sig .tc .vmem S88x32 .f32) (harg8 : arg8.IsWhole) (arg9 : Memref sig .tc .vmem S88x128 .f32) (harg9 : arg9.IsWhole) (arg10 : Memref sig .tc .vmem S88x128 .f32) (harg10 : arg10.IsWhole) (arg11 : Memref sig .tc .vmem S88x128 .f32) (harg11 : arg11.IsWhole) (hc0 : ¬cond0_0 i) (hc1 : cond0_1 i) (f0 : BufTy.Contents (Elt F) arg1.view.ty) (f1 : BufTy.Contents (Elt F) arg2.view.ty) (f2 : BufTy.Contents (Elt F) arg3.view.ty) (f3 : BufTy.Contents (Elt F) arg4.view.ty) (f4 : BufTy.Contents (Elt F) arg5.view.ty) (f6 : BufTy.Contents (Elt F) arg7.view.ty) (f7 : BufTy.Contents (Elt F) arg8.view.ty) (f8 : BufTy.Contents (Elt F) arg9.view.ty) (f9 : BufTy.Contents (Elt F) arg10.view.ty) (f10 : BufTy.Contents (Elt F) arg11.view.ty)
    {x0 : Vec F S96x6144 .bf16} {x1 : Vec F S3072x1024 .i8} {x2 : Vec F S96x1024 .f32} {x3 : Vec F S88x1536 .i32} {x4 : Vec F S88x128 .i32} {M L C : Vec F S88x128 .f32}
    (hf0 : arg1.view.read (Elt F) f0 = x0) (hf1 : arg2.view.read (Elt F) f1 = x1) (hf2 : arg3.view.read (Elt F) f2 = x2)
    (hf4 : arg5.view.read (Elt F) f4 = x4) (hf10 : arg11.view.read (Elt F) f10 = C)
    (hf3 : arg4.view.read (Elt F) f3 = x3) (hf8 : arg9.view.read (Elt F) f8 = M) (hf9 : arg10.view.read (Elt F) f9 = L) :
    arg8.view.read (Elt F) (arg8.view.writes (Elt F) f7 (run_C c i arg1 harg1 arg2 harg2 arg3 harg3 arg4 harg4 arg5 harg5 arg6 harg6 arg7 harg7 arg8 harg8 arg9 harg9 arg10 harg10 arg11 harg11 hc0 hc1 f0 f1 f2 f3 f4 f6 f7 f8 f9 f10).2.2.1)
      = clpv x3 x4 (ptM Mxu.init i x0 x1 x2 x3 M) (ptL Mxu.init i x0 x1 x2 x3 M L) (ptC Mxu.init i x0 x1 x2 x4 C) := by
  subst hf0 hf1 hf2 hf3 hf4 hf8 hf9 hf10
  rw [piecesclp_C]
  exact read_clp _ _ arg11.view arg9.view arg10.view arg8.view _ _ _ _ _ (read_statB arg9.view arg10.view _ _ _ _ _ _ f8 f9).1 (read_statB arg9.view arg10.view _ _ _ _ _ _ f8 f9).2 (read_candB _ _ _ _ _ _ arg11.view f10) f7

end Cert.Proof.KernelIdeal
-- ==== Proof.KernelIdeal.Track.lean ====
/-
  The run of the kernel with its running statistics and its record of the candidates' logits followed
  from grid point to grid point, so that the log-sum-exp and the candidates' log-probabilities written
  at the last point are named too.
-/
module

public import proofs.«01_k».proof.Proof.KernelIdeal.Frame
public import proofs.«01_k».proof.Proof.KernelIdeal.StatA
public import proofs.«01_k».proof.Proof.KernelIdeal.StatB
public import proofs.«01_k».proof.Proof.KernelIdeal.StatC
public import proofs.«01_k».proof.Proof.KernelIdeal.CandA
public import proofs.«01_k».proof.Proof.KernelIdeal.CandB
public import proofs.«01_k».proof.Proof.KernelIdeal.CandC
public import Idealize.ShloMosaic.Lib.Pipeline.DatRel

@[expose] public section

set_option maxRecDepth 16384

noncomputable section

namespace Cert.Proof.Lse

open Cert.KernelIdeal Cert.KernelIdeal.Gen
open Cert.Proof.KernelIdeal hiding frame dats bodyPre bodyPost sound_body body_obligation hin hout run_main
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Which results are not named at every point. -/
def held : Fin 8 → Bool := fun w => w.val == 6 || w.val == 7

/-- The running statistics after `n` grid points. -/
def stat (c : Dev nD) : ℕ → Vec F S88x128 .f32 × Vec F S88x128 .f32
  | 0 => (k0_pay592, k0_pay593)
  | n + 1 =>
    let t : Fin cfg0.N := ⟨n % 48, lt_of_lt_of_eq (Nat.mod_lt n (by omega)) N_0.symm⟩
    (ptM Mxu.init (grid0.coords t) (iblk m c 0 t) (iblk m c 1 t) (iblk m c 2 t) (iblk m c 3 t) (stat c n).1,
     ptL Mxu.init (grid0.coords t) (iblk m c 0 t) (iblk m c 1 t) (iblk m c 2 t) (iblk m c 3 t) (stat c n).1 (stat c n).2)

theorem stat_succ (c : Dev nD) (t : Fin cfg0.N) : stat m c (t.val + 1)
    = (ptM Mxu.init (grid0.coords t) (iblk m c 0 t) (iblk m c 1 t) (iblk m c 2 t) (iblk m c 3 t) (stat m c t.val).1,
     ptL Mxu.init (grid0.coords t) (iblk m c 0 t) (iblk m c 1 t) (iblk m c 2 t) (iblk m c 3 t) (stat m c t.val).1 (stat m c t.val).2) := by
  have hN : t.val < 48 := lt_of_lt_of_eq t.isLt N_0
  have e : (⟨t.val % 48, lt_of_lt_of_eq (Nat.mod_lt t.val (by omega)) N_0.symm⟩ : Fin cfg0.N) = t := Fin.ext (Nat.mod_eq_of_lt hN)
  rw [stat, e]

/-- A buffer held at contents that meet `P` is owned at contents that do. -/
theorem owns_meets (c : Dev nD) {s : Shape} {e : EltTy} (M : Memref sig .tc .vmem s e) (f : BufTy.Contents (Elt F) M.view.ty)
    (P : (s.Idx → Elt F e) → Prop) (h : P (M.view.read (Elt F) f)) :
    ((View.loc (c : Thread nD τ) M.view ↦[M.view.set]{fullShare} f : sProp 𝕄)) ⊢ iprop(∃ X, ⌜P X⌝ ∗ owns (c : Thread nD τ) M fullShare X) := by
  unfold owns
  iintro H
  iexists (M.view.read (Elt F) f)
  isplitr
  · ipureintro; exact h
  iexists f
  isplitr
  · ipureintro; exact Eq.refl _
  iexact H

/-- A buffer held at contents that read as `d` is owned at `d`. -/
theorem owns_read (c : Dev nD) {s : Shape} {e : EltTy} (M : Memref sig .tc .vmem s e) (f : BufTy.Contents (Elt F) M.view.ty)
    (d : s.Idx → Elt F e) (h : M.view.read (Elt F) f = d) :
    ((View.loc (c : Thread nD τ) M.view ↦[M.view.set]{fullShare} f : sProp 𝕄)) ⊢ owns (c : Thread nD τ) M fullShare d := by
  unfold owns
  iintro H
  iexists f
  isplitr
  · ipureintro; exact h
  iexact H

theorem stat_first (c : Dev nD) (t : Fin cfg0.N) (h : t.val = 0) : stat m c (t.val + 1)
    = (ptM Mxu.init (grid0.coords t) (iblk m c 0 t) (iblk m c 1 t) (iblk m c 2 t) (iblk m c 3 t) k0_pay592,
     ptL Mxu.init (grid0.coords t) (iblk m c 0 t) (iblk m c 1 t) (iblk m c 2 t) (iblk m c 3 t) k0_pay592 k0_pay593) := by
  rw [stat_succ, h, stat]

theorem stat_last (c : Dev nD) (t : Fin cfg0.N) (h : t.val = 47) : stat m c 48
    = (ptM Mxu.init (grid0.coords t) (iblk m c 0 t) (iblk m c 1 t) (iblk m c 2 t) (iblk m c 3 t) (stat m c t.val).1,
     ptL Mxu.init (grid0.coords t) (iblk m c 0 t) (iblk m c 1 t) (iblk m c 2 t) (iblk m c 3 t) (stat m c t.val).1 (stat m c t.val).2) := by
  rw [← stat_succ, h]

/-- The record of the candidates' logits after `n` grid points. -/
def cst (c : Dev nD) : ℕ → Vec F S88x128 .f32
  | 0 => k0_pay594
  | n + 1 =>
    let t : Fin cfg0.N := ⟨n % 48, lt_of_lt_of_eq (Nat.mod_lt n (by omega)) N_0.symm⟩
    ptC Mxu.init (grid0.coords t) (iblk m c 0 t) (iblk m c 1 t) (iblk m c 2 t) (iblk m c 4 t) (cst c n)

theorem cst_succ (c : Dev nD) (t : Fin cfg0.N) : cst m c (t.val + 1)
    = ptC Mxu.init (grid0.coords t) (iblk m c 0 t) (iblk m c 1 t) (iblk m c 2 t) (iblk m c 4 t) (cst m c t.val) := by
  have hN : t.val < 48 := lt_of_lt_of_eq t.isLt N_0
  have e : (⟨t.val % 48, lt_of_lt_of_eq (Nat.mod_lt t.val (by omega)) N_0.symm⟩ : Fin cfg0.N) = t := Fin.ext (Nat.mod_eq_of_lt hN)
  rw [cst, e]

theorem cst_first (c : Dev nD) (t : Fin cfg0.N) (h : t.val = 0) : cst m c (t.val + 1)
    = ptC Mxu.init (grid0.coords t) (iblk m c 0 t) (iblk m c 1 t) (iblk m c 2 t) (iblk m c 4 t) k0_pay594 := by
  rw [cst_succ, h, cst]

theorem cst_last (c : Dev nD) (t : Fin cfg0.N) (h : t.val = 47) : cst m c 48
    = ptC Mxu.init (grid0.coords t) (iblk m c 0 t) (iblk m c 1 t) (iblk m c 2 t) (iblk m c 4 t) (cst m c t.val) := by
  rw [← cst_succ, h]

/-- The scratch arrays between grid points: anything at the start, afterwards the statistics and the record. -/
def scr (c : Dev nD) : ℕ → sProp 𝕄
  | 0 => Pipeline.ΦA spec0 c
  | n + 1 => iprop(iprop(owns (c : Thread nD τ) scM0_0 fullShare (stat m c (n + 1)).1 ∗ owns (c : Thread nD τ) scM0_1 fullShare (stat m c (n + 1)).2
      ∗ owns (c : Thread nD τ) scM0_2 fullShare (cst m c (n + 1))) ∗ (∃ r, prngReg c r))

/-- What is held of the second and third results: after the last point they are the log-sum-exp and the
    candidates' log-probabilities. -/
def meets (c : Dev nD) : (w : Fin cfg0.W) → Fin cfg0.N → ((cfg0.win w).block.Idx → Elt F (cfg0.win w).elt) → Prop
  | ⟨6, _⟩ => fun t X => t.val = 47 → X = lsev (stat m c 48).1 (stat m c 48).2
  | ⟨7, _⟩ => fun t X => t.val = 47 → X = clpv (iblk m c 3 t) (iblk m c 4 t) (stat m c 48).1 (stat m c 48).2 (cst m c 48)
  | _ => fun _ _ => True

/-- The proof data: the arrays as the region finds them, each input's buffer at its block throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outv (grid0.coords t) (iblk m c 0 t) (iblk m c 1 t) (iblk m c 2 t) (iblk m c 3 t)
    | ⟨6, h⟩ => Pipeline.Dat.unnamed (cfg := cfg0) ⟨6, h⟩ t
    | ⟨7, h⟩ => Pipeline.Dat.unnamed (cfg := cfg0) ⟨7, h⟩ t
  Φ t := scr m c t.val
  q _ := fullShare
  owed _ := 0

theorem A_eq (c : Dev nD) (w : Fin cfg0.W) : (dats m 0 c).A w = V m c (Pipeline.arrRef spec0 w) := by
  dsimp only [dats]

theorem after0_5 (c : Dev nD) (t : Fin cfg0.N) : (dats m 0 c).after 5 t = outv (grid0.coords t) (iblk m c 0 t) (iblk m c 1 t) (iblk m c 2 t) (iblk m c 3 t) := by dsimp only [dats]
theorem leaves0_5 (c : Dev nD) (t : Fin cfg0.N) : ((dats m 0 c).leavesExact 5 t : sProp 𝕄) = owns (c : Thread nD τ) (ms0_5 t) fullShare (outv (grid0.coords t) (iblk m c 0 t) (iblk m c 1 t) (iblk m c 2 t) (iblk m c 3 t)) := by
  unfold Dat.leavesExact; rw [liveAt0_5 t, after0_5]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) : ((dats m 0 c).leavesExact 0 t : sProp 𝕄) = owns (c : Thread nD τ) (ms0_0 t) fullShare (iblk m c 0 t) := by
  unfold Dat.leavesExact; rw [liveAt0_0 t, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) : ((dats m 0 c).leavesExact 1 t : sProp 𝕄) = owns (c : Thread nD τ) (ms0_1 t) fullShare (iblk m c 1 t) := by
  unfold Dat.leavesExact; rw [liveAt0_1 t, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) : ((dats m 0 c).leavesExact 2 t : sProp 𝕄) = owns (c : Thread nD τ) (ms0_2 t) fullShare (iblk m c 2 t) := by
  unfold Dat.leavesExact; rw [liveAt0_2 t, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) : ((dats m 0 c).leavesExact 3 t : sProp 𝕄) = owns (c : Thread nD τ) (ms0_3 t) fullShare (iblk m c 3 t) := by
  unfold Dat.leavesExact; rw [liveAt0_3 t, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) : ((dats m 0 c).leavesExact 4 t : sProp 𝕄) = owns (c : Thread nD τ) (ms0_4 t) fullShare (iblk m c 4 t) := by
  unfold Dat.leavesExact; rw [liveAt0_4 t, after0_4]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y, ⌜((dats m 0 c).toRRel held (meets m c)).Finds 6 t Y⌝ ∗ owns (c : Thread nD τ) (ms0_6 t) fullShare Y)
    ∗ (∃ Y, ⌜((dats m 0 c).toRRel held (meets m c)).Finds 7 t Y⌝ ∗ owns (c : Thread nD τ) (ms0_7 t) fullShare Y))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ X, ⌜meets m c 6 t X⌝ ∗ owns (c : Thread nD τ) (ms0_6 t) fullShare X)
    ∗ (∃ X, ⌜meets m c 7 t X⌝ ∗ owns (c : Thread nD τ) (ms0_7 t) fullShare X))

set_option maxHeartbeats 9600000 in
/-- The body at any point, by the run of its case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, leaves0_0, leaves0_1, leaves0_2, leaves0_3, leaves0_4, leaves0_5]
  rw [show (dats m 0 c).owesAt () t.succ = (dats m 0 c).owesAt () t.castSucc from rfl,
    show (dats m 0 c).Φ t.succ = scr m c (t.val + 1) from rfl, show (dats m 0 c).Φ t.castSucc = scr m c t.val from rfl]
  have hN : t.val < 48 := lt_of_lt_of_eq t.isLt (show cfg0.N = 48 from N_0)
  by_cases h0 : t.val % 48 = 0
  · have h1 : ¬t.val % 48 = 47 := by omega
    have h00 : t.val = 0 := by omega
    rw [show scr m c t.val = Pipeline.ΦA spec0 c by rw [h00, scr], PhiA0_eq]
    iintro ⟨⟨⟨⟨%e0, S0⟩, ⟨%e1, S1⟩, ⟨%e2, S2⟩⟩, Hg⟩, Ho, ⟨%d0, H0⟩, ⟨%d1, H1⟩, ⟨%d2, H2⟩, ⟨%d3, H3⟩, ⟨%d4, H4⟩, ⟨%d5, H5⟩, ⟨%d6, -, H6⟩, ⟨%d7, -, H7⟩⟩
    ihave H5 := (reshape_of_owns (c : Thread nD τ) (ms0_5 t) reshapes_S88x8x128_S704x128.1 reshapes_S88x8x128_S704x128.2 (hs0_5 t).contiguous fullShare _) $$ H5
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H6 with ⟨%f6, %hf6, H6⟩
    icases H7 with ⟨%f7, %hf7, H7⟩
    icases S0 with ⟨%f8, %hf8, S0⟩
    icases S1 with ⟨%f9, %hf9, S1⟩
    icases S2 with ⟨%f10, %hf10, S2⟩
    iapply ((run_A c (grid0.coords t) _ _ _ _ _ _ _ _ _ _ _ _ _ _ _ _ _ _ _ _ _ _ ((hcond0_0 t).mpr h0) (fun h => h1 ((hcond0_1 t).mp h)) f0 f1 f2 f3 f4 f6 f7 f8 f9 f10).2.2.2.2 Set.univ _)
    isplitl [H0]; · iexact H0
    isplitl [H1]; · iexact H1
    isplitl [H2]; · iexact H2
    isplitl [H3]; · iexact H3
    isplitl [H4]; · iexact H4
    isplitl [H5]; · unfold owns; iexact H5
    isplitl [H6]; · iexact H6
    isplitl [H7]; · iexact H7
    isplitl [S0]; · iexact S0
    isplitl [S1]; · iexact S1
    isplitl [S2]; · iexact S2
    iintro ⟨H0, H1, H2, H3, H4, ⟨%f5, H5⟩, H6, H7, S0, S1, S2⟩
    isplitl [S0 S1 S2 Hg]
    · rw [scr, stat_first m c t h00, cst_first m c t h00]
      isplitl [S0 S1 S2]
      · isplitl [S0]; · iapply (owns_read c scM0_0 _ _ (readm_A c (grid0.coords t) _ _ _ _ _ _ _ _ _ _ _ _ _ _ _ _ _ _ _ _ _ _ ((hcond0_0 t).mpr h0) (fun h => h1 ((hcond0_1 t).mp h)) f0 f1 f2 f3 f4 f6 f7 f8 f9 f10 hf0 hf1 hf2 hf3)) $$ S0
        isplitl [S1]; · iapply (owns_read c scM0_1 _ _ (readl_A c (grid0.coords t) _ _ _ _ _ _ _ _ _ _ _ _ _ _ _ _ _ _ _ _ _ _ ((hcond0_0 t).mpr h0) (fun h => h1 ((hcond0_1 t).mp h)) f0 f1 f2 f3 f4 f6 f7 f8 f9 f10 hf0 hf1 hf2 hf3)) $$ S1
        iapply (owns_read c scM0_2 _ _ (readc_A c (grid0.coords t) _ _ _ _ _ _ _ _ _ _ _ _ _ _ _ _ _ _ _ _ _ _ ((hcond0_0 t).mpr h0) (fun h => h1 ((hcond0_1 t).mp h)) f0 f1 f2 f3 f4 f6 f7 f8 f9 f10 hf0 hf1 hf2 hf4)) $$ S2
      iexact Hg
    isplitl [Ho]; · iexact Ho
    isplitl [H0]; · iexists _; isplitr; rotate_left; iexact H0; ipureintro; exact hf0
    isplitl [H1]; · iexists _; isplitr; rotate_left; iexact H1; ipureintro; exact hf1
    isplitl [H2]; · iexists _; isplitr; rotate_left; iexact H2; ipureintro; exact hf2
    isplitl [H3]; · iexists _; isplitr; rotate_left; iexact H3; ipureintro; exact hf3
    isplitl [H4]; · iexists _; isplitr; rotate_left; iexact H4; ipureintro; exact hf4
    isplitl [H5]
    · ihave H5 := (owns_of_reshape_eq (c : Thread nD τ) (ms0_5 t) reshapes_S88x8x128_S704x128.1 reshapes_S88x8x128_S704x128.2 (hs0_5 t).contiguous fullShare _ _ (read_A c (grid0.coords t) _ _ _ _ _ _ _ _ _ _ _ _ _ _ _ _ _ _ _ _ _ _ ((hcond0_0 t).mpr h0) (fun h => h1 ((hcond0_1 t).mp h)) f0 f1 f2 f3 f4 f6 f7 f8 f9 f10 f5 hf0 hf1 hf2 hf3)) $$ H5
      unfold owns; iexact H5
    isplitl [H6]
    · iapply (owns_meets c (ms0_6 t) _ (meets m c 6 t) (fun h47 => absurd h47 (by omega))) $$ H6
    iapply (owns_meets c (ms0_7 t) _ (meets m c 7 t) (fun h47 => absurd h47 (by omega))) $$ H7
  by_cases h1 : t.val % 48 = 47
  · rw [show scr m c t.val = iprop(iprop(owns (c : Thread nD τ) scM0_0 fullShare (stat m c t.val).1 ∗ owns (c : Thread nD τ) scM0_1 fullShare (stat m c t.val).2
        ∗ owns (c : Thread nD τ) scM0_2 fullShare (cst m c t.val)) ∗ (∃ r, prngReg c r)) by
          obtain ⟨n, hn⟩ : ∃ n, t.val = n + 1 := ⟨t.val - 1, by omega⟩
          rw [hn, scr]]
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, -, H6⟩, ⟨%d7, -, H7⟩⟩
    ihave H5 := (reshape_of_owns (c : Thread nD τ) (ms0_5 t) reshapes_S88x8x128_S704x128.1 reshapes_S88x8x128_S704x128.2 (hs0_5 t).contiguous fullShare _) $$ H5
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H6 with ⟨%f6, %hf6, H6⟩
    icases H7 with ⟨%f7, %hf7, H7⟩
    icases S0 with ⟨%f8, %hf8, S0⟩
    icases S1 with ⟨%f9, %hf9, S1⟩
    icases S2 with ⟨%f10, %hf10, S2⟩
    iapply ((run_C c (grid0.coords t) _ _ _ _ _ _ _ _ _ _ _ _ _ _ _ _ _ _ _ _ _ _ (fun h => h0 ((hcond0_0 t).mp h)) ((hcond0_1 t).mpr h1) f0 f1 f2 f3 f4 f6 f7 f8 f9 f10).2.2.2.2.2.2 Set.univ _)
    isplitl [H0]; · iexact H0
    isplitl [H1]; · iexact H1
    isplitl [H2]; · iexact H2
    isplitl [H3]; · iexact H3
    isplitl [H4]; · iexact H4
    isplitl [H5]; · unfold owns; iexact H5
    isplitl [H6]; · iexact H6
    isplitl [H7]; · iexact H7
    isplitl [S0]; · iexact S0
    isplitl [S1]; · iexact S1
    isplitl [S2]; · iexact S2
    iintro ⟨H0, H1, H2, H3, H4, ⟨%f5, H5⟩, H6, H7, S0, S1, S2⟩
    isplitl [S0 S1 S2 Hg]
    · rw [scr, stat_succ, cst_succ]
      isplitl [S0 S1 S2]
      · isplitl [S0]; · iapply (owns_read c scM0_0 _ _ (readm_C c (grid0.coords t) _ _ _ _ _ _ _ _ _ _ _ _ _ _ _ _ _ _ _ _ _ _ (fun h => h0 ((hcond0_0 t).mp h)) ((hcond0_1 t).mpr h1) f0 f1 f2 f3 f4 f6 f7 f8 f9 f10 hf0 hf1 hf2 hf3 hf8 hf9)) $$ S0
        isplitl [S1]; · iapply (owns_read c scM0_1 _ _ (readl_C c (grid0.coords t) _ _ _ _ _ _ _ _ _ _ _ _ _ _ _ _ _ _ _ _ _ _ (fun h => h0 ((hcond0_0 t).mp h)) ((hcond0_1 t).mpr h1) f0 f1 f2 f3 f4 f6 f7 f8 f9 f10 hf0 hf1 hf2 hf3 hf8 hf9)) $$ S1
        iapply (owns_read c scM0_2 _ _ (readc_C c (grid0.coords t) _ _ _ _ _ _ _ _ _ _ _ _ _ _ _ _ _ _ _ _ _ _ (fun h => h0 ((hcond0_0 t).mp h)) ((hcond0_1 t).mpr h1) f0 f1 f2 f3 f4 f6 f7 f8 f9 f10 hf0 hf1 hf2 hf4 hf10)) $$ S2
      iexact Hg
    isplitl [Ho]; · iexact Ho
    isplitl [H0]; · iexists _; isplitr; rotate_left; iexact H0; ipureintro; exact hf0
    isplitl [H1]; · iexists _; isplitr; rotate_left; iexact H1; ipureintro; exact hf1
    isplitl [H2]; · iexists _; isplitr; rotate_left; iexact H2; ipureintro; exact hf2
    isplitl [H3]; · iexists _; isplitr; rotate_left; iexact H3; ipureintro; exact hf3
    isplitl [H4]; · iexists _; isplitr; rotate_left; iexact H4; ipureintro; exact hf4
    isplitl [H5]
    · ihave H5 := (owns_of_reshape_eq (c : Thread nD τ) (ms0_5 t) reshapes_S88x8x128_S704x128.1 reshapes_S88x8x128_S704x128.2 (hs0_5 t).contiguous fullShare _ _ (read_C c (grid0.coords t) _ _ _ _ _ _ _ _ _ _ _ _ _ _ _ _ _ _ _ _ _ _ (fun h => h0 ((hcond0_0 t).mp h)) ((hcond0_1 t).mpr h1) f0 f1 f2 f3 f4 f6 f7 f8 f9 f10 f5 hf0 hf1 hf2 hf3)) $$ H5
      unfold owns; iexact H5
    isplitl [H6]
    · iapply (owns_meets c (ms0_6 t) _ (meets m c 6 t) (fun h47 => by
        rw [stat_last m c t h47]
        exact (readlse_C c (grid0.coords t) _ _ _ _ _ _ _ _ _ _ _ _ _ _ _ _ _ _ _ _ _ _ (fun h => h0 ((hcond0_0 t).mp h)) ((hcond0_1 t).mpr h1) f0 f1 f2 f3 f4 f6 f7 f8 f9 f10 hf0 hf1 hf2 hf3 hf8 hf9))) $$ H6
    iapply (owns_meets c (ms0_7 t) _ (meets m c 7 t) (fun h47 => by
        rw [stat_last m c t h47, cst_last m c t h47]
        exact (readclp_C c (grid0.coords t) _ _ _ _ _ _ _ _ _ _ _ _ _ _ _ _ _ _ _ _ _ _ (fun h => h0 ((hcond0_0 t).mp h)) ((hcond0_1 t).mpr h1) f0 f1 f2 f3 f4 f6 f7 f8 f9 f10 hf0 hf1 hf2 hf4 hf10 hf3 hf8 hf9))) $$ H7
  · rw [show scr m c t.val = iprop(iprop(owns (c : Thread nD τ) scM0_0 fullShare (stat m c t.val).1 ∗ owns (c : Thread nD τ) scM0_1 fullShare (stat m c t.val).2
        ∗ owns (c : Thread nD τ) scM0_2 fullShare (cst m c t.val)) ∗ (∃ r, prngReg c r)) by
          obtain ⟨n, hn⟩ : ∃ n, t.val = n + 1 := ⟨t.val - 1, by omega⟩
          rw [hn, scr]]
    iintro ⟨⟨⟨S0, S1, S2⟩, Hg⟩, Ho, ⟨%d0, H0⟩, ⟨%d1, H1⟩, ⟨%d2, H2⟩, ⟨%d3, H3⟩, ⟨%d4, H4⟩, ⟨%d5, H5⟩, ⟨%d6, -, H6⟩, ⟨%d7, -, H7⟩⟩
    ihave H5 := (reshape_of_owns (c : Thread nD τ) (ms0_5 t) reshapes_S88x8x128_S704x128.1 reshapes_S88x8x128_S704x128.2 (hs0_5 t).contiguous fullShare _) $$ H5
    unfold owns
    icases H0 with ⟨%f0, %hf0, H0⟩
    icases H1 with ⟨%f1, %hf1, H1⟩
    icases H2 with ⟨%f2, %hf2, H2⟩
    icases H3 with ⟨%f3, %hf3, H3⟩
    icases H4 with ⟨%f4, %hf4, H4⟩
    icases H6 with ⟨%f6, %hf6, H6⟩
    icases H7 with ⟨%f7, %hf7, H7⟩
    icases S0 with ⟨%f8, %hf8, S0⟩
    icases S1 with ⟨%f9, %hf9, S1⟩
    icases S2 with ⟨%f10, %hf10, S2⟩
    iapply ((run_B c (grid0.coords t) _ _ _ _ _ _ _ _ _ _ _ _ _ _ _ _ _ _ _ _ _ _ (fun h => h0 ((hcond0_0 t).mp h)) (fun h => h1 ((hcond0_1 t).mp h)) f0 f1 f2 f3 f4 f6 f7 f8 f9 f10).2.2.2.2 Set.univ _)
    isplitl [H0]; · iexact H0
    isplitl [H1]; · iexact H1
    isplitl [H2]; · iexact H2
    isplitl [H3]; · iexact H3
    isplitl [H4]; · iexact H4
    isplitl [H5]; · unfold owns; iexact H5
    isplitl [H6]; · iexact H6
    isplitl [H7]; · iexact H7
    isplitl [S0]; · iexact S0
    isplitl [S1]; · iexact S1
    isplitl [S2]; · iexact S2
    iintro ⟨H0, H1, H2, H3, H4, ⟨%f5, H5⟩, H6, H7, S0, S1, S2⟩
    isplitl [S0 S1 S2 Hg]
    · rw [scr, stat_succ, cst_succ]
      isplitl [S0 S1 S2]
      · isplitl [S0]; · iapply (owns_read c scM0_0 _ _ (readm_B c (grid0.coords t) _ _ _ _ _ _ _ _ _ _ _ _ _ _ _ _ _ _ _ _ _ _ (fun h => h0 ((hcond0_0 t).mp h)) (fun h => h1 ((hcond0_1 t).mp h)) f0 f1 f2 f3 f4 f6 f7 f8 f9 f10 hf0 hf1 hf2 hf3 hf8 hf9)) $$ S0
        isplitl [S1]; · iapply (owns_read c scM0_1 _ _ (readl_B c (grid0.coords t) _ _ _ _ _ _ _ _ _ _ _ _ _ _ _ _ _ _ _ _ _ _ (fun h => h0 ((hcond0_0 t).mp h)) (fun h => h1 ((hcond0_1 t).mp h)) f0 f1 f2 f3 f4 f6 f7 f8 f9 f10 hf0 hf1 hf2 hf3 hf8 hf9)) $$ S1
        iapply (owns_read c scM0_2 _ _ (readc_B c (grid0.coords t) _ _ _ _ _ _ _ _ _ _ _ _ _ _ _ _ _ _ _ _ _ _ (fun h => h0 ((hcond0_0 t).mp h)) (fun h => h1 ((hcond0_1 t).mp h)) f0 f1 f2 f3 f4 f6 f7 f8 f9 f10 hf0 hf1 hf2 hf4 hf10)) $$ S2
      iexact Hg
    isplitl [Ho]; · iexact Ho
    isplitl [H0]; · iexists _; isplitr; rotate_left; iexact H0; ipureintro; exact hf0
    isplitl [H1]; · iexists _; isplitr; rotate_left; iexact H1; ipureintro; exact hf1
    isplitl [H2]; · iexists _; isplitr; rotate_left; iexact H2; ipureintro; exact hf2
    isplitl [H3]; · iexists _; isplitr; rotate_left; iexact H3; ipureintro; exact hf3
    isplitl [H4]; · iexists _; isplitr; rotate_left; iexact H4; ipureintro; exact hf4
    isplitl [H5]
    · ihave H5 := (owns_of_reshape_eq (c : Thread nD τ) (ms0_5 t) reshapes_S88x8x128_S704x128.1 reshapes_S88x8x128_S704x128.2 (hs0_5 t).contiguous fullShare _ _ (read_B c (grid0.coords t) _ _ _ _ _ _ _ _ _ _ _ _ _ _ _ _ _ _ _ _ _ _ (fun h => h0 ((hcond0_0 t).mp h)) (fun h => h1 ((hcond0_1 t).mp h)) f0 f1 f2 f3 f4 f6 f7 f8 f9 f10 f5 hf0 hf1 hf2 hf3)) $$ H5
      unfold owns; iexact H5
    isplitl [H6]
    · iapply (owns_meets c (ms0_6 t) _ (meets m c 6 t) (fun h47 => absurd h47 (by omega))) $$ H6
    iapply (owns_meets c (ms0_7 t) _ (meets m c 7 t) (fun h47 => absurd h47 (by omega))) $$ H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligationRel (dats (F := F) m 0 c) (defs₀ (F := F)) Variants.none () Set.univ held (meets m c) := fun t => by
  rw [bigSep_W0, bigSep_W0, defs₀_row]
  exact triple_restated (sound_body m c t) rfl .rfl fun _ => .rfl

theorem hin (c : Dev nD) : Pipeline.ΦA spec0 c ⊢ (dats m 0 c).Φ 0 := .rfl
theorem hout (c : Dev nD) : (dats m 0 c).Φ (Fin.last cfg0.N) ⊢ Pipeline.ΦA spec0 c := by
  rw [show (dats m 0 c).Φ (Fin.last cfg0.N) = scr m c (47 + 1) from congrArg (scr m c) N_0, scr, PhiA0_eq]
  iintro ⟨⟨S0, S1, S2⟩, Hg⟩
  isplitl [S0 S1 S2]
  · isplitl [S0]; · iexists _; iexact S0
    isplitl [S1]; · iexists _; iexact S1
    iexists _; iexact S2
  iexact Hg

set_option backward.isDefEq.respectTransparency.types false in
set_option maxHeartbeats 800000 in
theorem run_main : θ_run defs (onTc (τ := τ) (main (F := F))) (s₀ m ρ) (Pipeline.RDat.FramePost (cfgs 0) (fun c => (dats m 0 c).toRRel held (meets m c)) (V m)) :=
  Pipeline.RDat.θ_run_frame_track (Q' := _) cfgs (0 : Fin 1) launch0 defs₀ Variants.none (fun c => (dats m 0 c).toRRel held (meets m c)) m ρ main
    (hbody := fun c => (body_obligation m c).toRRel) (hshare := fun c => (dats m 0 c).share_full fun _ => rfl)
    (howed := fun _ _ => rfl) (V := V m)
    (hmain := hmain m Variants.none) (hA := A_eq m) (hin := hin m) (hout := hout m)

end Cert.Proof.Lse
-- ==== Proof.KernelIdeal.LseTrack.lean ====
/-
  The running log-sum-exp over the grid, at `Ideal`: after each point a lane's statistics are those of
  the columns seen so far, and the last point's result is the log-sum-exp of each row.
-/
module

public import proofs.«01_k».proof.Proof.KernelIdeal.LseStep
public import proofs.«01_k».proof.Proof.KernelIdeal.Track
public import proofs.«01_k».proof.Proof.KernelIdeal.Blocks
public import Idealize.ShloMosaic.Lib.Pipeline.ArrRel

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat Cfg Window)
open scoped BigOperators

/-- What the log-sum-exp counts of row `a` in column `v`. -/
def column (x0 : FVec Ideal S88x1x6144 .bf16) (x1 : IVec S3072x49152 8) (x2 : FVec Ideal S96x49152 .f32) (x3 : IVec S88x1536 32)
    (a : Fin 88) (v : Fin 49152) : EReal :=
  counted (fun r => x0 (ix3 a (0 : Fin 1) r)) (fun k => x1 (ix2 k v)) (fun g => x2 (ix2 g v))
    (x3 (ix2 a (⟨v.val / 32, by omega⟩ : Fin 1536))) (v.val % 32)

/-- The values of lane `l`: the columns `128 k + l`. -/
def lane (x0 : FVec Ideal S88x1x6144 .bf16) (x1 : IVec S3072x49152 8) (x2 : FVec Ideal S96x49152 .f32) (x3 : IVec S88x1536 32)
    (a : Fin 88) (l : Fin 128) (k : ℕ) : EReal :=
  if h : k < 384 then column x0 x1 x2 x3 a ⟨k * 128 + l.val, by omega⟩ else ⊥

variable (m : (ℓ : Loc nD τ sig) → Buf (Elt Ideal) ℓ) (ρ : Dev nD → PrngReg)

/-- A lane of the kernel's arguments. -/
def laneOf (c : Dev nD) : Fin 88 → Fin 128 → ℕ → EReal :=
  lane (m ((c.tc : Thread nD τ).loc main_arg0)) (m ((c.tc : Thread nD τ).loc main_arg1))
    (m ((c.tc : Thread nD τ).loc main_arg2)) (m ((c.tc : Thread nD τ).loc main_arg3))

/-- One value a grid point takes is the lane's value of its column. -/
theorem lane_point (c : Dev nD) (t : Fin cfg0.N) (a : Fin 88) (ch : Fin 8) (l : Fin 128) :
    mv (F := Ideal) Mxu.init (grid0.coords t) (iblk m c 0 t) (iblk m c 1 t) (iblk m c 2 t) (iblk m c 3 t) ⟨a.val / 8, by omega⟩ ch
        (ix2 (⟨a.val % 8, by omega⟩ : Fin 8) l)
      = laneOf m c a l (8 * t.val + ch.val) := by
  have ht := t_lt t
  unfold laneOf lane
  rw [dif_pos (show 8 * t.val + ch.val < 384 by omega)]
  unfold column
  refine (mv_apply (iblk m c 0 t) (iblk m c 1 t) (iblk m c 2 t) (iblk m c 3 t) (grid0.coords t) a ch l).trans ?_
  have e0 : (fun k => iblk m c 0 t (ix2 (⟨a.val, by omega⟩ : Fin 96) k)) = fun k => m ((c.tc : Thread nD τ).loc main_arg0) (ix3 a (0 : Fin 1) k) :=
    funext fun k => blk0 m c t a k
  have ec : (⟨1024 * t.val + (⟨128 * ch.val + l.val, by omega⟩ : Fin 1024).val, by omega⟩ : Fin 49152) = ⟨(8 * t.val + ch.val) * 128 + l.val, by omega⟩ :=
    Fin.ext (by show 1024 * t.val + (128 * ch.val + l.val) = (8 * t.val + ch.val) * 128 + l.val; omega)
  have e1 : (fun k => iblk m c 1 t (ix2 k (⟨128 * ch.val + l.val, by omega⟩ : Fin 1024)))
      = fun k => m ((c.tc : Thread nD τ).loc main_arg1) (ix2 k (⟨(8 * t.val + ch.val) * 128 + l.val, by omega⟩ : Fin 49152)) :=
    funext fun k => by rw [blk1, ec]
  have e2 : (fun g => iblk m c 2 t (ix2 g (⟨128 * ch.val + l.val, by omega⟩ : Fin 1024)))
      = fun g => m ((c.tc : Thread nD τ).loc main_arg2) (ix2 g (⟨(8 * t.val + ch.val) * 128 + l.val, by omega⟩ : Fin 49152)) :=
    funext fun g => by rw [blk2, ec]
  have ew : (⟨((grid0.coords t 0).val * 8 + ch.val) * 4 + l.val / 32, off_lt _ ch l⟩ : Fin 1536) = ⟨((8 * t.val + ch.val) * 128 + l.val) / 32, by omega⟩ :=
    Fin.ext (by show ((grid0.coords t 0).val * 8 + ch.val) * 4 + l.val / 32 = ((8 * t.val + ch.val) * 128 + l.val) / 32; rw [crd]; omega)
  have en : l.val % 32 = ((8 * t.val + ch.val) * 128 + l.val) % 32 := by omega
  have e3 := blk3 m c t a ⟨((8 * t.val + ch.val) * 128 + l.val) / 32, by omega⟩
  rw [e0, e1, e2, ew, e3, en]

/-- The statistics after `n` points. -/
theorem stat_apply (c : Dev nD) (a : Fin 88) (l : Fin 128) : ∀ n : ℕ, n ≤ 48 →
    ((Lse.stat m c n).1 (ix2 a l) = Online.top (laneOf m c a l) (8 * n))
      ∧ ((Lse.stat m c n).2 (ix2 a l) = Online.tot (laneOf m c a l) (8 * n)) := by
  intro n
  induction n with
  | zero => intro _; exact start_apply (laneOf m c a l) (ix2 a l)
  | succ n ih =>
    intro hn
    obtain ⟨h1, h2⟩ := ih (by omega)
    have e := Lse.stat_succ m c (⟨n, by show n < 48; omega⟩ : Fin cfg0.N)
    have e' : Lse.stat m c (n + 1) = _ := e
    rw [e']
    exact pt_apply (grid0.coords _) (iblk m c 0 _) (iblk m c 1 _) (iblk m c 2 _) (iblk m c 3 _) (laneOf m c a l) (8 * n) _ _ (ix2 a l)
      (fun ch => lane_point m c ⟨n, by show n < 48; omega⟩ a ch l) h1 h2

/-- The log-sum-exp the kernel leaves. -/
def lseOut (c : Dev nD) : Buf (Elt Ideal) ((c.tc : Thread nD τ).loc main_v4_1) :=
  lsev (Lse.stat m c 48).1 (Lse.stat m c 48).2

theorem rows_at (M : Vec Ideal S88x128 .f32) (a : Fin 88) (l : Fin 128) :
    rows M ⟨a.val / 8, by omega⟩ (ix2 (⟨a.val % 8, by omega⟩ : Fin 8) l) = M (ix2 a l) := rows_apply M (ix2 a l)

theorem lsev_apply (M L : Vec Ideal S88x128 .f32) (a : Fin 88) :
    lsev M L (ix2 a (0 : Fin 1)) = Online.combine (fun l : Fin 128 => (M (ix2 a l) : EReal)) (fun l => (L (ix2 a l) : EReal)) := by
  refine (finish_apply (rows M ⟨a.val / 8, by omega⟩) (rows L ⟨a.val / 8, by omega⟩) ⟨a.val % 8, by omega⟩).trans ?_
  congr 1
  · exact funext fun l => rows_at M a l
  · exact funext fun l => rows_at L a l

theorem lseOut_apply (c : Dev nD) (a : Fin 88) :
    lseOut m c (ix2 a (0 : Fin 1))
      = Online.combine (fun l => Online.top (laneOf m c a l) 384) (fun l => Online.tot (laneOf m c a l) 384) := by
  refine (lsev_apply _ _ a).trans ?_
  congr 1
  · exact funext fun l => (stat_apply m c a l 48 le_rfl).1
  · exact funext fun l => (stat_apply m c a l 48 le_rfl).2

/-- The kernel runs and leaves that log-sum-exp. -/
theorem run_lse : θ_run defs (onTc (τ := τ) (main (F := Ideal))) ⟨m, fun _ => 0, ρ⟩ (fun r => ∀ c : Dev nD,
    r.2.mem ((c.tc : Thread nD τ).loc main_v4_1) = lseOut m c) := by
  refine (θ_run defs _ _).mono (fun r h c => ?_) (Lse.run_main m ρ)
  obtain ⟨X, hX, hj⟩ := Pipeline.RDat.ArrAt.emb_eq_of_wholeAt (rd := (Lse.dats m 0 c).toRRel Lse.held (Lse.meets m c)) (w := 6)
    (hG := (h c).1 6) (t₀ := (⟨47, by decide⟩ : Fin grid0.N)) (by decide +kernel)
  have hm := Dat.toRRel_leaves (dat := Lse.dats m 0 c) (fgt := Lse.held) (Rl := Lse.meets m c) (by rfl) hX
  have hX' : X = lsev (Lse.stat m c 48).1 (Lse.stat m c 48).2 := hm rfl
  funext y
  have := hj y
  rw [hX'] at this
  exact this

end Cert.Proof.KernelIdeal

end

end
-- ==== Proof.RefLse.lean ====
/-
  The reference's log-sum-exp at an index, at `Ideal`, and what the precondition says of the arguments.
-/
module

public import proofs.«01_k».proof.Proof.Ref
public import proofs.«01_k».proof.Proof.KernelIdeal.LseTrack
public import proofs.«01_k».proof.Pre_finite
public import Idealize.ShloMosaic.Lib.IdealHost
public import Idealize.ShloMosaic.Lib.ReduceAll
public import Idealize.ShloMosaic.PureOps.Ideal.Laws

@[expose] public section

set_option maxRecDepth 16384

noncomputable section

namespace Cert.Proof.ReferenceIdeal

open Cert.ReferenceIdeal Cert.ReferenceIdeal.Gen
open Idealize.ShloMosaic Idealize.ShloMosaic.TcCoe
open scoped BigOperators

/-- The logits with `⊥` at the columns that are not allowed. -/
def kept (x0 : FVec Ideal S88x1x6144 .bf16) (x1 : IVec S3072x49152 8) (x2 : FVec Ideal S96x49152 .f32)
    (x3 : IVec S88x1536 32) : FVec Ideal S88x1x49152 .f32 :=
  select (allowed x3) (logits x0 x1 x2) (broadcastInDim S88x1x49152 ![] bcast_S_S88x1x49152 (id (constant (F := Ideal) S_ .f32 0xFF800000#32)))

/-- The greatest of each row, -/
def rowMax (w : FVec Ideal S88x1x49152 .f32) : FVec Ideal S88x1 .f32 :=
  Host.reduce FloatOps.maximumf w (constant S_ .f32 0xFF800000#32) reducesTo_S88x1x49152_S88x1_d2 h_S_

/-- the shift: the greatest where it is a number, and zero elsewhere, -/
def shift (M : FVec Ideal S88x1 .f32) : FVec Ideal S88x1 .f32 :=
  select (cmpf .olt (Host.absf M) (broadcastInDim S88x1 ![] bcast_S_S88x1 (constant S_ .f32 0x7F800000#32))) M (broadcastInDim S88x1 ![] bcast_S_S88x1 (id (constant S_ .f32 0x00000000#32)))

/-- the sum of the shifted exponentials, -/
def rowSum (w : FVec Ideal S88x1x49152 .f32) (S : FVec Ideal S88x1 .f32) : FVec Ideal S88x1 .f32 :=
  Host.reduceAdd (Host.exp (subf w (broadcastInDim S88x1x49152 ![0, 1, 2] bcast_S88x1x1_S88x1x49152_0_1_2 (broadcastInDim S88x1x1 ![0, 1] bcast_S88x1_S88x1x1_0_1 S)))) (constant S_ .f32 0x00000000#32) reducesTo_S88x1x49152_S88x1_d2 h_S_

/-- and the log-sum-exp as the term its operations compose. -/
def refLse (x0 : FVec Ideal S88x1x6144 .bf16) (x1 : IVec S3072x49152 8) (x2 : FVec Ideal S96x49152 .f32)
    (x3 : IVec S88x1536 32) : FVec Ideal S88x1 .f32 :=
  addf (Host.log (rowSum (kept x0 x1 x2 x3) (shift (rowMax (kept x0 x1 x2 x3))))) (shift (rowMax (kept x0 x1 x2 x3)))

theorem res_eq (m : (ℓ : Loc nD τ sig) → Buf (Elt Ideal) ℓ) (c : Dev nD) :
    Cert.ReferenceIdeal.Value.res_main_v57 m c
      = refLse (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.Value.res_main_v57
  rfl

theorem reduces_row : S88x1x49152.Reduces [2] S88x1 := by decide

theorem neg_inf_f32 : (FloatOps.ofBits .f32 0xFF800000#32 : Ideal .f32) = (⊥ : EReal) := by
  show Ideal.ofBits .f32 0xFF800000#32 = ⊥
  simp [Ideal.ofBits, Ideal.ieee]

theorem inf_f32 : (FloatOps.ofBits .f32 0x7F800000#32 : Ideal .f32) = (⊤ : EReal) := by
  show Ideal.ofBits .f32 0x7F800000#32 = ⊤
  simp [Ideal.ofBits, Ideal.ieee]

theorem inf_bf16 : (FloatOps.ofBits .bf16 0x7F80#16 : Ideal .bf16) = (⊤ : EReal) := by
  show Ideal.ofBits .bf16 0x7F80#16 = ⊤
  simp [Ideal.ofBits, Ideal.ieee]

theorem lift_row (a : Fin 88) (v : Fin 49152) : reduces_row.lift (ix2 a (0 : Fin 1)) v = ix3 a (0 : Fin 1) v := by
  funext k; fin_cases k <;> rfl

theorem rowMax_apply (w : FVec Ideal S88x1x49152 .f32) (a : Fin 88) :
    rowMax w (ix2 a (0 : Fin 1)) = (Finset.univ.sup fun v : Fin 49152 => (w (ix3 a (0 : Fin 1) v) : EReal)) := by
  refine (Host.reduce_eq_fold_single FloatOps.maximumf w _ reducesTo_S88x1x49152_S88x1_d2 reduces_row h_S_ (ix2 a (0 : Fin 1))).trans ?_
  have e1 : (w ∘ reduces_row.lift (ix2 a (0 : Fin 1))) = fun v : Fin 49152 => w (ix3 a (0 : Fin 1) v) :=
    funext fun v => congrArg w (lift_row a v)
  have e0 : (constant (F := Ideal) S_ .f32 0xFF800000#32) (Shape.Idx.first h_S_) = (⊥ : EReal) := neg_inf_f32
  rw [e1, e0]
  rfl

theorem abs_lt_top (x : EReal) : max x (-x) < ⊤ ↔ (⊥ < x ∧ x < ⊤) := by
  induction x with
  | bot => simp
  | top => simp
  | coe r =>
    have h : -(r : EReal) < ⊤ := by rw [← EReal.coe_neg]; exact EReal.coe_lt_top _
    rw [max_lt_iff]
    simp [EReal.coe_lt_top, EReal.bot_lt_coe, h]

theorem shift_apply (M : FVec Ideal S88x1 .f32) (a : Fin 88) :
    shift M (ix2 a (0 : Fin 1))
      = if (⊥ < (M (ix2 a (0 : Fin 1)) : EReal) ∧ (M (ix2 a (0 : Fin 1)) : EReal) < ⊤) then (M (ix2 a (0 : Fin 1)) : EReal) else (0 : EReal) := by
  have e : shift M (ix2 a (0 : Fin 1)) = Scalar.select (Ideal.cmp .olt (max (M (ix2 a (0 : Fin 1)) : EReal) (-(M (ix2 a (0 : Fin 1)) : EReal)))
      (FloatOps.ofBits .f32 0x7F800000#32 : Ideal .f32)) (M (ix2 a (0 : Fin 1))) (FloatOps.ofBits .f32 0x00000000#32 : Ideal .f32) := rfl
  have e0 : (FloatOps.ofBits .f32 0x00000000#32 : Ideal .f32) = (0 : EReal) := Ideal.ofBits_zero_f32
  rw [e, inf_f32, e0]
  generalize (M (ix2 a (0 : Fin 1)) : EReal) = x
  have h := abs_lt_top x
  by_cases hx : max x (-x) < ⊤
  · rw [if_pos (h.mp hx)]
    have : Ideal.cmp .olt (max x (-x)) ⊤ = 1#1 := by unfold Ideal.cmp; simp only [hx]; rfl
    rw [this]; rfl
  · rw [if_neg (fun hh => hx (h.mpr hh))]
    have : Ideal.cmp .olt (max x (-x)) ⊤ = 0#1 := by unfold Ideal.cmp; simp only [hx]; rfl
    rw [this]; rfl

theorem rowSum_apply (w : FVec Ideal S88x1x49152 .f32) (S : FVec Ideal S88x1 .f32) (a : Fin 88) :
    rowSum w S (ix2 a (0 : Fin 1))
      = (∑ v : Fin 49152, Ideal.exp ((w (ix3 a (0 : Fin 1) v) : EReal) - S (ix2 a (0 : Fin 1))) : EReal) := by
  unfold rowSum
  refine (Ideal.hostReduceAdd_single reducesTo_S88x1x49152_S88x1_d2 reduces_row _ _ (ix2 a (0 : Fin 1))).trans ?_
  have e0 : (constant (F := Ideal) S_ .f32 0x00000000#32) (Shape.Idx.first h_S_) = (0 : EReal) := Ideal.ofBits_zero_f32
  rw [e0, zero_add]
  refine Finset.sum_congr rfl fun v _ => ?_
  refine (congrArg (Host.exp (subf w _)) (lift_row a v)).trans ?_
  have eS : (broadcastInDim S88x1x49152 ![0, 1, 2] bcast_S88x1x1_S88x1x49152_0_1_2 (broadcastInDim S88x1x1 ![0, 1] bcast_S88x1_S88x1x1_0_1 S)) (ix3 a (0 : Fin 1) v)
      = S (ix2 a (0 : Fin 1)) := by
    pointwise []
  show Ideal.exp ((w (ix3 a (0 : Fin 1) v) : EReal) - (broadcastInDim S88x1x49152 ![0, 1, 2] bcast_S88x1x1_S88x1x49152_0_1_2 (broadcastInDim S88x1x1 ![0, 1] bcast_S88x1_S88x1x1_0_1 S)) (ix3 a (0 : Fin 1) v)) = _
  rw [eS]

theorem kept_apply (x0 : FVec Ideal S88x1x6144 .bf16) (x1 : IVec S3072x49152 8) (x2 : FVec Ideal S96x49152 .f32)
    (x3 : IVec S88x1536 32) (a : Fin 88) (v : Fin 49152) :
    kept x0 x1 x2 x3 (ix3 a (0 : Fin 1) v) = KernelIdeal.column x0 x1 x2 x3 a v := by
  have e : kept x0 x1 x2 x3 (ix3 a (0 : Fin 1) v) = Scalar.select (allowed x3 (ix3 a (0 : Fin 1) v)) (logits x0 x1 x2 (ix3 a (0 : Fin 1) v))
      (FloatOps.ofBits .f32 0xFF800000#32 : Ideal .f32) := rfl
  rw [e, allowed_apply, logits_apply, neg_inf_f32]
  unfold KernelIdeal.column KernelIdeal.counted
  generalize (x3 _).getLsbD _ = b
  cases b <;> rfl

theorem log_add_apply (A B : FVec Ideal S88x1 .f32) (y : S88x1.Idx) :
    addf (Host.log A) B y = (Ideal.log (A y) + B y : EReal) := rfl

theorem refLse_apply (x0 : FVec Ideal S88x1x6144 .bf16) (x1 : IVec S3072x49152 8) (x2 : FVec Ideal S96x49152 .f32)
    (x3 : IVec S88x1536 32) (a : Fin 88) :
    refLse x0 x1 x2 x3 (ix2 a (0 : Fin 1)) = Online.lse (fun v : Fin 49152 => KernelIdeal.column x0 x1 x2 x3 a v) := by
  unfold refLse
  rw [log_add_apply, rowSum_apply, shift_apply, rowMax_apply]
  simp only [kept_apply]
  rfl

end Cert.Proof.ReferenceIdeal

end

end
-- ==== Proof.KernelIdeal.CandNum.lean ====
/-
  The integer arithmetic of a candidate: quotients and remainders by small numbers of a number below
  49152.
-/
module

public import Idealize.ShloMosaic.Lib.Pointwise

@[expose] public section

set_option maxRecDepth 16384

namespace Cert.Proof.Num

open Idealize.ShloMosaic

/-- The quotient rounded down, from the quotient `d` rounded to zero, the remainder `r` and whether the
    signs differ. -/
def floored (b : BitVec 1) (r d : BitVec 32) : BitVec 32 :=
  Scalar.select (IntOp.andi b (IntOp.cmpi .ne r 0#32)) (IntOp.subi d 1#32) d

theorem msb_small {w : BitVec 32} (h : w.toNat < 49152) : w.msb = false := by
  rw [BitVec.msb_eq_false_iff_two_mul_lt]; omega

theorem slt_zero {w : BitVec 32} (h : w.toNat < 49152) : IntOp.cmpi .slt w 0#32 = 0#1 := by
  have : w.slt 0#32 = false := by rw [BitVec.slt_zero_eq_msb, msb_small h]
  show BitVec.ofBool (w.slt 0#32) = _
  rw [this]; rfl

theorem not_corner {w k : BitVec 32} (h : w.toNat < 49152) (hk : k ≠ 0) : ¬IntOp.SDivCorner w k := by
  rintro (h1 | ⟨h1, -⟩)
  · exact hk h1
  · rw [h1] at h; revert h; decide

theorem toNat_k {k : Nat} (hk : k < 49152) : (BitVec.ofNat 32 k).toNat = k := by
  rw [BitVec.toNat_ofNat]; omega

theorem k_ne {k : Nat} (hk0 : 0 < k) (hk : k < 49152) : BitVec.ofNat 32 k ≠ 0 := fun h => by
  have := congrArg BitVec.toNat h
  rw [toNat_k hk] at this
  simp at this; omega

theorem divsi_small (u : ArithUnit) (w : BitVec 32) (h : w.toNat < 49152) (k : Nat) (hk0 : 0 < k) (hk : k < 49152) :
    IntOp.divsi u w (BitVec.ofNat 32 k) = BitVec.ofNat 32 (w.toNat / k) := by
  unfold IntOp.divsi
  rw [if_neg (not_corner h (k_ne hk0 hk)), BitVec.sdiv_eq, msb_small h, msb_small (by rw [toNat_k hk]; exact hk)]
  apply BitVec.eq_of_toNat_eq
  have : w.toNat / k ≤ w.toNat := Nat.div_le_self _ _
  show (w / BitVec.ofNat 32 k).toNat = _
  rw [BitVec.toNat_udiv, toNat_k hk, BitVec.toNat_ofNat]
  exact (Nat.mod_eq_of_lt (by omega)).symm

theorem remsi_small (u : ArithUnit) (w : BitVec 32) (h : w.toNat < 49152) (k : Nat) (hk0 : 0 < k) (hk : k < 49152) :
    IntOp.remsi u w (BitVec.ofNat 32 k) = BitVec.ofNat 32 (w.toNat % k) := by
  unfold IntOp.remsi
  rw [if_neg (not_corner h (k_ne hk0 hk)), BitVec.srem_eq, msb_small h, msb_small (by rw [toNat_k hk]; exact hk)]
  apply BitVec.eq_of_toNat_eq
  have : w.toNat % k ≤ w.toNat := Nat.mod_le _ _
  show (w % BitVec.ofNat 32 k).toNat = _
  rw [BitVec.toNat_umod, toNat_k hk, BitVec.toNat_ofNat]
  exact (Nat.mod_eq_of_lt (by omega)).symm

/-- Rounding down changes nothing where the signs differ only at zero. -/
theorem floored_small (u : ArithUnit) (b : BitVec 1) (w : BitVec 32) (h : w.toNat < 49152) (hb : w ≠ 0 → b = 0#1) (k : Nat) (hk0 : 0 < k) (hk : k < 49152) :
    floored b (IntOp.remsi u w (BitVec.ofNat 32 k)) (IntOp.divsi u w (BitVec.ofNat 32 k)) = BitVec.ofNat 32 (w.toNat / k) := by
  rw [remsi_small u w h k hk0 hk, divsi_small u w h k hk0 hk]
  unfold floored
  by_cases h0 : w = 0
  · have e : w.toNat = 0 := by rw [h0]; rfl
    rw [e, Nat.zero_mod]
    have : IntOp.andi b (IntOp.cmpi .ne (BitVec.ofNat 32 0) 0#32) = 0#1 := by
      clear hb; revert b; decide
    rw [this]; rfl
  · rw [hb h0]
    have : ∀ x : BitVec 1, IntOp.andi 0#1 x = 0#1 := by decide
    rw [this]; rfl

/-- The signs of a positive number, as the kernel takes them, -/
theorem signs_kernel (w : BitVec 32) (h : w.toNat < 49152) (h0 : w ≠ 0) :
    IntOp.subi ((IntOp.cmpi .sgt w 0#32).setWidth 32) ((IntOp.cmpi .slt w 0#32).setWidth 32) = 1#32 := by
  have e : IntOp.cmpi .sgt w 0#32 = 1#1 := by
    have : (0#32).slt w = true := by
      rw [BitVec.slt_eq_decide]
      have hp : w.toNat ≠ 0 := fun e => h0 (BitVec.eq_of_toNat_eq e)
      have hi : w.toInt = w.toNat := BitVec.toInt_eq_toNat_of_msb (msb_small h)
      rw [hi]
      simp; omega
    show BitVec.ofBool ((0#32).slt w) = _
    rw [this]; rfl
  rw [e, slt_zero h]; rfl

/-- A shift right by seven is a quotient by 128, -/
theorem shift7 (w : BitVec 32) (h : w.toNat < 49152) : IntOp.shrsi .vector w 7#32 = BitVec.ofNat 32 (w.toNat / 128) := by
  have e : IntOp.shrsi .vector w 7#32 = w.sshiftRight 7 := rfl
  rw [e, BitVec.sshiftRight_eq_of_msb_false (msb_small h)]
  apply BitVec.eq_of_toNat_eq
  rw [BitVec.toNat_ushiftRight, Nat.shiftRight_eq_div_pow, BitVec.toNat_ofNat]
  omega

/-- and the low seven bits are its remainder. -/
theorem and127 (w : BitVec 32) : (IntOp.andi w 127#32).toNat = w.toNat % 128 := by
  show (w &&& 127#32).toNat = _
  rw [BitVec.toNat_and]
  exact Nat.and_two_pow_sub_one_eq_mod w.toNat 7

theorem cmpi_eq_ofNat (a b : Nat) (ha : a < 2 ^ 32) (hb : b < 2 ^ 32) :
    IntOp.cmpi .eq (BitVec.ofNat 32 a) (BitVec.ofNat 32 b) = if a = b then 1#1 else 0#1 := by
  show BitVec.ofBool (BitVec.ofNat 32 a == BitVec.ofNat 32 b) = _
  by_cases h : a = b
  · subst h; rw [if_pos rfl]; simp
  · rw [if_neg h]
    have : ¬BitVec.ofNat 32 a = BitVec.ofNat 32 b := fun e => h (by
      have := congrArg BitVec.toNat e
      rw [BitVec.toNat_ofNat, BitVec.toNat_ofNat] at this
      omega)
    simp only [beq_eq_false_iff_ne.mpr this]
    rfl

/-- The lowest bit of a shifted word, asked whether it is not zero. -/
theorem bit_kernel (w : BitVec 32) (n : Nat) (hn : n < 32) :
    IntOp.cmpi .ne (IntOp.andi (IntOp.shrsi .vector w (BitVec.ofNat 32 n)) 1#32) 0#32 = BitVec.ofBool (w.getLsbD n) := by
  have e : IntOp.shrsi .vector w (BitVec.ofNat 32 n) = w.sshiftRight n := by
    have h : (BitVec.ofNat 32 n).toNat = n := by rw [BitVec.toNat_ofNat]; omega
    unfold IntOp.shrsi
    rw [h, if_pos hn]
    exact congrArg w.sshiftRight h
  rw [e]
  show BitVec.ofBool (w.sshiftRight n &&& 1#32 != 0#32) = _
  congr 1
  have h0 : (w.sshiftRight n).getLsbD 0 = w.getLsbD n := by
    rw [BitVec.getLsbD_sshiftRight]; simp [hn]
  rw [← h0, show (1#32 : BitVec 32) = BitVec.twoPow 32 0 from rfl, BitVec.and_twoPow]
  cases (w.sshiftRight n).getLsbD 0 <;> rfl

end Cert.Proof.Num
-- ==== Proof.KernelIdeal.CandStep.lean ====
/-
  The record of the candidates' logits and the candidates' log-probabilities at an index, at `Ideal`.
-/
module

public import proofs.«01_k».proof.Proof.KernelIdeal.Cand
public import proofs.«01_k».proof.Proof.KernelIdeal.CandNum
public import proofs.«01_k».proof.Proof.KernelIdeal.LseStep

@[expose] public section

set_option maxRecDepth 16384

noncomputable section

namespace Cert.Proof.KernelIdeal

open Cert.KernelIdeal Cert.KernelIdeal.Gen
open Idealize.ShloMosaic
open scoped BigOperators

theorem idv_apply (x4 : Vec Ideal S88x128 .i32) (rg : Fin 11) (u : Fin 8) (k : Fin 128) :
    idv (F := Ideal) x4 rg (ix2 u k) = x4 (ix2 (⟨8 * rg.val + u.val, by omega⟩ : Fin 88) k) := by
  pointwise [idv, rc]

theorem gch_eq (i : grid0.Coords) (ch : Fin 8) : gch i (BitVec.ofNat 32 ch.val) = BitVec.ofNat 32 (8 * (i 0).val + ch.val) := by
  have key : ∀ (a : Fin 48) (ch : Fin 8), gch (mkc a) (BitVec.ofNat 32 ch.val) = BitVec.ofNat 32 (8 * a.val + ch.val) := by decide +kernel
  rw [eq_mkc i]; exact key (i 0) ch

theorem cast_twice {α : Type} (z : S8x128.Idx → α) (u : Fin 8) (k : Fin 128) :
    shapeCast S8x128 (shapeCast S8x128x1 z shapeCasts_S8x128_S8x128x1) shapeCasts_S8x128x1_S8x128 (ix2 u k) = z (ix2 u k) := by
  pointwise []

/-- A value picked from the same row at the lane an index names. -/
theorem gather_lane {α : Type} (v : S8x128.Idx → α) (z : IVec S8x128 32) (u : Fin 8) (k : Fin 128) (n : Fin 128)
    (h : (z (ix2 u k)).toNat = n.val) :
    dynamicGather (s := S8x128) 1 v (shapeCast S8x128 (shapeCast S8x128x1 z shapeCasts_S8x128_S8x128x1) shapeCasts_S8x128x1_S8x128) (ix2 u k)
      = v (ix2 u n) := by
  refine congrArg v (funext fun b => Fin.ext ?_)
  fin_cases b
  · rfl
  · show (shapeCast S8x128 (shapeCast S8x128x1 z shapeCasts_S8x128_S8x128x1) shapeCasts_S8x128x1_S8x128 (ix2 u k)).toNat % 128 = n.val
    rw [cast_twice, h]; exact Nat.mod_eq_of_lt n.isLt

/-- One chunk taken into the record. -/
theorem pick_apply (f : ℕ → EReal) (N : ℕ) (hN : N < 384) (d : IVec S8x128 32) (v : FVec Ideal S8x128 .f32) (g : BitVec 32) (prev : FVec Ideal S8x128 .f32)
    (u : Fin 8) (k : Fin 128) (w : BitVec 32) (hw : w.toNat < 49152) (hd : d (ix2 u k) = w)
    (hv : v (ix2 u (⟨w.toNat % 128, Nat.mod_lt _ (by decide)⟩ : Fin 128)) = f N) (hg : g = BitVec.ofNat 32 N)
    (hp : prev (ix2 u k) = if w.toNat / 128 < N then f (w.toNat / 128) else (0 : EReal)) :
    pick d v g prev (ix2 u k) = if w.toNat / 128 < N + 1 then f (w.toNat / 128) else (0 : EReal) := by
  have e : pick d v g prev (ix2 u k) = Scalar.select (IntOp.cmpi .eq (IntOp.shrsi .vector (d (ix2 u k)) 7#32) g)
      (dynamicGather (s := S8x128) 1 v (shapeCast S8x128 (shapeCast S8x128x1 (andi d (broadcast S8x128 127#32)) shapeCasts_S8x128_S8x128x1) shapeCasts_S8x128x1_S8x128) (ix2 u k))
      (prev (ix2 u k)) := rfl
  rw [e, gather_lane v (andi d (broadcast S8x128 127#32)) u k ⟨w.toNat % 128, Nat.mod_lt _ (by decide)⟩ (by
    show (IntOp.andi (d (ix2 u k)) 127#32).toNat = _
    rw [hd]; exact Num.and127 w), hv, hp, hd, Num.shift7 w hw, hg, Num.cmpi_eq_ofNat _ _ (by omega) (by omega)]
  by_cases h : w.toNat / 128 = N
  · rw [if_pos h, h, if_pos (Nat.lt_succ_self N)]; rfl
  · rw [if_neg h]
    have : (w.toNat / 128 < N + 1) ↔ (w.toNat / 128 < N) := by omega
    simp only [this]
    rfl

section
variable (i : grid0.Coords) (x0 : Vec Ideal S96x6144 .bf16) (x1 : Vec Ideal S3072x1024 .i8) (x2 : Vec Ideal S96x1024 .f32)
  (x3 : Vec Ideal S88x1536 .i32) (x4 : Vec Ideal S88x128 .i32)

theorem val_apply (a : Fin 88) (ch : Fin 8) (l : Fin 128) :
    val (F := Ideal) Mxu.init x0 x1 x2 ⟨a.val / 8, by omega⟩ ch (ix2 (⟨a.val % 8, by omega⟩ : Fin 8) l)
      = (∑ r : Fin 6144, x0 (ix2 (⟨a.val, by omega⟩ : Fin 96) r) * weight (fun k => x1 (ix2 k (⟨128 * ch.val + l.val, by omega⟩ : Fin 1024)))
          (fun g => x2 (ix2 g (⟨128 * ch.val + l.val, by omega⟩ : Fin 1024))) r : EReal) := by
  have e2 : val (F := Ideal) Mxu.init x0 x1 x2 ⟨a.val / 8, by omega⟩ ch (ix2 (⟨a.val % 8, by omega⟩ : Fin 8) l)
      = prod Mxu.init x0 x1 x2 ⟨ch.val / 2, by omega⟩ (ix2 (⟨8 * (a.val / 8) + a.val % 8, by omega⟩ : Fin 96) (⟨128 * (ch.val % 2) + l.val, by omega⟩ : Fin 256)) := by
    pointwise [val]
  have e3 : (⟨8 * (a.val / 8) + a.val % 8, by omega⟩ : Fin 96) = ⟨a.val, by omega⟩ := Fin.ext (Nat.div_add_mod _ _)
  have e5 : (⟨256 * (ch.val / 2) + (128 * (ch.val % 2) + l.val), by omega⟩ : Fin 1024) = ⟨128 * ch.val + l.val, by omega⟩ :=
    Fin.ext (by show 256 * (ch.val / 2) + (128 * (ch.val % 2) + l.val) = 128 * ch.val + l.val; omega)
  rw [prod_sum, e3] at e2
  simp only [e5] at e2
  exact e2

/-- Half a point: four chunks of 128 columns. -/
theorem stC_apply (f : ℕ → EReal) (p : Fin 2) (C : Vec Ideal S88x128 .f32) (a : Fin 88) (k : Fin 128)
    (w : BitVec 32) (hw : w.toNat < 49152) (hx : x4 (ix2 a k) = w)
    (h : ∀ ch : Fin 8, val (F := Ideal) Mxu.init x0 x1 x2 ⟨a.val / 8, by omega⟩ ch
      (ix2 (⟨a.val % 8, by omega⟩ : Fin 8) (⟨w.toNat % 128, Nat.mod_lt _ (by decide)⟩ : Fin 128)) = f (8 * (i 0).val + ch.val))
    (hC : C (ix2 a k) = if w.toNat / 128 < 8 * (i 0).val + 4 * p.val then f (w.toNat / 128) else (0 : EReal)) :
    stC (F := Ideal) Mxu.init i x0 x1 x2 x4 p C (ix2 a k)
      = if w.toNat / 128 < 8 * (i 0).val + 4 * p.val + 4 then f (w.toNat / 128) else (0 : EReal) := by
  have hi : (i 0).val < 48 := (i 0).isLt
  have hd : idv (F := Ideal) x4 ⟨a.val / 8, by omega⟩ (ix2 (⟨a.val % 8, by omega⟩ : Fin 8) k) = w := by
    rw [idv_apply, ← hx]
    exact congrArg (fun b : Fin 88 => x4 (ix2 b k)) (Fin.ext (Nat.div_add_mod _ _))
  have hr : rows C ⟨a.val / 8, by omega⟩ (ix2 (⟨a.val % 8, by omega⟩ : Fin 8) k) = C (ix2 a k) := rows_apply C (ix2 a k)
  show shapeCast S8x128 _ shapeCasts_S8x128_S8x128 (ix2 (⟨a.val % 8, by omega⟩ : Fin 8) k) = _
  rw [shapeCast_self_apply]
  refine pick_apply f (8 * (i 0).val + 4 * p.val + 3) (by omega) _ _ _ _ _ _ w hw hd (h ⟨4 * p.val + 3, by omega⟩) (gch_eq i ⟨4 * p.val + 3, by omega⟩) ?_
  refine pick_apply f (8 * (i 0).val + 4 * p.val + 2) (by omega) _ _ _ _ _ _ w hw hd (h ⟨4 * p.val + 2, by omega⟩) (gch_eq i ⟨4 * p.val + 2, by omega⟩) ?_
  refine pick_apply f (8 * (i 0).val + 4 * p.val + 1) (by omega) _ _ _ _ _ _ w hw hd (h ⟨4 * p.val + 1, by omega⟩) (gch_eq i ⟨4 * p.val + 1, by omega⟩) ?_
  exact pick_apply f (8 * (i 0).val + 4 * p.val) (by omega) _ _ _ _ _ _ w hw hd (h ⟨4 * p.val, by omega⟩) (gch_eq i ⟨4 * p.val, by omega⟩) (hr.trans hC)

/-- A whole point: eight chunks. -/
theorem ptC_apply (f : ℕ → EReal) (C : Vec Ideal S88x128 .f32) (a : Fin 88) (k : Fin 128)
    (w : BitVec 32) (hw : w.toNat < 49152) (hx : x4 (ix2 a k) = w)
    (h : ∀ ch : Fin 8, val (F := Ideal) Mxu.init x0 x1 x2 ⟨a.val / 8, by omega⟩ ch
      (ix2 (⟨a.val % 8, by omega⟩ : Fin 8) (⟨w.toNat % 128, Nat.mod_lt _ (by decide)⟩ : Fin 128)) = f (8 * (i 0).val + ch.val))
    (hC : C (ix2 a k) = if w.toNat / 128 < 8 * (i 0).val then f (w.toNat / 128) else (0 : EReal)) :
    ptC (F := Ideal) Mxu.init i x0 x1 x2 x4 C (ix2 a k)
      = if w.toNat / 128 < 8 * (i 0).val + 8 then f (w.toNat / 128) else (0 : EReal) :=
  stC_apply i x0 x1 x2 x4 f 1 _ a k w hw hx h (stC_apply i x0 x1 x2 x4 f 0 C a k w hw hx h hC)

/-- The quotient rounded down. -/
theorem fdiv_apply (d : IVec S8x128 32) (y : S8x128.Idx) (hw : (d y).toNat < 49152) (k : Fin 4097) (hk0 : 0 < k.val)
    (hk : IntOp.subi ((IntOp.cmpi .sgt (BitVec.ofNat 32 k.val) 0#32).setWidth 32) ((IntOp.cmpi .slt (BitVec.ofNat 32 k.val) 0#32).setWidth 32) = 1#32) :
    fdiv d (BitVec.ofNat 32 k.val) y = BitVec.ofNat 32 ((d y).toNat / k.val) := by
  have e : fdiv d (BitVec.ofNat 32 k.val) y = Num.floored
      (IntOp.cmpi .ne (IntOp.subi ((IntOp.cmpi .sgt (d y) 0#32).setWidth 32) ((IntOp.cmpi .slt (d y) 0#32).setWidth 32))
        (IntOp.subi ((IntOp.cmpi .sgt (BitVec.ofNat 32 k.val) 0#32).setWidth 32) ((IntOp.cmpi .slt (BitVec.ofNat 32 k.val) 0#32).setWidth 32)))
      (IntOp.remsi .vector (d y) (BitVec.ofNat 32 k.val)) (IntOp.divsi .vector (d y) (BitVec.ofNat 32 k.val)) := rfl
  rw [e]
  refine Num.floored_small .vector _ _ hw (fun h0 => ?_) k.val hk0 (by omega)
  rw [Num.signs_kernel _ hw h0, hk]; rfl

theorem fdiv_4096 (d : IVec S8x128 32) (y : S8x128.Idx) (hw : (d y).toNat < 49152) :
    fdiv d 4096#32 y = BitVec.ofNat 32 ((d y).toNat / 4096) := fdiv_apply d y hw ⟨4096, by decide⟩ (by decide) (by decide)

theorem fdiv_32 (d : IVec S8x128 32) (y : S8x128.Idx) (hw : (d y).toNat < 49152) :
    fdiv d 32#32 y = BitVec.ofNat 32 ((d y).toNat / 32) := fdiv_apply d y hw ⟨32, by decide⟩ (by decide) (by decide)

theorem wcol_apply (rg : Fin 11) (t : Fin 12) (u : Fin 8) (n : Fin 128) :
    wcol (F := Ideal) x3 rg t (ix2 u n) = x3 (ix2 (⟨8 * rg.val + u.val, by omega⟩ : Fin 88) (⟨128 * t.val + n.val, by omega⟩ : Fin 1536)) := by
  pointwise [wcol]

theorem wnext_apply (d : IVec S8x128 32) (rg : Fin 11) (prev : IVec S8x128 32) (t : Fin 12) (u : Fin 8) (k : Fin 128)
    (hw : (d (ix2 u k)).toNat < 49152) :
    wnext (F := Ideal) x3 d rg prev t (ix2 u k)
      = if (d (ix2 u k)).toNat / 4096 = t.val then x3 (ix2 (⟨8 * rg.val + u.val, by omega⟩ : Fin 88) (⟨(d (ix2 u k)).toNat / 32, by omega⟩ : Fin 1536))
        else prev (ix2 u k) := by
  have e : wnext (F := Ideal) x3 d rg prev t (ix2 u k) = Scalar.select (IntOp.cmpi .eq (fdiv d 4096#32 (ix2 u k)) (BitVec.ofNat 32 t.val))
      (dynamicGather (s := S8x128) 1 (wcol (F := Ideal) x3 rg t) (shapeCast S8x128 (shapeCast S8x128x1 (andi (fdiv d 32#32) (broadcast S8x128 127#32)) shapeCasts_S8x128_S8x128x1) shapeCasts_S8x128x1_S8x128) (ix2 u k))
      (prev (ix2 u k)) := rfl
  rw [e, gather_lane (wcol (F := Ideal) x3 rg t) (andi (fdiv d 32#32) (broadcast S8x128 127#32)) u k ⟨(d (ix2 u k)).toNat / 32 % 128, Nat.mod_lt _ (by decide)⟩ (by
    show (IntOp.andi (fdiv d 32#32 (ix2 u k)) 127#32).toNat = _
    rw [Num.and127, fdiv_32 d _ hw, BitVec.toNat_ofNat]
    show (d (ix2 u k)).toNat / 32 % 2 ^ 32 % 128 = (d (ix2 u k)).toNat / 32 % 128
    omega), wcol_apply, fdiv_4096 d _ hw, Num.cmpi_eq_ofNat _ _ (by omega) (by omega)]
  by_cases h : (d (ix2 u k)).toNat / 4096 = t.val
  · rw [if_pos h, if_pos h]
    show x3 _ = _
    refine congrArg (fun n : Fin 1536 => x3 (ix2 (⟨8 * rg.val + u.val, by omega⟩ : Fin 88) n)) (Fin.ext ?_)
    show 128 * t.val + (d (ix2 u k)).toNat / 32 % 128 = (d (ix2 u k)).toNat / 32
    omega
  · rw [if_neg h, if_neg h]; rfl

/-- The candidates' mask words. -/
theorem cwords_apply (d : IVec S8x128 32) (rg : Fin 11) (u : Fin 8) (k : Fin 128) (hw : (d (ix2 u k)).toNat < 49152) :
    cwords (F := Ideal) x3 d rg (ix2 u k) = x3 (ix2 (⟨8 * rg.val + u.val, by omega⟩ : Fin 88) (⟨(d (ix2 u k)).toNat / 32, by omega⟩ : Fin 1536)) := by
  have key : ∀ (ts : List (Fin 12)) (prev : IVec S8x128 32), ts.foldl (wnext (F := Ideal) x3 d rg) prev (ix2 u k)
      = if (⟨(d (ix2 u k)).toNat / 4096, by omega⟩ : Fin 12) ∈ ts then x3 (ix2 (⟨8 * rg.val + u.val, by omega⟩ : Fin 88) (⟨(d (ix2 u k)).toNat / 32, by omega⟩ : Fin 1536))
        else prev (ix2 u k) := by
    intro ts
    induction ts with
    | nil => intro prev; rw [if_neg (by simp)]; rfl
    | cons t ts ih =>
      intro prev
      rw [List.foldl_cons, ih, wnext_apply x3 d rg prev t u k hw]
      by_cases h : (⟨(d (ix2 u k)).toNat / 4096, by omega⟩ : Fin 12) ∈ ts
      · rw [if_pos h, if_pos (List.mem_cons_of_mem _ h)]
      · rw [if_neg h]
        by_cases h2 : (d (ix2 u k)).toNat / 4096 = t.val
        · rw [if_pos h2, if_pos (by rw [List.mem_cons]; exact Or.inl (Fin.ext h2))]
        · rw [if_neg h2, if_neg (by
            rw [List.mem_cons]
            rintro (h3 | h3)
            · exact h2 (congrArg Fin.val h3)
            · exact h h3)]
  unfold cwords
  rw [key, if_pos]
  have : ∀ t : Fin 12, t ∈ wts := by decide
  exact this _

/-- The remainder by 32. -/
theorem rem_apply (d : IVec S8x128 32) (y : S8x128.Idx) (hw : (d y).toNat < 49152) :
    Scalar.select (k0_pay56 d y) (IntOp.addi (k0_pay55 d y) (k0_pay57 y)) (k0_pay55 d y) = BitVec.ofNat 32 ((d y).toNat % 32) := by
  have e5 : k0_pay55 d y = BitVec.ofNat 32 ((d y).toNat % 32) := Num.remsi_small .vector (d y) hw 32 (by decide) (by decide)
  have e6 : k0_pay56 d y = IntOp.andi (IntOp.xori (IntOp.cmpi .slt (k0_pay55 d y) 0#32) 0#1) (IntOp.cmpi .ne (k0_pay55 d y) 0#32) := rfl
  have e7 : k0_pay56 d y = 0#1 := by
    rw [e6, e5, Num.slt_zero (by rw [BitVec.toNat_ofNat]; omega)]
    have : ∀ x : BitVec 1, IntOp.andi (IntOp.xori 0#1 0#1) x = 0#1 := by decide
    exact this _
  rw [e7, e5]; rfl

theorem pay58_apply (s : FVec Ideal S8x1 .f32) (w r : IVec S8x128 32) (b : IVec S8x128 1) (kk : IVec S8x128 32) (c : FVec Ideal S8x128 .f32) (u : Fin 8) (k : Fin 32) :
    k0_pay58 (F := Ideal) s w r b kk c (ix2 u k)
      = Scalar.select (IntOp.cmpi .ne (IntOp.andi (IntOp.shrsi .vector (w (ix2 u (⟨k.val, by omega⟩ : Fin 128)))
          (Scalar.select (b (ix2 u (⟨k.val, by omega⟩ : Fin 128))) (IntOp.addi (r (ix2 u (⟨k.val, by omega⟩ : Fin 128))) (kk (ix2 u (⟨k.val, by omega⟩ : Fin 128)))) (r (ix2 u (⟨k.val, by omega⟩ : Fin 128))))) 1#32) 0#32)
        (c (ix2 u (⟨k.val, by omega⟩ : Fin 128)) - s (ix2 u (0 : Fin 1)) : EReal) (0 : EReal) := by
  have e0 : (Scalar.ofBits .f32 0x00000000#32 : Ideal .f32) = (0 : EReal) := Ideal.ofBits_zero_f32
  rw [← e0]
  pointwise [k0_pay58]

/-- One candidate's log-probability. -/
theorem clpv_apply (M L C : Vec Ideal S88x128 .f32) (a : Fin 88) (k : Fin 32) (w : BitVec 32) (hw : w.toNat < 49152)
    (hx : x4 (ix2 a (⟨k.val, by omega⟩ : Fin 128)) = w) :
    clpv (F := Ideal) x3 x4 M L C (ix2 a k)
      = Scalar.select (BitVec.ofBool ((x3 (ix2 a (⟨w.toNat / 32, by omega⟩ : Fin 1536)) : BitVec 32).getLsbD (w.toNat % 32)))
          (C (ix2 a (⟨k.val, by omega⟩ : Fin 128)) - lsev M L (ix2 a (0 : Fin 1)) : EReal) (0 : EReal) := by
  have hd : idv (F := Ideal) x4 ⟨a.val / 8, by omega⟩ (ix2 (⟨a.val % 8, by omega⟩ : Fin 8) (⟨k.val, by omega⟩ : Fin 128)) = w := by
    rw [idv_apply, ← hx]
    exact congrArg (fun b : Fin 88 => x4 (ix2 b _)) (Fin.ext (Nat.div_add_mod _ _))
  have e4 : (⟨8 * (a.val / 8) + a.val % 8, by omega⟩ : Fin 88) = a := Fin.ext (Nat.div_add_mod _ _)
  have hw' : (idv (F := Ideal) x4 ⟨a.val / 8, by omega⟩ (ix2 (⟨a.val % 8, by omega⟩ : Fin 8) (⟨k.val, by omega⟩ : Fin 128))).toNat < 49152 := by rw [hd]; exact hw
  have hr : rows C ⟨a.val / 8, by omega⟩ (ix2 (⟨a.val % 8, by omega⟩ : Fin 8) (⟨k.val, by omega⟩ : Fin 128)) = C (ix2 a (⟨k.val, by omega⟩ : Fin 128)) :=
    rows_apply C (ix2 a (⟨k.val, by omega⟩ : Fin 128))
  have e : clpv (F := Ideal) x3 x4 M L C (ix2 a k)
      = k0_pay58 (F := Ideal) (k0_pay484 (rows M ⟨a.val / 8, by omega⟩) (rows L ⟨a.val / 8, by omega⟩))
          (cwords (F := Ideal) x3 (idv (F := Ideal) x4 ⟨a.val / 8, by omega⟩) ⟨a.val / 8, by omega⟩) (k0_pay55 (idv (F := Ideal) x4 ⟨a.val / 8, by omega⟩))
          (k0_pay56 (idv (F := Ideal) x4 ⟨a.val / 8, by omega⟩)) k0_pay57 (rows C ⟨a.val / 8, by omega⟩) (ix2 (⟨a.val % 8, by omega⟩ : Fin 8) k) := rfl
  rw [e, pay58_apply, rem_apply _ _ hw', cwords_apply x3 _ _ _ _ hw', hr]
  simp only [hd, e4]
  rw [Num.bit_kernel _ _ (Nat.mod_lt _ (by decide))]
  rfl

end

end Cert.Proof.KernelIdeal

end

end
-- ==== Proof.KernelIdeal.CandTrack.lean ====
/-
  The candidates over the grid, at `Ideal`: after each point the record of a candidate holds its logit
  when its column has been seen, and the last point's result is the candidate's log-probability where
  its column is allowed.
-/
module

public import proofs.«01_k».proof.Proof.KernelIdeal.CandStep
public import proofs.«01_k».proof.Proof.KernelIdeal.LseTrack

@[expose] public section

set_option maxRecDepth 16384

noncomputable section

namespace Cert.Proof.KernelIdeal

open Cert.KernelIdeal Cert.KernelIdeal.Gen
open Idealize.ShloMosaic Idealize.ShloMosaic.TcCoe Idealize.SL.Sem
open Idealize.ShloMosaic.Pipeline (Dat Cfg Window)
open scoped BigOperators

/-- The logit of row `a` in column `v`, allowed or not. -/
def plain (x0 : FVec Ideal S88x1x6144 .bf16) (x1 : IVec S3072x49152 8) (x2 : FVec Ideal S96x49152 .f32) (a : Fin 88) (v : Fin 49152) : EReal :=
  ∑ r : Fin 6144, x0 (ix3 a (0 : Fin 1) r) * weight (fun k => x1 (ix2 k v)) (fun g => x2 (ix2 g v)) r

/-- The logits of a lane: those of the columns `128 k + l`. -/
def plainLane (x0 : FVec Ideal S88x1x6144 .bf16) (x1 : IVec S3072x49152 8) (x2 : FVec Ideal S96x49152 .f32) (a : Fin 88) (l : Fin 128) (k : ℕ) : EReal :=
  if h : k < 384 then plain x0 x1 x2 a ⟨k * 128 + l.val, by omega⟩ else 0

/-- A candidate's log-probability, zero where its column is not allowed. -/
def candidate (x0 : FVec Ideal S88x1x6144 .bf16) (x1 : IVec S3072x49152 8) (x2 : FVec Ideal S96x49152 .f32) (x3 : IVec S88x1536 32)
    (s : EReal) (a : Fin 88) (v : Fin 49152) : EReal :=
  Scalar.select (BitVec.ofBool ((x3 (ix2 a (⟨v.val / 32, by omega⟩ : Fin 1536)) : BitVec 32).getLsbD (v.val % 32)))
    (plain x0 x1 x2 a v - s : EReal) (0 : EReal)

variable (m : (ℓ : Loc nD τ sig) → Buf (Elt Ideal) ℓ) (ρ : Dev nD → PrngReg)

/-- A lane of the kernel's logits. -/
def logitsOf (c : Dev nD) : Fin 88 → Fin 128 → ℕ → EReal :=
  plainLane (m ((c.tc : Thread nD τ).loc main_arg0)) (m ((c.tc : Thread nD τ).loc main_arg1)) (m ((c.tc : Thread nD τ).loc main_arg2))

/-- A logit a grid point computes is that of its column. -/
theorem val_point (c : Dev nD) (t : Fin cfg0.N) (a : Fin 88) (ch : Fin 8) (l : Fin 128) :
    val (F := Ideal) Mxu.init (iblk m c 0 t) (iblk m c 1 t) (iblk m c 2 t) ⟨a.val / 8, by omega⟩ ch (ix2 (⟨a.val % 8, by omega⟩ : Fin 8) l)
      = logitsOf m c a l (8 * (grid0.coords t 0).val + ch.val) := by
  have ht := t_lt t
  rw [crd]
  unfold logitsOf plainLane
  rw [dif_pos (show 8 * t.val + ch.val < 384 by omega)]
  unfold plain
  refine (val_apply (iblk m c 0 t) (iblk m c 1 t) (iblk m c 2 t) a ch l).trans ?_
  have ec : (⟨1024 * t.val + (⟨128 * ch.val + l.val, by omega⟩ : Fin 1024).val, by omega⟩ : Fin 49152) = ⟨(8 * t.val + ch.val) * 128 + l.val, by omega⟩ :=
    Fin.ext (by show 1024 * t.val + (128 * ch.val + l.val) = (8 * t.val + ch.val) * 128 + l.val; omega)
  have e1 : (fun k => iblk m c 1 t (ix2 k (⟨128 * ch.val + l.val, by omega⟩ : Fin 1024)))
      = fun k => m ((c.tc : Thread nD τ).loc main_arg1) (ix2 k (⟨(8 * t.val + ch.val) * 128 + l.val, by omega⟩ : Fin 49152)) :=
    funext fun k => by rw [blk1, ec]
  have e2 : (fun g => iblk m c 2 t (ix2 g (⟨128 * ch.val + l.val, by omega⟩ : Fin 1024)))
      = fun g => m ((c.tc : Thread nD τ).loc main_arg2) (ix2 g (⟨(8 * t.val + ch.val) * 128 + l.val, by omega⟩ : Fin 49152)) :=
    funext fun g => by rw [blk2, ec]
  rw [e1, e2]
  exact Finset.sum_congr rfl fun r _ => congrArg (· * _) (blk0 m c t a r)

/-- The record after `n` points. -/
theorem cst_apply (c : Dev nD) (a : Fin 88) (k : Fin 32) (w : BitVec 32) (hw : w.toNat < 49152)
    (hx : m ((c.tc : Thread nD τ).loc main_arg4) (ix3 a (0 : Fin 1) k) = w) : ∀ n : ℕ, n ≤ 48 →
    Lse.cst m c n (ix2 a (⟨k.val, by omega⟩ : Fin 128))
      = if w.toNat / 128 < 8 * n then logitsOf m c a ⟨w.toNat % 128, Nat.mod_lt _ (by decide)⟩ (w.toNat / 128) else (0 : EReal) := by
  intro n
  induction n with
  | zero =>
    intro _
    rw [if_neg (by omega)]
    exact Ideal.ofBits_zero_f32
  | succ n ih =>
    intro hn
    have h := ih (by omega)
    have e := Lse.cst_succ m c (⟨n, by show n < 48; omega⟩ : Fin cfg0.N)
    have e' : Lse.cst m c (n + 1) = _ := e
    have ec : (grid0.coords (⟨n, by show n < 48; omega⟩ : Fin cfg0.N) 0).val = n := crd _
    rw [e']
    have := ptC_apply (grid0.coords (⟨n, by show n < 48; omega⟩ : Fin cfg0.N)) (iblk m c 0 _) (iblk m c 1 _) (iblk m c 2 _) (iblk m c 4 _)
      (logitsOf m c a ⟨w.toNat % 128, Nat.mod_lt _ (by decide)⟩) (Lse.cst m c n) a (⟨k.val, by omega⟩ : Fin 128) w hw
      ((blk4 m c (⟨n, by show n < 48; omega⟩ : Fin cfg0.N) a k).trans hx)
      (fun ch => val_point m c _ a ch _) (by rw [ec]; exact h)
    rw [ec] at this
    exact this

/-- The candidates' log-probabilities the kernel leaves. -/
def clpOut (c : Dev nD) : Buf (Elt Ideal) ((c.tc : Thread nD τ).loc main_v4_2) :=
  clpv (iblk m c 3 (⟨47, by decide⟩ : Fin grid0.N)) (iblk m c 4 (⟨47, by decide⟩ : Fin grid0.N)) (Lse.stat m c 48).1 (Lse.stat m c 48).2 (Lse.cst m c 48)

theorem clpOut_apply (c : Dev nD) (a : Fin 88) (k : Fin 32) (w : BitVec 32) (hw : w.toNat < 49152)
    (hx : m ((c.tc : Thread nD τ).loc main_arg4) (ix3 a (0 : Fin 1) k) = w) :
    clpOut m c (ix2 a k)
      = candidate (m ((c.tc : Thread nD τ).loc main_arg0)) (m ((c.tc : Thread nD τ).loc main_arg1)) (m ((c.tc : Thread nD τ).loc main_arg2))
          (m ((c.tc : Thread nD τ).loc main_arg3)) (lseOut m c (ix2 a (0 : Fin 1))) a ⟨w.toNat, hw⟩ := by
  refine (clpv_apply _ _ _ _ _ a k w hw ((blk4 m c _ a k).trans hx)).trans ?_
  have e3 := blk3 m c (⟨47, by decide⟩ : Fin cfg0.N) a ⟨w.toNat / 32, by omega⟩
  have eC := cst_apply m c a k w hw hx 48 le_rfl
  rw [if_pos (by omega)] at eC
  have eL : logitsOf m c a ⟨w.toNat % 128, Nat.mod_lt _ (by decide)⟩ (w.toNat / 128)
      = plain (m ((c.tc : Thread nD τ).loc main_arg0)) (m ((c.tc : Thread nD τ).loc main_arg1)) (m ((c.tc : Thread nD τ).loc main_arg2)) a ⟨w.toNat, hw⟩ := by
    unfold logitsOf plainLane
    rw [dif_pos (by omega)]
    exact congrArg (plain _ _ _ a) (Fin.ext (by show w.toNat / 128 * 128 + w.toNat % 128 = w.toNat; omega))
  rw [eC, eL]
  unfold candidate
  exact congrArg (fun b : BitVec 32 => Scalar.select (BitVec.ofBool (b.getLsbD (w.toNat % 32)))
    (plain (m ((c.tc : Thread nD τ).loc main_arg0)) (m ((c.tc : Thread nD τ).loc main_arg1)) (m ((c.tc : Thread nD τ).loc main_arg2)) a ⟨w.toNat, hw⟩
      - lseOut m c (ix2 a (0 : Fin 1)) : EReal) (0 : EReal)) e3

/-- The kernel runs and leaves those log-probabilities. -/
theorem run_clp : θ_run defs (onTc (τ := τ) (main (F := Ideal))) ⟨m, fun _ => 0, ρ⟩ (fun r => ∀ c : Dev nD,
    r.2.mem ((c.tc : Thread nD τ).loc main_v4_2) = clpOut m c) := by
  refine (θ_run defs _ _).mono (fun r h c => ?_) (Lse.run_main m ρ)
  obtain ⟨X, hX, hj⟩ := Pipeline.RDat.ArrAt.emb_eq_of_wholeAt (rd := (Lse.dats m 0 c).toRRel Lse.held (Lse.meets m c)) (w := 7)
    (hG := (h c).1 7) (t₀ := (⟨47, by decide⟩ : Fin grid0.N)) (by decide +kernel)
  have hm := Dat.toRRel_leaves (dat := Lse.dats m 0 c) (fgt := Lse.held) (Rl := Lse.meets m c) (by rfl) hX
  have hX' : X = clpOut m c := hm rfl
  funext y
  have := hj y
  rw [hX'] at this
  exact this

end Cert.Proof.KernelIdeal

end

end
-- ==== Proof.RefCand.lean ====
/-
  The reference's candidate log-probabilities at an index, at `Ideal`, for candidates that are columns.
-/
module

public import proofs.«01_k».proof.Proof.RefLse
public import proofs.«01_k».proof.Proof.KernelIdeal.CandTrack
public import Idealize.ShloMosaic.Lib.WordCmp

@[expose] public section

set_option maxRecDepth 16384

noncomputable section

namespace Cert.Proof.ReferenceIdeal

open Cert.ReferenceIdeal Cert.ReferenceIdeal.Gen
open Idealize.ShloMosaic Idealize.ShloMosaic.TcCoe
open scoped BigOperators

section Gather
variable {α : Type}

/-- The dimension numbers of taking, in each row of an operand `[B, N]`, the elements that row's
    indices name. -/
abbrev takeColsDims (B N C : Nat)
    (wf : GatherDims.WF ⟨2, ![B, N]⟩ ⟨3, ![B, C, 1]⟩ ⟨2, ![B, C]⟩ [] [1] [0] [1] [0] 2 ![1, 1]) :
    GatherDims ⟨2, ![B, N]⟩ ⟨3, ![B, C, 1]⟩ ⟨2, ![B, C]⟩ where
  offsetDims := []
  collapsedSliceDims := [1]
  operandBatchingDims := [0]
  startIndicesBatchingDims := [0]
  startIndexMap := [1]
  indexVectorDim := 2
  sliceSizes := ![1, 1]
  wf := wf

/-- Its result at a row and a place: the operand at that row and at the index, read signed and clamped
    into the row. -/
theorem gather_take_cols_apply {B N C w : Nat} (hN : 0 < N)
    (wf : GatherDims.WF ⟨2, ![B, N]⟩ ⟨3, ![B, C, 1]⟩ ⟨2, ![B, C]⟩ [] [1] [0] [1] [0] 2 ![1, 1])
    (x : (⟨2, ![B, N]⟩ : Shape).Idx → α) (idx : IVec ⟨3, ![B, C, 1]⟩ w) (a : Fin B) (k : Fin C) :
    Host.gather (takeColsDims B N C wf) x idx (ix2 a k)
      = x (ix2 a ⟨min (idx (ix3 a k (0 : Fin 1))).toInt.toNat (N - 1), by omega⟩) := by
  unfold Host.gather
  congr 1
  funext b
  refine Fin.ext ?_
  show (takeColsDims B N C wf).start (ix2 a k) idx b + (takeColsDims B N C wf).batchCoord (ix2 a k) b
      + (takeColsDims B N C wf).offCoord (ix2 a k) b = _
  have h01 : b = 0 ∨ b = 1 := by
    match b with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeColsDims B N C wf).startIndexMap from List.mem_singleton.mpr rfl)]
    have hsi : (takeColsDims B N C wf).siIdx (ix2 a k) ⟨List.idxOf (1 : Fin 2) (takeColsDims B N C wf).startIndexMap,
        List.idxOf_lt_length_iff.2 (List.mem_singleton.mpr rfl)⟩ = ix3 a k (0 : Fin 1) := by
      funext b; refine Fin.ext ?_
      match b with
      | ⟨0, _⟩ => rfl
      | ⟨1, _⟩ => rfl
      | ⟨2, _⟩ => rfl
    rw [hsi]
    rfl

end Gather

/-- The candidates by row. -/
def ids (x4 : IVec S88x1x32 32) : IVec S88x32 32 := shapeCast _ x4 shapeCasts_S88x1x32_S88x32

/-- The word of a candidate's column, -/
def quot (d : IVec S88x32 32) : IVec S88x32 32 :=
  select (andi (cmpi .ne (signi d) (broadcastInDim S88x32 ![] bcast_S_S88x32 (signi (id (constantI S_ 32 32#32))))) (cmpi .ne (Host.remsi d (broadcastInDim S88x32 ![] bcast_S_S88x32 (id (constantI S_ 32 32#32)))) (broadcastInDim S88x32 ![] bcast_S_S88x32 (constantI S_ 32 0#32)))) (subi (Host.divsi d (broadcastInDim S88x32 ![] bcast_S_S88x32 (id (constantI S_ 32 32#32)))) (broadcastInDim S88x32 ![] bcast_S_S88x32 (constantI S_ 32 1#32))) (Host.divsi d (broadcastInDim S88x32 ![] bcast_S_S88x32 (id (constantI S_ 32 32#32))))

/-- 32, as the remainder takes it, -/
def modulus : IVec S_ 32 := select (cmpi .eq (id (constantI S_ 32 32#32)) (constantI S_ 32 0#32)) (constantI S_ 32 1#32) (id (constantI S_ 32 32#32))

/-- the remainder by 32, -/
def left (d : IVec S88x32 32) : IVec S88x32 32 := Host.remsi d (broadcastInDim S88x32 ![] bcast_S_S88x32 modulus)

/-- and the bit of the word. -/
def place (d : IVec S88x32 32) : IVec S88x32 32 :=
  select (andi (cmpi .ne (cmpi .slt (left d) (broadcastInDim S88x32 ![] bcast_S_S88x32 (constantI S_ 32 0#32))) (broadcastInDim S88x32 ![] bcast_S_S88x32 (cmpi .slt modulus (constantI S_ 32 0#32)))) (cmpi .ne (left d) (broadcastInDim S88x32 ![] bcast_S_S88x32 (constantI S_ 32 0#32)))) (addi (left d) (broadcastInDim S88x32 ![] bcast_S_S88x32 modulus)) (left d)

/-- Indices with the negative ones counted from the end `n`. -/
def wrapped (n : BitVec 32) (d : IVec S88x32 32) : IVec S88x32x1 32 :=
  shapeCast _ (select (cmpi .slt d (broadcastInDim S88x32 ![] bcast_S_S88x32 (constantI S_ 32 0#32))) (addi d (broadcastInDim S88x32 ![] bcast_S_S88x32 (constantI S_ 32 n))) d) shapeCasts_S88x32_S88x32x1

/-- Whether an index is in range. -/
def inside (n : BitVec 32) (j : IVec S88x32x1 32) : IVec S88x32 1 :=
  Host.reduce IntOp.andi (andi (cmpi .sge j (broadcastInDim S88x32x1 ![] bcast_S_S88x32x1 (constantI S_ 32 0#32))) (cmpi .sle j (broadcastInDim S88x32x1 ![0, 1, 2] bcast_S1x1x1_S88x32x1_0_1_2 (broadcastInDim S1x1x1 ![2] bcast_S1_S1x1x1_2 (constantI S1 32 n))))) (constantI S_ 1 1#1) reducesTo_S88x32x1_S88x32_d2 h_S_

/-- The words the indices name. -/
def words (x3 : IVec S88x1536 32) (d : IVec S88x32 32) : IVec S88x32 32 :=
  select (inside 1535#32 (wrapped 1536#32 d)) (Host.gather gather_S88x1536_S88x32x1_S88x32_n_1_0_0_1_2_11 x3 (wrapped 1536#32 d)) (broadcastInDim S88x32 ![] bcast_S_S88x32 (constantI S_ 32 2147483648#32))

/-- The logits the indices name. -/
def taken (z : FVec Ideal S88x49152 .f32) (d : IVec S88x32 32) : FVec Ideal S88x32 .f32 :=
  select (inside 49151#32 (wrapped 49152#32 d)) (Host.gather gather_S88x49152_S88x32x1_S88x32_n_1_0_0_1_2_11 z (wrapped 49152#32 d)) (broadcastInDim S88x32 ![] bcast_S_S88x32 (constant (F := Ideal) S_ .f32 0x7FC00000#32))

/-- The candidates' log-probabilities as the term their operations compose. -/
def refClp (x0 : FVec Ideal S88x1x6144 .bf16) (x1 : IVec S3072x49152 8) (x2 : FVec Ideal S96x49152 .f32)
    (x3 : IVec S88x1536 32) (x4 : IVec S88x1x32 32) : FVec Ideal S88x32 .f32 :=
  select (cmpi .eq (andi (Host.shrsi (words x3 (quot (ids x4))) (place (ids x4))) (broadcastInDim S88x32 ![] bcast_S_S88x32 (constantI S_ 32 1#32))) (broadcastInDim S88x32 ![] bcast_S_S88x32 (constantI S_ 32 1#32)))
    (subf (taken (shapeCast _ (logits x0 x1 x2) shapeCasts_S88x1x49152_S88x49152) (ids x4)) (broadcastInDim S88x32 ![0, 1] bcast_S88x1_S88x32_0_1 (refLse x0 x1 x2 x3)))
    (broadcastInDim S88x32 ![] bcast_S_S88x32 (id (constant (F := Ideal) S_ .f32 0x00000000#32)))

theorem res_clp (m : (ℓ : Loc nD τ sig) → Buf (Elt Ideal) ℓ) (c : Dev nD) :
    Cert.ReferenceIdeal.Value.res_main_v71 m c
      = refClp (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Cert.ReferenceIdeal.Value.res_main_v71
  rfl

theorem ids_apply (x4 : IVec S88x1x32 32) (a : Fin 88) (k : Fin 32) : ids x4 (ix2 a k) = x4 (ix3 a (0 : Fin 1) k) := by
  pointwise [ids]

theorem quot_apply (d : IVec S88x32 32) (y : S88x32.Idx) (h : (d y).toNat < 49152) : quot d y = BitVec.ofNat 32 ((d y).toNat / 32) := by
  have e : quot d y = Num.floored (IntOp.cmpi .ne (if d y = 0 then 0 else if (d y).msb then -1 else 1) (if (32#32 : BitVec 32) = 0 then 0 else if (32#32 : BitVec 32).msb then -1 else 1))
      (IntOp.remsi .host (d y) 32#32) (IntOp.divsi .host (d y) 32#32) := rfl
  rw [e]
  refine Num.floored_small .host _ (d y) h (fun h0 => ?_) 32 (by decide) (by decide)
  rw [if_neg h0, Num.msb_small h]
  decide

theorem place_apply (d : IVec S88x32 32) (y : S88x32.Idx) (h : (d y).toNat < 49152) : place d y = BitVec.ofNat 32 ((d y).toNat % 32) := by
  have er : left d y = BitVec.ofNat 32 ((d y).toNat % 32) := Num.remsi_small .host (d y) h 32 (by decide) (by decide)
  have e : place d y = Scalar.select (IntOp.andi (IntOp.cmpi .ne (IntOp.cmpi .slt (left d y) 0#32) (IntOp.cmpi .slt 32#32 0#32)) (IntOp.cmpi .ne (left d y) 0#32))
      (IntOp.addi (left d y) 32#32) (left d y) := rfl
  rw [e, er, Num.slt_zero (by rw [BitVec.toNat_ofNat]; omega)]
  have : ∀ x : BitVec 1, IntOp.andi (IntOp.cmpi .ne 0#1 (IntOp.cmpi .slt 32#32 0#32)) x = 0#1 := by decide
  rw [this]; rfl

theorem wrapped_apply (n : BitVec 32) (d : IVec S88x32 32) (a : Fin 88) (k : Fin 32) (h : (d (ix2 a k)).toNat < 49152) :
    wrapped n d (ix3 a k (0 : Fin 1)) = d (ix2 a k) := by
  have e : wrapped n d (ix3 a k (0 : Fin 1)) = Scalar.select (IntOp.cmpi .slt (d (ix2 a k)) 0#32) (IntOp.addi (d (ix2 a k)) n) (d (ix2 a k)) := by
    pointwise [wrapped]
  rw [e, Num.slt_zero h]; rfl

theorem inside_apply (n : Nat) (hn : n < 49152) (j : IVec S88x32x1 32) (h : ∀ (a : Fin 88) (k : Fin 32), (j (ix3 a k (0 : Fin 1))).toNat ≤ n) (y : S88x32.Idx) :
    inside (BitVec.ofNat 32 n) j y = 1#1 := by
  refine Host.reduce_andi_one _ _ _ _ y rfl fun i => ?_
  obtain ⟨a, k, rfl⟩ : ∃ (a : Fin 88) (k : Fin 32), i = ix3 a k (0 : Fin 1) := ⟨i 0, i 1, by
    funext b; fin_cases b
    · rfl
    · rfl
    · exact Subsingleton.elim (α := Fin 1) _ _⟩
  have hj := h a k
  show IntOp.andi (IntOp.cmpi .sge (j (ix3 a k (0 : Fin 1))) 0#32) (IntOp.cmpi .sle (j (ix3 a k (0 : Fin 1))) (BitVec.ofNat 32 n)) = 1#1
  have hn' : (BitVec.ofNat 32 n).toNat = n := Num.toNat_k hn
  rw [WordCmp.cmpi_sge_of_lt (by omega) (by decide), WordCmp.cmpi_sle_of_lt (by omega) (by omega), hn', decide_eq_true hj, decide_eq_true (show (0#32).toNat ≤ _ from Nat.zero_le _)]
  rfl

theorem clamp_small (w : BitVec 32) (N : Nat) (hN : N ≤ 49152) (h : w.toNat < N) : min w.toInt.toNat (N - 1) = w.toNat := by
  rw [BitVec.toInt_eq_toNat_of_msb (Num.msb_small (by omega)), Int.toNat_natCast]
  omega

theorem words_apply (x3 : IVec S88x1536 32) (d : IVec S88x32 32) (h : ∀ (a : Fin 88) (k : Fin 32), (d (ix2 a k)).toNat < 1536) (a : Fin 88) (k : Fin 32) :
    words x3 d (ix2 a k) = x3 (ix2 a ⟨(d (ix2 a k)).toNat, h a k⟩) := by
  have hw : ∀ (a : Fin 88) (k : Fin 32), wrapped 1536#32 d (ix3 a k (0 : Fin 1)) = d (ix2 a k) := fun a k =>
    wrapped_apply _ d a k (by have := h a k; omega)
  have e : words x3 d (ix2 a k) = Scalar.select (inside (BitVec.ofNat 32 1535) (wrapped 1536#32 d) (ix2 a k))
      (Host.gather (takeColsDims 88 1536 32 gather_S88x1536_S88x32x1_S88x32_n_1_0_0_1_2_11_wf) x3 (wrapped 1536#32 d) (ix2 a k)) 2147483648#32 := rfl
  rw [e, inside_apply 1535 (by decide) _ (fun a k => by rw [hw]; have := h a k; omega), gather_take_cols_apply (by decide)]
  refine congrArg (fun b : Fin 1536 => x3 (ix2 a b)) (Fin.ext ?_)
  show min (wrapped 1536#32 d (ix3 a k (0 : Fin 1))).toInt.toNat (1536 - 1) = _
  rw [hw]
  exact clamp_small _ 1536 (by decide) (h a k)

theorem taken_apply (z : FVec Ideal S88x49152 .f32) (d : IVec S88x32 32) (h : ∀ (a : Fin 88) (k : Fin 32), (d (ix2 a k)).toNat < 49152) (a : Fin 88) (k : Fin 32) :
    taken z d (ix2 a k) = z (ix2 a ⟨(d (ix2 a k)).toNat, h a k⟩) := by
  have hw : ∀ (a : Fin 88) (k : Fin 32), wrapped 49152#32 d (ix3 a k (0 : Fin 1)) = d (ix2 a k) := fun a k => wrapped_apply _ d a k (h a k)
  have e : taken z d (ix2 a k) = Scalar.select (inside (BitVec.ofNat 32 49151) (wrapped 49152#32 d) (ix2 a k))
      (Host.gather (takeColsDims 88 49152 32 gather_S88x49152_S88x32x1_S88x32_n_1_0_0_1_2_11_wf) z (wrapped 49152#32 d) (ix2 a k))
      (FloatOps.ofBits .f32 0x7FC00000#32 : Ideal .f32) := rfl
  rw [e, inside_apply 49151 (by decide) _ (fun a k => by rw [hw]; have := h a k; omega), gather_take_cols_apply (by decide)]
  refine congrArg (fun b : Fin 49152 => z (ix2 a b)) (Fin.ext ?_)
  show min (wrapped 49152#32 d (ix3 a k (0 : Fin 1))).toInt.toNat (49152 - 1) = _
  rw [hw]
  exact clamp_small _ 49152 (by decide) (h a k)

theorem flat_apply (z : FVec Ideal S88x1x49152 .f32) (a : Fin 88) (v : Fin 49152) :
    shapeCast S88x49152 z shapeCasts_S88x1x49152_S88x49152 (ix2 a v) = z (ix3 a (0 : Fin 1) v) := by
  pointwise []

theorem row_apply (s : FVec Ideal S88x1 .f32) (a : Fin 88) (k : Fin 32) :
    broadcastInDim S88x32 ![0, 1] bcast_S88x1_S88x32_0_1 s (ix2 a k) = s (ix2 a (0 : Fin 1)) := by
  pointwise []

theorem refClp_apply (x0 : FVec Ideal S88x1x6144 .bf16) (x1 : IVec S3072x49152 8) (x2 : FVec Ideal S96x49152 .f32)
    (x3 : IVec S88x1536 32) (x4 : IVec S88x1x32 32) (h : ∀ i, (x4 i).toNat < 49152) (a : Fin 88) (k : Fin 32) :
    refClp x0 x1 x2 x3 x4 (ix2 a k)
      = KernelIdeal.candidate x0 x1 x2 x3 (refLse x0 x1 x2 x3 (ix2 a (0 : Fin 1))) a ⟨(x4 (ix3 a (0 : Fin 1) k)).toNat, h _⟩ := by
  have hi : ∀ (a : Fin 88) (k : Fin 32), (ids x4 (ix2 a k)).toNat < 49152 := fun a k => by rw [ids_apply]; exact h _
  have hq : ∀ (a : Fin 88) (k : Fin 32), (quot (ids x4) (ix2 a k)).toNat = (ids x4 (ix2 a k)).toNat / 32 := fun a k => by
    have := hi a k
    rw [quot_apply _ _ this, BitVec.toNat_ofNat]; omega
  have e : refClp x0 x1 x2 x3 x4 (ix2 a k) = Scalar.select
      (IntOp.cmpi .eq (IntOp.andi (IntOp.shrsi .host (words x3 (quot (ids x4)) (ix2 a k)) (place (ids x4) (ix2 a k))) 1#32) 1#32)
      (taken (shapeCast _ (logits x0 x1 x2) shapeCasts_S88x1x49152_S88x49152) (ids x4) (ix2 a k)
        - broadcastInDim S88x32 ![0, 1] bcast_S88x1_S88x32_0_1 (refLse x0 x1 x2 x3) (ix2 a k) : EReal)
      (FloatOps.ofBits .f32 0x00000000#32 : Ideal .f32) := rfl
  have e0 : (FloatOps.ofBits .f32 0x00000000#32 : Ideal .f32) = (0 : EReal) := Ideal.ofBits_zero_f32
  rw [e, e0, row_apply, taken_apply _ _ hi, flat_apply, logits_apply,
    words_apply x3 _ (fun a k => by have := hi a k; rw [hq]; omega), place_apply _ _ (hi a k), shift_bit _ _ (Nat.mod_lt _ (by decide))]
  unfold KernelIdeal.candidate KernelIdeal.plain
  simp only [hq, ids_apply]

end Cert.Proof.ReferenceIdeal

end

end
-- ==== Proof.LseValue.lean ====
/-
  The kernel's log-sum-exp and candidate log-probabilities and the reference's are equal at `Ideal` when
  the activations and the scales are finite and the candidates are columns.
-/
module

public import proofs.«01_k».proof.Proof.RefCand

@[expose] public section

set_option maxRecDepth 16384

noncomputable section

namespace Cert.Proof

/-- The precondition's side conditions. -/
theorem finiteFacts : Cert.Pre_finite.Facts where
  bcast_S_S88x1x6144 := by decide
  reducesTo_S88x1x6144_S_d0_1_2 := by decide
  h_S_ := by decide
  bcast_S_S96x49152 := by decide
  reducesTo_S96x49152_S_d0_1 := by decide
  bcast_S_S88x1x32 := by decide
  reducesTo_S88x1x32_S_d0_1_2 := by decide

end Cert.Proof

namespace Cert.Proof.KernelIdeal

open Cert.KernelIdeal Cert.KernelIdeal.Gen
open Idealize.ShloMosaic Idealize.ShloMosaic.TcCoe
open scoped BigOperators

/-- An extended real that is a number. -/
def Num (x : EReal) : Prop := ⊥ < x ∧ x < ⊤

theorem num_coe (r : ℝ) : Num (r : EReal) := ⟨EReal.bot_lt_coe r, EReal.coe_lt_top r⟩

theorem Num.eq_coe {x : EReal} (h : Num x) : ∃ r : ℝ, x = r := by
  induction x with
  | bot => exact absurd h.1 (lt_irrefl _)
  | top => exact absurd h.2 (lt_irrefl _)
  | coe r => exact ⟨r, rfl⟩

theorem Num.mul {x y : EReal} (hx : Num x) (hy : Num y) : Num (x * y) := by
  obtain ⟨a, rfl⟩ := hx.eq_coe
  obtain ⟨b, rfl⟩ := hy.eq_coe
  rw [← EReal.coe_mul]
  exact num_coe _

theorem Num.add {x y : EReal} (hx : Num x) (hy : Num y) : Num (x + y) := by
  obtain ⟨a, rfl⟩ := hx.eq_coe
  obtain ⟨b, rfl⟩ := hy.eq_coe
  rw [← EReal.coe_add]
  exact num_coe _

theorem num_sum {ι : Type} (s : Finset ι) (f : ι → EReal) (h : ∀ k, Num (f k)) : Num (∑ k ∈ s, f k) := by
  classical
  induction s using Finset.induction_on with
  | empty => rw [Finset.sum_empty, ← EReal.coe_zero]; exact num_coe 0
  | insert k s hk ih => rw [Finset.sum_insert hk]; exact (h k).add ih

theorem num_sitofp (w : BitVec 32) : Num (FloatOps.sitofp (F := Ideal) .bf16 w : EReal) := num_coe _

theorem column_ne_top (x0 : FVec Ideal S88x1x6144 .bf16) (x1 : IVec S3072x49152 8) (x2 : FVec Ideal S96x49152 .f32) (x3 : IVec S88x1536 32)
    (h0 : ∀ i, Num (x0 i : EReal)) (h2 : ∀ i, Num (x2 i : EReal)) (a : Fin 88) (v : Fin 49152) : column x0 x1 x2 x3 a v ≠ ⊤ := by
  unfold column counted
  split
  · refine ne_of_lt (num_sum _ _ fun r => (h0 _).mul ?_).2
    unfold weight
    exact (num_sitofp _).mul (h2 _)
  · exact bot_ne_top

/-- The column of a lane and a place in it. -/
def place : Fin 128 × Fin 384 ≃ Fin 49152 :=
  (Equiv.prodComm (Fin 128) (Fin 384)).trans (finProdFinEquiv.trans (finCongr (by decide)))

theorem place_val (l : Fin 128) (k : Fin 384) : (place (l, k)).val = k.val * 128 + l.val := by
  show l.val + 128 * k.val = k.val * 128 + l.val
  omega

/-- The lanes together hold the row's columns. -/
theorem lanes_eq (x0 : FVec Ideal S88x1x6144 .bf16) (x1 : IVec S3072x49152 8) (x2 : FVec Ideal S96x49152 .f32) (x3 : IVec S88x1536 32)
    (a : Fin 88) (h : ∀ v, column x0 x1 x2 x3 a v ≠ ⊤) :
    Online.combine (fun l => Online.top (lane x0 x1 x2 x3 a l) 384) (fun l => Online.tot (lane x0 x1 x2 x3 a l) 384)
      = Online.lse (fun v : Fin 49152 => column x0 x1 x2 x3 a v) := by
  rw [Online.combine_eq (p := 384) (lane x0 x1 x2 x3 a) ?_, ← Online.lse_equiv place]
  · congr 1
    funext lk
    obtain ⟨l, k⟩ := lk
    show lane x0 x1 x2 x3 a l k.val = _
    unfold lane
    rw [dif_pos k.isLt]
    congr 1
    exact Fin.ext (place_val l k).symm
  · intro l k
    unfold lane
    split
    · exact h _
    · exact bot_ne_top

theorem andi_one : ∀ a b : BitVec 1, IntOp.andi a b = 1#1 → a = 1#1 ∧ b = 1#1 := by decide

theorem cmp_olt_one {x y : EReal} (h : Ideal.cmp .olt x y = 1#1) : x < y := by
  by_contra hn
  have : Ideal.cmp .olt x y = 0#1 := by unfold Ideal.cmp; simp only [hn]; rfl
  rw [this] at h
  exact absurd h (by decide)

theorem in_range {w : BitVec 32} (h0 : IntOp.cmpi .sge w 0#32 = 1#1) (h1 : IntOp.cmpi .slt w 49152#32 = 1#1) : w.toNat < 49152 := by
  have e0 : ((0#32).sle w) = true := by
    by_contra hn
    have h : BitVec.ofBool ((0#32).sle w) = 1#1 := h0
    rw [Bool.not_eq_true _ |>.mp hn] at h
    exact absurd h (by decide)
  have e1 : (w.slt 49152#32) = true := by
    by_contra hn
    have h : BitVec.ofBool (w.slt 49152#32) = 1#1 := h1
    rw [Bool.not_eq_true _ |>.mp hn] at h
    exact absurd h (by decide)
  have i0 : (0 : Int) ≤ w.toInt := by simpa [BitVec.sle] using e0
  have i1 : w.toInt < 49152 := by simpa [BitVec.slt] using e1
  have := BitVec.toInt_eq_toNat_cond w
  have := w.isLt
  split at * <;> omega

/-- What the precondition says. -/
theorem finite_num (x0 : FVec Ideal S88x1x6144 .bf16) (x1 : IVec S3072x49152 8) (x2 : FVec Ideal S96x49152 .f32) (x3 : IVec S88x1536 32)
    (x4 : IVec S88x1x32 32) (h : @Cert.Pre_finite.fn finiteFacts Ideal _ x0 x1 x2 x3 x4 = fun _ => 1#1) :
    (∀ i, Num (x0 i : EReal)) ∧ (∀ i, Num (x2 i : EReal)) ∧ (∀ i, (x4 i).toNat < 49152) := by
  have := finiteFacts
  have h' := congrFun h (Shape.Idx.first finiteFacts.h_S_)
  dsimp only [Cert.Pre_finite.fn, Cert.Pre_finite.fn_part1] at h'
  obtain ⟨h3, hd⟩ := andi_one _ _ h'
  obtain ⟨h2, hc⟩ := andi_one _ _ h3
  obtain ⟨ha, hb⟩ := andi_one _ _ h2
  have : Subsingleton (Cert.Pre_finite.S_).Idx := ⟨fun a b => funext fun k => k.elim0⟩
  refine ⟨fun i => ?_, fun i => ?_, fun i => ?_⟩
  · have := Host.reduce_andi_all _ _ _ _ _ ha i
    have hc : Ideal.cmp .olt (max (x0 i : EReal) (-(x0 i : EReal))) (FloatOps.ofBits .bf16 0x7F80#16 : Ideal .bf16) = 1#1 := this
    rw [ReferenceIdeal.inf_bf16] at hc
    exact (ReferenceIdeal.abs_lt_top _).mp (cmp_olt_one hc)
  · have := Host.reduce_andi_all _ _ _ _ _ hb i
    have hc : Ideal.cmp .olt (max (x2 i : EReal) (-(x2 i : EReal))) (FloatOps.ofBits .f32 0x7F800000#32 : Ideal .f32) = 1#1 := this
    rw [ReferenceIdeal.inf_f32] at hc
    exact (ReferenceIdeal.abs_lt_top _).mp (cmp_olt_one hc)
  · exact in_range (Host.reduce_andi_all _ _ _ _ _ hc i) (Host.reduce_andi_all _ _ _ _ _ hd i)

/-- The kernel's log-sum-exp is the reference's. -/
theorem lseOut_eq (m : (ℓ : Loc nD τ sig) → Buf (Elt Ideal) ℓ) (c : Dev nD)
    (h0 : ∀ i, Num (m ((c.tc : Thread nD τ).loc main_arg0) i : EReal)) (h2 : ∀ i, Num (m ((c.tc : Thread nD τ).loc main_arg2) i : EReal)) :
    lseOut m c = ReferenceIdeal.refLse (m ((c.tc : Thread nD τ).loc main_arg0)) (m ((c.tc : Thread nD τ).loc main_arg1))
      (m ((c.tc : Thread nD τ).loc main_arg2)) (m ((c.tc : Thread nD τ).loc main_arg3)) := by
  have key : ∀ a : Fin 88, lseOut m c (ix2 a (0 : Fin 1)) = ReferenceIdeal.refLse (m ((c.tc : Thread nD τ).loc main_arg0)) (m ((c.tc : Thread nD τ).loc main_arg1))
      (m ((c.tc : Thread nD τ).loc main_arg2)) (m ((c.tc : Thread nD τ).loc main_arg3)) (ix2 a (0 : Fin 1)) := fun a => by
    rw [lseOut_apply, ReferenceIdeal.refLse_apply]
    exact lanes_eq _ _ _ _ a fun v => column_ne_top _ _ _ _ h0 h2 a v
  funext y
  obtain ⟨a, rfl⟩ : ∃ a : Fin 88, y = ix2 a (0 : Fin 1) := ⟨y 0, by
    funext k; fin_cases k
    · rfl
    · exact Subsingleton.elim (α := Fin 1) _ _⟩
  exact key a

/-- The kernel's log-probabilities of the candidates are the reference's. -/
theorem clpOut_eq (m : (ℓ : Loc nD τ sig) → Buf (Elt Ideal) ℓ) (c : Dev nD)
    (h0 : ∀ i, Num (m ((c.tc : Thread nD τ).loc main_arg0) i : EReal)) (h2 : ∀ i, Num (m ((c.tc : Thread nD τ).loc main_arg2) i : EReal))
    (h4 : ∀ i : S88x1x32.Idx, (m ((c.tc : Thread nD τ).loc main_arg4) i : BitVec 32).toNat < 49152) :
    clpOut m c = ReferenceIdeal.refClp (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  have key : ∀ (a : Fin 88) (k : Fin 32), clpOut m c (ix2 a k) = ReferenceIdeal.refClp (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) (ix2 a k) := fun a k => by
    rw [ReferenceIdeal.refClp_apply _ _ _ _ _ h4, clpOut_apply m c a k _ (h4 _) rfl, lseOut_eq m c h0 h2]
  funext y
  obtain ⟨a, k, rfl⟩ : ∃ (a : Fin 88) (k : Fin 32), y = ix2 a k := ⟨y 0, y 1, by
    funext b; fin_cases b <;> rfl⟩
  exact key a k

end Cert.Proof.KernelIdeal

end

end
-- ==== Proof.lean ====
/-
  The claims about the grammar-masked int4 LM head: the frames of the kernel, its idealization and the
  reference, that the idealization is a sanctioned one, and that the masked logits, the log-sum-exp and
  the candidates' log-probabilities of the idealized kernel and of the reference are equal at `Ideal`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Kernel.Frame
public import proofs.«01_k».proof.Proof.KernelIdeal.Frame
public import proofs.«01_k».proof.Proof.Gen.ReferenceIdeal.Run
public import proofs.«01_k».proof.Proof.Value
public import proofs.«01_k».proof.Proof.LseValue
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference's arguments end unchanged; it declares no semaphore. -/
theorem frameReference : Cert.quiescent_ReferenceIdeal (hReferenceIdeal := Cert.ReferenceIdeal.Gen.facts) := by
  intro m ρ _
  exact (θ_run Cert.ReferenceIdeal.defs _ _).mono (fun r h => ⟨fun c => (h c).2.2.2, sem_eq_zero_of_no_sems (by decide) r.2⟩)
    (Cert.ReferenceIdeal.Value.run (F := Ideal) m ρ)

/-- The masked logits, the log-sum-exp and the candidates' log-probabilities of the kernel and of the
    reference. -/
theorem algebraic : Cert.algebraic_KernelIdeal_ReferenceIdeal_pre_finite (hKernelIdeal := Cert.KernelIdeal.Gen.facts)
    (hReferenceIdeal := Cert.ReferenceIdeal.Gen.facts) (hPre_finite := finiteFacts) := by
  intro m g m' g' hpre hargs
  refine ⟨KernelIdeal.masked m, KernelIdeal.lseOut m, KernelIdeal.clpOut m, ?_, ?_⟩
  · exact (θ_run Cert.KernelIdeal.defs _ _).mono (fun r h c => ⟨h.1 c, h.2.1 c, h.2.2.1 c, h.2.2.2 c⟩)
      (θ_run_and (KernelIdeal.run_value m g) (θ_run_and (KernelIdeal.run_lse m g)
        (θ_run_and (KernelIdeal.run_clp m g) (KernelIdeal.unchanged (F := Ideal) m g))))
  · refine (θ_run Cert.ReferenceIdeal.defs _ _).mono (fun r h c => ⟨?_, ?_, ?_, (h c).2.2.2⟩) (Cert.ReferenceIdeal.Value.run (F := Ideal) m' g')
    · refine (h c).1.trans ?_
      rw [(hargs c).1, (hargs c).2.1, (hargs c).2.2.1, (hargs c).2.2.2.1]
      rfl
    · obtain ⟨h0, h2, -⟩ := KernelIdeal.finite_num _ _ _ _ _ (hpre c)
      refine (h c).2.1.trans ((ReferenceIdeal.res_eq m' c).trans ?_)
      rw [(hargs c).1, (hargs c).2.1, (hargs c).2.2.1, (hargs c).2.2.2.1]
      exact (KernelIdeal.lseOut_eq m c h0 h2).symm
    · obtain ⟨h0, h2, h4⟩ := KernelIdeal.finite_num _ _ _ _ _ (hpre c)
      refine (h c).2.2.1.trans ((ReferenceIdeal.res_clp m' c).trans ?_)
      rw [(hargs c).1, (hargs c).2.1, (hargs c).2.2.1, (hargs c).2.2.2.1, (hargs c).2.2.2.2]
      exact (KernelIdeal.clpOut_eq m c h0 h2 h4).symm

theorem claim : Cert.Claim := ⟨Cert.Kernel.Gen.facts, Cert.KernelIdeal.Gen.facts, Cert.ReferenceIdeal.Gen.facts, finiteFacts,
  fun m ρ _ => Cert.Proof.Kernel.frame m ρ, fun m ρ _ => Cert.Proof.KernelIdeal.frame m ρ,
  fun m ρ _ => Cert.Proof.KernelIdeal.frame m ρ, frameReference, fun m ρ _ => frameReference m ρ trivial,
  ⟨IdealRules.named_const.statement Cert.KernelIdeal.κ "mask" .f32 0xFF7FFFFF#32 ⊥ rfl,
    IdealRules.named_const.statement Cert.KernelIdeal.κ "mask" .f32 0xFF800000#32 ⊥ rfl⟩, algebraic⟩

end Cert.Proof

end
